-- ==== Defs.lean ====
def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_scores_below_80 [hPre_scores_below_80 : Cert.Pre_scores_below_80.Facts] (m : (ℓ : Loc Cert.SbIdeal.nD Cert.SbIdeal.τ Cert.SbIdeal.sig) → Buf (Elt Ideal) ℓ) : Prop :=
  ∀ c : Dev Cert.SbIdeal.nD,
    (Cert.Pre_scores_below_80.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_scores_below_80 [hPre_scores_below_80 : Cert.Pre_scores_below_80.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_scores_below_80.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1))) = (fun _ => 1#1)

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_PostS (m : (ℓ : Loc Cert.PostS.nD Cert.PostS.τ Cert.PostS.sig) → Buf (Elt Bits) ℓ) : Prop :=
  True

def Pre_PostSIdeal (m : (ℓ : Loc Cert.PostSIdeal.nD Cert.PostSIdeal.τ Cert.PostSIdeal.sig) → Buf (Elt Ideal) ℓ) : Prop :=
  True

def Pre_PostSRefIdeal (m : (ℓ : Loc Cert.PostSRefIdeal.nD Cert.PostSRefIdeal.τ Cert.PostSRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_RetState (m : (ℓ : Loc Cert.RetState.nD Cert.RetState.τ Cert.RetState.sig) → Buf (Elt Bits) ℓ) : Prop :=
  True

def Pre_RetStateIdeal (m : (ℓ : Loc Cert.RetStateIdeal.nD Cert.RetStateIdeal.τ Cert.RetStateIdeal.sig) → Buf (Elt Ideal) ℓ) : Prop :=
  True

def Pre_RetStateRefIdeal (m : (ℓ : Loc Cert.RetStateRefIdeal.nD Cert.RetStateRefIdeal.τ Cert.RetStateRefIdeal.sig) → Buf (Elt Ideal) ℓ) : Prop :=
  True

def Pre_RetStateS (m : (ℓ : Loc Cert.RetStateS.nD Cert.RetStateS.τ Cert.RetStateS.sig) → Buf (Elt Bits) ℓ) : Prop :=
  True

def Pre_RetStateSIdeal (m : (ℓ : Loc Cert.RetStateSIdeal.nD Cert.RetStateSIdeal.τ Cert.RetStateSIdeal.sig) → Buf (Elt Ideal) ℓ) : Prop :=
  True

def Pre_RetStateSRefIdeal (m : (ℓ : Loc Cert.RetStateSRefIdeal.nD Cert.RetStateSRefIdeal.τ Cert.RetStateSRefIdeal.sig) → Buf (Elt Ideal) ℓ) : Prop :=
  True

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13)
      ∧ r.2.mem ((c.tc : Thread Cert.Post.nD Cert.Post.τ).loc Cert.Post.main_arg14) = m ((c.tc : Thread Cert.Post.nD Cert.Post.τ).loc Cert.Post.main_arg14))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
      ∧ r.2.mem ((c.tc : Thread Cert.PostIdeal.nD Cert.PostIdeal.τ).loc Cert.PostIdeal.main_arg14) = m ((c.tc : Thread Cert.PostIdeal.nD Cert.PostIdeal.τ).loc Cert.PostIdeal.main_arg14))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12)
      ∧ r.2.mem ((c.tc : Thread Cert.PostRefIdeal.nD Cert.PostRefIdeal.τ).loc Cert.PostRefIdeal.main_arg13) = m ((c.tc : Thread Cert.PostRefIdeal.nD Cert.PostRefIdeal.τ).loc Cert.PostRefIdeal.main_arg13)
      ∧ r.2.mem ((c.tc : Thread Cert.PostRefIdeal.nD Cert.PostRefIdeal.τ).loc Cert.PostRefIdeal.main_arg14) = m ((c.tc : Thread Cert.PostRefIdeal.nD Cert.PostRefIdeal.τ).loc Cert.PostRefIdeal.main_arg14))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ r.2.sem = fun _ => 0)

def quiescent_SbIdeal_pre_scores_below_80 [hSbIdeal : Cert.SbIdeal.Facts] [hPre_scores_below_80 : Cert.Pre_scores_below_80.Facts] : Prop :=
  ∀ (m : (ℓ : Loc Cert.SbIdeal.nD Cert.SbIdeal.τ Cert.SbIdeal.sig) → Buf (Elt Ideal) ℓ) (g : Dev Cert.SbIdeal.nD → PrngReg), Pre_SbIdeal_scores_below_80 m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1))
      ∧ r.2.sem = fun _ => 0)

def quiescent_SbRefIdeal_pre_scores_below_80 [hSbRefIdeal : Cert.SbRefIdeal.Facts] [hPre_scores_below_80 : Cert.Pre_scores_below_80.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_scores_below_80 m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1))
      ∧ r.2.sem = fun _ => 0)

def quiescent_PostS [hPostS : Cert.PostS.Facts] : Prop :=
  ∀ (m : (ℓ : Loc Cert.PostS.nD Cert.PostS.τ Cert.PostS.sig) → Buf (Elt Bits) ℓ) (g : Dev Cert.PostS.nD → PrngReg), Pre_PostS m →
    θ_run (Cert.PostS.defs (F := Bits)) (onTc (τ := Cert.PostS.τ) (Cert.PostS.main (F := Bits))) ⟨m, fun _ => 0, g⟩ (fun r => (∀ c : Dev Cert.PostS.nD,
      r.2.mem ((c.tc : Thread Cert.PostS.nD Cert.PostS.τ).loc Cert.PostS.main_arg0) = m ((c.tc : Thread Cert.PostS.nD Cert.PostS.τ).loc Cert.PostS.main_arg0)
      ∧ r.2.mem ((c.tc : Thread Cert.PostS.nD Cert.PostS.τ).loc Cert.PostS.main_arg1) = m ((c.tc : Thread Cert.PostS.nD Cert.PostS.τ).loc Cert.PostS.main_arg1)
      ∧ r.2.mem ((c.tc : Thread Cert.PostS.nD Cert.PostS.τ).loc Cert.PostS.main_arg2) = m ((c.tc : Thread Cert.PostS.nD Cert.PostS.τ).loc Cert.PostS.main_arg2)
      ∧ r.2.mem ((c.tc : Thread Cert.PostS.nD Cert.PostS.τ).loc Cert.PostS.main_arg3) = m ((c.tc : Thread Cert.PostS.nD Cert.PostS.τ).loc Cert.PostS.main_arg3)
      ∧ r.2.mem ((c.tc : Thread Cert.PostS.nD Cert.PostS.τ).loc Cert.PostS.main_arg4) = m ((c.tc : Thread Cert.PostS.nD Cert.PostS.τ).loc Cert.PostS.main_arg4)
      ∧ r.2.mem ((c.tc : Thread Cert.PostS.nD Cert.PostS.τ).loc Cert.PostS.main_arg5) = m ((c.tc : Thread Cert.PostS.nD Cert.PostS.τ).loc Cert.PostS.main_arg5)
      ∧ r.2.mem ((c.tc : Thread Cert.PostS.nD Cert.PostS.τ).loc Cert.PostS.main_arg6) = m ((c.tc : Thread Cert.PostS.nD Cert.PostS.τ).loc Cert.PostS.main_arg6)
      ∧ r.2.mem ((c.tc : Thread Cert.PostS.nD Cert.PostS.τ).loc Cert.PostS.main_arg7) = m ((c.tc : Thread Cert.PostS.nD Cert.PostS.τ).loc Cert.PostS.main_arg7)
      ∧ r.2.mem ((c.tc : Thread Cert.PostS.nD Cert.PostS.τ).loc Cert.PostS.main_arg8) = m ((c.tc : Thread Cert.PostS.nD Cert.PostS.τ).loc Cert.PostS.main_arg8)
      ∧ r.2.mem ((c.tc : Thread Cert.PostS.nD Cert.PostS.τ).loc Cert.PostS.main_arg9) = m ((c.tc : Thread Cert.PostS.nD Cert.PostS.τ).loc Cert.PostS.main_arg9)
      ∧ r.2.mem ((c.tc : Thread Cert.PostS.nD Cert.PostS.τ).loc Cert.PostS.main_arg10) = m ((c.tc : Thread Cert.PostS.nD Cert.PostS.τ).loc Cert.PostS.main_arg10)
      ∧ r.2.mem ((c.tc : Thread Cert.PostS.nD Cert.PostS.τ).loc Cert.PostS.main_arg11) = m ((c.tc : Thread Cert.PostS.nD Cert.PostS.τ).loc Cert.PostS.main_arg11)
      ∧ r.2.mem ((c.tc : Thread Cert.PostS.nD Cert.PostS.τ).loc Cert.PostS.main_arg12) = m ((c.tc : Thread Cert.PostS.nD Cert.PostS.τ).loc Cert.PostS.main_arg12)
      ∧ r.2.mem ((c.tc : Thread Cert.PostS.nD Cert.PostS.τ).loc Cert.PostS.main_arg13) = m ((c.tc : Thread Cert.PostS.nD Cert.PostS.τ).loc Cert.PostS.main_arg13)
      ∧ r.2.mem ((c.tc : Thread Cert.PostS.nD Cert.PostS.τ).loc Cert.PostS.main_arg14) = m ((c.tc : Thread Cert.PostS.nD Cert.PostS.τ).loc Cert.PostS.main_arg14))
      ∧ r.2.sem = fun _ => 0)

def quiescent_PostSIdeal [hPostSIdeal : Cert.PostSIdeal.Facts] : Prop :=
  ∀ (m : (ℓ : Loc Cert.PostSIdeal.nD Cert.PostSIdeal.τ Cert.PostSIdeal.sig) → Buf (Elt Ideal) ℓ) (g : Dev Cert.PostSIdeal.nD → PrngReg), Pre_PostSIdeal m →
    θ_run (Cert.PostSIdeal.defs (F := Ideal)) (onTc (τ := Cert.PostSIdeal.τ) (Cert.PostSIdeal.main (F := Ideal))) ⟨m, fun _ => 0, g⟩ (fun r => (∀ c : Dev Cert.PostSIdeal.nD,
      r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
      ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
      ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
      ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
      ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
      ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
      ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
      ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7)
      ∧ r.2.mem ((c.tc : Thread Cert.PostSIdeal.nD Cert.PostSIdeal.τ).loc Cert.PostSIdeal.main_arg8) = m ((c.tc : Thread Cert.PostSIdeal.nD Cert.PostSIdeal.τ).loc Cert.PostSIdeal.main_arg8)
      ∧ r.2.mem ((c.tc : Thread Cert.PostSIdeal.nD Cert.PostSIdeal.τ).loc Cert.PostSIdeal.main_arg9) = m ((c.tc : Thread Cert.PostSIdeal.nD Cert.PostSIdeal.τ).loc Cert.PostSIdeal.main_arg9)
      ∧ r.2.mem ((c.tc : Thread Cert.PostSIdeal.nD Cert.PostSIdeal.τ).loc Cert.PostSIdeal.main_arg10) = m ((c.tc : Thread Cert.PostSIdeal.nD Cert.PostSIdeal.τ).loc Cert.PostSIdeal.main_arg10)
      ∧ r.2.mem ((c.tc : Thread Cert.PostSIdeal.nD Cert.PostSIdeal.τ).loc Cert.PostSIdeal.main_arg11) = m ((c.tc : Thread Cert.PostSIdeal.nD Cert.PostSIdeal.τ).loc Cert.PostSIdeal.main_arg11)
      ∧ r.2.mem ((c.tc : Thread Cert.PostSIdeal.nD Cert.PostSIdeal.τ).loc Cert.PostSIdeal.main_arg12) = m ((c.tc : Thread Cert.PostSIdeal.nD Cert.PostSIdeal.τ).loc Cert.PostSIdeal.main_arg12)
      ∧ r.2.mem ((c.tc : Thread Cert.PostSIdeal.nD Cert.PostSIdeal.τ).loc Cert.PostSIdeal.main_arg13) = m ((c.tc : Thread Cert.PostSIdeal.nD Cert.PostSIdeal.τ).loc Cert.PostSIdeal.main_arg13)
      ∧ r.2.mem ((c.tc : Thread Cert.PostSIdeal.nD Cert.PostSIdeal.τ).loc Cert.PostSIdeal.main_arg14) = m ((c.tc : Thread Cert.PostSIdeal.nD Cert.PostSIdeal.τ).loc Cert.PostSIdeal.main_arg14))
      ∧ r.2.sem = fun _ => 0)

def quiescent_PostSRefIdeal [hPostSRefIdeal : Cert.PostSRefIdeal.Facts] : Prop :=
  ∀ (m : (ℓ : Loc Cert.PostSRefIdeal.nD Cert.PostSRefIdeal.τ Cert.PostSRefIdeal.sig) → Buf (Elt Ideal) ℓ) (g : Dev Cert.PostSRefIdeal.nD → PrngReg), Pre_PostSRefIdeal m →
    θ_run (Cert.PostSRefIdeal.defs (F := Ideal)) (onTc (τ := Cert.PostSRefIdeal.τ) (Cert.PostSRefIdeal.main (F := Ideal))) ⟨m, fun _ => 0, g⟩ (fun r => (∀ c : Dev Cert.PostSRefIdeal.nD,
      r.2.mem ((c.tc : Thread Cert.PostSRefIdeal.nD Cert.PostSRefIdeal.τ).loc Cert.PostSRefIdeal.main_arg0) = m ((c.tc : Thread Cert.PostSRefIdeal.nD Cert.PostSRefIdeal.τ).loc Cert.PostSRefIdeal.main_arg0)
      ∧ r.2.mem ((c.tc : Thread Cert.PostSRefIdeal.nD Cert.PostSRefIdeal.τ).loc Cert.PostSRefIdeal.main_arg1) = m ((c.tc : Thread Cert.PostSRefIdeal.nD Cert.PostSRefIdeal.τ).loc Cert.PostSRefIdeal.main_arg1)
      ∧ r.2.mem ((c.tc : Thread Cert.PostSRefIdeal.nD Cert.PostSRefIdeal.τ).loc Cert.PostSRefIdeal.main_arg2) = m ((c.tc : Thread Cert.PostSRefIdeal.nD Cert.PostSRefIdeal.τ).loc Cert.PostSRefIdeal.main_arg2)
      ∧ r.2.mem ((c.tc : Thread Cert.PostSRefIdeal.nD Cert.PostSRefIdeal.τ).loc Cert.PostSRefIdeal.main_arg3) = m ((c.tc : Thread Cert.PostSRefIdeal.nD Cert.PostSRefIdeal.τ).loc Cert.PostSRefIdeal.main_arg3)
      ∧ r.2.mem ((c.tc : Thread Cert.PostSRefIdeal.nD Cert.PostSRefIdeal.τ).loc Cert.PostSRefIdeal.main_arg4) = m ((c.tc : Thread Cert.PostSRefIdeal.nD Cert.PostSRefIdeal.τ).loc Cert.PostSRefIdeal.main_arg4)
      ∧ r.2.mem ((c.tc : Thread Cert.PostSRefIdeal.nD Cert.PostSRefIdeal.τ).loc Cert.PostSRefIdeal.main_arg5) = m ((c.tc : Thread Cert.PostSRefIdeal.nD Cert.PostSRefIdeal.τ).loc Cert.PostSRefIdeal.main_arg5)
      ∧ r.2.mem ((c.tc : Thread Cert.PostSRefIdeal.nD Cert.PostSRefIdeal.τ).loc Cert.PostSRefIdeal.main_arg6) = m ((c.tc : Thread Cert.PostSRefIdeal.nD Cert.PostSRefIdeal.τ).loc Cert.PostSRefIdeal.main_arg6)
      ∧ r.2.mem ((c.tc : Thread Cert.PostSRefIdeal.nD Cert.PostSRefIdeal.τ).loc Cert.PostSRefIdeal.main_arg7) = m ((c.tc : Thread Cert.PostSRefIdeal.nD Cert.PostSRefIdeal.τ).loc Cert.PostSRefIdeal.main_arg7)
      ∧ r.2.mem ((c.tc : Thread Cert.PostSRefIdeal.nD Cert.PostSRefIdeal.τ).loc Cert.PostSRefIdeal.main_arg8) = m ((c.tc : Thread Cert.PostSRefIdeal.nD Cert.PostSRefIdeal.τ).loc Cert.PostSRefIdeal.main_arg8)
      ∧ r.2.mem ((c.tc : Thread Cert.PostSRefIdeal.nD Cert.PostSRefIdeal.τ).loc Cert.PostSRefIdeal.main_arg9) = m ((c.tc : Thread Cert.PostSRefIdeal.nD Cert.PostSRefIdeal.τ).loc Cert.PostSRefIdeal.main_arg9)
      ∧ r.2.mem ((c.tc : Thread Cert.PostSRefIdeal.nD Cert.PostSRefIdeal.τ).loc Cert.PostSRefIdeal.main_arg10) = m ((c.tc : Thread Cert.PostSRefIdeal.nD Cert.PostSRefIdeal.τ).loc Cert.PostSRefIdeal.main_arg10)
      ∧ r.2.mem ((c.tc : Thread Cert.PostSRefIdeal.nD Cert.PostSRefIdeal.τ).loc Cert.PostSRefIdeal.main_arg11) = m ((c.tc : Thread Cert.PostSRefIdeal.nD Cert.PostSRefIdeal.τ).loc Cert.PostSRefIdeal.main_arg11)
      ∧ r.2.mem ((c.tc : Thread Cert.PostSRefIdeal.nD Cert.PostSRefIdeal.τ).loc Cert.PostSRefIdeal.main_arg12) = m ((c.tc : Thread Cert.PostSRefIdeal.nD Cert.PostSRefIdeal.τ).loc Cert.PostSRefIdeal.main_arg12)
      ∧ r.2.mem ((c.tc : Thread Cert.PostSRefIdeal.nD Cert.PostSRefIdeal.τ).loc Cert.PostSRefIdeal.main_arg13) = m ((c.tc : Thread Cert.PostSRefIdeal.nD Cert.PostSRefIdeal.τ).loc Cert.PostSRefIdeal.main_arg13)
      ∧ r.2.mem ((c.tc : Thread Cert.PostSRefIdeal.nD Cert.PostSRefIdeal.τ).loc Cert.PostSRefIdeal.main_arg14) = m ((c.tc : Thread Cert.PostSRefIdeal.nD Cert.PostSRefIdeal.τ).loc Cert.PostSRefIdeal.main_arg14))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2))
      ∧ r.2.sem = fun _ => 0)

def quiescent_RetState [hRetState : Cert.RetState.Facts] : Prop :=
  ∀ (m : (ℓ : Loc Cert.RetState.nD Cert.RetState.τ Cert.RetState.sig) → Buf (Elt Bits) ℓ) (g : Dev Cert.RetState.nD → PrngReg), Pre_RetState m →
    θ_run (Cert.RetState.defs (F := Bits)) (onTc (τ := Cert.RetState.τ) (Cert.RetState.main (F := Bits))) ⟨m, fun _ => 0, g⟩ (fun r => (∀ c : Dev Cert.RetState.nD,
      r.2.mem ((c.tc : Thread Cert.RetState.nD Cert.RetState.τ).loc Cert.RetState.main_arg0) = m ((c.tc : Thread Cert.RetState.nD Cert.RetState.τ).loc Cert.RetState.main_arg0)
      ∧ r.2.mem ((c.tc : Thread Cert.RetState.nD Cert.RetState.τ).loc Cert.RetState.main_arg1) = m ((c.tc : Thread Cert.RetState.nD Cert.RetState.τ).loc Cert.RetState.main_arg1))
      ∧ r.2.sem = fun _ => 0)

def quiescent_RetStateIdeal [hRetStateIdeal : Cert.RetStateIdeal.Facts] : Prop :=
  ∀ (m : (ℓ : Loc Cert.RetStateIdeal.nD Cert.RetStateIdeal.τ Cert.RetStateIdeal.sig) → Buf (Elt Ideal) ℓ) (g : Dev Cert.RetStateIdeal.nD → PrngReg), Pre_RetStateIdeal m →
    θ_run (Cert.RetStateIdeal.defs (F := Ideal)) (onTc (τ := Cert.RetStateIdeal.τ) (Cert.RetStateIdeal.main (F := Ideal))) ⟨m, fun _ => 0, g⟩ (fun r => (∀ c : Dev Cert.RetStateIdeal.nD,
      r.2.mem ((c.tc : Thread Cert.RetStateIdeal.nD Cert.RetStateIdeal.τ).loc Cert.RetStateIdeal.main_arg0) = m ((c.tc : Thread Cert.RetStateIdeal.nD Cert.RetStateIdeal.τ).loc Cert.RetStateIdeal.main_arg0)
      ∧ r.2.mem ((c.tc : Thread Cert.RetStateIdeal.nD Cert.RetStateIdeal.τ).loc Cert.RetStateIdeal.main_arg1) = m ((c.tc : Thread Cert.RetStateIdeal.nD Cert.RetStateIdeal.τ).loc Cert.RetStateIdeal.main_arg1))
      ∧ r.2.sem = fun _ => 0)

def quiescent_RetStateRefIdeal [hRetStateRefIdeal : Cert.RetStateRefIdeal.Facts] : Prop :=
  ∀ (m : (ℓ : Loc Cert.RetStateRefIdeal.nD Cert.RetStateRefIdeal.τ Cert.RetStateRefIdeal.sig) → Buf (Elt Ideal) ℓ) (g : Dev Cert.RetStateRefIdeal.nD → PrngReg), Pre_RetStateRefIdeal m →
    θ_run (Cert.RetStateRefIdeal.defs (F := Ideal)) (onTc (τ := Cert.RetStateRefIdeal.τ) (Cert.RetStateRefIdeal.main (F := Ideal))) ⟨m, fun _ => 0, g⟩ (fun r => (∀ c : Dev Cert.RetStateRefIdeal.nD,
      r.2.mem ((c.tc : Thread Cert.RetStateRefIdeal.nD Cert.RetStateRefIdeal.τ).loc Cert.RetStateRefIdeal.main_arg0) = m ((c.tc : Thread Cert.RetStateRefIdeal.nD Cert.RetStateRefIdeal.τ).loc Cert.RetStateRefIdeal.main_arg0)
      ∧ r.2.mem ((c.tc : Thread Cert.RetStateRefIdeal.nD Cert.RetStateRefIdeal.τ).loc Cert.RetStateRefIdeal.main_arg1) = m ((c.tc : Thread Cert.RetStateRefIdeal.nD Cert.RetStateRefIdeal.τ).loc Cert.RetStateRefIdeal.main_arg1))
      ∧ r.2.sem = fun _ => 0)

def quiescent_RetStateS [hRetStateS : Cert.RetStateS.Facts] : Prop :=
  ∀ (m : (ℓ : Loc Cert.RetStateS.nD Cert.RetStateS.τ Cert.RetStateS.sig) → Buf (Elt Bits) ℓ) (g : Dev Cert.RetStateS.nD → PrngReg), Pre_RetStateS m →
    θ_run (Cert.RetStateS.defs (F := Bits)) (onTc (τ := Cert.RetStateS.τ) (Cert.RetStateS.main (F := Bits))) ⟨m, fun _ => 0, g⟩ (fun r => (∀ c : Dev Cert.RetStateS.nD,
      r.2.mem ((c.tc : Thread Cert.RetStateS.nD Cert.RetStateS.τ).loc Cert.RetStateS.main_arg0) = m ((c.tc : Thread Cert.RetStateS.nD Cert.RetStateS.τ).loc Cert.RetStateS.main_arg0)
      ∧ r.2.mem ((c.tc : Thread Cert.RetStateS.nD Cert.RetStateS.τ).loc Cert.RetStateS.main_arg1) = m ((c.tc : Thread Cert.RetStateS.nD Cert.RetStateS.τ).loc Cert.RetStateS.main_arg1)
      ∧ r.2.mem ((c.tc : Thread Cert.RetStateS.nD Cert.RetStateS.τ).loc Cert.RetStateS.main_arg2) = m ((c.tc : Thread Cert.RetStateS.nD Cert.RetStateS.τ).loc Cert.RetStateS.main_arg2))
      ∧ r.2.sem = fun _ => 0)

def quiescent_RetStateSIdeal [hRetStateSIdeal : Cert.RetStateSIdeal.Facts] : Prop :=
  ∀ (m : (ℓ : Loc Cert.RetStateSIdeal.nD Cert.RetStateSIdeal.τ Cert.RetStateSIdeal.sig) → Buf (Elt Ideal) ℓ) (g : Dev Cert.RetStateSIdeal.nD → PrngReg), Pre_RetStateSIdeal m →
    θ_run (Cert.RetStateSIdeal.defs (F := Ideal)) (onTc (τ := Cert.RetStateSIdeal.τ) (Cert.RetStateSIdeal.main (F := Ideal))) ⟨m, fun _ => 0, g⟩ (fun r => (∀ c : Dev Cert.RetStateSIdeal.nD,
      r.2.mem ((c.tc : Thread Cert.RetStateSIdeal.nD Cert.RetStateSIdeal.τ).loc Cert.RetStateSIdeal.main_arg0) = m ((c.tc : Thread Cert.RetStateSIdeal.nD Cert.RetStateSIdeal.τ).loc Cert.RetStateSIdeal.main_arg0)
      ∧ r.2.mem ((c.tc : Thread Cert.RetStateSIdeal.nD Cert.RetStateSIdeal.τ).loc Cert.RetStateSIdeal.main_arg1) = m ((c.tc : Thread Cert.RetStateSIdeal.nD Cert.RetStateSIdeal.τ).loc Cert.RetStateSIdeal.main_arg1)
      ∧ r.2.mem ((c.tc : Thread Cert.RetStateSIdeal.nD Cert.RetStateSIdeal.τ).loc Cert.RetStateSIdeal.main_arg2) = m ((c.tc : Thread Cert.RetStateSIdeal.nD Cert.RetStateSIdeal.τ).loc Cert.RetStateSIdeal.main_arg2))
      ∧ r.2.sem = fun _ => 0)

def quiescent_RetStateSRefIdeal [hRetStateSRefIdeal : Cert.RetStateSRefIdeal.Facts] : Prop :=
  ∀ (m : (ℓ : Loc Cert.RetStateSRefIdeal.nD Cert.RetStateSRefIdeal.τ Cert.RetStateSRefIdeal.sig) → Buf (Elt Ideal) ℓ) (g : Dev Cert.RetStateSRefIdeal.nD → PrngReg), Pre_RetStateSRefIdeal m →
    θ_run (Cert.RetStateSRefIdeal.defs (F := Ideal)) (onTc (τ := Cert.RetStateSRefIdeal.τ) (Cert.RetStateSRefIdeal.main (F := Ideal))) ⟨m, fun _ => 0, g⟩ (fun r => (∀ c : Dev Cert.RetStateSRefIdeal.nD,
      r.2.mem ((c.tc : Thread Cert.RetStateSRefIdeal.nD Cert.RetStateSRefIdeal.τ).loc Cert.RetStateSRefIdeal.main_arg0) = m ((c.tc : Thread Cert.RetStateSRefIdeal.nD Cert.RetStateSRefIdeal.τ).loc Cert.RetStateSRefIdeal.main_arg0)
      ∧ r.2.mem ((c.tc : Thread Cert.RetStateSRefIdeal.nD Cert.RetStateSRefIdeal.τ).loc Cert.RetStateSRefIdeal.main_arg1) = m ((c.tc : Thread Cert.RetStateSRefIdeal.nD Cert.RetStateSRefIdeal.τ).loc Cert.RetStateSRefIdeal.main_arg1)
      ∧ r.2.mem ((c.tc : Thread Cert.RetStateSRefIdeal.nD Cert.RetStateSRefIdeal.τ).loc Cert.RetStateSRefIdeal.main_arg2) = m ((c.tc : Thread Cert.RetStateSRefIdeal.nD Cert.RetStateSRefIdeal.τ).loc Cert.RetStateSRefIdeal.main_arg2))
      ∧ r.2.sem = fun _ => 0)

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)
      ∧ m' ((c.tc : Thread Cert.PostRefIdeal.nD Cert.PostRefIdeal.τ).loc Cert.PostRefIdeal.main_arg13) = m ((c.tc : Thread Cert.PostIdeal.nD Cert.PostIdeal.τ).loc Cert.PostIdeal.main_arg13)
      ∧ m' ((c.tc : Thread Cert.PostRefIdeal.nD Cert.PostRefIdeal.τ).loc Cert.PostRefIdeal.main_arg14) = m ((c.tc : Thread Cert.PostIdeal.nD Cert.PostIdeal.τ).loc Cert.PostIdeal.main_arg14)) →
    ∃ (v0 : (c : Dev Cert.PostIdeal.nD) → Buf (Elt Ideal) ((c.tc : Thread Cert.PostIdeal.nD Cert.PostIdeal.τ).loc Cert.PostIdeal.main_v24)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v24) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
          ∧ r.2.mem ((c.tc : Thread Cert.PostIdeal.nD Cert.PostIdeal.τ).loc Cert.PostIdeal.main_arg14) = m ((c.tc : Thread Cert.PostIdeal.nD Cert.PostIdeal.τ).loc Cert.PostIdeal.main_arg14))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v90) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11)
          ∧ r.2.mem ((c.tc : Thread Cert.PostRefIdeal.nD Cert.PostRefIdeal.τ).loc Cert.PostRefIdeal.main_arg12) = m' ((c.tc : Thread Cert.PostRefIdeal.nD Cert.PostRefIdeal.τ).loc Cert.PostRefIdeal.main_arg12)
          ∧ r.2.mem ((c.tc : Thread Cert.PostRefIdeal.nD Cert.PostRefIdeal.τ).loc Cert.PostRefIdeal.main_arg13) = m' ((c.tc : Thread Cert.PostRefIdeal.nD Cert.PostRefIdeal.τ).loc Cert.PostRefIdeal.main_arg13)
          ∧ r.2.mem ((c.tc : Thread Cert.PostRefIdeal.nD Cert.PostRefIdeal.τ).loc Cert.PostRefIdeal.main_arg14) = m' ((c.tc : Thread Cert.PostRefIdeal.nD Cert.PostRefIdeal.τ).loc Cert.PostRefIdeal.main_arg14))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v5_0)) (v1 : (c : Dev Cert.ProjIdeal.nD) → Buf (Elt Ideal) ((c.tc : Thread Cert.ProjIdeal.nD Cert.ProjIdeal.τ).loc Cert.ProjIdeal.main_v5_1)) (v2 : (c : Dev Cert.ProjIdeal.nD) → Buf (Elt Ideal) ((c.tc : Thread Cert.ProjIdeal.nD Cert.ProjIdeal.τ).loc Cert.ProjIdeal.main_v6)) (v3 : (c : Dev Cert.ProjIdeal.nD) → Buf (Elt Ideal) ((c.tc : Thread Cert.ProjIdeal.nD Cert.ProjIdeal.τ).loc Cert.ProjIdeal.main_v7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v5_0) = v0 c
          ∧ r.2.mem ((c.tc : Thread Cert.ProjIdeal.nD Cert.ProjIdeal.τ).loc Cert.ProjIdeal.main_v5_1) = v1 c
          ∧ r.2.mem ((c.tc : Thread Cert.ProjIdeal.nD Cert.ProjIdeal.τ).loc Cert.ProjIdeal.main_v6) = v2 c
          ∧ r.2.mem ((c.tc : Thread Cert.ProjIdeal.nD Cert.ProjIdeal.τ).loc Cert.ProjIdeal.main_v7) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v30) = v0 c
          ∧ r.2.mem ((c.tc : Thread Cert.ProjRefIdeal.nD Cert.ProjRefIdeal.τ).loc Cert.ProjRefIdeal.main_v31) = v1 c
          ∧ r.2.mem ((c.tc : Thread Cert.ProjRefIdeal.nD Cert.ProjRefIdeal.τ).loc Cert.ProjRefIdeal.main_v32) = v2 c
          ∧ r.2.mem ((c.tc : Thread Cert.ProjRefIdeal.nD Cert.ProjRefIdeal.τ).loc Cert.ProjRefIdeal.main_v33) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Sb_SbIdeal : Prop :=
  True

def algebraic_SbIdeal_SbRefIdeal_pre_scores_below_80 [hSbIdeal : Cert.SbIdeal.Facts] [hSbRefIdeal : Cert.SbRefIdeal.Facts] [hPre_scores_below_80 : Cert.Pre_scores_below_80.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_scores_below_80 m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)) →
    ∃ (v0 : (c : Dev Cert.SbIdeal.nD) → Buf (Elt Ideal) ((c.tc : Thread Cert.SbIdeal.nD Cert.SbIdeal.τ).loc Cert.SbIdeal.main_v7)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v7) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v30) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1))

def preserves_Ret_RetIdeal : Prop :=
  True

def preserves_PostS_PostSIdeal : Prop :=
  True

def algebraic_PostSIdeal_PostSRefIdeal [hPostSIdeal : Cert.PostSIdeal.Facts] [hPostSRefIdeal : Cert.PostSRefIdeal.Facts] : Prop :=
  ∀ (m : (ℓ : Loc Cert.PostSIdeal.nD Cert.PostSIdeal.τ Cert.PostSIdeal.sig) → Buf (Elt Ideal) ℓ) (g : Dev Cert.PostSIdeal.nD → PrngReg)
    (m' : (ℓ : Loc Cert.PostSRefIdeal.nD Cert.PostSRefIdeal.τ Cert.PostSRefIdeal.sig) → Buf (Elt Ideal) ℓ) (g' : Dev Cert.PostSRefIdeal.nD → PrngReg), Pre_PostSIdeal m →
    (∀ c : Dev Cert.PostSIdeal.nD,
      m' ((c.tc : Thread Cert.PostSRefIdeal.nD Cert.PostSRefIdeal.τ).loc Cert.PostSRefIdeal.main_arg0) = m ((c.tc : Thread Cert.PostSIdeal.nD Cert.PostSIdeal.τ).loc Cert.PostSIdeal.main_arg0)
      ∧ m' ((c.tc : Thread Cert.PostSRefIdeal.nD Cert.PostSRefIdeal.τ).loc Cert.PostSRefIdeal.main_arg1) = m ((c.tc : Thread Cert.PostSIdeal.nD Cert.PostSIdeal.τ).loc Cert.PostSIdeal.main_arg1)
      ∧ m' ((c.tc : Thread Cert.PostSRefIdeal.nD Cert.PostSRefIdeal.τ).loc Cert.PostSRefIdeal.main_arg2) = m ((c.tc : Thread Cert.PostSIdeal.nD Cert.PostSIdeal.τ).loc Cert.PostSIdeal.main_arg2)
      ∧ m' ((c.tc : Thread Cert.PostSRefIdeal.nD Cert.PostSRefIdeal.τ).loc Cert.PostSRefIdeal.main_arg3) = m ((c.tc : Thread Cert.PostSIdeal.nD Cert.PostSIdeal.τ).loc Cert.PostSIdeal.main_arg3)
      ∧ m' ((c.tc : Thread Cert.PostSRefIdeal.nD Cert.PostSRefIdeal.τ).loc Cert.PostSRefIdeal.main_arg4) = m ((c.tc : Thread Cert.PostSIdeal.nD Cert.PostSIdeal.τ).loc Cert.PostSIdeal.main_arg4)
      ∧ m' ((c.tc : Thread Cert.PostSRefIdeal.nD Cert.PostSRefIdeal.τ).loc Cert.PostSRefIdeal.main_arg5) = m ((c.tc : Thread Cert.PostSIdeal.nD Cert.PostSIdeal.τ).loc Cert.PostSIdeal.main_arg5)
      ∧ m' ((c.tc : Thread Cert.PostSRefIdeal.nD Cert.PostSRefIdeal.τ).loc Cert.PostSRefIdeal.main_arg6) = m ((c.tc : Thread Cert.PostSIdeal.nD Cert.PostSIdeal.τ).loc Cert.PostSIdeal.main_arg6)
      ∧ m' ((c.tc : Thread Cert.PostSRefIdeal.nD Cert.PostSRefIdeal.τ).loc Cert.PostSRefIdeal.main_arg7) = m ((c.tc : Thread Cert.PostSIdeal.nD Cert.PostSIdeal.τ).loc Cert.PostSIdeal.main_arg7)
      ∧ m' ((c.tc : Thread Cert.PostSRefIdeal.nD Cert.PostSRefIdeal.τ).loc Cert.PostSRefIdeal.main_arg8) = m ((c.tc : Thread Cert.PostSIdeal.nD Cert.PostSIdeal.τ).loc Cert.PostSIdeal.main_arg8)
      ∧ m' ((c.tc : Thread Cert.PostSRefIdeal.nD Cert.PostSRefIdeal.τ).loc Cert.PostSRefIdeal.main_arg9) = m ((c.tc : Thread Cert.PostSIdeal.nD Cert.PostSIdeal.τ).loc Cert.PostSIdeal.main_arg9)
      ∧ m' ((c.tc : Thread Cert.PostSRefIdeal.nD Cert.PostSRefIdeal.τ).loc Cert.PostSRefIdeal.main_arg10) = m ((c.tc : Thread Cert.PostSIdeal.nD Cert.PostSIdeal.τ).loc Cert.PostSIdeal.main_arg10)
      ∧ m' ((c.tc : Thread Cert.PostSRefIdeal.nD Cert.PostSRefIdeal.τ).loc Cert.PostSRefIdeal.main_arg11) = m ((c.tc : Thread Cert.PostSIdeal.nD Cert.PostSIdeal.τ).loc Cert.PostSIdeal.main_arg11)
      ∧ m' ((c.tc : Thread Cert.PostSRefIdeal.nD Cert.PostSRefIdeal.τ).loc Cert.PostSRefIdeal.main_arg12) = m ((c.tc : Thread Cert.PostSIdeal.nD Cert.PostSIdeal.τ).loc Cert.PostSIdeal.main_arg12)
      ∧ m' ((c.tc : Thread Cert.PostSRefIdeal.nD Cert.PostSRefIdeal.τ).loc Cert.PostSRefIdeal.main_arg13) = m ((c.tc : Thread Cert.PostSIdeal.nD Cert.PostSIdeal.τ).loc Cert.PostSIdeal.main_arg13)
      ∧ m' ((c.tc : Thread Cert.PostSRefIdeal.nD Cert.PostSRefIdeal.τ).loc Cert.PostSRefIdeal.main_arg14) = m ((c.tc : Thread Cert.PostSIdeal.nD Cert.PostSIdeal.τ).loc Cert.PostSIdeal.main_arg14)) →
    ∃ (v0 : (c : Dev Cert.PostSIdeal.nD) → Buf (Elt Ideal) ((c.tc : Thread Cert.PostSIdeal.nD Cert.PostSIdeal.τ).loc Cert.PostSIdeal.main_v24)),
      θ_run (Cert.PostSIdeal.defs (F := Ideal)) (onTc (τ := Cert.PostSIdeal.τ) (Cert.PostSIdeal.main (F := Ideal))) ⟨m, fun _ => 0, g⟩ (fun r => ∀ c : Dev Cert.PostSIdeal.nD,
          r.2.mem ((c.tc : Thread Cert.PostSIdeal.nD Cert.PostSIdeal.τ).loc Cert.PostSIdeal.main_v24) = v0 c
          ∧ r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
          ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
          ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
          ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
          ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
          ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
          ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
          ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7)
          ∧ r.2.mem ((c.tc : Thread Cert.PostSIdeal.nD Cert.PostSIdeal.τ).loc Cert.PostSIdeal.main_arg8) = m ((c.tc : Thread Cert.PostSIdeal.nD Cert.PostSIdeal.τ).loc Cert.PostSIdeal.main_arg8)
          ∧ r.2.mem ((c.tc : Thread Cert.PostSIdeal.nD Cert.PostSIdeal.τ).loc Cert.PostSIdeal.main_arg9) = m ((c.tc : Thread Cert.PostSIdeal.nD Cert.PostSIdeal.τ).loc Cert.PostSIdeal.main_arg9)
          ∧ r.2.mem ((c.tc : Thread Cert.PostSIdeal.nD Cert.PostSIdeal.τ).loc Cert.PostSIdeal.main_arg10) = m ((c.tc : Thread Cert.PostSIdeal.nD Cert.PostSIdeal.τ).loc Cert.PostSIdeal.main_arg10)
          ∧ r.2.mem ((c.tc : Thread Cert.PostSIdeal.nD Cert.PostSIdeal.τ).loc Cert.PostSIdeal.main_arg11) = m ((c.tc : Thread Cert.PostSIdeal.nD Cert.PostSIdeal.τ).loc Cert.PostSIdeal.main_arg11)
          ∧ r.2.mem ((c.tc : Thread Cert.PostSIdeal.nD Cert.PostSIdeal.τ).loc Cert.PostSIdeal.main_arg12) = m ((c.tc : Thread Cert.PostSIdeal.nD Cert.PostSIdeal.τ).loc Cert.PostSIdeal.main_arg12)
          ∧ r.2.mem ((c.tc : Thread Cert.PostSIdeal.nD Cert.PostSIdeal.τ).loc Cert.PostSIdeal.main_arg13) = m ((c.tc : Thread Cert.PostSIdeal.nD Cert.PostSIdeal.τ).loc Cert.PostSIdeal.main_arg13)
          ∧ r.2.mem ((c.tc : Thread Cert.PostSIdeal.nD Cert.PostSIdeal.τ).loc Cert.PostSIdeal.main_arg14) = m ((c.tc : Thread Cert.PostSIdeal.nD Cert.PostSIdeal.τ).loc Cert.PostSIdeal.main_arg14))
      ∧ θ_run (Cert.PostSRefIdeal.defs (F := Ideal)) (onTc (τ := Cert.PostSRefIdeal.τ) (Cert.PostSRefIdeal.main (F := Ideal))) ⟨m', fun _ => 0, g'⟩ (fun r => ∀ c : Dev Cert.PostSRefIdeal.nD,
          r.2.mem ((c.tc : Thread Cert.PostSRefIdeal.nD Cert.PostSRefIdeal.τ).loc Cert.PostSRefIdeal.main_v87) = v0 c
          ∧ r.2.mem ((c.tc : Thread Cert.PostSRefIdeal.nD Cert.PostSRefIdeal.τ).loc Cert.PostSRefIdeal.main_arg0) = m' ((c.tc : Thread Cert.PostSRefIdeal.nD Cert.PostSRefIdeal.τ).loc Cert.PostSRefIdeal.main_arg0)
          ∧ r.2.mem ((c.tc : Thread Cert.PostSRefIdeal.nD Cert.PostSRefIdeal.τ).loc Cert.PostSRefIdeal.main_arg1) = m' ((c.tc : Thread Cert.PostSRefIdeal.nD Cert.PostSRefIdeal.τ).loc Cert.PostSRefIdeal.main_arg1)
          ∧ r.2.mem ((c.tc : Thread Cert.PostSRefIdeal.nD Cert.PostSRefIdeal.τ).loc Cert.PostSRefIdeal.main_arg2) = m' ((c.tc : Thread Cert.PostSRefIdeal.nD Cert.PostSRefIdeal.τ).loc Cert.PostSRefIdeal.main_arg2)
          ∧ r.2.mem ((c.tc : Thread Cert.PostSRefIdeal.nD Cert.PostSRefIdeal.τ).loc Cert.PostSRefIdeal.main_arg3) = m' ((c.tc : Thread Cert.PostSRefIdeal.nD Cert.PostSRefIdeal.τ).loc Cert.PostSRefIdeal.main_arg3)
          ∧ r.2.mem ((c.tc : Thread Cert.PostSRefIdeal.nD Cert.PostSRefIdeal.τ).loc Cert.PostSRefIdeal.main_arg4) = m' ((c.tc : Thread Cert.PostSRefIdeal.nD Cert.PostSRefIdeal.τ).loc Cert.PostSRefIdeal.main_arg4)
          ∧ r.2.mem ((c.tc : Thread Cert.PostSRefIdeal.nD Cert.PostSRefIdeal.τ).loc Cert.PostSRefIdeal.main_arg5) = m' ((c.tc : Thread Cert.PostSRefIdeal.nD Cert.PostSRefIdeal.τ).loc Cert.PostSRefIdeal.main_arg5)
          ∧ r.2.mem ((c.tc : Thread Cert.PostSRefIdeal.nD Cert.PostSRefIdeal.τ).loc Cert.PostSRefIdeal.main_arg6) = m' ((c.tc : Thread Cert.PostSRefIdeal.nD Cert.PostSRefIdeal.τ).loc Cert.PostSRefIdeal.main_arg6)
          ∧ r.2.mem ((c.tc : Thread Cert.PostSRefIdeal.nD Cert.PostSRefIdeal.τ).loc Cert.PostSRefIdeal.main_arg7) = m' ((c.tc : Thread Cert.PostSRefIdeal.nD Cert.PostSRefIdeal.τ).loc Cert.PostSRefIdeal.main_arg7)
          ∧ r.2.mem ((c.tc : Thread Cert.PostSRefIdeal.nD Cert.PostSRefIdeal.τ).loc Cert.PostSRefIdeal.main_arg8) = m' ((c.tc : Thread Cert.PostSRefIdeal.nD Cert.PostSRefIdeal.τ).loc Cert.PostSRefIdeal.main_arg8)
          ∧ r.2.mem ((c.tc : Thread Cert.PostSRefIdeal.nD Cert.PostSRefIdeal.τ).loc Cert.PostSRefIdeal.main_arg9) = m' ((c.tc : Thread Cert.PostSRefIdeal.nD Cert.PostSRefIdeal.τ).loc Cert.PostSRefIdeal.main_arg9)
          ∧ r.2.mem ((c.tc : Thread Cert.PostSRefIdeal.nD Cert.PostSRefIdeal.τ).loc Cert.PostSRefIdeal.main_arg10) = m' ((c.tc : Thread Cert.PostSRefIdeal.nD Cert.PostSRefIdeal.τ).loc Cert.PostSRefIdeal.main_arg10)
          ∧ r.2.mem ((c.tc : Thread Cert.PostSRefIdeal.nD Cert.PostSRefIdeal.τ).loc Cert.PostSRefIdeal.main_arg11) = m' ((c.tc : Thread Cert.PostSRefIdeal.nD Cert.PostSRefIdeal.τ).loc Cert.PostSRefIdeal.main_arg11)
          ∧ r.2.mem ((c.tc : Thread Cert.PostSRefIdeal.nD Cert.PostSRefIdeal.τ).loc Cert.PostSRefIdeal.main_arg12) = m' ((c.tc : Thread Cert.PostSRefIdeal.nD Cert.PostSRefIdeal.τ).loc Cert.PostSRefIdeal.main_arg12)
          ∧ r.2.mem ((c.tc : Thread Cert.PostSRefIdeal.nD Cert.PostSRefIdeal.τ).loc Cert.PostSRefIdeal.main_arg13) = m' ((c.tc : Thread Cert.PostSRefIdeal.nD Cert.PostSRefIdeal.τ).loc Cert.PostSRefIdeal.main_arg13)
          ∧ r.2.mem ((c.tc : Thread Cert.PostSRefIdeal.nD Cert.PostSRefIdeal.τ).loc Cert.PostSRefIdeal.main_arg14) = m' ((c.tc : Thread Cert.PostSRefIdeal.nD Cert.PostSRefIdeal.τ).loc Cert.PostSRefIdeal.main_arg14))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)) →
    ∃ (v0 : (c : Dev Cert.ProjSIdeal.nD) → Buf (Elt Ideal) ((c.tc : Thread Cert.ProjSIdeal.nD Cert.ProjSIdeal.τ).loc Cert.ProjSIdeal.main_v5_0)) (v1 : (c : Dev Cert.ProjSIdeal.nD) → Buf (Elt Ideal) ((c.tc : Thread Cert.ProjSIdeal.nD Cert.ProjSIdeal.τ).loc Cert.ProjSIdeal.main_v5_1)) (v2 : (c : Dev Cert.ProjSIdeal.nD) → Buf (Elt Ideal) ((c.tc : Thread Cert.ProjSIdeal.nD Cert.ProjSIdeal.τ).loc Cert.ProjSIdeal.main_v5_2)) (v3 : (c : Dev Cert.ProjSIdeal.nD) → Buf (Elt Ideal) ((c.tc : Thread Cert.ProjSIdeal.nD Cert.ProjSIdeal.τ).loc Cert.ProjSIdeal.main_v5_3)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v5_0) = v0 c
          ∧ r.2.mem ((c.tc : Thread Cert.ProjSIdeal.nD Cert.ProjSIdeal.τ).loc Cert.ProjSIdeal.main_v5_1) = v1 c
          ∧ r.2.mem ((c.tc : Thread Cert.ProjSIdeal.nD Cert.ProjSIdeal.τ).loc Cert.ProjSIdeal.main_v5_2) = v2 c
          ∧ r.2.mem ((c.tc : Thread Cert.ProjSIdeal.nD Cert.ProjSIdeal.τ).loc Cert.ProjSIdeal.main_v5_3) = v3 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v28) = v0 c
          ∧ r.2.mem ((c.tc : Thread Cert.ProjSRefIdeal.nD Cert.ProjSRefIdeal.τ).loc Cert.ProjSRefIdeal.main_v29) = v1 c
          ∧ r.2.mem ((c.tc : Thread Cert.ProjSRefIdeal.nD Cert.ProjSRefIdeal.τ).loc Cert.ProjSRefIdeal.main_v18) = v2 c
          ∧ r.2.mem ((c.tc : Thread Cert.ProjSRefIdeal.nD Cert.ProjSRefIdeal.τ).loc Cert.ProjSRefIdeal.main_v19) = v3 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2))

def preserves_RetState_RetStateIdeal : Prop :=
  True

def algebraic_RetStateIdeal_RetStateRefIdeal [hRetStateIdeal : Cert.RetStateIdeal.Facts] [hRetStateRefIdeal : Cert.RetStateRefIdeal.Facts] : Prop :=
  ∀ (m : (ℓ : Loc Cert.RetStateIdeal.nD Cert.RetStateIdeal.τ Cert.RetStateIdeal.sig) → Buf (Elt Ideal) ℓ) (g : Dev Cert.RetStateIdeal.nD → PrngReg)
    (m' : (ℓ : Loc Cert.RetStateRefIdeal.nD Cert.RetStateRefIdeal.τ Cert.RetStateRefIdeal.sig) → Buf (Elt Ideal) ℓ) (g' : Dev Cert.RetStateRefIdeal.nD → PrngReg), Pre_RetStateIdeal m →
    (∀ c : Dev Cert.RetStateIdeal.nD,
      m' ((c.tc : Thread Cert.RetStateRefIdeal.nD Cert.RetStateRefIdeal.τ).loc Cert.RetStateRefIdeal.main_arg0) = m ((c.tc : Thread Cert.RetStateIdeal.nD Cert.RetStateIdeal.τ).loc Cert.RetStateIdeal.main_arg0)
      ∧ m' ((c.tc : Thread Cert.RetStateRefIdeal.nD Cert.RetStateRefIdeal.τ).loc Cert.RetStateRefIdeal.main_arg1) = m ((c.tc : Thread Cert.RetStateIdeal.nD Cert.RetStateIdeal.τ).loc Cert.RetStateIdeal.main_arg1)) →
    ∃ (v0 : (c : Dev Cert.RetStateIdeal.nD) → Buf (Elt Ideal) ((c.tc : Thread Cert.RetStateIdeal.nD Cert.RetStateIdeal.τ).loc Cert.RetStateIdeal.main_v69_1)),
      θ_run (Cert.RetStateIdeal.defs (F := Ideal)) (onTc (τ := Cert.RetStateIdeal.τ) (Cert.RetStateIdeal.main (F := Ideal))) ⟨m, fun _ => 0, g⟩ (fun r => ∀ c : Dev Cert.RetStateIdeal.nD,
          r.2.mem ((c.tc : Thread Cert.RetStateIdeal.nD Cert.RetStateIdeal.τ).loc Cert.RetStateIdeal.main_v69_1) = v0 c
          ∧ r.2.mem ((c.tc : Thread Cert.RetStateIdeal.nD Cert.RetStateIdeal.τ).loc Cert.RetStateIdeal.main_arg0) = m ((c.tc : Thread Cert.RetStateIdeal.nD Cert.RetStateIdeal.τ).loc Cert.RetStateIdeal.main_arg0)
          ∧ r.2.mem ((c.tc : Thread Cert.RetStateIdeal.nD Cert.RetStateIdeal.τ).loc Cert.RetStateIdeal.main_arg1) = m ((c.tc : Thread Cert.RetStateIdeal.nD Cert.RetStateIdeal.τ).loc Cert.RetStateIdeal.main_arg1))
      ∧ θ_run (Cert.RetStateRefIdeal.defs (F := Ideal)) (onTc (τ := Cert.RetStateRefIdeal.τ) (Cert.RetStateRefIdeal.main (F := Ideal))) ⟨m', fun _ => 0, g'⟩ (fun r => ∀ c : Dev Cert.RetStateRefIdeal.nD,
          r.2.mem ((c.tc : Thread Cert.RetStateRefIdeal.nD Cert.RetStateRefIdeal.τ).loc Cert.RetStateRefIdeal.main_v66) = v0 c
          ∧ r.2.mem ((c.tc : Thread Cert.RetStateRefIdeal.nD Cert.RetStateRefIdeal.τ).loc Cert.RetStateRefIdeal.main_arg0) = m' ((c.tc : Thread Cert.RetStateRefIdeal.nD Cert.RetStateRefIdeal.τ).loc Cert.RetStateRefIdeal.main_arg0)
          ∧ r.2.mem ((c.tc : Thread Cert.RetStateRefIdeal.nD Cert.RetStateRefIdeal.τ).loc Cert.RetStateRefIdeal.main_arg1) = m' ((c.tc : Thread Cert.RetStateRefIdeal.nD Cert.RetStateRefIdeal.τ).loc Cert.RetStateRefIdeal.main_arg1))

def preserves_RetStateS_RetStateSIdeal : Prop :=
  True

def algebraic_RetStateSIdeal_RetStateSRefIdeal [hRetStateSIdeal : Cert.RetStateSIdeal.Facts] [hRetStateSRefIdeal : Cert.RetStateSRefIdeal.Facts] : Prop :=
  ∀ (m : (ℓ : Loc Cert.RetStateSIdeal.nD Cert.RetStateSIdeal.τ Cert.RetStateSIdeal.sig) → Buf (Elt Ideal) ℓ) (g : Dev Cert.RetStateSIdeal.nD → PrngReg)
    (m' : (ℓ : Loc Cert.RetStateSRefIdeal.nD Cert.RetStateSRefIdeal.τ Cert.RetStateSRefIdeal.sig) → Buf (Elt Ideal) ℓ) (g' : Dev Cert.RetStateSRefIdeal.nD → PrngReg), Pre_RetStateSIdeal m →
    (∀ c : Dev Cert.RetStateSIdeal.nD,
      m' ((c.tc : Thread Cert.RetStateSRefIdeal.nD Cert.RetStateSRefIdeal.τ).loc Cert.RetStateSRefIdeal.main_arg0) = m ((c.tc : Thread Cert.RetStateSIdeal.nD Cert.RetStateSIdeal.τ).loc Cert.RetStateSIdeal.main_arg0)
      ∧ m' ((c.tc : Thread Cert.RetStateSRefIdeal.nD Cert.RetStateSRefIdeal.τ).loc Cert.RetStateSRefIdeal.main_arg1) = m ((c.tc : Thread Cert.RetStateSIdeal.nD Cert.RetStateSIdeal.τ).loc Cert.RetStateSIdeal.main_arg1)
      ∧ m' ((c.tc : Thread Cert.RetStateSRefIdeal.nD Cert.RetStateSRefIdeal.τ).loc Cert.RetStateSRefIdeal.main_arg2) = m ((c.tc : Thread Cert.RetStateSIdeal.nD Cert.RetStateSIdeal.τ).loc Cert.RetStateSIdeal.main_arg2)) →
    ∃ (v0 : (c : Dev Cert.RetStateSIdeal.nD) → Buf (Elt Ideal) ((c.tc : Thread Cert.RetStateSIdeal.nD Cert.RetStateSIdeal.τ).loc Cert.RetStateSIdeal.main_v72_1)),
      θ_run (Cert.RetStateSIdeal.defs (F := Ideal)) (onTc (τ := Cert.RetStateSIdeal.τ) (Cert.RetStateSIdeal.main (F := Ideal))) ⟨m, fun _ => 0, g⟩ (fun r => ∀ c : Dev Cert.RetStateSIdeal.nD,
          r.2.mem ((c.tc : Thread Cert.RetStateSIdeal.nD Cert.RetStateSIdeal.τ).loc Cert.RetStateSIdeal.main_v72_1) = v0 c
          ∧ r.2.mem ((c.tc : Thread Cert.RetStateSIdeal.nD Cert.RetStateSIdeal.τ).loc Cert.RetStateSIdeal.main_arg0) = m ((c.tc : Thread Cert.RetStateSIdeal.nD Cert.RetStateSIdeal.τ).loc Cert.RetStateSIdeal.main_arg0)
          ∧ r.2.mem ((c.tc : Thread Cert.RetStateSIdeal.nD Cert.RetStateSIdeal.τ).loc Cert.RetStateSIdeal.main_arg1) = m ((c.tc : Thread Cert.RetStateSIdeal.nD Cert.RetStateSIdeal.τ).loc Cert.RetStateSIdeal.main_arg1)
          ∧ r.2.mem ((c.tc : Thread Cert.RetStateSIdeal.nD Cert.RetStateSIdeal.τ).loc Cert.RetStateSIdeal.main_arg2) = m ((c.tc : Thread Cert.RetStateSIdeal.nD Cert.RetStateSIdeal.τ).loc Cert.RetStateSIdeal.main_arg2))
      ∧ θ_run (Cert.RetStateSRefIdeal.defs (F := Ideal)) (onTc (τ := Cert.RetStateSRefIdeal.τ) (Cert.RetStateSRefIdeal.main (F := Ideal))) ⟨m', fun _ => 0, g'⟩ (fun r => ∀ c : Dev Cert.RetStateSRefIdeal.nD,
          r.2.mem ((c.tc : Thread Cert.RetStateSRefIdeal.nD Cert.RetStateSRefIdeal.τ).loc Cert.RetStateSRefIdeal.main_v67) = v0 c
          ∧ r.2.mem ((c.tc : Thread Cert.RetStateSRefIdeal.nD Cert.RetStateSRefIdeal.τ).loc Cert.RetStateSRefIdeal.main_arg0) = m' ((c.tc : Thread Cert.RetStateSRefIdeal.nD Cert.RetStateSRefIdeal.τ).loc Cert.RetStateSRefIdeal.main_arg0)
          ∧ r.2.mem ((c.tc : Thread Cert.RetStateSRefIdeal.nD Cert.RetStateSRefIdeal.τ).loc Cert.RetStateSRefIdeal.main_arg1) = m' ((c.tc : Thread Cert.RetStateSRefIdeal.nD Cert.RetStateSRefIdeal.τ).loc Cert.RetStateSRefIdeal.main_arg1)
          ∧ r.2.mem ((c.tc : Thread Cert.RetStateSRefIdeal.nD Cert.RetStateSRefIdeal.τ).loc Cert.RetStateSRefIdeal.main_arg2) = m' ((c.tc : Thread Cert.RetStateSRefIdeal.nD Cert.RetStateSRefIdeal.τ).loc Cert.RetStateSRefIdeal.main_arg2))

def Claim : Prop :=
  ∃ (hPost : Cert.Post.Facts) (hPostIdeal : Cert.PostIdeal.Facts) (hPostRefIdeal : Cert.PostRefIdeal.Facts) (hProj : Cert.Proj.Facts) (hProjIdeal : Cert.ProjIdeal.Facts) (hProjRefIdeal : Cert.ProjRefIdeal.Facts) (hSb : Cert.Sb.Facts) (hSbIdeal : Cert.SbIdeal.Facts) (hSbRefIdeal : Cert.SbRefIdeal.Facts) (hRet : Cert.Ret.Facts) (hRetIdeal : Cert.RetIdeal.Facts) (hRetRefIdeal : Cert.RetRefIdeal.Facts) (hPostS : Cert.PostS.Facts) (hPostSIdeal : Cert.PostSIdeal.Facts) (hPostSRefIdeal : Cert.PostSRefIdeal.Facts) (hProjS : Cert.ProjS.Facts) (hProjSIdeal : Cert.ProjSIdeal.Facts) (hProjSRefIdeal : Cert.ProjSRefIdeal.Facts) (hRetState : Cert.RetState.Facts) (hRetStateIdeal : Cert.RetStateIdeal.Facts) (hRetStateRefIdeal : Cert.RetStateRefIdeal.Facts) (hRetStateS : Cert.RetStateS.Facts) (hRetStateSIdeal : Cert.RetStateSIdeal.Facts) (hRetStateSRefIdeal : Cert.RetStateSRefIdeal.Facts) (hPre_scores_below_80 : Cert.Pre_scores_below_80.Facts),
    quiescent_Post (hPost := hPost)
    ∧ quiescent_PostIdeal (hPostIdeal := hPostIdeal)
    ∧ quiescent_PostRefIdeal (hPostRefIdeal := hPostRefIdeal)
    ∧ quiescent_Proj (hProj := hProj)
    ∧ quiescent_ProjIdeal (hProjIdeal := hProjIdeal)
    ∧ quiescent_ProjRefIdeal (hProjRefIdeal := hProjRefIdeal)
    ∧ quiescent_Sb (hSb := hSb)
    ∧ quiescent_SbIdeal (hSbIdeal := hSbIdeal)
    ∧ quiescent_SbIdeal_pre_scores_below_80 (hSbIdeal := hSbIdeal) (hPre_scores_below_80 := hPre_scores_below_80)
    ∧ quiescent_SbRefIdeal (hSbRefIdeal := hSbRefIdeal)
    ∧ quiescent_SbRefIdeal_pre_scores_below_80 (hSbRefIdeal := hSbRefIdeal) (hPre_scores_below_80 := hPre_scores_below_80)
    ∧ quiescent_Ret (hRet := hRet)
    ∧ quiescent_RetIdeal (hRetIdeal := hRetIdeal)
    ∧ quiescent_RetRefIdeal (hRetRefIdeal := hRetRefIdeal)
    ∧ quiescent_PostS (hPostS := hPostS)
    ∧ quiescent_PostSIdeal (hPostSIdeal := hPostSIdeal)
    ∧ quiescent_PostSRefIdeal (hPostSRefIdeal := hPostSRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_RetState (hRetState := hRetState)
    ∧ quiescent_RetStateIdeal (hRetStateIdeal := hRetStateIdeal)
    ∧ quiescent_RetStateRefIdeal (hRetStateRefIdeal := hRetStateRefIdeal)
    ∧ quiescent_RetStateS (hRetStateS := hRetStateS)
    ∧ quiescent_RetStateSIdeal (hRetStateSIdeal := hRetStateSIdeal)
    ∧ quiescent_RetStateSRefIdeal (hRetStateSRefIdeal := hRetStateSRefIdeal)
    ∧ preserves_Post_PostIdeal
    ∧ algebraic_PostIdeal_PostRefIdeal (hPostIdeal := hPostIdeal) (hPostRefIdeal := hPostRefIdeal)
    ∧ preserves_Proj_ProjIdeal
    ∧ algebraic_ProjIdeal_ProjRefIdeal (hProjIdeal := hProjIdeal) (hProjRefIdeal := hProjRefIdeal)
    ∧ preserves_Sb_SbIdeal
    ∧ algebraic_SbIdeal_SbRefIdeal_pre_scores_below_80 (hSbIdeal := hSbIdeal) (hSbRefIdeal := hSbRefIdeal) (hPre_scores_below_80 := hPre_scores_below_80)
    ∧ preserves_Ret_RetIdeal
    ∧ preserves_PostS_PostSIdeal
    ∧ algebraic_PostSIdeal_PostSRefIdeal (hPostSIdeal := hPostSIdeal) (hPostSRefIdeal := hPostSRefIdeal)
    ∧ preserves_ProjS_ProjSIdeal
    ∧ algebraic_ProjSIdeal_ProjSRefIdeal (hProjSIdeal := hProjSIdeal) (hProjSRefIdeal := hProjSRefIdeal)
    ∧ preserves_RetState_RetStateIdeal
    ∧ algebraic_RetStateIdeal_RetStateRefIdeal (hRetStateIdeal := hRetStateIdeal) (hRetStateRefIdeal := hRetStateRefIdeal)
    ∧ preserves_RetStateS_RetStateSIdeal
    ∧ algebraic_RetStateSIdeal_RetStateSRefIdeal (hRetStateSIdeal := hRetStateSIdeal) (hRetStateSRefIdeal := hRetStateSRefIdeal)
-- ==== Pre_scores_below_80.lean ====
abbrev S8x4096x3584 : Shape := ⟨3, ![8, 4096, 3584]⟩
abbrev S8 : Shape := ⟨1, ![8]⟩
abbrev S8x4096x512 : Shape := ⟨3, ![8, 4096, 512]⟩
abbrev S8x4096x8x64 : Shape := ⟨4, ![8, 4096, 8, 64]⟩
abbrev S8x8x4096x4096 : Shape := ⟨4, ![8, 8, 4096, 4096]⟩
abbrev S1x8x1x1 : Shape := ⟨4, ![1, 8, 1, 1]⟩
abbrev S_ : Shape := ⟨0, ![]⟩

class Facts : Prop where
  bitsLt_bf16_f32 : FTy.bits .bf16 < FTy.bits .f32
  slices_S8x4096x3584_S8x4096x512_0_0_0 : S8x4096x3584.Slices ![0, 0, 0] S8x4096x512
  shapeCasts_S8x4096x512_S8x4096x8x64 : S8x4096x512.ShapeCasts S8x4096x8x64
  slices_S8x4096x3584_S8x4096x512_0_0_512 : S8x4096x3584.Slices ![0, 0, 512] S8x4096x512
  bcast_S8_S1x8x1x1_1 : S8.BroadcastsInDim S1x8x1x1 (![1] : Fin 1 → Fin S1x8x1x1.rank)
  bcast_S1x8x1x1_S8x8x4096x4096_0_1_2_3 : S1x8x1x1.BroadcastsInDim S8x8x4096x4096 (![0, 1, 2, 3] : Fin 4 → Fin S8x8x4096x4096.rank)
  bcast_S_S8x8x4096x4096 : S_.BroadcastsInDim S8x8x4096x4096 (![] : Fin 0 → Fin S8x8x4096x4096.rank)
  reducesTo_S8x8x4096x4096_S_d0_1_2_3 : S8x8x4096x4096.ReducesTo [0, 1, 2, 3] S_
  h_S_ : 0 < S_.numel
  dot_S8x4096x8x64_S8x4096x8x64_S8x8x4096x4096_3_3_1_1_02_02_wf : DotDims.WF S8x4096x8x64 S8x4096x8x64 S8x8x4096x4096 [3] [3] [1] [1] [0, 2] [0, 2]

variable [Facts]

def dot_S8x4096x8x64_S8x4096x8x64_S8x8x4096x4096_3_3_1_1_02_02 : DotDims S8x4096x8x64 S8x4096x8x64 S8x8x4096x4096 where
  lhsContracting := [3]
  rhsContracting := [3]
  lhsNonContracting := [1]
  rhsNonContracting := [1]
  lhsBatch := [0, 2]
  rhsBatch := [0, 2]
  wf := dot_S8x4096x8x64_S8x4096x8x64_S8x8x4096x4096_3_3_1_1_02_02_wf
def fn {F : FTy → Type} [FloatOps F] (main_arg0 : FVec F S8x4096x3584 .bf16) (main_arg1 : FVec F S8 .f32) : IVec S_ 1 :=
  let main_v0 : FVec F S8x4096x3584 .f32 := (extf .f32 · bitsLt_bf16_f32) main_arg0
  let main_v1 : FVec F S8x4096x512 .f32 := (extractStridedSlice S8x4096x512 ![0, 0, 0] · slices_S8x4096x3584_S8x4096x512_0_0_0) main_v0
  let main_v2 : FVec F S8x4096x8x64 .f32 := shapeCast S8x4096x8x64 main_v1 shapeCasts_S8x4096x512_S8x4096x8x64
  let main_v3 : FVec F S8x4096x512 .f32 := (extractStridedSlice S8x4096x512 ![0, 0, 512] · slices_S8x4096x3584_S8x4096x512_0_0_512) main_v0
  let main_v4 : FVec F S8x4096x8x64 .f32 := shapeCast S8x4096x8x64 main_v3 shapeCasts_S8x4096x512_S8x4096x8x64
  let main_v5 : FVec F S8x8x4096x4096 .f32 := (fun l r => Host.dotGeneral dot_S8x4096x8x64_S8x4096x8x64_S8x8x4096x4096_3_3_1_1_02_02 none l r) main_v2 main_v4
  let main_v6 : FVec F S1x8x1x1 .f32 := broadcastInDim S1x8x1x1 ![1] bcast_S8_S1x8x1x1_1 main_arg1
  let main_v7 : FVec F S8x8x4096x4096 .f32 := broadcastInDim S8x8x4096x4096 ![0, 1, 2, 3] bcast_S1x8x1x1_S8x8x4096x4096_0_1_2_3 main_v6
  let main_v8 : FVec F S8x8x4096x4096 .f32 := addf main_v5 main_v7
  let main_cst : FVec F S_ .f32 := constant S_ .f32 0x42A00000#32
  let main_v9 : FVec F S8x8x4096x4096 .f32 := broadcastInDim S8x8x4096x4096 ![] bcast_S_S8x8x4096x4096 main_cst
  let main_v10 : IVec S8x8x4096x4096 1 := cmpf .ole main_v8 main_v9
  let main_c : IVec S_ 1 := constantI S_ 1 1#1
  let main_v11 : IVec S_ 1 := (fun x v => Host.reduce IntOp.andi x v reducesTo_S8x8x4096x4096_S_d0_1_2_3 h_S_) main_v10 main_c
  main_v11
-- ==== Post.lean ====
abbrev S8x4096x512 : Shape := ⟨3, ![8, 4096, 512]⟩
abbrev S32768x2048 : Shape := ⟨2, ![32768, 2048]⟩
abbrev S8x4096x1024 : Shape := ⟨3, ![8, 4096, 1024]⟩
abbrev S1x8x4096x256 : Shape := ⟨4, ![1, 8, 4096, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1024 : Shape := ⟨1, ![1024]⟩
abbrev S32768x1024 : Shape := ⟨2, ![32768, 1024]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S32768x512 : Shape := ⟨2, ![32768, 512]⟩
abbrev S8x4096x256 : Shape := ⟨3, ![8, 4096, 256]⟩
abbrev S32768x256 : Shape := ⟨2, ![32768, 256]⟩
abbrev S256x512 : Shape := ⟨2, ![256, 512]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩

abbrev nBuf : Space → Nat
  | .hbm => 40
  | .vmem => 22
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S32768x2048, .bf16⟩
  | .hbm, ⟨3, _⟩ => ⟨S8x4096x1024, .f32⟩
  | .hbm, ⟨4, _⟩ => ⟨S1x8x4096x256, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x4096, .f32⟩
  | .hbm, ⟨10, _⟩ => ⟨S1x4096x1024, .f32⟩
  | .hbm, ⟨11, _⟩ => ⟨S1x1024, .f32⟩
  | .hbm, ⟨12, _⟩ => ⟨S1x1024x1024, .f32⟩
  | .hbm, ⟨13, _⟩ => ⟨S1x256x1024, .f32⟩
  | .hbm, ⟨14, _⟩ => ⟨S1024, .f32⟩
  | .hbm, ⟨15, _⟩ => ⟨S32768x1024, .f32⟩
  | .hbm, ⟨16, _⟩ => ⟨S512x1024, .f32⟩
  | .hbm, ⟨17, _⟩ => ⟨S512x1024, .bf16⟩
  | .hbm, ⟨18, _⟩ => ⟨S512x1024, .f32⟩
  | .hbm, ⟨19, _⟩ => ⟨S512x1024, .bf16⟩
  | .hbm, ⟨20, _⟩ => ⟨S1024x1024, .f32⟩
  | .hbm, ⟨21, _⟩ => ⟨S1024x1024, .bf16⟩
  | .hbm, ⟨22, _⟩ => ⟨S1024, .f32⟩
  | .hbm, ⟨23, _⟩ => ⟨S1x1024, .f32⟩
  | .hbm, ⟨24, _⟩ => ⟨S1024x4096, .f32⟩
  | .hbm, ⟨25, _⟩ => ⟨S1024x4096, .bf16⟩
  | .hbm, ⟨26, _⟩ => ⟨S4096x1024, .f32⟩
  | .hbm, ⟨27, _⟩ => ⟨S4096x1024, .bf16⟩
  | .hbm, ⟨28, _⟩ => ⟨S1024, .f32⟩
  | .hbm, ⟨29, _⟩ => ⟨S1x1024, .f32⟩
  | .hbm, ⟨30, _⟩ => ⟨S1024x1024, .f32⟩
  | .hbm, ⟨31, _⟩ => ⟨S1024x1024, .bf16⟩
  | .hbm, ⟨32, _⟩ => ⟨S256x1024, .f32⟩
  | .hbm, ⟨33, _⟩ => ⟨S256x1024, .bf16⟩
  | .hbm, ⟨34, _⟩ => ⟨S32768x512, .bf16⟩
  | .hbm, ⟨35, _⟩ => ⟨S32768x512, .bf16⟩
  | .hbm, ⟨36, _⟩ => ⟨S8x4096x256, .f32⟩
  | .hbm, ⟨37, _⟩ => ⟨S32768x256, .f32⟩
  | .hbm, ⟨38, _⟩ => ⟨S1x1024, .f32⟩
  | .hbm, ⟨39, _⟩ => ⟨S32768x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x2048, .bf16⟩
  | .local _ .vmem, ⟨5, _⟩ => ⟨S256x2048, .bf16⟩
  | .local _ .vmem, ⟨6, _⟩ => ⟨S256x1024, .f32⟩
  | .local _ .vmem, ⟨7, _⟩ => ⟨S256x1024, .f32⟩
  | .local _ .vmem, ⟨8, _⟩ => ⟨S256x256, .f32⟩
  | .local _ .vmem, ⟨9, _⟩ => ⟨S256x256, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x4096, .bf16⟩
  | .local _ .vmem, ⟨15, _⟩ => ⟨S4096x1024, .bf16⟩
  | .local _ .vmem, ⟨16, _⟩ => ⟨S1x1024, .f32⟩
  | .local _ .vmem, ⟨17, _⟩ => ⟨S1024x1024, .bf16⟩
  | .local _ .vmem, ⟨18, _⟩ => ⟨S256x1024, .bf16⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== PostRefIdeal.lean ====
abbrev S8x4096x512 : Shape := ⟨3, ![8, 4096, 512]⟩
abbrev S32768x2048 : Shape := ⟨2, ![32768, 2048]⟩
abbrev S8x4096x1024 : Shape := ⟨3, ![8, 4096, 1024]⟩
abbrev S1x8x4096x256 : Shape := ⟨4, ![1, 8, 4096, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1024 : Shape := ⟨1, ![1024]⟩
abbrev S32768x1024 : Shape := ⟨2, ![32768, 1024]⟩
abbrev S32768x256 : Shape := ⟨2, ![32768, 256]⟩
abbrev S32768x512 : Shape := ⟨2, ![32768, 512]⟩
abbrev S512x1024 : Shape := ⟨2, ![512, 1024]⟩
abbrev S_ : Shape := ⟨0, ![]⟩
abbrev S1024x1024 : Shape := ⟨2, ![1024, 1024]⟩
abbrev S32768 : Shape := ⟨1, ![32768]⟩
abbrev S32768x1 : Shape := ⟨2, ![32768, 1]⟩
abbrev S1024x4096 : Shape := ⟨2, ![1024, 4096]⟩
abbrev S32768x4096 : Shape := ⟨2, ![32768, 4096]⟩
abbrev S4096x1024 : Shape := ⟨2, ![4096, 1024]⟩
abbrev S256x1024 : Shape := ⟨2, ![256, 1024]⟩

abbrev nBuf : Space → Nat
  | .hbm => 123
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S32768x2048, .bf16⟩
  | .hbm, ⟨3, _⟩ => ⟨S8x4096x1024, .f32⟩
  | .hbm, ⟨4, _⟩ => ⟨S1x8x4096x256, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x4096, .f32⟩
  | .hbm, ⟨10, _⟩ => ⟨S1x4096x1024, .f32⟩
  | .hbm, ⟨11, _⟩ => ⟨S1x1024, .f32⟩
  | .hbm, ⟨12, _⟩ => ⟨S1x1024x1024, .f32⟩
  | .hbm, ⟨13, _⟩ => ⟨S1x256x1024, .f32⟩
  | .hbm, ⟨14, _⟩ => ⟨S1024, .f32⟩
  | .hbm, ⟨15, _⟩ => ⟨S32768x1024, .f32⟩
  | .hbm, ⟨16, _⟩ => ⟨S32768x256, .f32⟩
  | .hbm, ⟨17, _⟩ => ⟨S32768x2048, .f32⟩
  | .hbm, ⟨18, _⟩ => ⟨S32768x1024, .f32⟩
  | .hbm, ⟨19, _⟩ => ⟨S32768x1024, .f32⟩
  | .hbm, ⟨20, _⟩ => ⟨S8x4096x512, .f32⟩
  | .hbm, ⟨21, _⟩ => ⟨S32768x512, .f32⟩
  | .hbm, ⟨22, _⟩ => ⟨S512x1024, .f32⟩
  | .hbm, ⟨23, _⟩ => ⟨S32768x1024, .f32⟩
  | .hbm, ⟨24, _⟩ => ⟨S8x4096x512, .f32⟩
  | .hbm, ⟨25, _⟩ => ⟨S32768x512, .f32⟩
  | .hbm, ⟨26, _⟩ => ⟨S512x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S1024x1024, .f32⟩
  | .hbm, ⟨48, _⟩ => ⟨S32768x1024, .f32⟩
  | .hbm, ⟨49, _⟩ => ⟨S32768x1024, .f32⟩
  | .hbm, ⟨50, _⟩ => ⟨S1024, .f32⟩
  | .hbm, ⟨51, _⟩ => ⟨S32768x1024, .f32⟩
  | .hbm, ⟨52, _⟩ => ⟨S_, .f32⟩
  | .hbm, ⟨53, _⟩ => ⟨S32768, .f32⟩
  | .hbm, ⟨54, _⟩ => ⟨S32768x1, .f32⟩
  | .hbm, ⟨55, _⟩ => ⟨S_, .f32⟩
  | .hbm, ⟨56, _⟩ => ⟨S32768x1, .f32⟩
  | .hbm, ⟨57, _⟩ => ⟨S32768x1, .f32⟩
  | .hbm, ⟨58, _⟩ => ⟨S_, .f32⟩
  | .hbm, ⟨59, _⟩ => ⟨S32768x1, .f32⟩
  | .hbm, ⟨60, _⟩ => ⟨S32768x1, .f32⟩
  | .hbm, ⟨61, _⟩ => ⟨S32768x1, .f32⟩
  | .hbm, ⟨62, _⟩ => ⟨S32768x1024, .f32⟩
  | .hbm, ⟨63, _⟩ => ⟨S32768x1024, .f32⟩
  | .hbm, ⟨64, _⟩ => ⟨S1x1024, .f32⟩
  | .hbm, ⟨65, _⟩ => ⟨S32768x1024, .f32⟩
  | .hbm, ⟨66, _⟩ => ⟨S32768x1024, .f32⟩
  | .hbm, ⟨67, _⟩ => ⟨S1024x4096, .f32⟩
  | .hbm, ⟨68, _⟩ => ⟨S32768x4096, .f32⟩
  | .hbm, ⟨69, _⟩ => ⟨S_, .f32⟩
  | .hbm, ⟨70, _⟩ => ⟨S32768x4096, .f32⟩
  | .hbm, ⟨71, _⟩ => ⟨S32768x4096, .f32⟩
  | .hbm, ⟨72, _⟩ => ⟨S32768x4096, .f32⟩
  | .hbm, ⟨73, _⟩ => ⟨S4096x1024, .f32⟩
  | .hbm, ⟨74, _⟩ => ⟨S32768x1024, .f32⟩
  | .hbm, ⟨75, _⟩ => ⟨S32768x1024, .f32⟩
  | .hbm, ⟨76, _⟩ => ⟨S1024, .f32⟩
  | .hbm, ⟨77, _⟩ => ⟨S32768x1024, .f32⟩
  | .hbm, ⟨78, _⟩ => ⟨S_, .f32⟩
  | .hbm, ⟨79, _⟩ => ⟨S32768, .f32⟩
  | .hbm, ⟨80, _⟩ => ⟨S32768x1, .f32⟩
  | .hbm, ⟨81, _⟩ => ⟨S_, .f32⟩
  | .hbm, ⟨82, _⟩ => ⟨S32768x1, .f32⟩
  | .hbm, ⟨83, _⟩ => ⟨S32768x1, .f32⟩
  | .hbm, ⟨84, _⟩ => ⟨S_, .f32⟩
  | .hbm, ⟨85, _⟩ => ⟨S32768x1, .f32⟩
  | .hbm, ⟨86, _⟩ => ⟨S32768x1, .f32⟩
  | .hbm, ⟨87, _⟩ => ⟨S32768x1, .f32⟩
  | .hbm, ⟨88, _⟩ => ⟨S32768x1024, .f32⟩
  | .hbm, ⟨89, _⟩ => ⟨S32768x1024, .f32⟩
  | .hbm, ⟨90, _⟩ => ⟨S1x1024, .f32⟩
  | .hbm, ⟨91, _⟩ => ⟨S32768x1024, .f32⟩
  | .hbm, ⟨92, _⟩ => ⟨S32768x1024, .f32⟩
  | .hbm, ⟨93, _⟩ => ⟨S1024x1024, .f32⟩
  | .hbm, ⟨94, _⟩ => ⟨S32768x1024, .f32⟩
  | .hbm, ⟨95, _⟩ => ⟨S32768x1024, .f32⟩
  | .hbm, ⟨96, _⟩ => ⟨S32768x1024, .f32⟩
  | .hbm, ⟨97, _⟩ => ⟨S_, .f32⟩
  | .hbm, ⟨98, _⟩ => ⟨S32768x1024, .f32⟩
  | .hbm, ⟨99, _⟩ => ⟨S32768x1024, .f32⟩
  | .hbm, ⟨100, _⟩ => ⟨S_, .f32⟩
  | .hbm, ⟨101, _⟩ => ⟨S32768x1024, .f32⟩
  | .hbm, ⟨102, _⟩ => ⟨S32768x1024, .f32⟩
  | .hbm, ⟨103, _⟩ => ⟨S256x1024, .f32⟩
  | .hbm, ⟨104, _⟩ => ⟨S32768x1024, .f32⟩
  | .hbm, ⟨105, _⟩ => ⟨S32768x1024, .f32⟩
  | .hbm, ⟨106, _⟩ => ⟨S32768x1024, .f32⟩
  | .hbm, ⟨107, _⟩ => ⟨S32768x1024, .f32⟩
  | .hbm, ⟨108, _⟩ => ⟨S_, .f32⟩
  | .hbm, ⟨109, _⟩ => ⟨S32768, .f32⟩
  | .hbm, ⟨110, _⟩ => ⟨S32768x1, .f32⟩
  | .hbm, ⟨111, _⟩ => ⟨S_, .f32⟩
  | .hbm, ⟨112, _⟩ => ⟨S32768x1, .f32⟩
  | .hbm, ⟨113, _⟩ => ⟨S32768x1, .f32⟩
  | .hbm, ⟨114, _⟩ => ⟨S_, .f32⟩
  | .hbm, ⟨115, _⟩ => ⟨S32768x1, .f32⟩
  | .hbm, ⟨116, _⟩ => ⟨S32768x1, .f32⟩
  | .hbm, ⟨117, _⟩ => ⟨S32768x1, .f32⟩
  | .hbm, ⟨118, _⟩ => ⟨S32768x1024, .f32⟩
  | .hbm, ⟨119, _⟩ => ⟨S32768x1024, .f32⟩
  | .hbm, ⟨120, _⟩ => ⟨S1x1024, .f32⟩
  | .hbm, ⟨121, _⟩ => ⟨S32768x1024, .f32⟩
  | .hbm, ⟨122, _⟩ => ⟨S32768x1024, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call0_cst : Ref sig .tc := ⟨.hbm, 69, rfl⟩
abbrev main_call0_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_6 : Ref sig .tc := ⟨.hbm, 78, rfl⟩
abbrev main_v54 : Ref sig .tc := ⟨.hbm, 79, rfl⟩
abbrev main_v55 : Ref sig .tc := ⟨.hbm, 80, rfl⟩
abbrev main_cst_7 : Ref sig .tc := ⟨.hbm, 81, rfl⟩
abbrev main_v56 : Ref sig .tc := ⟨.hbm, 82, rfl⟩
abbrev main_v57 : Ref sig .tc := ⟨.hbm, 83, rfl⟩
abbrev main_cst_8 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_9 : Ref sig .tc := ⟨.hbm, 97, rfl⟩
abbrev main_v70 : Ref sig .tc := ⟨.hbm, 98, rfl⟩
abbrev main_v71 : Ref sig .tc := ⟨.hbm, 99, rfl⟩
abbrev main_cst_10 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_11 : Ref sig .tc := ⟨.hbm, 108, rfl⟩
abbrev main_v79 : Ref sig .tc := ⟨.hbm, 109, rfl⟩
abbrev main_v80 : Ref sig .tc := ⟨.hbm, 110, rfl⟩
abbrev main_cst_12 : Ref sig .tc := ⟨.hbm, 111, rfl⟩
abbrev main_v81 : Ref sig .tc := ⟨.hbm, 112, rfl⟩
abbrev main_v82 : Ref sig .tc := ⟨.hbm, 113, rfl⟩
abbrev main_cst_13 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩

abbrev nD : Nat := 1
abbrev τ : Topo := Topo.v7x

variable {F : FTy → Type} [FloatOps F]
-- ==== Proj.lean ====
abbrev S8x4096x1024 : Shape := ⟨3, ![8, 4096, 1024]⟩
abbrev S1x1024 : Shape := ⟨2, ![1, 1024]⟩
abbrev S1x1024x5632 : Shape := ⟨3, ![1, 1024, 5632]⟩
abbrev S32768x1024 : Shape := ⟨2, ![32768, 1024]⟩
abbrev S1024 : Shape := ⟨1, ![1024]⟩
abbrev S1024x5632 : Shape := ⟨2, ![1024, 5632]⟩
abbrev S32768x3584 : Shape := ⟨2, ![32768, 3584]⟩
abbrev S32768x2048 : Shape := ⟨2, ![32768, 2048]⟩
abbrev S8x8x64x4096 : Shape := ⟨4, ![8, 8, 64, 4096]⟩
abbrev S512x1024 : Shape := ⟨2, ![512, 1024]⟩
abbrev S512x3584 : Shape := ⟨2, ![512, 3584]⟩
abbrev S512x2048 : Shape := ⟨2, ![512, 2048]⟩
abbrev S1x8x64x512 : Shape := ⟨4, ![1, 8, 64, 512]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S8x64x512 : Shape := ⟨3, ![8, 64, 512]⟩
abbrev S8x4096x8x64 : Shape := ⟨4, ![8, 4096, 8, 64]⟩

abbrev nBuf : Space → Nat
  | .hbm => 14
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5632, .f32⟩
  | .hbm, ⟨3, _⟩ => ⟨S32768x1024, .f32⟩
  | .hbm, ⟨4, _⟩ => ⟨S1024, .f32⟩
  | .hbm, ⟨5, _⟩ => ⟨S1024x5632, .f32⟩
  | .hbm, ⟨6, _⟩ => ⟨S1024x5632, .bf16⟩
  | .hbm, ⟨7, _⟩ => ⟨S1x1024, .f32⟩
  | .hbm, ⟨8, _⟩ => ⟨S32768x3584, .bf16⟩
  | .hbm, ⟨9, _⟩ => ⟨S32768x2048, .bf16⟩
  | .hbm, ⟨10, _⟩ => ⟨S8x8x64x4096, .f32⟩
  | .hbm, ⟨11, _⟩ => ⟨S8x8x64x4096, .f32⟩
  | .hbm, ⟨12, _⟩ => ⟨S8x4096x8x64, .f32⟩
  | .hbm, ⟨13, _⟩ => ⟨S8x4096x8x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S512x3584, .bf16⟩
  | .local _ .vmem, ⟨5, _⟩ => ⟨S512x3584, .bf16⟩
  | .local _ .vmem, ⟨6, _⟩ => ⟨S512x2048, .bf16⟩
  | .local _ .vmem, ⟨7, _⟩ => ⟨S512x2048, .bf16⟩
  | .local _ .vmem, ⟨8, _⟩ => ⟨S1x8x64x512, .f32⟩
  | .local _ .vmem, ⟨9, _⟩ => ⟨S1x8x64x512, .f32⟩
  | .local _ .vmem, ⟨10, _⟩ => ⟨S1x8x64x512, .f32⟩
  | .local _ .vmem, ⟨11, _⟩ => ⟨S1x8x64x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_6 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjRefIdeal.lean ====
abbrev S8x4096x1024 : Shape := ⟨3, ![8, 4096, 1024]⟩
abbrev S1x1024 : Shape := ⟨2, ![1, 1024]⟩
abbrev S1x1024x5632 : Shape := ⟨3, ![1, 1024, 5632]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x5632 : Shape := ⟨2, ![1024, 5632]⟩
abbrev S32768x5632 : Shape := ⟨2, ![32768, 5632]⟩
abbrev S32768x512 : Shape := ⟨2, ![32768, 512]⟩
abbrev S32768x3584 : Shape := ⟨2, ![32768, 3584]⟩
abbrev S32768x2048 : Shape := ⟨2, ![32768, 2048]⟩
abbrev S8x4096x8x64 : Shape := ⟨4, ![8, 4096, 8, 64]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5632, .f32⟩
  | .hbm, ⟨3, _⟩ => ⟨S32768x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1024x5632, .f32⟩
  | .hbm, ⟨22, _⟩ => ⟨S32768x5632, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768x512, .f32⟩
  | .hbm, ⟨34, _⟩ => ⟨S32768x512, .f32⟩
  | .hbm, ⟨35, _⟩ => ⟨S32768x3584, .f32⟩
  | .hbm, ⟨36, _⟩ => ⟨S32768x2048, .f32⟩
  | .hbm, ⟨37, _⟩ => ⟨S32768x3584, .bf16⟩
  | .hbm, ⟨38, _⟩ => ⟨S32768x2048, .bf16⟩
  | .hbm, ⟨39, _⟩ => ⟨S8x4096x8x64, .f32⟩
  | .hbm, ⟨40, _⟩ => ⟨S8x4096x8x64, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Sb.lean ====
abbrev S8x4096x3584 : Shape := ⟨3, ![8, 4096, 3584]⟩
abbrev S8 : Shape := ⟨1, ![8]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x4096x512 : Shape := ⟨3, ![8, 4096, 512]⟩
abbrev S1x256x512 : Shape := ⟨3, ![1, 256, 512]⟩
abbrev S1x4096x512 : Shape := ⟨3, ![1, 4096, 512]⟩
abbrev S4x256x128 : Shape := ⟨3, ![4, 256, 128]⟩
abbrev S8x256x128 : Shape := ⟨3, ![8, 256, 128]⟩
abbrev S256x128 : Shape := ⟨2, ![256, 128]⟩
abbrev S1x256x128 : Shape := ⟨3, ![1, 256, 128]⟩
abbrev S1 : Shape := ⟨1, ![1]⟩
abbrev S512x128 : Shape := ⟨2, ![512, 128]⟩
abbrev S1x512x128 : Shape := ⟨3, ![1, 512, 128]⟩
abbrev S256x512 : Shape := ⟨2, ![256, 512]⟩
abbrev S512x256 : Shape := ⟨2, ![512, 256]⟩

abbrev nBuf : Space → Nat
  | .hbm => 10
  | .vmem => 11
  | .smem => 1
  | _ => 0

abbrev bufTy : (tb : Table) → Fin (tcTables nBuf tb) → BufTy
  | .hbm, ⟨0, _⟩ => ⟨S8x4096x3584, .bf16⟩
  | .hbm, ⟨1, _⟩ => ⟨S8, .f32⟩
  | .hbm, ⟨2, _⟩ => ⟨S256, .i32⟩
  | .hbm, ⟨3, _⟩ => ⟨S256x1, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S256x256, .bf16⟩
  | .hbm, ⟨9, _⟩ => ⟨S8x4096x512, .bf16⟩
  | .local _ .vmem, ⟨0, _⟩ => ⟨S256x256, .bf16⟩
  | .local _ .vmem, ⟨1, _⟩ => ⟨S1x256x512, .bf16⟩
  | .local _ .vmem, ⟨2, _⟩ => ⟨S1x256x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x4096x512, .bf16⟩
  | .local _ .vmem, ⟨7, _⟩ => ⟨S1x256x512, .bf16⟩
  | .local _ .vmem, ⟨8, _⟩ => ⟨S1x256x512, .bf16⟩
  | .local _ .vmem, ⟨9, _⟩ => ⟨S4x256x128, .f32⟩
  | .local _ .vmem, ⟨10, _⟩ => ⟨S8x256x128, .f32⟩
  | .local _ .smem, ⟨0, _⟩ => ⟨S8, .f32⟩
  | _, _ => ⟨S8x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c2_i32 : BitVec 32 := 2#32
  let c0_i32 : BitVec 32 := 0#32
  let v11 : BitVec 1 := Scalar.cmpi .eq c2_i32 c0_i32
  let c1_i32 : BitVec 32 := 1#32
  let v12 : BitVec 32 := Scalar.select v11 c1_i32 c2_i32
  let v13 : BitVec 32 := Scalar.remsi arg1 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c0_i32_9 : BitVec 32 := 0#32
  let v21 : BitVec 1 := Scalar.cmpi .eq v20 c0_i32_9
  let v22 : BitVec 32 := Scalar.extui v21
  let c0_i32_10 : BitVec 32 := 0#32
  let v23 : BitVec 1 := Scalar.cmpi .ne v22 c0_i32_10
  v23

def k0_mult1 (i : grid0.Coords) : BitVec 32 :=
  let arg1 : BitVec 32 := BitVec.ofNat 32 (i 1).val
  let c256_i32 : BitVec 32 := 256#32
  let v83 : BitVec 32 := Scalar.muli arg1 c256_i32
  v83
def k0_off1 (i : grid0.Coords) : Fin 3 → Nat :=
  let c0_55 : Index := 0#32
  let arg1 : BitVec 32 := BitVec.ofNat 32 (i 1).val
  let c256_i32 : BitVec 32 := 256#32
  let v83 : BitVec 32 := Scalar.muli arg1 c256_i32
  let v84 : BitVec 32 := v83
  let v95 : Index := Scalar.indexCast v84
  let c0_56 : Index := 0#32
  ![0, v95.toNat, 0]
def k0_off2 (i : grid0.Coords) : Fin 3 → Nat :=
  let c0_104 : Index := 0#32
  let arg1 : BitVec 32 := BitVec.ofNat 32 (i 1).val
  let c256_i32 : BitVec 32 := 256#32
  let v83 : BitVec 32 := Scalar.muli arg1 c256_i32
  let v84 : BitVec 32 := v83
  let v188 : Index := Scalar.indexCast v84
  let c128_105 : Index := 128#32
  ![0, v188.toNat, 128]
def k0_off3 (i : grid0.Coords) : Fin 3 → Nat :=
  let c0_153 : Index := 0#32
  let arg1 : BitVec 32 := BitVec.ofNat 32 (i 1).val
  let c256_i32 : BitVec 32 := 256#32
  let v83 : BitVec 32 := Scalar.muli arg1 c256_i32
  let v84 : BitVec 32 := v83
  let v281 : Index := Scalar.indexCast v84
  let c256_154 : Index := 256#32
  ![0, v281.toNat, 256]
def k0_off4 (i : grid0.Coords) : Fin 3 → Nat :=
  let c0_200 : Index := 0#32
  let arg1 : BitVec 32 := BitVec.ofNat 32 (i 1).val
  let c256_i32 : BitVec 32 := 256#32
  let v83 : BitVec 32 := Scalar.muli arg1 c256_i32
  let v84 : BitVec 32 := v83
  let v374 : Index := Scalar.indexCast v84
  let c384_201 : Index := 384#32
  ![0, v374.toNat, 384]
def k0_cond2 (i : grid0.Coords) : BitVec 1 :=
  let arg1 : BitVec 32 := BitVec.ofNat 32 (i 1).val
  let c2_i32_11 : BitVec 32 := 2#32
  let c0_i32_12 : BitVec 32 := 0#32
  let v24 : BitVec 1 := Scalar.cmpi .eq c2_i32_11 c0_i32_12
  let c1_i32_13 : BitVec 32 := 1#32
  let v25 : BitVec 32 := Scalar.select v24 c1_i32_13 c2_i32_11
  let v26 : BitVec 32 := Scalar.remsi arg1 v25
  let c0_i32_15 : BitVec 32 := 0#32
  let v28 : BitVec 1 := Scalar.cmpi .slt v26 c0_i32_15
  let c0_i32_16 : BitVec 32 := 0#32
  let v29 : BitVec 1 := Scalar.cmpi .slt v25 c0_i32_16
  let v30 : BitVec 1 := Scalar.xori v28 v29
  let c0_i32_14 : BitVec 32 := 0#32
  let v27 : BitVec 1 := Scalar.cmpi .ne v26 c0_i32_14
  let v31 : BitVec 1 := Scalar.andi v30 v27
  let v32 : BitVec 32 := Scalar.addi v26 v25
  let v33 : BitVec 32 := Scalar.select v31 v32 v26
  let c1_i32_17 : BitVec 32 := 1#32
  let v34 : BitVec 1 := Scalar.cmpi .eq v33 c1_i32_17
  let v35 : BitVec 32 := Scalar.extui v34
  let c0_i32_18 : BitVec 32 := 0#32
  let v36 : BitVec 1 := Scalar.cmpi .ne v35 c0_i32_18
  v36

def k0_mult2 (i : grid0.Coords) : BitVec 32 :=
  let arg1 : BitVec 32 := BitVec.ofNat 32 (i 1).val
  let c1_i32_49 : BitVec 32 := 1#32
  let v83 : BitVec 32 := Scalar.subi arg1 c1_i32_49
  let c256_i32 : BitVec 32 := 256#32
  let v84 : BitVec 32 := Scalar.muli v83 c256_i32
  v84
def k0_off5 (i : grid0.Coords) : Fin 3 → Nat :=
  let c0_56 : Index := 0#32
  let arg1 : BitVec 32 := BitVec.ofNat 32 (i 1).val
  let c1_i32_49 : BitVec 32 := 1#32
  let v83 : BitVec 32 := Scalar.subi arg1 c1_i32_49
  let c256_i32 : BitVec 32 := 256#32
  let v84 : BitVec 32 := Scalar.muli v83 c256_i32
  let v85 : BitVec 32 := v84
  let v96 : Index := Scalar.indexCast v85
  let c0_57 : Index := 0#32
  ![0, v96.toNat, 0]
def k0_off6 (i : grid0.Coords) : Fin 3 → Nat :=
  let c0_107 : Index := 0#32
  let arg1 : BitVec 32 := BitVec.ofNat 32 (i 1).val
  let c1_i32_49 : BitVec 32 := 1#32
  let v83 : BitVec 32 := Scalar.subi arg1 c1_i32_49
  let c256_i32 : BitVec 32 := 256#32
  let v84 : BitVec 32 := Scalar.muli v83 c256_i32
  let v85 : BitVec 32 := v84
  let v225 : Index := Scalar.indexCast v85
  let c128_108 : Index := 128#32
  ![0, v225.toNat, 128]
def k0_off7 (i : grid0.Coords) : Fin 3 → Nat :=
  let c0_158 : Index := 0#32
  let arg1 : BitVec 32 := BitVec.ofNat 32 (i 1).val
  let c1_i32_49 : BitVec 32 := 1#32
  let v83 : BitVec 32 := Scalar.subi arg1 c1_i32_49
  let c256_i32 : BitVec 32 := 256#32
  let v84 : BitVec 32 := Scalar.muli v83 c256_i32
  let v85 : BitVec 32 := v84
  let v354 : Index := Scalar.indexCast v85
  let c256_159 : Index := 256#32
  ![0, v354.toNat, 256]
def k0_off8 (i : grid0.Coords) : Fin 3 → Nat :=
  let c0_207 : Index := 0#32
  let arg1 : BitVec 32 := BitVec.ofNat 32 (i 1).val
  let c1_i32_49 : BitVec 32 := 1#32
  let v83 : BitVec 32 := Scalar.subi arg1 c1_i32_49
  let c256_i32 : BitVec 32 := 256#32
  let v84 : BitVec 32 := Scalar.muli v83 c256_i32
  let v85 : BitVec 32 := v84
  let v483 : Index := Scalar.indexCast v85
  let c384_208 : Index := 384#32
  ![0, v483.toNat, 384]
@[reducible] def k0_t1_loop (i : grid0.Coords) : Scf.Loop 32 :=
  let c0_i32_27 : BitVec 32 := 0#32
  let arg1 : BitVec 32 := BitVec.ofNat 32 (i 1).val
  let c0_i32_20 : BitVec 32 := 0#32
  let v38 : BitVec 1 := Scalar.cmpi .sgt arg1 c0_i32_20
  let v39 : BitVec 32 := Scalar.extui v38
  let c0_i32_21 : BitVec 32 := 0#32
  let v40 : BitVec 1 := Scalar.cmpi .slt arg1 c0_i32_21
  let v41 : BitVec 32 := Scalar.extui v40
  let v42 : BitVec 32 := Scalar.subi v39 v41
  let c2_i32_19 : BitVec 32 := 2#32
  let c0_i32_22 : BitVec 32 := 0#32
  let v43 : BitVec 1 := Scalar.cmpi .sgt c2_i32_19 c0_i32_22
  let v44 : BitVec 32 := Scalar.extui v43
  let c0_i32_23 : BitVec 32 := 0#32
  let v45 : BitVec 1 := Scalar.cmpi .slt c2_i32_19 c0_i32_23
  let v46 : BitVec 32 := Scalar.extui v45
  let v47 : BitVec 32 := Scalar.subi v44 v46
  let v48 : BitVec 1 := Scalar.cmpi .ne v42 v47
  let v49 : BitVec 32 := Scalar.remsi arg1 c2_i32_19
  let c0_i32_24 : BitVec 32 := 0#32
  let v50 : BitVec 1 := Scalar.cmpi .ne v49 c0_i32_24
  let v51 : BitVec 1 := Scalar.andi v48 v50
  let v37 : BitVec 32 := Scalar.divsi arg1 c2_i32_19
  let c1_i32_25 : BitVec 32 := 1#32
  let v52 : BitVec 32 := Scalar.subi v37 c1_i32_25
  let v53 : BitVec 32 := Scalar.select v51 v52 v37
  let v54 : BitVec 32 := Scalar.subi v53 c0_i32_27
  let c1_i32_28 : BitVec 32 := 1#32
  let v56 : BitVec 32 := Scalar.divsi v54 c1_i32_28
  let v57 : BitVec 32 := Scalar.muli v56 c1_i32_28
  let v58 : BitVec 32 := Scalar.addi c0_i32_27 v57
  let c1_i32_29 : BitVec 32 := 1#32
  ⟨c0_i32_27, v58, c1_i32_29⟩
def k0_mult3 (i : grid0.Coords) (k0_t1 : Fin (k0_t1_loop i).trips) : BitVec 32 :=
  let arg1 : BitVec 32 := BitVec.ofNat 32 (i 1).val
  let c0_i32_50 : BitVec 32 := 0#32
  let v84 : BitVec 1 := Scalar.cmpi .sgt arg1 c0_i32_50
  let v85 : BitVec 32 := Scalar.extui v84
  let c0_i32_51 : BitVec 32 := 0#32
  let v86 : BitVec 1 := Scalar.cmpi .slt arg1 c0_i32_51
  let v87 : BitVec 32 := Scalar.extui v86
  let v88 : BitVec 32 := Scalar.subi v85 v87
  let c2_i32_49 : BitVec 32 := 2#32
  let c0_i32_52 : BitVec 32 := 0#32
  let v89 : BitVec 1 := Scalar.cmpi .sgt c2_i32_49 c0_i32_52
  let v90 : BitVec 32 := Scalar.extui v89
  let c0_i32_53 : BitVec 32 := 0#32
  let v91 : BitVec 1 := Scalar.cmpi .slt c2_i32_49 c0_i32_53
  let v92 : BitVec 32 := Scalar.extui v91
  let v93 : BitVec 32 := Scalar.subi v90 v92
  let v94 : BitVec 1 := Scalar.cmpi .ne v88 v93
  let v95 : BitVec 32 := Scalar.remsi arg1 c2_i32_49
  let c0_i32_54 : BitVec 32 := 0#32
  let v96 : BitVec 1 := Scalar.cmpi .ne v95 c0_i32_54
  let v97 : BitVec 1 := Scalar.andi v94 v96
  let v83 : BitVec 32 := Scalar.divsi arg1 c2_i32_49
  let c1_i32_55 : BitVec 32 := 1#32
  let v98 : BitVec 32 := Scalar.subi v83 c1_i32_55
  let v99 : BitVec 32 := Scalar.select v97 v98 v83
  let c1_i32_56 : BitVec 32 := 1#32
  let v100 : BitVec 32 := Scalar.subi v99 c1_i32_56
  let c0_i32_27 : BitVec 32 := 0#32
  let c1_i32_29 : BitVec 32 := 1#32
  let arg10 : BitVec 32 := Scf.iv c0_i32_27 c1_i32_29 k0_t1
  let v101 : BitVec 32 := Scalar.subi v100 arg10
  let c2_i32_57 : BitVec 32 := 2#32
  let v102 : BitVec 32 := Scalar.muli v101 c2_i32_57
  let c256_i32 : BitVec 32 := 256#32
  let v103 : BitVec 32 := Scalar.muli v102 c256_i32
  v103
def k0_off9 (i : grid0.Coords) (k0_t1 : Fin (k0_t1_loop i).trips) : Fin 3 → Nat :=
  let c0_64 : Index := 0#32
  let arg1 : BitVec 32 := BitVec.ofNat 32 (i 1).val
  let c0_i32_50 : BitVec 32 := 0#32
  let v84 : BitVec 1 := Scalar.cmpi .sgt arg1 c0_i32_50
  let v85 : BitVec 32 := Scalar.extui v84
  let c0_i32_51 : BitVec 32 := 0#32
  let v86 : BitVec 1 := Scalar.cmpi .slt arg1 c0_i32_51
  let v87 : BitVec 32 := Scalar.extui v86
  let v88 : BitVec 32 := Scalar.subi v85 v87
  let c2_i32_49 : BitVec 32 := 2#32
  let c0_i32_52 : BitVec 32 := 0#32
  let v89 : BitVec 1 := Scalar.cmpi .sgt c2_i32_49 c0_i32_52
  let v90 : BitVec 32 := Scalar.extui v89
  let c0_i32_53 : BitVec 32 := 0#32
  let v91 : BitVec 1 := Scalar.cmpi .slt c2_i32_49 c0_i32_53
  let v92 : BitVec 32 := Scalar.extui v91
  let v93 : BitVec 32 := Scalar.subi v90 v92
  let v94 : BitVec 1 := Scalar.cmpi .ne v88 v93
  let v95 : BitVec 32 := Scalar.remsi arg1 c2_i32_49
  let c0_i32_54 : BitVec 32 := 0#32
  let v96 : BitVec 1 := Scalar.cmpi .ne v95 c0_i32_54
  let v97 : BitVec 1 := Scalar.andi v94 v96
  let v83 : BitVec 32 := Scalar.divsi arg1 c2_i32_49
  let c1_i32_55 : BitVec 32 := 1#32
  let v98 : BitVec 32 := Scalar.subi v83 c1_i32_55
  let v99 : BitVec 32 := Scalar.select v97 v98 v83
  let c1_i32_56 : BitVec 32 := 1#32
  let v100 : BitVec 32 := Scalar.subi v99 c1_i32_56
  let c0_i32_27 : BitVec 32 := 0#32
  let c1_i32_29 : BitVec 32 := 1#32
  let arg10 : BitVec 32 := Scf.iv c0_i32_27 c1_i32_29 k0_t1
  let v101 : BitVec 32 := Scalar.subi v100 arg10
  let c2_i32_57 : BitVec 32 := 2#32
  let v102 : BitVec 32 := Scalar.muli v101 c2_i32_57
  let c256_i32 : BitVec 32 := 256#32
  let v103 : BitVec 32 := Scalar.muli v102 c256_i32
  let v104 : BitVec 32 := v103
  let v115 : Index := Scalar.indexCast v104
  let c0_65 : Index := 0#32
  ![0, v115.toNat, 0]
def k0_off10 (i : grid0.Coords) (k0_t1 : Fin (k0_t1_loop i).trips) : Fin 3 → Nat :=
  let c0_111 : Index := 0#32
  let arg1 : BitVec 32 := BitVec.ofNat 32 (i 1).val
  let c0_i32_50 : BitVec 32 := 0#32
  let v84 : BitVec 1 := Scalar.cmpi .sgt arg1 c0_i32_50
  let v85 : BitVec 32 := Scalar.extui v84
  let c0_i32_51 : BitVec 32 := 0#32
  let v86 : BitVec 1 := Scalar.cmpi .slt arg1 c0_i32_51
  let v87 : BitVec 32 := Scalar.extui v86
  let v88 : BitVec 32 := Scalar.subi v85 v87
  let c2_i32_49 : BitVec 32 := 2#32
  let c0_i32_52 : BitVec 32 := 0#32
  let v89 : BitVec 1 := Scalar.cmpi .sgt c2_i32_49 c0_i32_52
  let v90 : BitVec 32 := Scalar.extui v89
  let c0_i32_53 : BitVec 32 := 0#32
  let v91 : BitVec 1 := Scalar.cmpi .slt c2_i32_49 c0_i32_53
  let v92 : BitVec 32 := Scalar.extui v91
  let v93 : BitVec 32 := Scalar.subi v90 v92
  let v94 : BitVec 1 := Scalar.cmpi .ne v88 v93
  let v95 : BitVec 32 := Scalar.remsi arg1 c2_i32_49
  let c0_i32_54 : BitVec 32 := 0#32
  let v96 : BitVec 1 := Scalar.cmpi .ne v95 c0_i32_54
  let v97 : BitVec 1 := Scalar.andi v94 v96
  let v83 : BitVec 32 := Scalar.divsi arg1 c2_i32_49
  let c1_i32_55 : BitVec 32 := 1#32
  let v98 : BitVec 32 := Scalar.subi v83 c1_i32_55
  let v99 : BitVec 32 := Scalar.select v97 v98 v83
  let c1_i32_56 : BitVec 32 := 1#32
  let v100 : BitVec 32 := Scalar.subi v99 c1_i32_56
  let c0_i32_27 : BitVec 32 := 0#32
  let c1_i32_29 : BitVec 32 := 1#32
  let arg10 : BitVec 32 := Scf.iv c0_i32_27 c1_i32_29 k0_t1
  let v101 : BitVec 32 := Scalar.subi v100 arg10
  let c2_i32_57 : BitVec 32 := 2#32
  let v102 : BitVec 32 := Scalar.muli v101 c2_i32_57
  let c256_i32 : BitVec 32 := 256#32
  let v103 : BitVec 32 := Scalar.muli v102 c256_i32
  let v104 : BitVec 32 := v103
  let v236 : Index := Scalar.indexCast v104
  let c128_112 : Index := 128#32
  ![0, v236.toNat, 128]
def k0_off11 (i : grid0.Coords) (k0_t1 : Fin (k0_t1_loop i).trips) : Fin 3 → Nat :=
  let c0_158 : Index := 0#32
  let arg1 : BitVec 32 := BitVec.ofNat 32 (i 1).val
  let c0_i32_50 : BitVec 32 := 0#32
  let v84 : BitVec 1 := Scalar.cmpi .sgt arg1 c0_i32_50
  let v85 : BitVec 32 := Scalar.extui v84
  let c0_i32_51 : BitVec 32 := 0#32
  let v86 : BitVec 1 := Scalar.cmpi .slt arg1 c0_i32_51
  let v87 : BitVec 32 := Scalar.extui v86
  let v88 : BitVec 32 := Scalar.subi v85 v87
  let c2_i32_49 : BitVec 32 := 2#32
  let c0_i32_52 : BitVec 32 := 0#32
  let v89 : BitVec 1 := Scalar.cmpi .sgt c2_i32_49 c0_i32_52
  let v90 : BitVec 32 := Scalar.extui v89
  let c0_i32_53 : BitVec 32 := 0#32
  let v91 : BitVec 1 := Scalar.cmpi .slt c2_i32_49 c0_i32_53
  let v92 : BitVec 32 := Scalar.extui v91
  let v93 : BitVec 32 := Scalar.subi v90 v92
  let v94 : BitVec 1 := Scalar.cmpi .ne v88 v93
  let v95 : BitVec 32 := Scalar.remsi arg1 c2_i32_49
  let c0_i32_54 : BitVec 32 := 0#32
  let v96 : BitVec 1 := Scalar.cmpi .ne v95 c0_i32_54
  let v97 : BitVec 1 := Scalar.andi v94 v96
  let v83 : BitVec 32 := Scalar.divsi arg1 c2_i32_49
  let c1_i32_55 : BitVec 32 := 1#32
  let v98 : BitVec 32 := Scalar.subi v83 c1_i32_55
  let v99 : BitVec 32 := Scalar.select v97 v98 v83
  let c1_i32_56 : BitVec 32 := 1#32
  let v100 : BitVec 32 := Scalar.subi v99 c1_i32_56
  let c0_i32_27 : BitVec 32 := 0#32
  let c1_i32_29 : BitVec 32 := 1#32
  let arg10 : BitVec 32 := Scf.iv c0_i32_27 c1_i32_29 k0_t1
  let v101 : BitVec 32 := Scalar.subi v100 arg10
  let c2_i32_57 : BitVec 32 := 2#32
  let v102 : BitVec 32 := Scalar.muli v101 c2_i32_57
  let c256_i32 : BitVec 32 := 256#32
  let v103 : BitVec 32 := Scalar.muli v102 c256_i32
  let v104 : BitVec 32 := v103
  let v357 : Index := Scalar.indexCast v104
  let c256_159 : Index := 256#32
  ![0, v357.toNat, 256]
def k0_off12 (i : grid0.Coords) (k0_t1 : Fin (k0_t1_loop i).trips) : Fin 3 → Nat :=
  let c0_203 : Index := 0#32
  let arg1 : BitVec 32 := BitVec.ofNat 32 (i 1).val
  let c0_i32_50 : BitVec 32 := 0#32
  let v84 : BitVec 1 := Scalar.cmpi .sgt arg1 c0_i32_50
  let v85 : BitVec 32 := Scalar.extui v84
  let c0_i32_51 : BitVec 32 := 0#32
  let v86 : BitVec 1 := Scalar.cmpi .slt arg1 c0_i32_51
  let v87 : BitVec 32 := Scalar.extui v86
  let v88 : BitVec 32 := Scalar.subi v85 v87
  let c2_i32_49 : BitVec 32 := 2#32
  let c0_i32_52 : BitVec 32 := 0#32
  let v89 : BitVec 1 := Scalar.cmpi .sgt c2_i32_49 c0_i32_52
  let v90 : BitVec 32 := Scalar.extui v89
  let c0_i32_53 : BitVec 32 := 0#32
  let v91 : BitVec 1 := Scalar.cmpi .slt c2_i32_49 c0_i32_53
  let v92 : BitVec 32 := Scalar.extui v91
  let v93 : BitVec 32 := Scalar.subi v90 v92
  let v94 : BitVec 1 := Scalar.cmpi .ne v88 v93
  let v95 : BitVec 32 := Scalar.remsi arg1 c2_i32_49
  let c0_i32_54 : BitVec 32 := 0#32
  let v96 : BitVec 1 := Scalar.cmpi .ne v95 c0_i32_54
  let v97 : BitVec 1 := Scalar.andi v94 v96
  let v83 : BitVec 32 := Scalar.divsi arg1 c2_i32_49
  let c1_i32_55 : BitVec 32 := 1#32
  let v98 : BitVec 32 := Scalar.subi v83 c1_i32_55
  let v99 : BitVec 32 := Scalar.select v97 v98 v83
  let c1_i32_56 : BitVec 32 := 1#32
  let v100 : BitVec 32 := Scalar.subi v99 c1_i32_56
  let c0_i32_27 : BitVec 32 := 0#32
  let c1_i32_29 : BitVec 32 := 1#32
  let arg10 : BitVec 32 := Scf.iv c0_i32_27 c1_i32_29 k0_t1
  let v101 : BitVec 32 := Scalar.subi v100 arg10
  let c2_i32_57 : BitVec 32 := 2#32
  let v102 : BitVec 32 := Scalar.muli v101 c2_i32_57
  let c256_i32 : BitVec 32 := 256#32
  let v103 : BitVec 32 := Scalar.muli v102 c256_i32
  let v104 : BitVec 32 := v103
  let v478 : Index := Scalar.indexCast v104
  let c384_204 : Index := 384#32
  ![0, v478.toNat, 384]
@[reducible] def k0_t2_loop (i : grid0.Coords) : Scf.Loop 32 :=
  let c0_i32_27 : BitVec 32 := 0#32
  let arg1 : BitVec 32 := BitVec.ofNat 32 (i 1).val
  let c0_i32_20 : BitVec 32 := 0#32
  let v38 : BitVec 1 := Scalar.cmpi .sgt arg1 c0_i32_20
  let v39 : BitVec 32 := Scalar.extui v38
  let c0_i32_21 : BitVec 32 := 0#32
  let v40 : BitVec 1 := Scalar.cmpi .slt arg1 c0_i32_21
  let v41 : BitVec 32 := Scalar.extui v40
  let v42 : BitVec 32 := Scalar.subi v39 v41
  let c2_i32_19 : BitVec 32 := 2#32
  let c0_i32_22 : BitVec 32 := 0#32
  let v43 : BitVec 1 := Scalar.cmpi .sgt c2_i32_19 c0_i32_22
  let v44 : BitVec 32 := Scalar.extui v43
  let c0_i32_23 : BitVec 32 := 0#32
  let v45 : BitVec 1 := Scalar.cmpi .slt c2_i32_19 c0_i32_23
  let v46 : BitVec 32 := Scalar.extui v45
  let v47 : BitVec 32 := Scalar.subi v44 v46
  let v48 : BitVec 1 := Scalar.cmpi .ne v42 v47
  let v49 : BitVec 32 := Scalar.remsi arg1 c2_i32_19
  let c0_i32_24 : BitVec 32 := 0#32
  let v50 : BitVec 1 := Scalar.cmpi .ne v49 c0_i32_24
  let v51 : BitVec 1 := Scalar.andi v48 v50
  let v37 : BitVec 32 := Scalar.divsi arg1 c2_i32_19
  let c1_i32_25 : BitVec 32 := 1#32
  let v52 : BitVec 32 := Scalar.subi v37 c1_i32_25
  let v53 : BitVec 32 := Scalar.select v51 v52 v37
  let v54 : BitVec 32 := Scalar.subi v53 c0_i32_27
  let c1_i32_28 : BitVec 32 := 1#32
  let v56 : BitVec 32 := Scalar.divsi v54 c1_i32_28
  let v57 : BitVec 32 := Scalar.muli v56 c1_i32_28
  let v58 : BitVec 32 := Scalar.addi c0_i32_27 v57
  let v55 : BitVec 32 := Scalar.addi c0_i32_27 v54
  let c1_i32_30 : BitVec 32 := 1#32
  ⟨v58, v55, c1_i32_30⟩
def k0_mult4 (i : grid0.Coords) (k0_t2 : Fin (k0_t2_loop i).trips) : BitVec 32 :=
  let arg1 : BitVec 32 := BitVec.ofNat 32 (i 1).val
  let c0_i32_50 : BitVec 32 := 0#32
  let v84 : BitVec 1 := Scalar.cmpi .sgt arg1 c0_i32_50
  let v85 : BitVec 32 := Scalar.extui v84
  let c0_i32_51 : BitVec 32 := 0#32
  let v86 : BitVec 1 := Scalar.cmpi .slt arg1 c0_i32_51
  let v87 : BitVec 32 := Scalar.extui v86
  let v88 : BitVec 32 := Scalar.subi v85 v87
  let c2_i32_49 : BitVec 32 := 2#32
  let c0_i32_52 : BitVec 32 := 0#32
  let v89 : BitVec 1 := Scalar.cmpi .sgt c2_i32_49 c0_i32_52
  let v90 : BitVec 32 := Scalar.extui v89
  let c0_i32_53 : BitVec 32 := 0#32
  let v91 : BitVec 1 := Scalar.cmpi .slt c2_i32_49 c0_i32_53
  let v92 : BitVec 32 := Scalar.extui v91
  let v93 : BitVec 32 := Scalar.subi v90 v92
  let v94 : BitVec 1 := Scalar.cmpi .ne v88 v93
  let v95 : BitVec 32 := Scalar.remsi arg1 c2_i32_49
  let c0_i32_54 : BitVec 32 := 0#32
  let v96 : BitVec 1 := Scalar.cmpi .ne v95 c0_i32_54
  let v97 : BitVec 1 := Scalar.andi v94 v96
  let v83 : BitVec 32 := Scalar.divsi arg1 c2_i32_49
  let c1_i32_55 : BitVec 32 := 1#32
  let v98 : BitVec 32 := Scalar.subi v83 c1_i32_55
  let v99 : BitVec 32 := Scalar.select v97 v98 v83
  let c1_i32_56 : BitVec 32 := 1#32
  let v100 : BitVec 32 := Scalar.subi v99 c1_i32_56
  let c0_i32_27 : BitVec 32 := 0#32
  let c0_i32_20 : BitVec 32 := 0#32
  let v38 : BitVec 1 := Scalar.cmpi .sgt arg1 c0_i32_20
  let v39 : BitVec 32 := Scalar.extui v38
  let c0_i32_21 : BitVec 32 := 0#32
  let v40 : BitVec 1 := Scalar.cmpi .slt arg1 c0_i32_21
  let v41 : BitVec 32 := Scalar.extui v40
  let v42 : BitVec 32 := Scalar.subi v39 v41
  let c2_i32_19 : BitVec 32 := 2#32
  let c0_i32_22 : BitVec 32 := 0#32
  let v43 : BitVec 1 := Scalar.cmpi .sgt c2_i32_19 c0_i32_22
  let v44 : BitVec 32 := Scalar.extui v43
  let c0_i32_23 : BitVec 32 := 0#32
  let v45 : BitVec 1 := Scalar.cmpi .slt c2_i32_19 c0_i32_23
  let v46 : BitVec 32 := Scalar.extui v45
  let v47 : BitVec 32 := Scalar.subi v44 v46
  let v48 : BitVec 1 := Scalar.cmpi .ne v42 v47
  let v49 : BitVec 32 := Scalar.remsi arg1 c2_i32_19
  let c0_i32_24 : BitVec 32 := 0#32
  let v50 : BitVec 1 := Scalar.cmpi .ne v49 c0_i32_24
  let v51 : BitVec 1 := Scalar.andi v48 v50
  let v37 : BitVec 32 := Scalar.divsi arg1 c2_i32_19
  let c1_i32_25 : BitVec 32 := 1#32
  let v52 : BitVec 32 := Scalar.subi v37 c1_i32_25
  let v53 : BitVec 32 := Scalar.select v51 v52 v37
  let v54 : BitVec 32 := Scalar.subi v53 c0_i32_27
  let c1_i32_28 : BitVec 32 := 1#32
  let v56 : BitVec 32 := Scalar.divsi v54 c1_i32_28
  let v57 : BitVec 32 := Scalar.muli v56 c1_i32_28
  let v58 : BitVec 32 := Scalar.addi c0_i32_27 v57
  let c1_i32_30 : BitVec 32 := 1#32
  let arg10 : BitVec 32 := Scf.iv v58 c1_i32_30 k0_t2
  let v101 : BitVec 32 := Scalar.subi v100 arg10
  let c2_i32_57 : BitVec 32 := 2#32
  let v102 : BitVec 32 := Scalar.muli v101 c2_i32_57
  let c256_i32 : BitVec 32 := 256#32
  let v103 : BitVec 32 := Scalar.muli v102 c256_i32
  v103
def k0_off13 (i : grid0.Coords) (k0_t2 : Fin (k0_t2_loop i).trips) : Fin 3 → Nat :=
  let c0_64 : Index := 0#32
  let arg1 : BitVec 32 := BitVec.ofNat 32 (i 1).val
  let c0_i32_50 : BitVec 32 := 0#32
  let v84 : BitVec 1 := Scalar.cmpi .sgt arg1 c0_i32_50
  let v85 : BitVec 32 := Scalar.extui v84
  let c0_i32_51 : BitVec 32 := 0#32
  let v86 : BitVec 1 := Scalar.cmpi .slt arg1 c0_i32_51
  let v87 : BitVec 32 := Scalar.extui v86
  let v88 : BitVec 32 := Scalar.subi v85 v87
  let c2_i32_49 : BitVec 32 := 2#32
  let c0_i32_52 : BitVec 32 := 0#32
  let v89 : BitVec 1 := Scalar.cmpi .sgt c2_i32_49 c0_i32_52
  let v90 : BitVec 32 := Scalar.extui v89
  let c0_i32_53 : BitVec 32 := 0#32
  let v91 : BitVec 1 := Scalar.cmpi .slt c2_i32_49 c0_i32_53
  let v92 : BitVec 32 := Scalar.extui v91
  let v93 : BitVec 32 := Scalar.subi v90 v92
  let v94 : BitVec 1 := Scalar.cmpi .ne v88 v93
  let v95 : BitVec 32 := Scalar.remsi arg1 c2_i32_49
  let c0_i32_54 : BitVec 32 := 0#32
  let v96 : BitVec 1 := Scalar.cmpi .ne v95 c0_i32_54
  let v97 : BitVec 1 := Scalar.andi v94 v96
  let v83 : BitVec 32 := Scalar.divsi arg1 c2_i32_49
  let c1_i32_55 : BitVec 32 := 1#32
  let v98 : BitVec 32 := Scalar.subi v83 c1_i32_55
  let v99 : BitVec 32 := Scalar.select v97 v98 v83
  let c1_i32_56 : BitVec 32 := 1#32
  let v100 : BitVec 32 := Scalar.subi v99 c1_i32_56
  let c0_i32_27 : BitVec 32 := 0#32
  let c0_i32_20 : BitVec 32 := 0#32
  let v38 : BitVec 1 := Scalar.cmpi .sgt arg1 c0_i32_20
  let v39 : BitVec 32 := Scalar.extui v38
  let c0_i32_21 : BitVec 32 := 0#32
  let v40 : BitVec 1 := Scalar.cmpi .slt arg1 c0_i32_21
  let v41 : BitVec 32 := Scalar.extui v40
  let v42 : BitVec 32 := Scalar.subi v39 v41
  let c2_i32_19 : BitVec 32 := 2#32
  let c0_i32_22 : BitVec 32 := 0#32
  let v43 : BitVec 1 := Scalar.cmpi .sgt c2_i32_19 c0_i32_22
  let v44 : BitVec 32 := Scalar.extui v43
  let c0_i32_23 : BitVec 32 := 0#32
  let v45 : BitVec 1 := Scalar.cmpi .slt c2_i32_19 c0_i32_23
  let v46 : BitVec 32 := Scalar.extui v45
  let v47 : BitVec 32 := Scalar.subi v44 v46
  let v48 : BitVec 1 := Scalar.cmpi .ne v42 v47
  let v49 : BitVec 32 := Scalar.remsi arg1 c2_i32_19
  let c0_i32_24 : BitVec 32 := 0#32
  let v50 : BitVec 1 := Scalar.cmpi .ne v49 c0_i32_24
  let v51 : BitVec 1 := Scalar.andi v48 v50
  let v37 : BitVec 32 := Scalar.divsi arg1 c2_i32_19
  let c1_i32_25 : BitVec 32 := 1#32
  let v52 : BitVec 32 := Scalar.subi v37 c1_i32_25
  let v53 : BitVec 32 := Scalar.select v51 v52 v37
  let v54 : BitVec 32 := Scalar.subi v53 c0_i32_27
  let c1_i32_28 : BitVec 32 := 1#32
  let v56 : BitVec 32 := Scalar.divsi v54 c1_i32_28
  let v57 : BitVec 32 := Scalar.muli v56 c1_i32_28
  let v58 : BitVec 32 := Scalar.addi c0_i32_27 v57
  let c1_i32_30 : BitVec 32 := 1#32
  let arg10 : BitVec 32 := Scf.iv v58 c1_i32_30 k0_t2
  let v101 : BitVec 32 := Scalar.subi v100 arg10
  let c2_i32_57 : BitVec 32 := 2#32
  let v102 : BitVec 32 := Scalar.muli v101 c2_i32_57
  let c256_i32 : BitVec 32 := 256#32
  let v103 : BitVec 32 := Scalar.muli v102 c256_i32
  let v104 : BitVec 32 := v103
  let v115 : Index := Scalar.indexCast v104
  let c0_65 : Index := 0#32
  ![0, v115.toNat, 0]
def k0_off14 (i : grid0.Coords) (k0_t2 : Fin (k0_t2_loop i).trips) : Fin 3 → Nat :=
  let c0_111 : Index := 0#32
  let arg1 : BitVec 32 := BitVec.ofNat 32 (i 1).val
  let c0_i32_50 : BitVec 32 := 0#32
  let v84 : BitVec 1 := Scalar.cmpi .sgt arg1 c0_i32_50
  let v85 : BitVec 32 := Scalar.extui v84
  let c0_i32_51 : BitVec 32 := 0#32
  let v86 : BitVec 1 := Scalar.cmpi .slt arg1 c0_i32_51
  let v87 : BitVec 32 := Scalar.extui v86
  let v88 : BitVec 32 := Scalar.subi v85 v87
  let c2_i32_49 : BitVec 32 := 2#32
  let c0_i32_52 : BitVec 32 := 0#32
  let v89 : BitVec 1 := Scalar.cmpi .sgt c2_i32_49 c0_i32_52
  let v90 : BitVec 32 := Scalar.extui v89
  let c0_i32_53 : BitVec 32 := 0#32
  let v91 : BitVec 1 := Scalar.cmpi .slt c2_i32_49 c0_i32_53
  let v92 : BitVec 32 := Scalar.extui v91
  let v93 : BitVec 32 := Scalar.subi v90 v92
  let v94 : BitVec 1 := Scalar.cmpi .ne v88 v93
  let v95 : BitVec 32 := Scalar.remsi arg1 c2_i32_49
  let c0_i32_54 : BitVec 32 := 0#32
  let v96 : BitVec 1 := Scalar.cmpi .ne v95 c0_i32_54
  let v97 : BitVec 1 := Scalar.andi v94 v96
  let v83 : BitVec 32 := Scalar.divsi arg1 c2_i32_49
  let c1_i32_55 : BitVec 32 := 1#32
  let v98 : BitVec 32 := Scalar.subi v83 c1_i32_55
  let v99 : BitVec 32 := Scalar.select v97 v98 v83
  let c1_i32_56 : BitVec 32 := 1#32
  let v100 : BitVec 32 := Scalar.subi v99 c1_i32_56
  let c0_i32_27 : BitVec 32 := 0#32
  let c0_i32_20 : BitVec 32 := 0#32
  let v38 : BitVec 1 := Scalar.cmpi .sgt arg1 c0_i32_20
  let v39 : BitVec 32 := Scalar.extui v38
  let c0_i32_21 : BitVec 32 := 0#32
  let v40 : BitVec 1 := Scalar.cmpi .slt arg1 c0_i32_21
  let v41 : BitVec 32 := Scalar.extui v40
  let v42 : BitVec 32 := Scalar.subi v39 v41
  let c2_i32_19 : BitVec 32 := 2#32
  let c0_i32_22 : BitVec 32 := 0#32
  let v43 : BitVec 1 := Scalar.cmpi .sgt c2_i32_19 c0_i32_22
  let v44 : BitVec 32 := Scalar.extui v43
  let c0_i32_23 : BitVec 32 := 0#32
  let v45 : BitVec 1 := Scalar.cmpi .slt c2_i32_19 c0_i32_23
  let v46 : BitVec 32 := Scalar.extui v45
  let v47 : BitVec 32 := Scalar.subi v44 v46
  let v48 : BitVec 1 := Scalar.cmpi .ne v42 v47
  let v49 : BitVec 32 := Scalar.remsi arg1 c2_i32_19
  let c0_i32_24 : BitVec 32 := 0#32
  let v50 : BitVec 1 := Scalar.cmpi .ne v49 c0_i32_24
  let v51 : BitVec 1 := Scalar.andi v48 v50
  let v37 : BitVec 32 := Scalar.divsi arg1 c2_i32_19
  let c1_i32_25 : BitVec 32 := 1#32
  let v52 : BitVec 32 := Scalar.subi v37 c1_i32_25
  let v53 : BitVec 32 := Scalar.select v51 v52 v37
  let v54 : BitVec 32 := Scalar.subi v53 c0_i32_27
  let c1_i32_28 : BitVec 32 := 1#32
  let v56 : BitVec 32 := Scalar.divsi v54 c1_i32_28
  let v57 : BitVec 32 := Scalar.muli v56 c1_i32_28
  let v58 : BitVec 32 := Scalar.addi c0_i32_27 v57
  let c1_i32_30 : BitVec 32 := 1#32
  let arg10 : BitVec 32 := Scf.iv v58 c1_i32_30 k0_t2
  let v101 : BitVec 32 := Scalar.subi v100 arg10
  let c2_i32_57 : BitVec 32 := 2#32
  let v102 : BitVec 32 := Scalar.muli v101 c2_i32_57
  let c256_i32 : BitVec 32 := 256#32
  let v103 : BitVec 32 := Scalar.muli v102 c256_i32
  let v104 : BitVec 32 := v103
  let v236 : Index := Scalar.indexCast v104
  let c128_112 : Index := 128#32
  ![0, v236.toNat, 128]
def k0_off15 (i : grid0.Coords) (k0_t2 : Fin (k0_t2_loop i).trips) : Fin 3 → Nat :=
  let c0_158 : Index := 0#32
  let arg1 : BitVec 32 := BitVec.ofNat 32 (i 1).val
  let c0_i32_50 : BitVec 32 := 0#32
  let v84 : BitVec 1 := Scalar.cmpi .sgt arg1 c0_i32_50
  let v85 : BitVec 32 := Scalar.extui v84
  let c0_i32_51 : BitVec 32 := 0#32
  let v86 : BitVec 1 := Scalar.cmpi .slt arg1 c0_i32_51
  let v87 : BitVec 32 := Scalar.extui v86
  let v88 : BitVec 32 := Scalar.subi v85 v87
  let c2_i32_49 : BitVec 32 := 2#32
  let c0_i32_52 : BitVec 32 := 0#32
  let v89 : BitVec 1 := Scalar.cmpi .sgt c2_i32_49 c0_i32_52
  let v90 : BitVec 32 := Scalar.extui v89
  let c0_i32_53 : BitVec 32 := 0#32
  let v91 : BitVec 1 := Scalar.cmpi .slt c2_i32_49 c0_i32_53
  let v92 : BitVec 32 := Scalar.extui v91
  let v93 : BitVec 32 := Scalar.subi v90 v92
  let v94 : BitVec 1 := Scalar.cmpi .ne v88 v93
  let v95 : BitVec 32 := Scalar.remsi arg1 c2_i32_49
  let c0_i32_54 : BitVec 32 := 0#32
  let v96 : BitVec 1 := Scalar.cmpi .ne v95 c0_i32_54
  let v97 : BitVec 1 := Scalar.andi v94 v96
  let v83 : BitVec 32 := Scalar.divsi arg1 c2_i32_49
  let c1_i32_55 : BitVec 32 := 1#32
  let v98 : BitVec 32 := Scalar.subi v83 c1_i32_55
  let v99 : BitVec 32 := Scalar.select v97 v98 v83
  let c1_i32_56 : BitVec 32 := 1#32
  let v100 : BitVec 32 := Scalar.subi v99 c1_i32_56
  let c0_i32_27 : BitVec 32 := 0#32
  let c0_i32_20 : BitVec 32 := 0#32
  let v38 : BitVec 1 := Scalar.cmpi .sgt arg1 c0_i32_20
  let v39 : BitVec 32 := Scalar.extui v38
  let c0_i32_21 : BitVec 32 := 0#32
  let v40 : BitVec 1 := Scalar.cmpi .slt arg1 c0_i32_21
  let v41 : BitVec 32 := Scalar.extui v40
  let v42 : BitVec 32 := Scalar.subi v39 v41
  let c2_i32_19 : BitVec 32 := 2#32
  let c0_i32_22 : BitVec 32 := 0#32
  let v43 : BitVec 1 := Scalar.cmpi .sgt c2_i32_19 c0_i32_22
  let v44 : BitVec 32 := Scalar.extui v43
  let c0_i32_23 : BitVec 32 := 0#32
  let v45 : BitVec 1 := Scalar.cmpi .slt c2_i32_19 c0_i32_23
  let v46 : BitVec 32 := Scalar.extui v45
  let v47 : BitVec 32 := Scalar.subi v44 v46
  let v48 : BitVec 1 := Scalar.cmpi .ne v42 v47
  let v49 : BitVec 32 := Scalar.remsi arg1 c2_i32_19
  let c0_i32_24 : BitVec 32 := 0#32
  let v50 : BitVec 1 := Scalar.cmpi .ne v49 c0_i32_24
  let v51 : BitVec 1 := Scalar.andi v48 v50
  let v37 : BitVec 32 := Scalar.divsi arg1 c2_i32_19
  let c1_i32_25 : BitVec 32 := 1#32
  let v52 : BitVec 32 := Scalar.subi v37 c1_i32_25
  let v53 : BitVec 32 := Scalar.select v51 v52 v37
  let v54 : BitVec 32 := Scalar.subi v53 c0_i32_27
  let c1_i32_28 : BitVec 32 := 1#32
  let v56 : BitVec 32 := Scalar.divsi v54 c1_i32_28
  let v57 : BitVec 32 := Scalar.muli v56 c1_i32_28
  let v58 : BitVec 32 := Scalar.addi c0_i32_27 v57
  let c1_i32_30 : BitVec 32 := 1#32
  let arg10 : BitVec 32 := Scf.iv v58 c1_i32_30 k0_t2
  let v101 : BitVec 32 := Scalar.subi v100 arg10
  let c2_i32_57 : BitVec 32 := 2#32
  let v102 : BitVec 32 := Scalar.muli v101 c2_i32_57
  let c256_i32 : BitVec 32 := 256#32
  let v103 : BitVec 32 := Scalar.muli v102 c256_i32
  let v104 : BitVec 32 := v103
  let v357 : Index := Scalar.indexCast v104
  let c256_159 : Index := 256#32
  ![0, v357.toNat, 256]
def k0_off16 (i : grid0.Coords) (k0_t2 : Fin (k0_t2_loop i).trips) : Fin 3 → Nat :=
  let c0_203 : Index := 0#32
  let arg1 : BitVec 32 := BitVec.ofNat 32 (i 1).val
  let c0_i32_50 : BitVec 32 := 0#32
  let v84 : BitVec 1 := Scalar.cmpi .sgt arg1 c0_i32_50
  let v85 : BitVec 32 := Scalar.extui v84
  let c0_i32_51 : BitVec 32 := 0#32
  let v86 : BitVec 1 := Scalar.cmpi .slt arg1 c0_i32_51
  let v87 : BitVec 32 := Scalar.extui v86
  let v88 : BitVec 32 := Scalar.subi v85 v87
  let c2_i32_49 : BitVec 32 := 2#32
  let c0_i32_52 : BitVec 32 := 0#32
  let v89 : BitVec 1 := Scalar.cmpi .sgt c2_i32_49 c0_i32_52
  let v90 : BitVec 32 := Scalar.extui v89
  let c0_i32_53 : BitVec 32 := 0#32
  let v91 : BitVec 1 := Scalar.cmpi .slt c2_i32_49 c0_i32_53
  let v92 : BitVec 32 := Scalar.extui v91
  let v93 : BitVec 32 := Scalar.subi v90 v92
  let v94 : BitVec 1 := Scalar.cmpi .ne v88 v93
  let v95 : BitVec 32 := Scalar.remsi arg1 c2_i32_49
  let c0_i32_54 : BitVec 32 := 0#32
  let v96 : BitVec 1 := Scalar.cmpi .ne v95 c0_i32_54
  let v97 : BitVec 1 := Scalar.andi v94 v96
  let v83 : BitVec 32 := Scalar.divsi arg1 c2_i32_49
  let c1_i32_55 : BitVec 32 := 1#32
  let v98 : BitVec 32 := Scalar.subi v83 c1_i32_55
  let v99 : BitVec 32 := Scalar.select v97 v98 v83
  let c1_i32_56 : BitVec 32 := 1#32
  let v100 : BitVec 32 := Scalar.subi v99 c1_i32_56
  let c0_i32_27 : BitVec 32 := 0#32
  let c0_i32_20 : BitVec 32 := 0#32
  let v38 : BitVec 1 := Scalar.cmpi .sgt arg1 c0_i32_20
  let v39 : BitVec 32 := Scalar.extui v38
  let c0_i32_21 : BitVec 32 := 0#32
  let v40 : BitVec 1 := Scalar.cmpi .slt arg1 c0_i32_21
  let v41 : BitVec 32 := Scalar.extui v40
  let v42 : BitVec 32 := Scalar.subi v39 v41
  let c2_i32_19 : BitVec 32 := 2#32
  let c0_i32_22 : BitVec 32 := 0#32
  let v43 : BitVec 1 := Scalar.cmpi .sgt c2_i32_19 c0_i32_22
  let v44 : BitVec 32 := Scalar.extui v43
  let c0_i32_23 : BitVec 32 := 0#32
  let v45 : BitVec 1 := Scalar.cmpi .slt c2_i32_19 c0_i32_23
  let v46 : BitVec 32 := Scalar.extui v45
  let v47 : BitVec 32 := Scalar.subi v44 v46
  let v48 : BitVec 1 := Scalar.cmpi .ne v42 v47
  let v49 : BitVec 32 := Scalar.remsi arg1 c2_i32_19
  let c0_i32_24 : BitVec 32 := 0#32
  let v50 : BitVec 1 := Scalar.cmpi .ne v49 c0_i32_24
  let v51 : BitVec 1 := Scalar.andi v48 v50
  let v37 : BitVec 32 := Scalar.divsi arg1 c2_i32_19
  let c1_i32_25 : BitVec 32 := 1#32
  let v52 : BitVec 32 := Scalar.subi v37 c1_i32_25
  let v53 : BitVec 32 := Scalar.select v51 v52 v37
  let v54 : BitVec 32 := Scalar.subi v53 c0_i32_27
  let c1_i32_28 : BitVec 32 := 1#32
  let v56 : BitVec 32 := Scalar.divsi v54 c1_i32_28
  let v57 : BitVec 32 := Scalar.muli v56 c1_i32_28
  let v58 : BitVec 32 := Scalar.addi c0_i32_27 v57
  let c1_i32_30 : BitVec 32 := 1#32
  let arg10 : BitVec 32 := Scf.iv v58 c1_i32_30 k0_t2
  let v101 : BitVec 32 := Scalar.subi v100 arg10
  let c2_i32_57 : BitVec 32 := 2#32
  let v102 : BitVec 32 := Scalar.muli v101 c2_i32_57
  let c256_i32 : BitVec 32 := 256#32
  let v103 : BitVec 32 := Scalar.muli v102 c256_i32
  let v104 : BitVec 32 := v103
  let v478 : Index := Scalar.indexCast v104
  let c384_204 : Index := 384#32
  ![0, v478.toNat, 384]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SbRefIdeal.lean ====
abbrev S8x4096x3584 : Shape := ⟨3, ![8, 4096, 3584]⟩
abbrev S8 : Shape := ⟨1, ![8]⟩
abbrev S8x4096x512 : Shape := ⟨3, ![8, 4096, 512]⟩
abbrev S8x4096x8x64 : Shape := ⟨4, ![8, 4096, 8, 64]⟩
abbrev S8x8x4096x4096 : Shape := ⟨4, ![8, 8, 4096, 4096]⟩
abbrev S1x8x1x1 : Shape := ⟨4, ![1, 8, 1, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S_ : Shape := ⟨0, ![]⟩
abbrev S8x8x64x4096 : Shape := ⟨4, ![8, 8, 64, 4096]⟩

abbrev nBuf : Space → Nat
  | .hbm => 73
  | .vmem => 0
  | .smem => 0
  | _ => 0

abbrev bufTy : (tb : Table) → Fin (tcTables nBuf tb) → BufTy
  | .hbm, ⟨0, _⟩ => ⟨S8x4096x3584, .bf16⟩
  | .hbm, ⟨1, _⟩ => ⟨S8, .f32⟩
  | .hbm, ⟨2, _⟩ => ⟨S8x4096x3584, .f32⟩
  | .hbm, ⟨3, _⟩ => ⟨S8x4096x512, .f32⟩
  | .hbm, ⟨4, _⟩ => ⟨S8x4096x8x64, .f32⟩
  | .hbm, ⟨5, _⟩ => ⟨S8x4096x512, .f32⟩
  | .hbm, ⟨6, _⟩ => ⟨S8x4096x8x64, .f32⟩
  | .hbm, ⟨7, _⟩ => ⟨S8x4096x512, .f32⟩
  | .hbm, ⟨8, _⟩ => ⟨S8x4096x8x64, .f32⟩
  | .hbm, ⟨9, _⟩ => ⟨S8x8x4096x4096, .f32⟩
  | .hbm, ⟨10, _⟩ => ⟨S1x8x1x1, .f32⟩
  | .hbm, ⟨11, _⟩ => ⟨S8x8x4096x4096, .f32⟩
  | .hbm, ⟨12, _⟩ => ⟨S8x8x4096x4096, .f32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S1x1x4096x4096, .i1⟩
  | .hbm, ⟨20, _⟩ => ⟨S8x8x4096x4096, .f32⟩
  | .hbm, ⟨21, _⟩ => ⟨S8x8x4096x4096, .f32⟩
  | .hbm, ⟨22, _⟩ => ⟨S_, .f32⟩
  | .hbm, ⟨23, _⟩ => ⟨S8x8x4096x4096, .f32⟩
  | .hbm, ⟨24, _⟩ => ⟨S8x8x4096x4096, .f32⟩
  | .hbm, ⟨25, _⟩ => ⟨S8x8x4096x4096, .f32⟩
  | .hbm, ⟨26, _⟩ => ⟨S8x8x4096x4096, .f32⟩
  | .hbm, ⟨27, _⟩ => ⟨S8x8x4096x4096, .i1⟩
  | .hbm, ⟨28, _⟩ => ⟨S8x8x4096x4096, .f32⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S8x8x4096x4096, .f32⟩
  | .hbm, ⟨33, _⟩ => ⟨S8x8x4096x4096, .f32⟩
  | .hbm, ⟨34, _⟩ => ⟨S8x8x4096x4096, .f32⟩
  | .hbm, ⟨35, _⟩ => ⟨S8x8x4096x4096, .f32⟩
  | .hbm, ⟨36, _⟩ => ⟨S8x8x4096x4096, .f32⟩
  | .hbm, ⟨37, _⟩ => ⟨S_, .f32⟩
  | .hbm, ⟨38, _⟩ => ⟨S_, .f32⟩
  | .hbm, ⟨39, _⟩ => ⟨S8x8x4096x4096, .i1⟩
  | .hbm, ⟨40, _⟩ => ⟨S8x8x4096x4096, .f32⟩
  | .hbm, ⟨41, _⟩ => ⟨S8x8x4096x4096, .f32⟩
  | .hbm, ⟨42, _⟩ => ⟨S_, .f32⟩
  | .hbm, ⟨43, _⟩ => ⟨S_, .f32⟩
  | .hbm, ⟨44, _⟩ => ⟨S8x8x4096x4096, .f32⟩
  | .hbm, ⟨45, _⟩ => ⟨S8x8x4096x4096, .f32⟩
  | .hbm, ⟨46, _⟩ => ⟨S8x8x4096x4096, .f32⟩
  | .hbm, ⟨47, _⟩ => ⟨S_, .f32⟩
  | .hbm, ⟨48, _⟩ => ⟨S8x8x4096x4096, .f32⟩
  | .hbm, ⟨49, _⟩ => ⟨S8x8x4096x4096, .f32⟩
  | .hbm, ⟨50, _⟩ => ⟨S8x8x4096x4096, .f32⟩
  | .hbm, ⟨51, _⟩ => ⟨S8x8x4096x4096, .f32⟩
  | .hbm, ⟨52, _⟩ => ⟨S8x8x4096x4096, .i1⟩
  | .hbm, ⟨53, _⟩ => ⟨S8x8x4096x4096, .f32⟩
  | .hbm, ⟨54, _⟩ => ⟨S8x8x4096x4096, .f32⟩
  | .hbm, ⟨55, _⟩ => ⟨S8x8x4096x4096, .f32⟩
  | .hbm, ⟨56, _⟩ => ⟨S8x8x4096x4096, .f32⟩
  | .hbm, ⟨57, _⟩ => ⟨S8x8x4096x4096, .f32⟩
  | .hbm, ⟨58, _⟩ => ⟨S8x8x4096x4096, .f32⟩
  | .hbm, ⟨59, _⟩ => ⟨S8x8x4096x4096, .f32⟩
  | .hbm, ⟨60, _⟩ => ⟨S8x8x4096x4096, .f32⟩
  | .hbm, ⟨61, _⟩ => ⟨S8x8x4096x4096, .f32⟩
  | .hbm, ⟨62, _⟩ => ⟨S8x8x4096x4096, .f32⟩
  | .hbm, ⟨63, _⟩ => ⟨S8x8x4096x4096, .f32⟩
  | .hbm, ⟨64, _⟩ => ⟨S_, .f32⟩
  | .hbm, ⟨65, _⟩ => ⟨S_, .f32⟩
  | .hbm, ⟨66, _⟩ => ⟨S8x8x4096x4096, .i1⟩
  | .hbm, ⟨67, _⟩ => ⟨S8x8x4096x4096, .f32⟩
  | .hbm, ⟨68, _⟩ => ⟨S8x8x4096x4096, .f32⟩
  | .hbm, ⟨69, _⟩ => ⟨S8x8x64x4096, .f32⟩
  | .hbm, ⟨70, _⟩ => ⟨S8x4096x8x64, .f32⟩
  | .hbm, ⟨71, _⟩ => ⟨S8x4096x512, .f32⟩
  | .hbm, ⟨72, _⟩ => ⟨S8x4096x512, .bf16⟩
  | _, _ => ⟨S8x4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v19 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v20 : Ref sig .tc := ⟨.hbm, 41, rfl⟩
abbrev main_call2_cst : Ref sig .tc := ⟨.hbm, 42, rfl⟩
abbrev main_call2_v0 : Ref sig .tc := ⟨.hbm, 43, rfl⟩
abbrev main_v21 : Ref sig .tc := ⟨.hbm, 44, rfl⟩
abbrev main_v22 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_0 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩

abbrev nD : Nat := 1
abbrev τ : Topo := Topo.v7x

variable {F : FTy → Type} [FloatOps F]
-- ==== Ret.lean ====
abbrev S8x4096x3584 : Shape := ⟨3, ![8, 4096, 3584]⟩
abbrev S1x4x128 : Shape := ⟨3, ![1, 4, 128]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S4x256x128 : Shape := ⟨3, ![4, 256, 128]⟩
abbrev S4x1x128 : Shape := ⟨3, ![4, 1, 128]⟩
abbrev S8x4096x512 : Shape := ⟨3, ![8, 4096, 512]⟩
abbrev S8x4x128x128 : Shape := ⟨4, ![8, 4, 128, 128]⟩
abbrev S256x128 : Shape := ⟨2, ![256, 128]⟩
abbrev S1x256x512 : Shape := ⟨3, ![1, 256, 512]⟩
abbrev S1x4x128x128 : Shape := ⟨4, ![1, 4, 128, 128]⟩
abbrev S4x128x128 : Shape := ⟨3, ![4, 128, 128]⟩
abbrev S1x256x128 : Shape := ⟨3, ![1, 256, 128]⟩
abbrev S1x128x128 : Shape := ⟨3, ![1, 128, 128]⟩
abbrev S128x128 : Shape := ⟨2, ![128, 128]⟩
abbrev S1 : Shape := ⟨1, ![1]⟩
abbrev S1x1x128 : Shape := ⟨3, ![1, 1, 128]⟩
abbrev S1x128 : Shape := ⟨2, ![1, 128]⟩

abbrev nBuf : Space → Nat
  | .hbm => 87
  | .vmem => 21
  | .smem => 1
  | _ => 0

abbrev bufTy : (tb : Table) → Fin (tcTables nBuf tb) → BufTy
  | .hbm, ⟨0, _⟩ => ⟨S8x4096x3584, .bf16⟩
  | .hbm, ⟨1, _⟩ => ⟨S1x4x128, .f32⟩
  | .hbm, ⟨2, _⟩ => ⟨S4096, .i32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S4096, .f32⟩
  | .hbm, ⟨12, _⟩ => ⟨S4096x1, .f32⟩
  | .hbm, ⟨13, _⟩ => ⟨S1x64, .f32⟩
  | .hbm, ⟨14, _⟩ => ⟨S4096x64, .f32⟩
  | .hbm, ⟨15, _⟩ => ⟨S4096x64, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S4096x128, .f32⟩
  | .hbm, ⟨20, _⟩ => ⟨S4096x64, .f32⟩
  | .hbm, ⟨21, _⟩ => ⟨S4096x128, .f32⟩
  | .hbm, ⟨22, _⟩ => ⟨S4, .f32⟩
  | .hbm, ⟨23, _⟩ => ⟨S_, .f32⟩
  | .hbm, ⟨24, _⟩ => ⟨S4, .f32⟩
  | .hbm, ⟨25, _⟩ => ⟨S4, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S256, .f32⟩
  | .hbm, ⟨35, _⟩ => ⟨S256x1, .f32⟩
  | .hbm, ⟨36, _⟩ => ⟨S1x256, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S1x256x256, .f32⟩
  | .hbm, ⟨41, _⟩ => ⟨S_, .f32⟩
  | .hbm, ⟨42, _⟩ => ⟨S1x256x256, .f32⟩
  | .hbm, ⟨43, _⟩ => ⟨S1x256x256, .i1⟩
  | .hbm, ⟨44, _⟩ => ⟨S_, .f32⟩
  | .hbm, ⟨45, _⟩ => ⟨S256x256, .f32⟩
  | .hbm, ⟨46, _⟩ => ⟨S256x256, .f32⟩
  | .hbm, ⟨47, _⟩ => ⟨S1x256x256, .f32⟩
  | .hbm, ⟨48, _⟩ => ⟨S4x1x1, .f32⟩
  | .hbm, ⟨49, _⟩ => ⟨S4x256x256, .f32⟩
  | .hbm, ⟨50, _⟩ => ⟨S4x256x256, .f32⟩
  | .hbm, ⟨51, _⟩ => ⟨S4x256x256, .f32⟩
  | .hbm, ⟨52, _⟩ => ⟨S4x256x256, .f32⟩
  | .hbm, ⟨53, _⟩ => ⟨S_, .f32⟩
  | .hbm, ⟨54, _⟩ => ⟨S_, .f32⟩
  | .hbm, ⟨55, _⟩ => ⟨S4x256x256, .i1⟩
  | .hbm, ⟨56, _⟩ => ⟨S4x256x256, .f32⟩
  | .hbm, ⟨57, _⟩ => ⟨S4x256x256, .f32⟩
  | .hbm, ⟨58, _⟩ => ⟨S_, .f32⟩
  | .hbm, ⟨59, _⟩ => ⟨S256, .f32⟩
  | .hbm, ⟨60, _⟩ => ⟨S256, .f32⟩
  | .hbm, ⟨61, _⟩ => ⟨S1x256, .f32⟩
  | .hbm, ⟨62, _⟩ => ⟨S4x1, .f32⟩
  | .hbm, ⟨63, _⟩ => ⟨S4x256, .f32⟩
  | .hbm, ⟨64, _⟩ => ⟨S4x256, .f32⟩
  | .hbm, ⟨65, _⟩ => ⟨S4x256, .f32⟩
  | .hbm, ⟨66, _⟩ => ⟨S4x256, .f32⟩
  | .hbm, ⟨67, _⟩ => ⟨S_, .f32⟩
  | .hbm, ⟨68, _⟩ => ⟨S256, .f32⟩
  | .hbm, ⟨69, _⟩ => ⟨S256, .f32⟩
  | .hbm, ⟨70, _⟩ => ⟨S1x256, .f32⟩
  | .hbm, ⟨71, _⟩ => ⟨S4x1, .f32⟩
  | .hbm, ⟨72, _⟩ => ⟨S4x256, .f32⟩
  | .hbm, ⟨73, _⟩ => ⟨S4x256, .f32⟩
  | .hbm, ⟨74, _⟩ => ⟨S4x256, .f32⟩
  | .hbm, ⟨75, _⟩ => ⟨S4x256, .f32⟩
  | .hbm, ⟨76, _⟩ => ⟨S4x256x1, .f32⟩
  | .hbm, ⟨77, _⟩ => ⟨S4x256x128, .f32⟩
  | .hbm, ⟨78, _⟩ => ⟨S4x256x1, .f32⟩
  | .hbm, ⟨79, _⟩ => ⟨S4x256x128, .f32⟩
  | .hbm, ⟨80, _⟩ => ⟨S_, .f32⟩
  | .hbm, ⟨81, _⟩ => ⟨S4, .f32⟩
  | .hbm, ⟨82, _⟩ => ⟨S4, .f32⟩
  | .hbm, ⟨83, _⟩ => ⟨S4, .f32⟩
  | .hbm, ⟨84, _⟩ => ⟨S4x1x128, .f32⟩
  | .hbm, ⟨85, _⟩ => ⟨S8x4096x512, .bf16⟩
  | .hbm, ⟨86, _⟩ => ⟨S8x4x128x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S4x256x256, .f32⟩
  | .local _ .vmem, ⟨5, _⟩ => ⟨S4x256x128, .f32⟩
  | .local _ .vmem, ⟨6, _⟩ => ⟨S4x256x128, .f32⟩
  | .local _ .vmem, ⟨7, _⟩ => ⟨S4x1x128, .f32⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x4x128x128, .f32⟩
  | .local _ .vmem, ⟨19, _⟩ => ⟨S1x4x128x128, .f32⟩
  | .local _ .vmem, ⟨20, _⟩ => ⟨S4x128x128, .f32⟩
  | .local _ .smem, ⟨0, _⟩ => ⟨S4, .f32⟩
  | _, _ => ⟨S8x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_4 : Ref sig .tc := ⟨.hbm, 41, rfl⟩
abbrev main_v34 : Ref sig .tc := ⟨.hbm, 42, rfl⟩
abbrev main_v35 : Ref sig .tc := ⟨.hbm, 43, rfl⟩
abbrev main_cst_5 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_6 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_9 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69_0 : Ref sig .tc := ⟨.hbm, 85, rfl⟩
abbrev main_v69_1 : Ref sig .tc := ⟨.hbm, 86, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v311 : BitVec 1 := Scalar.cmpi .eq arg1 c15_i32
  let v312 : BitVec 32 := Scalar.extui v311
  let c0_i32_180 : BitVec 32 := 0#32
  let v313 : BitVec 1 := Scalar.cmpi .ne v312 c0_i32_180
  v313

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_9 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_10 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S4x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== RetRefIdeal.lean ====
abbrev S8x4096x3584 : Shape := ⟨3, ![8, 4096, 3584]⟩
abbrev S1x4x128 : Shape := ⟨3, ![1, 4, 128]⟩
abbrev S4 : Shape := ⟨1, ![4]⟩
abbrev S_ : Shape := ⟨0, ![]⟩
abbrev S8x4096x512 : Shape := ⟨3, ![8, 4096, 512]⟩
abbrev S8x4096x4x128 : Shape := ⟨4, ![8, 4096, 4, 128]⟩
abbrev S4096 : Shape := ⟨1, ![4096]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S8x4096x4x64 : Shape := ⟨4, ![8, 4096, 4, 64]⟩
abbrev S8x4x128x128 : Shape := ⟨4, ![8, 4, 128, 128]⟩
abbrev S1x4096 : Shape := ⟨2, ![1, 4096]⟩
abbrev S4096x4096 : Shape := ⟨2, ![4096, 4096]⟩
abbrev S1x4096x4096 : Shape := ⟨3, ![1, 4096, 4096]⟩
abbrev S4x1x1 : Shape := ⟨3, ![4, 1, 1]⟩
abbrev S4x4096x4096 : Shape := ⟨3, ![4, 4096, 4096]⟩
abbrev S8x4x4096x4096 : Shape := ⟨4, ![8, 4, 4096, 4096]⟩
abbrev S1x4x4096x4096 : Shape := ⟨4, ![1, 4, 4096, 4096]⟩
abbrev S8x4x128x4096 : Shape := ⟨4, ![8, 4, 128, 4096]⟩
abbrev S1x4 : Shape := ⟨2, ![1, 4]⟩
abbrev S4096x4 : Shape := ⟨2, ![4096, 4]⟩
abbrev S1x4096x4x1 : Shape := ⟨4, ![1, 4096, 4, 1]⟩
abbrev S1x4x1x1 : Shape := ⟨4, ![1, 4, 1, 1]⟩
abbrev S8x4096x4 : Shape := ⟨3, ![8, 4096, 4]⟩
abbrev S8x4096x4x1 : Shape := ⟨4, ![8, 4096, 4, 1]⟩
abbrev S4x128 : Shape := ⟨2, ![4, 128]⟩
abbrev S1x1x4x128 : Shape := ⟨4, ![1, 1, 4, 128]⟩

abbrev nBuf : Space → Nat
  | .hbm => 196
  | .vmem => 0
  | .smem => 0
  | _ => 0

abbrev hbmTy0_0 (i : Nat) : BufTy := match i % 128 with
  | 0 => ⟨S8x4096x3584, .bf16⟩
  | 1 => ⟨S1x4x128, .f32⟩
  | 2 => ⟨S4, .f32⟩
  | 3 => ⟨S_, .f32⟩
  | 4 => ⟨S4, .f32⟩
  | 5 => ⟨S4, .f32⟩
  | 6 => ⟨S_, .f32⟩
  | 7 => ⟨S4, .f32⟩
  | 8 => ⟨S4, .f32⟩
  | 9 => ⟨S4, .f32⟩
  | 10 => ⟨S_, .f32⟩
  | 11 => ⟨S4, .f32⟩
  | 12 => ⟨S4, .f32⟩
  | 13 => ⟨S4, .f32⟩
  | 14 => ⟨S8x4096x3584, .f32⟩
  | 15 => ⟨S8x4096x512, .f32⟩
  | 16 => ⟨S8x4096x4x128, .f32⟩
  | 17 => ⟨S8x4096x512, .f32⟩
  | 18 => ⟨S8x4096x4x128, .f32⟩
  | 19 => ⟨S8x4096x512, .f32⟩
  | 20 => ⟨S8x4096x4x128, .f32⟩
  | 21 => ⟨S8x4096x512, .f32⟩
  | 22 => ⟨S8x4096x4x128, .f32⟩
  | 23 => ⟨S4096, .i32⟩
  | 24 => ⟨S64, .f32⟩
  | 25 => ⟨S64, .f32⟩
  | 26 => ⟨S_, .f32⟩
  | 27 => ⟨S64, .f32⟩
  | 28 => ⟨S64, .f32⟩
  | 29 => ⟨S_, .f32⟩
  | 30 => ⟨S64, .f32⟩
  | 31 => ⟨S64, .f32⟩
  | 32 => ⟨S4096, .f32⟩
  | 33 => ⟨S4096x1, .f32⟩
  | 34 => ⟨S1x64, .f32⟩
  | 35 => ⟨S4096x64, .f32⟩
  | 36 => ⟨S4096x64, .f32⟩
  | 37 => ⟨S4096x64, .f32⟩
  | 38 => ⟨S4096x64, .f32⟩
  | 39 => ⟨S1x4096x1x64, .f32⟩
  | 40 => ⟨S4096x64, .f32⟩
  | 41 => ⟨S1x4096x1x64, .f32⟩
  | 42 => ⟨S8x4096x4x64, .f32⟩
  | 43 => ⟨S8x4096x4x64, .f32⟩
  | 44 => ⟨S8x4096x4x64, .f32⟩
  | 45 => ⟨S8x4096x4x64, .f32⟩
  | 46 => ⟨S8x4096x4x64, .f32⟩
  | 47 => ⟨S8x4096x4x64, .f32⟩
  | 48 => ⟨S8x4096x4x64, .f32⟩
  | 49 => ⟨S8x4096x4x64, .f32⟩
  | 50 => ⟨S8x4096x4x64, .f32⟩
  | 51 => ⟨S8x4096x4x64, .f32⟩
  | 52 => ⟨S8x4096x4x64, .f32⟩
  | 53 => ⟨S8x4096x4x64, .f32⟩
  | 54 => ⟨S8x4096x4x128, .f32⟩
  | 55 => ⟨S64, .f32⟩
  | 56 => ⟨S64, .f32⟩
  | 57 => ⟨S_, .f32⟩
  | 58 => ⟨S64, .f32⟩
  | 59 => ⟨S64, .f32⟩
  | 60 => ⟨S_, .f32⟩
  | 61 => ⟨S64, .f32⟩
  | 62 => ⟨S64, .f32⟩
  | 63 => ⟨S4096, .f32⟩
  | 64 => ⟨S4096x1, .f32⟩
  | 65 => ⟨S1x64, .f32⟩
  | 66 => ⟨S4096x64, .f32⟩
  | 67 => ⟨S4096x64, .f32⟩
  | 68 => ⟨S4096x64, .f32⟩
  | 69 => ⟨S4096x64, .f32⟩
  | 70 => ⟨S1x4096x1x64, .f32⟩
  | 71 => ⟨S4096x64, .f32⟩
  | 72 => ⟨S1x4096x1x64, .f32⟩
  | 73 => ⟨S8x4096x4x64, .f32⟩
  | 74 => ⟨S8x4096x4x64, .f32⟩
  | 75 => ⟨S8x4096x4x64, .f32⟩
  | 76 => ⟨S8x4096x4x64, .f32⟩
  | 77 => ⟨S8x4096x4x64, .f32⟩
  | 78 => ⟨S8x4096x4x64, .f32⟩
  | 79 => ⟨S8x4096x4x64, .f32⟩
  | 80 => ⟨S8x4096x4x64, .f32⟩
  | 81 => ⟨S8x4096x4x64, .f32⟩
  | 82 => ⟨S8x4096x4x64, .f32⟩
  | 83 => ⟨S8x4096x4x64, .f32⟩
  | 84 => ⟨S8x4096x4x64, .f32⟩
  | 85 => ⟨S8x4096x4x128, .f32⟩
  | 86 => ⟨S_, .f32⟩
  | 87 => ⟨S8x4096x4x128, .f32⟩
  | 88 => ⟨S8x4096x4x128, .f32⟩
  | 89 => ⟨S_, .f32⟩
  | 90 => ⟨S8x4x128x128, .f32⟩
  | 91 => ⟨S4096, .f32⟩
  | 92 => ⟨S4096x1, .f32⟩
  | 93 => ⟨S1x4096, .f32⟩
  | 94 => ⟨S4096x4096, .f32⟩
  | 95 => ⟨S4096x4096, .f32⟩
  | 96 => ⟨S4096x4096, .f32⟩
  | 97 => ⟨S1x4096x4096, .f32⟩
  | 98 => ⟨S_, .f32⟩
  | 99 => ⟨S1x4096x4096, .f32⟩
  | 100 => ⟨S1x4096x4096, .i1⟩
  | 101 => ⟨S_, .f32⟩
  | 102 => ⟨S4096x4096, .f32⟩
  | 103 => ⟨S4096x4096, .f32⟩
  | 104 => ⟨S1x4096x4096, .f32⟩
  | 105 => ⟨S4x1x1, .f32⟩
  | 106 => ⟨S4x4096x4096, .f32⟩
  | 107 => ⟨S4x4096x4096, .f32⟩
  | 108 => ⟨S4x4096x4096, .f32⟩
  | 109 => ⟨S4x4096x4096, .f32⟩
  | 110 => ⟨S_, .f32⟩
  | 111 => ⟨S_, .f32⟩
  | 112 => ⟨S4x4096x4096, .i1⟩
  | 113 => ⟨S4x4096x4096, .f32⟩
  | 114 => ⟨S4x4096x4096, .f32⟩
  | 115 => ⟨S8x4x4096x4096, .f32⟩
  | 116 => ⟨S1x4x4096x4096, .f32⟩
  | 117 => ⟨S8x4x4096x4096, .f32⟩
  | 118 => ⟨S8x4x4096x4096, .f32⟩
  | 119 => ⟨S8x4x128x4096, .f32⟩
  | 120 => ⟨S8x4096x4x128, .f32⟩
  | 121 => ⟨S_, .f32⟩
  | 122 => ⟨S4096, .f32⟩
  | 123 => ⟨S4096, .f32⟩
  | 124 => ⟨S4096x1, .f32⟩
  | 125 => ⟨S1x4, .f32⟩
  | 126 => ⟨S4096x4, .f32⟩
  | 127 => ⟨S4096x4, .f32⟩
  | _ => ⟨S8x4096x3584, .bf16⟩

abbrev hbmTy0_1 (i : Nat) : BufTy := match i % 128 with
  | 0 => ⟨S4096x4, .f32⟩
  | 1 => ⟨S4096x4, .f32⟩
  | 2 => ⟨S8x4x128x4096, .f32⟩
  | 3 => ⟨S8x4096x4x128, .f32⟩
  | 4 => ⟨S1x4096x4x1, .f32⟩
  | 5 => ⟨S8x4096x4x128, .f32⟩
  | 6 => ⟨S8x4096x4x128, .f32⟩
  | 7 => ⟨S_, .f32⟩
  | 8 => ⟨S4096, .f32⟩
  | 9 => ⟨S4096, .f32⟩
  | 10 => ⟨S4096x1, .f32⟩
  | 11 => ⟨S1x4, .f32⟩
  | 12 => ⟨S4096x4, .f32⟩
  | 13 => ⟨S4096x4, .f32⟩
  | 14 => ⟨S4096x4, .f32⟩
  | 15 => ⟨S4096x4, .f32⟩
  | 16 => ⟨S_, .f32⟩
  | 17 => ⟨S4, .f32⟩
  | 18 => ⟨S4, .f32⟩
  | 19 => ⟨S4, .f32⟩
  | 20 => ⟨S1x4x1x1, .f32⟩
  | 21 => ⟨S8x4x128x128, .f32⟩
  | 22 => ⟨S8x4x128x128, .f32⟩
  | 23 => ⟨S1x4096x4x1, .f32⟩
  | 24 => ⟨S8x4096x4x128, .f32⟩
  | 25 => ⟨S8x4096x4x128, .f32⟩
  | 26 => ⟨S8x4x128x128, .f32⟩
  | 27 => ⟨S8x4x128x128, .f32⟩
  | 28 => ⟨S8x4096x4x128, .f32⟩
  | 29 => ⟨S_, .f32⟩
  | 30 => ⟨S8x4096x4, .f32⟩
  | 31 => ⟨S8x4096x4x1, .f32⟩
  | 32 => ⟨S_, .f32⟩
  | 33 => ⟨S8x4096x4x1, .f32⟩
  | 34 => ⟨S8x4096x4x1, .f32⟩
  | 35 => ⟨S8x4096x4x128, .f32⟩
  | 36 => ⟨S8x4096x4x128, .f32⟩
  | 37 => ⟨S8x4096x4x128, .f32⟩
  | 38 => ⟨S_, .f32⟩
  | 39 => ⟨S8x4096x4, .f32⟩
  | 40 => ⟨S8x4096x4x1, .f32⟩
  | 41 => ⟨S_, .f32⟩
  | 42 => ⟨S8x4096x4x1, .f32⟩
  | 43 => ⟨S8x4096x4x1, .f32⟩
  | 44 => ⟨S8x4096x4x128, .f32⟩
  | 45 => ⟨S8x4096x4x128, .f32⟩
  | 46 => ⟨S_, .f32⟩
  | 47 => ⟨S8x4096x4x1, .f32⟩
  | 48 => ⟨S8x4096x4x1, .f32⟩
  | 49 => ⟨S8x4096x4x1, .f32⟩
  | 50 => ⟨S8x4096x4x128, .f32⟩
  | 51 => ⟨S8x4096x4x128, .f32⟩
  | 52 => ⟨S4x128, .f32⟩
  | 53 => ⟨S1x1x4x128, .f32⟩
  | 54 => ⟨S8x4096x4x128, .f32⟩
  | 55 => ⟨S8x4096x4x128, .f32⟩
  | 56 => ⟨S8x4096x4x128, .f32⟩
  | 57 => ⟨S8x4096x4x128, .f32⟩
  | 58 => ⟨S_, .f32⟩
  | 59 => ⟨S8x4096x4x128, .f32⟩
  | 60 => ⟨S8x4096x4x128, .f32⟩
  | 61 => ⟨S_, .f32⟩
  | 62 => ⟨S8x4096x4x128, .f32⟩
  | 63 => ⟨S8x4096x4x128, .f32⟩
  | 64 => ⟨S8x4096x4x128, .f32⟩
  | 65 => ⟨S8x4096x4x128, .f32⟩
  | 66 => ⟨S8x4096x512, .f32⟩
  | 67 => ⟨S8x4096x512, .bf16⟩
  | _ => ⟨S8x4096x3584, .bf16⟩

abbrev hbmTy (i : Nat) : BufTy := match i / 128 with
  | 0 => hbmTy0_0 i
  | 1 => hbmTy0_1 i
  | _ => ⟨S8x4096x3584, .bf16⟩

abbrev bufTy : (tb : Table) → Fin (tcTables nBuf tb) → BufTy
  | .hbm, ⟨i, _⟩ => hbmTy i
  | _, _ => ⟨S8x4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst_4 : Ref sig .tc := ⟨.hbm, 57, rfl⟩
abbrev main_v50 : Ref sig .tc := ⟨.hbm, 58, rfl⟩
abbrev main_v51 : Ref sig .tc := ⟨.hbm, 59, rfl⟩
abbrev main_cst_5 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_cst_6 : Ref sig .tc := ⟨.hbm, 86, rfl⟩
abbrev main_v77 : Ref sig .tc := ⟨.hbm, 87, rfl⟩
abbrev main_v78 : Ref sig .tc := ⟨.hbm, 88, rfl⟩
abbrev main_cst_7 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_cst_8 : Ref sig .tc := ⟨.hbm, 98, rfl⟩
abbrev main_v87 : Ref sig .tc := ⟨.hbm, 99, rfl⟩
abbrev main_v88 : Ref sig .tc := ⟨.hbm, 100, rfl⟩
abbrev main_cst_9 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_cst_10 : Ref sig .tc := ⟨.hbm, 110, rfl⟩
abbrev main_call0_v0 : Ref sig .tc := ⟨.hbm, 111, rfl⟩
abbrev main_call0_v1 : Ref sig .tc := ⟨.hbm, 112, rfl⟩
abbrev main_call0_v2 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_cst_11 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_cst_12 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_cst_13 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_cst_14 : Ref sig .tc := ⟨.hbm, 157, rfl⟩
abbrev main_v137 : Ref sig .tc := ⟨.hbm, 158, rfl⟩
abbrev main_v138 : Ref sig .tc := ⟨.hbm, 159, rfl⟩
abbrev main_cst_15 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_cst_16 : Ref sig .tc := ⟨.hbm, 166, rfl⟩
abbrev main_v144 : Ref sig .tc := ⟨.hbm, 167, rfl⟩
abbrev main_v145 : Ref sig .tc := ⟨.hbm, 168, rfl⟩
abbrev main_cst_17 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_cst_18 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_call1_v0 : Ref sig .tc := ⟨.hbm, 184, rfl⟩
abbrev main_call1_v1 : Ref sig .tc := ⟨.hbm, 185, rfl⟩
abbrev main_call1_cst : Ref sig .tc := ⟨.hbm, 186, rfl⟩
abbrev main_call1_v2 : Ref sig .tc := ⟨.hbm, 187, rfl⟩
abbrev main_call1_v3 : Ref sig .tc := ⟨.hbm, 188, rfl⟩
abbrev main_call1_cst_0 : Ref sig .tc := ⟨.hbm, 189, rfl⟩
abbrev main_call1_v4 : Ref sig .tc := ⟨.hbm, 190, rfl⟩
abbrev main_call1_v5 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩

abbrev nD : Nat := 1
abbrev τ : Topo := Topo.v7x

variable {F : FTy → Type} [FloatOps F]
-- ==== PostS.lean ====
abbrev S128x8x512 : Shape := ⟨3, ![128, 8, 512]⟩
abbrev S1024x2048 : Shape := ⟨2, ![1024, 2048]⟩
abbrev S128x8x1024 : Shape := ⟨3, ![128, 8, 1024]⟩
abbrev S1x128x8x256 : Shape := ⟨4, ![1, 128, 8, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1024 : Shape := ⟨1, ![1024]⟩
abbrev S1024x1024 : Shape := ⟨2, ![1024, 1024]⟩
abbrev S512x1024 : Shape := ⟨2, ![512, 1024]⟩
abbrev S1024x4096 : Shape := ⟨2, ![1024, 4096]⟩
abbrev S4096x1024 : Shape := ⟨2, ![4096, 1024]⟩
abbrev S256x1024 : Shape := ⟨2, ![256, 1024]⟩
abbrev S1024x512 : Shape := ⟨2, ![1024, 512]⟩
abbrev S128x8x256 : Shape := ⟨3, ![128, 8, 256]⟩
abbrev S1024x256 : Shape := ⟨2, ![1024, 256]⟩
abbrev S256x512 : Shape := ⟨2, ![256, 512]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩

abbrev nBuf : Space → Nat
  | .hbm => 40
  | .vmem => 22
  | .smem => 0
  | _ => 0

abbrev bufTy : (tb : Table) → Fin (tcTables nBuf tb) → BufTy
  | .hbm, ⟨0, _⟩ => ⟨S128x8x512, .f32⟩
  | .hbm, ⟨1, _⟩ => ⟨S128x8x512, .f32⟩
  | .hbm, ⟨2, _⟩ => ⟨S1024x2048, .f32⟩
  | .hbm, ⟨3, _⟩ => ⟨S128x8x1024, .f32⟩
  | .hbm, ⟨4, _⟩ => ⟨S1x128x8x256, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x4096, .f32⟩
  | .hbm, ⟨10, _⟩ => ⟨S1x4096x1024, .f32⟩
  | .hbm, ⟨11, _⟩ => ⟨S1x1024, .f32⟩
  | .hbm, ⟨12, _⟩ => ⟨S1x1024x1024, .f32⟩
  | .hbm, ⟨13, _⟩ => ⟨S1x256x1024, .f32⟩
  | .hbm, ⟨14, _⟩ => ⟨S1024, .f32⟩
  | .hbm, ⟨15, _⟩ => ⟨S1024x1024, .f32⟩
  | .hbm, ⟨16, _⟩ => ⟨S512x1024, .f32⟩
  | .hbm, ⟨17, _⟩ => ⟨S512x1024, .bf16⟩
  | .hbm, ⟨18, _⟩ => ⟨S512x1024, .f32⟩
  | .hbm, ⟨19, _⟩ => ⟨S512x1024, .bf16⟩
  | .hbm, ⟨20, _⟩ => ⟨S1024x1024, .f32⟩
  | .hbm, ⟨21, _⟩ => ⟨S1024x1024, .bf16⟩
  | .hbm, ⟨22, _⟩ => ⟨S1024, .f32⟩
  | .hbm, ⟨23, _⟩ => ⟨S1x1024, .f32⟩
  | .hbm, ⟨24, _⟩ => ⟨S1024x4096, .f32⟩
  | .hbm, ⟨25, _⟩ => ⟨S1024x4096, .bf16⟩
  | .hbm, ⟨26, _⟩ => ⟨S4096x1024, .f32⟩
  | .hbm, ⟨27, _⟩ => ⟨S4096x1024, .bf16⟩
  | .hbm, ⟨28, _⟩ => ⟨S1024, .f32⟩
  | .hbm, ⟨29, _⟩ => ⟨S1x1024, .f32⟩
  | .hbm, ⟨30, _⟩ => ⟨S1024x1024, .f32⟩
  | .hbm, ⟨31, _⟩ => ⟨S1024x1024, .bf16⟩
  | .hbm, ⟨32, _⟩ => ⟨S256x1024, .f32⟩
  | .hbm, ⟨33, _⟩ => ⟨S256x1024, .bf16⟩
  | .hbm, ⟨34, _⟩ => ⟨S1024x512, .f32⟩
  | .hbm, ⟨35, _⟩ => ⟨S1024x512, .f32⟩
  | .hbm, ⟨36, _⟩ => ⟨S128x8x256, .f32⟩
  | .hbm, ⟨37, _⟩ => ⟨S1024x256, .f32⟩
  | .hbm, ⟨38, _⟩ => ⟨S1x1024, .f32⟩
  | .hbm, ⟨39, _⟩ => ⟨S1024x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S256x256, .f32⟩
  | .local _ .vmem, ⟨9, _⟩ => ⟨S256x256, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x4096, .bf16⟩
  | .local _ .vmem, ⟨15, _⟩ => ⟨S4096x1024, .bf16⟩
  | .local _ .vmem, ⟨16, _⟩ => ⟨S1x1024, .f32⟩
  | .local _ .vmem, ⟨17, _⟩ => ⟨S1024x1024, .bf16⟩
  | .local _ .vmem, ⟨18, _⟩ => ⟨S256x1024, .bf16⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | _, _ => ⟨S128x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== PostSRefIdeal.lean ====
abbrev S128x8x512 : Shape := ⟨3, ![128, 8, 512]⟩
abbrev S1024x2048 : Shape := ⟨2, ![1024, 2048]⟩
abbrev S128x8x1024 : Shape := ⟨3, ![128, 8, 1024]⟩
abbrev S1x128x8x256 : Shape := ⟨4, ![1, 128, 8, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1024 : Shape := ⟨1, ![1024]⟩
abbrev S1024x1024 : Shape := ⟨2, ![1024, 1024]⟩
abbrev S1024x256 : Shape := ⟨2, ![1024, 256]⟩
abbrev S1024x512 : Shape := ⟨2, ![1024, 512]⟩
abbrev S512x1024 : Shape := ⟨2, ![512, 1024]⟩
abbrev S_ : Shape := ⟨0, ![]⟩
abbrev S1024x1 : Shape := ⟨2, ![1024, 1]⟩
abbrev S1024x4096 : Shape := ⟨2, ![1024, 4096]⟩
abbrev S4096x1024 : Shape := ⟨2, ![4096, 1024]⟩
abbrev S256x1024 : Shape := ⟨2, ![256, 1024]⟩

abbrev nBuf : Space → Nat
  | .hbm => 120
  | .vmem => 0
  | .smem => 0
  | _ => 0

abbrev bufTy : (tb : Table) → Fin (tcTables nBuf tb) → BufTy
  | .hbm, ⟨0, _⟩ => ⟨S128x8x512, .f32⟩
  | .hbm, ⟨1, _⟩ => ⟨S128x8x512, .f32⟩
  | .hbm, ⟨2, _⟩ => ⟨S1024x2048, .f32⟩
  | .hbm, ⟨3, _⟩ => ⟨S128x8x1024, .f32⟩
  | .hbm, ⟨4, _⟩ => ⟨S1x128x8x256, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x4096, .f32⟩
  | .hbm, ⟨10, _⟩ => ⟨S1x4096x1024, .f32⟩
  | .hbm, ⟨11, _⟩ => ⟨S1x1024, .f32⟩
  | .hbm, ⟨12, _⟩ => ⟨S1x1024x1024, .f32⟩
  | .hbm, ⟨13, _⟩ => ⟨S1x256x1024, .f32⟩
  | .hbm, ⟨14, _⟩ => ⟨S1024, .f32⟩
  | .hbm, ⟨15, _⟩ => ⟨S1024x1024, .f32⟩
  | .hbm, ⟨16, _⟩ => ⟨S1024x256, .f32⟩
  | .hbm, ⟨17, _⟩ => ⟨S1024x1024, .f32⟩
  | .hbm, ⟨18, _⟩ => ⟨S1024x1024, .f32⟩
  | .hbm, ⟨19, _⟩ => ⟨S1024x512, .f32⟩
  | .hbm, ⟨20, _⟩ => ⟨S512x1024, .f32⟩
  | .hbm, ⟨21, _⟩ => ⟨S1024x1024, .f32⟩
  | .hbm, ⟨22, _⟩ => ⟨S1024x512, .f32⟩
  | .hbm, ⟨23, _⟩ => ⟨S512x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S_, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024x1024, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S1024, .f32⟩
  | .hbm, ⟨48, _⟩ => ⟨S1024x1024, .f32⟩
  | .hbm, ⟨49, _⟩ => ⟨S_, .f32⟩
  | .hbm, ⟨50, _⟩ => ⟨S1024, .f32⟩
  | .hbm, ⟨51, _⟩ => ⟨S1024x1, .f32⟩
  | .hbm, ⟨52, _⟩ => ⟨S_, .f32⟩
  | .hbm, ⟨53, _⟩ => ⟨S1024x1, .f32⟩
  | .hbm, ⟨54, _⟩ => ⟨S1024x1, .f32⟩
  | .hbm, ⟨55, _⟩ => ⟨S_, .f32⟩
  | .hbm, ⟨56, _⟩ => ⟨S1024x1, .f32⟩
  | .hbm, ⟨57, _⟩ => ⟨S1024x1, .f32⟩
  | .hbm, ⟨58, _⟩ => ⟨S1024x1, .f32⟩
  | .hbm, ⟨59, _⟩ => ⟨S1024x1024, .f32⟩
  | .hbm, ⟨60, _⟩ => ⟨S1024x1024, .f32⟩
  | .hbm, ⟨61, _⟩ => ⟨S1x1024, .f32⟩
  | .hbm, ⟨62, _⟩ => ⟨S1024x1024, .f32⟩
  | .hbm, ⟨63, _⟩ => ⟨S1024x1024, .f32⟩
  | .hbm, ⟨64, _⟩ => ⟨S1024x4096, .f32⟩
  | .hbm, ⟨65, _⟩ => ⟨S1024x4096, .f32⟩
  | .hbm, ⟨66, _⟩ => ⟨S_, .f32⟩
  | .hbm, ⟨67, _⟩ => ⟨S1024x4096, .f32⟩
  | .hbm, ⟨68, _⟩ => ⟨S1024x4096, .f32⟩
  | .hbm, ⟨69, _⟩ => ⟨S1024x4096, .f32⟩
  | .hbm, ⟨70, _⟩ => ⟨S4096x1024, .f32⟩
  | .hbm, ⟨71, _⟩ => ⟨S1024x1024, .f32⟩
  | .hbm, ⟨72, _⟩ => ⟨S1024x1024, .f32⟩
  | .hbm, ⟨73, _⟩ => ⟨S1024, .f32⟩
  | .hbm, ⟨74, _⟩ => ⟨S1024x1024, .f32⟩
  | .hbm, ⟨75, _⟩ => ⟨S_, .f32⟩
  | .hbm, ⟨76, _⟩ => ⟨S1024, .f32⟩
  | .hbm, ⟨77, _⟩ => ⟨S1024x1, .f32⟩
  | .hbm, ⟨78, _⟩ => ⟨S_, .f32⟩
  | .hbm, ⟨79, _⟩ => ⟨S1024x1, .f32⟩
  | .hbm, ⟨80, _⟩ => ⟨S1024x1, .f32⟩
  | .hbm, ⟨81, _⟩ => ⟨S_, .f32⟩
  | .hbm, ⟨82, _⟩ => ⟨S1024x1, .f32⟩
  | .hbm, ⟨83, _⟩ => ⟨S1024x1, .f32⟩
  | .hbm, ⟨84, _⟩ => ⟨S1024x1, .f32⟩
  | .hbm, ⟨85, _⟩ => ⟨S1024x1024, .f32⟩
  | .hbm, ⟨86, _⟩ => ⟨S1024x1024, .f32⟩
  | .hbm, ⟨87, _⟩ => ⟨S1x1024, .f32⟩
  | .hbm, ⟨88, _⟩ => ⟨S1024x1024, .f32⟩
  | .hbm, ⟨89, _⟩ => ⟨S1024x1024, .f32⟩
  | .hbm, ⟨90, _⟩ => ⟨S1024x1024, .f32⟩
  | .hbm, ⟨91, _⟩ => ⟨S1024x1024, .f32⟩
  | .hbm, ⟨92, _⟩ => ⟨S1024x1024, .f32⟩
  | .hbm, ⟨93, _⟩ => ⟨S1024x1024, .f32⟩
  | .hbm, ⟨94, _⟩ => ⟨S_, .f32⟩
  | .hbm, ⟨95, _⟩ => ⟨S1024x1024, .f32⟩
  | .hbm, ⟨96, _⟩ => ⟨S1024x1024, .f32⟩
  | .hbm, ⟨97, _⟩ => ⟨S_, .f32⟩
  | .hbm, ⟨98, _⟩ => ⟨S1024x1024, .f32⟩
  | .hbm, ⟨99, _⟩ => ⟨S1024x1024, .f32⟩
  | .hbm, ⟨100, _⟩ => ⟨S256x1024, .f32⟩
  | .hbm, ⟨101, _⟩ => ⟨S1024x1024, .f32⟩
  | .hbm, ⟨102, _⟩ => ⟨S1024x1024, .f32⟩
  | .hbm, ⟨103, _⟩ => ⟨S1024x1024, .f32⟩
  | .hbm, ⟨104, _⟩ => ⟨S1024x1024, .f32⟩
  | .hbm, ⟨105, _⟩ => ⟨S_, .f32⟩
  | .hbm, ⟨106, _⟩ => ⟨S1024, .f32⟩
  | .hbm, ⟨107, _⟩ => ⟨S1024x1, .f32⟩
  | .hbm, ⟨108, _⟩ => ⟨S_, .f32⟩
  | .hbm, ⟨109, _⟩ => ⟨S1024x1, .f32⟩
  | .hbm, ⟨110, _⟩ => ⟨S1024x1, .f32⟩
  | .hbm, ⟨111, _⟩ => ⟨S_, .f32⟩
  | .hbm, ⟨112, _⟩ => ⟨S1024x1, .f32⟩
  | .hbm, ⟨113, _⟩ => ⟨S1024x1, .f32⟩
  | .hbm, ⟨114, _⟩ => ⟨S1024x1, .f32⟩
  | .hbm, ⟨115, _⟩ => ⟨S1024x1024, .f32⟩
  | .hbm, ⟨116, _⟩ => ⟨S1024x1024, .f32⟩
  | .hbm, ⟨117, _⟩ => ⟨S1x1024, .f32⟩
  | .hbm, ⟨118, _⟩ => ⟨S1024x1024, .f32⟩
  | .hbm, ⟨119, _⟩ => ⟨S1024x1024, .f32⟩
  | _, _ => ⟨S128x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call0_cst : Ref sig .tc := ⟨.hbm, 66, rfl⟩
abbrev main_call0_v0 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_6 : Ref sig .tc := ⟨.hbm, 75, rfl⟩
abbrev main_v51 : Ref sig .tc := ⟨.hbm, 76, rfl⟩
abbrev main_v52 : Ref sig .tc := ⟨.hbm, 77, rfl⟩
abbrev main_cst_7 : Ref sig .tc := ⟨.hbm, 78, rfl⟩
abbrev main_v53 : Ref sig .tc := ⟨.hbm, 79, rfl⟩
abbrev main_v54 : Ref sig .tc := ⟨.hbm, 80, rfl⟩
abbrev main_cst_8 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_9 : Ref sig .tc := ⟨.hbm, 94, rfl⟩
abbrev main_v67 : Ref sig .tc := ⟨.hbm, 95, rfl⟩
abbrev main_v68 : Ref sig .tc := ⟨.hbm, 96, rfl⟩
abbrev main_cst_10 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_11 : Ref sig .tc := ⟨.hbm, 105, rfl⟩
abbrev main_v76 : Ref sig .tc := ⟨.hbm, 106, rfl⟩
abbrev main_v77 : Ref sig .tc := ⟨.hbm, 107, rfl⟩
abbrev main_cst_12 : Ref sig .tc := ⟨.hbm, 108, rfl⟩
abbrev main_v78 : Ref sig .tc := ⟨.hbm, 109, rfl⟩
abbrev main_v79 : Ref sig .tc := ⟨.hbm, 110, rfl⟩
abbrev main_cst_13 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩

abbrev nD : Nat := 1
abbrev τ : Topo := Topo.v7x

variable {F : FTy → Type} [FloatOps F]
-- ==== ProjS.lean ====
abbrev S128x8x1024 : Shape := ⟨3, ![128, 8, 1024]⟩
abbrev S1x1024 : Shape := ⟨2, ![1, 1024]⟩
abbrev S1x1024x5632 : Shape := ⟨3, ![1, 1024, 5632]⟩
abbrev S1024x1024 : Shape := ⟨2, ![1024, 1024]⟩
abbrev S1024 : Shape := ⟨1, ![1024]⟩
abbrev S1024x5632 : Shape := ⟨2, ![1024, 5632]⟩
abbrev S1024x3584 : Shape := ⟨2, ![1024, 3584]⟩
abbrev S1024x2048 : Shape := ⟨2, ![1024, 2048]⟩
abbrev S1024x512 : Shape := ⟨2, ![1024, 512]⟩
abbrev S512x1024 : Shape := ⟨2, ![512, 1024]⟩
abbrev S512x3584 : Shape := ⟨2, ![512, 3584]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S128x8x1024, .f32⟩
  | .hbm, ⟨1, _⟩ => ⟨S1x1024, .f32⟩
  | .hbm, ⟨2, _⟩ => ⟨S1x1024x5632, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S1024x5632, .bf16⟩
  | .hbm, ⟨7, _⟩ => ⟨S1x1024, .f32⟩
  | .hbm, ⟨8, _⟩ => ⟨S1024x3584, .f32⟩
  | .hbm, ⟨9, _⟩ => ⟨S1024x2048, .f32⟩
  | .hbm, ⟨10, _⟩ => ⟨S1024x512, .f32⟩
  | .hbm, ⟨11, _⟩ => ⟨S1024x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S512x3584, .f32⟩
  | .local _ .vmem, ⟨5, _⟩ => ⟨S512x3584, .f32⟩
  | .local _ .vmem, ⟨6, _⟩ => ⟨S512x2048, .f32⟩
  | .local _ .vmem, ⟨7, _⟩ => ⟨S512x2048, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjSRefIdeal.lean ====
abbrev S128x8x1024 : Shape := ⟨3, ![128, 8, 1024]⟩
abbrev S1x1024 : Shape := ⟨2, ![1, 1024]⟩
abbrev S1x1024x5632 : Shape := ⟨3, ![1, 1024, 5632]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1024x5632 : Shape := ⟨2, ![1024, 5632]⟩
abbrev S1024x512 : Shape := ⟨2, ![1024, 512]⟩
abbrev S1024x3584 : Shape := ⟨2, ![1024, 3584]⟩
abbrev S1024x2048 : Shape := ⟨2, ![1024, 2048]⟩

abbrev nBuf : Space → Nat
  | .hbm => 37
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1x1024, .f32⟩
  | .hbm, ⟨2, _⟩ => ⟨S1x1024x5632, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x1024, .f32⟩
  | .hbm, ⟨17, _⟩ => ⟨S1024x1024, .f32⟩
  | .hbm, ⟨18, _⟩ => ⟨S1x1024, .f32⟩
  | .hbm, ⟨19, _⟩ => ⟨S1024x1024, .f32⟩
  | .hbm, ⟨20, _⟩ => ⟨S1024x1024, .f32⟩
  | .hbm, ⟨21, _⟩ => ⟨S1024x5632, .f32⟩
  | .hbm, ⟨22, _⟩ => ⟨S1024x5632, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x3584, .f32⟩
  | .hbm, ⟨36, _⟩ => ⟨S1024x2048, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== RetState.lean ====
abbrev S8x4096x3584 : Shape := ⟨3, ![8, 4096, 3584]⟩
abbrev S1x4x128 : Shape := ⟨3, ![1, 4, 128]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S4x256x128 : Shape := ⟨3, ![4, 256, 128]⟩
abbrev S4x1x128 : Shape := ⟨3, ![4, 1, 128]⟩
abbrev S8x4096x512 : Shape := ⟨3, ![8, 4096, 512]⟩
abbrev S8x4x128x128 : Shape := ⟨4, ![8, 4, 128, 128]⟩
abbrev S256x128 : Shape := ⟨2, ![256, 128]⟩
abbrev S1x256x512 : Shape := ⟨3, ![1, 256, 512]⟩
abbrev S1x4x128x128 : Shape := ⟨4, ![1, 4, 128, 128]⟩
abbrev S4x128x128 : Shape := ⟨3, ![4, 128, 128]⟩
abbrev S1x256x128 : Shape := ⟨3, ![1, 256, 128]⟩
abbrev S1x128x128 : Shape := ⟨3, ![1, 128, 128]⟩
abbrev S128x128 : Shape := ⟨2, ![128, 128]⟩
abbrev S1 : Shape := ⟨1, ![1]⟩
abbrev S1x1x128 : Shape := ⟨3, ![1, 1, 128]⟩
abbrev S1x128 : Shape := ⟨2, ![1, 128]⟩

abbrev nBuf : Space → Nat
  | .hbm => 87
  | .vmem => 21
  | .smem => 1
  | _ => 0

abbrev bufTy : (tb : Table) → Fin (tcTables nBuf tb) → BufTy
  | .hbm, ⟨0, _⟩ => ⟨S8x4096x3584, .bf16⟩
  | .hbm, ⟨1, _⟩ => ⟨S1x4x128, .f32⟩
  | .hbm, ⟨2, _⟩ => ⟨S4096, .i32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S4096, .f32⟩
  | .hbm, ⟨12, _⟩ => ⟨S4096x1, .f32⟩
  | .hbm, ⟨13, _⟩ => ⟨S1x64, .f32⟩
  | .hbm, ⟨14, _⟩ => ⟨S4096x64, .f32⟩
  | .hbm, ⟨15, _⟩ => ⟨S4096x64, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S4096x128, .f32⟩
  | .hbm, ⟨20, _⟩ => ⟨S4096x64, .f32⟩
  | .hbm, ⟨21, _⟩ => ⟨S4096x128, .f32⟩
  | .hbm, ⟨22, _⟩ => ⟨S4, .f32⟩
  | .hbm, ⟨23, _⟩ => ⟨S_, .f32⟩
  | .hbm, ⟨24, _⟩ => ⟨S4, .f32⟩
  | .hbm, ⟨25, _⟩ => ⟨S4, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S256, .f32⟩
  | .hbm, ⟨35, _⟩ => ⟨S256x1, .f32⟩
  | .hbm, ⟨36, _⟩ => ⟨S1x256, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S1x256x256, .f32⟩
  | .hbm, ⟨41, _⟩ => ⟨S_, .f32⟩
  | .hbm, ⟨42, _⟩ => ⟨S1x256x256, .f32⟩
  | .hbm, ⟨43, _⟩ => ⟨S1x256x256, .i1⟩
  | .hbm, ⟨44, _⟩ => ⟨S_, .f32⟩
  | .hbm, ⟨45, _⟩ => ⟨S256x256, .f32⟩
  | .hbm, ⟨46, _⟩ => ⟨S256x256, .f32⟩
  | .hbm, ⟨47, _⟩ => ⟨S1x256x256, .f32⟩
  | .hbm, ⟨48, _⟩ => ⟨S4x1x1, .f32⟩
  | .hbm, ⟨49, _⟩ => ⟨S4x256x256, .f32⟩
  | .hbm, ⟨50, _⟩ => ⟨S4x256x256, .f32⟩
  | .hbm, ⟨51, _⟩ => ⟨S4x256x256, .f32⟩
  | .hbm, ⟨52, _⟩ => ⟨S4x256x256, .f32⟩
  | .hbm, ⟨53, _⟩ => ⟨S_, .f32⟩
  | .hbm, ⟨54, _⟩ => ⟨S_, .f32⟩
  | .hbm, ⟨55, _⟩ => ⟨S4x256x256, .i1⟩
  | .hbm, ⟨56, _⟩ => ⟨S4x256x256, .f32⟩
  | .hbm, ⟨57, _⟩ => ⟨S4x256x256, .f32⟩
  | .hbm, ⟨58, _⟩ => ⟨S_, .f32⟩
  | .hbm, ⟨59, _⟩ => ⟨S256, .f32⟩
  | .hbm, ⟨60, _⟩ => ⟨S256, .f32⟩
  | .hbm, ⟨61, _⟩ => ⟨S1x256, .f32⟩
  | .hbm, ⟨62, _⟩ => ⟨S4x1, .f32⟩
  | .hbm, ⟨63, _⟩ => ⟨S4x256, .f32⟩
  | .hbm, ⟨64, _⟩ => ⟨S4x256, .f32⟩
  | .hbm, ⟨65, _⟩ => ⟨S4x256, .f32⟩
  | .hbm, ⟨66, _⟩ => ⟨S4x256, .f32⟩
  | .hbm, ⟨67, _⟩ => ⟨S_, .f32⟩
  | .hbm, ⟨68, _⟩ => ⟨S256, .f32⟩
  | .hbm, ⟨69, _⟩ => ⟨S256, .f32⟩
  | .hbm, ⟨70, _⟩ => ⟨S1x256, .f32⟩
  | .hbm, ⟨71, _⟩ => ⟨S4x1, .f32⟩
  | .hbm, ⟨72, _⟩ => ⟨S4x256, .f32⟩
  | .hbm, ⟨73, _⟩ => ⟨S4x256, .f32⟩
  | .hbm, ⟨74, _⟩ => ⟨S4x256, .f32⟩
  | .hbm, ⟨75, _⟩ => ⟨S4x256, .f32⟩
  | .hbm, ⟨76, _⟩ => ⟨S4x256x1, .f32⟩
  | .hbm, ⟨77, _⟩ => ⟨S4x256x128, .f32⟩
  | .hbm, ⟨78, _⟩ => ⟨S4x256x1, .f32⟩
  | .hbm, ⟨79, _⟩ => ⟨S4x256x128, .f32⟩
  | .hbm, ⟨80, _⟩ => ⟨S_, .f32⟩
  | .hbm, ⟨81, _⟩ => ⟨S4, .f32⟩
  | .hbm, ⟨82, _⟩ => ⟨S4, .f32⟩
  | .hbm, ⟨83, _⟩ => ⟨S4, .f32⟩
  | .hbm, ⟨84, _⟩ => ⟨S4x1x128, .f32⟩
  | .hbm, ⟨85, _⟩ => ⟨S8x4096x512, .bf16⟩
  | .hbm, ⟨86, _⟩ => ⟨S8x4x128x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S4x256x256, .f32⟩
  | .local _ .vmem, ⟨5, _⟩ => ⟨S4x256x128, .f32⟩
  | .local _ .vmem, ⟨6, _⟩ => ⟨S4x256x128, .f32⟩
  | .local _ .vmem, ⟨7, _⟩ => ⟨S4x1x128, .f32⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x4x128x128, .f32⟩
  | .local _ .vmem, ⟨19, _⟩ => ⟨S1x4x128x128, .f32⟩
  | .local _ .vmem, ⟨20, _⟩ => ⟨S4x128x128, .f32⟩
  | .local _ .smem, ⟨0, _⟩ => ⟨S4, .f32⟩
  | _, _ => ⟨S8x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_4 : Ref sig .tc := ⟨.hbm, 41, rfl⟩
abbrev main_v34 : Ref sig .tc := ⟨.hbm, 42, rfl⟩
abbrev main_v35 : Ref sig .tc := ⟨.hbm, 43, rfl⟩
abbrev main_cst_5 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_6 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_9 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69_0 : Ref sig .tc := ⟨.hbm, 85, rfl⟩
abbrev main_v69_1 : Ref sig .tc := ⟨.hbm, 86, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v311 : BitVec 1 := Scalar.cmpi .eq arg1 c15_i32
  let v312 : BitVec 32 := Scalar.extui v311
  let c0_i32_180 : BitVec 32 := 0#32
  let v313 : BitVec 1 := Scalar.cmpi .ne v312 c0_i32_180
  v313

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_9 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_10 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S4x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== RetStateRefIdeal.lean ====
abbrev S8x4096x3584 : Shape := ⟨3, ![8, 4096, 3584]⟩
abbrev S1x4x128 : Shape := ⟨3, ![1, 4, 128]⟩
abbrev S4 : Shape := ⟨1, ![4]⟩
abbrev S_ : Shape := ⟨0, ![]⟩
abbrev S8x4096x512 : Shape := ⟨3, ![8, 4096, 512]⟩
abbrev S8x4096x4x128 : Shape := ⟨4, ![8, 4096, 4, 128]⟩
abbrev S4096 : Shape := ⟨1, ![4096]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S8x4096x4x64 : Shape := ⟨4, ![8, 4096, 4, 64]⟩
abbrev S8x4x128x128 : Shape := ⟨4, ![8, 4, 128, 128]⟩
abbrev S1x4 : Shape := ⟨2, ![1, 4]⟩
abbrev S4096x4 : Shape := ⟨2, ![4096, 4]⟩
abbrev S1x4x1x1 : Shape := ⟨4, ![1, 4, 1, 1]⟩
abbrev S1x4096x4x1 : Shape := ⟨4, ![1, 4096, 4, 1]⟩

abbrev nBuf : Space → Nat
  | .hbm => 78
  | .vmem => 0
  | .smem => 0
  | _ => 0

abbrev bufTy : (tb : Table) → Fin (tcTables nBuf tb) → BufTy
  | .hbm, ⟨0, _⟩ => ⟨S8x4096x3584, .bf16⟩
  | .hbm, ⟨1, _⟩ => ⟨S1x4x128, .f32⟩
  | .hbm, ⟨2, _⟩ => ⟨S4, .f32⟩
  | .hbm, ⟨3, _⟩ => ⟨S_, .f32⟩
  | .hbm, ⟨4, _⟩ => ⟨S4, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S8x4096x3584, .f32⟩
  | .hbm, ⟨15, _⟩ => ⟨S8x4096x512, .f32⟩
  | .hbm, ⟨16, _⟩ => ⟨S8x4096x4x128, .f32⟩
  | .hbm, ⟨17, _⟩ => ⟨S8x4096x512, .f32⟩
  | .hbm, ⟨18, _⟩ => ⟨S8x4096x4x128, .f32⟩
  | .hbm, ⟨19, _⟩ => ⟨S4096, .i32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S4096, .f32⟩
  | .hbm, ⟨29, _⟩ => ⟨S4096x1, .f32⟩
  | .hbm, ⟨30, _⟩ => ⟨S1x64, .f32⟩
  | .hbm, ⟨31, _⟩ => ⟨S4096x64, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S1x4096x1x64, .f32⟩
  | .hbm, ⟨36, _⟩ => ⟨S4096x64, .f32⟩
  | .hbm, ⟨37, _⟩ => ⟨S1x4096x1x64, .f32⟩
  | .hbm, ⟨38, _⟩ => ⟨S8x4096x4x64, .f32⟩
  | .hbm, ⟨39, _⟩ => ⟨S8x4096x4x64, .f32⟩
  | .hbm, ⟨40, _⟩ => ⟨S8x4096x4x64, .f32⟩
  | .hbm, ⟨41, _⟩ => ⟨S8x4096x4x64, .f32⟩
  | .hbm, ⟨42, _⟩ => ⟨S8x4096x4x64, .f32⟩
  | .hbm, ⟨43, _⟩ => ⟨S8x4096x4x64, .f32⟩
  | .hbm, ⟨44, _⟩ => ⟨S8x4096x4x64, .f32⟩
  | .hbm, ⟨45, _⟩ => ⟨S8x4096x4x64, .f32⟩
  | .hbm, ⟨46, _⟩ => ⟨S8x4096x4x64, .f32⟩
  | .hbm, ⟨47, _⟩ => ⟨S8x4096x4x64, .f32⟩
  | .hbm, ⟨48, _⟩ => ⟨S8x4096x4x64, .f32⟩
  | .hbm, ⟨49, _⟩ => ⟨S8x4096x4x64, .f32⟩
  | .hbm, ⟨50, _⟩ => ⟨S8x4096x4x128, .f32⟩
  | .hbm, ⟨51, _⟩ => ⟨S_, .f32⟩
  | .hbm, ⟨52, _⟩ => ⟨S8x4096x4x128, .f32⟩
  | .hbm, ⟨53, _⟩ => ⟨S8x4096x4x128, .f32⟩
  | .hbm, ⟨54, _⟩ => ⟨S_, .f32⟩
  | .hbm, ⟨55, _⟩ => ⟨S8x4x128x128, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096x1, .f32⟩
  | .hbm, ⟨61, _⟩ => ⟨S1x4, .f32⟩
  | .hbm, ⟨62, _⟩ => ⟨S4096x4, .f32⟩
  | .hbm, ⟨63, _⟩ => ⟨S4096x4, .f32⟩
  | .hbm, ⟨64, _⟩ => ⟨S4096x4, .f32⟩
  | .hbm, ⟨65, _⟩ => ⟨S4096x4, .f32⟩
  | .hbm, ⟨66, _⟩ => ⟨S_, .f32⟩
  | .hbm, ⟨67, _⟩ => ⟨S4, .f32⟩
  | .hbm, ⟨68, _⟩ => ⟨S4, .f32⟩
  | .hbm, ⟨69, _⟩ => ⟨S4, .f32⟩
  | .hbm, ⟨70, _⟩ => ⟨S1x4x1x1, .f32⟩
  | .hbm, ⟨71, _⟩ => ⟨S8x4x128x128, .f32⟩
  | .hbm, ⟨72, _⟩ => ⟨S8x4x128x128, .f32⟩
  | .hbm, ⟨73, _⟩ => ⟨S1x4096x4x1, .f32⟩
  | .hbm, ⟨74, _⟩ => ⟨S8x4096x4x128, .f32⟩
  | .hbm, ⟨75, _⟩ => ⟨S8x4096x4x128, .f32⟩
  | .hbm, ⟨76, _⟩ => ⟨S8x4x128x128, .f32⟩
  | .hbm, ⟨77, _⟩ => ⟨S8x4x128x128, .f32⟩
  | _, _ => ⟨S8x4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_4 : Ref sig .tc := ⟨.hbm, 51, rfl⟩
abbrev main_v44 : Ref sig .tc := ⟨.hbm, 52, rfl⟩
abbrev main_v45 : Ref sig .tc := ⟨.hbm, 53, rfl⟩
abbrev main_cst_5 : Ref sig .tc := ⟨.hbm, 54, rfl⟩
abbrev main_v46 : Ref sig .tc := ⟨.hbm, 55, rfl⟩
abbrev main_v47 : Ref sig .tc := ⟨.hbm, 56, rfl⟩
abbrev main_cst_6 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_7 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩

abbrev nD : Nat := 1
abbrev τ : Topo := Topo.v7x

variable {F : FTy → Type} [FloatOps F]
-- ==== RetStateS.lean ====
abbrev S128x8x3584 : Shape := ⟨3, ![128, 8, 3584]⟩
abbrev S1x128x4x128x128 : Shape := ⟨5, ![1, 128, 4, 128, 128]⟩
abbrev S1x4x128 : Shape := ⟨3, ![1, 4, 128]⟩
abbrev S128x4x128x128 : Shape := ⟨4, ![128, 4, 128, 128]⟩
abbrev S8 : Shape := ⟨1, ![8]⟩
abbrev S_ : Shape := ⟨0, ![]⟩
abbrev S64 : Shape := ⟨1, ![64]⟩
abbrev S8x1 : Shape := ⟨2, ![8, 1]⟩
abbrev S1x64 : Shape := ⟨2, ![1, 64]⟩
abbrev S8x64 : Shape := ⟨2, ![8, 64]⟩
abbrev S8x128 : Shape := ⟨2, ![8, 128]⟩
abbrev S4 : Shape := ⟨1, ![4]⟩
abbrev S1x8 : Shape := ⟨2, ![1, 8]⟩
abbrev S8x8 : Shape := ⟨2, ![8, 8]⟩
abbrev S1x8x8 : Shape := ⟨3, ![1, 8, 8]⟩
abbrev S4x1x1 : Shape := ⟨3, ![4, 1, 1]⟩
abbrev S4x8x8 : Shape := ⟨3, ![4, 8, 8]⟩
abbrev S4x1 : Shape := ⟨2, ![4, 1]⟩
abbrev S4x8 : Shape := ⟨2, ![4, 8]⟩
abbrev S4x8x1 : Shape := ⟨3, ![4, 8, 1]⟩
abbrev S4x8x128 : Shape := ⟨3, ![4, 8, 128]⟩
abbrev S4x1x128 : Shape := ⟨3, ![4, 1, 128]⟩
abbrev S128x8x512 : Shape := ⟨3, ![128, 8, 512]⟩
abbrev S8x8x512 : Shape := ⟨3, ![8, 8, 512]⟩
abbrev S8x4x128x128 : Shape := ⟨4, ![8, 4, 128, 128]⟩
abbrev S1x8x128 : Shape := ⟨3, ![1, 8, 128]⟩
abbrev S1x1x128x128 : Shape := ⟨4, ![1, 1, 128, 128]⟩
abbrev S128x128 : Shape := ⟨2, ![128, 128]⟩
abbrev S1 : Shape := ⟨1, ![1]⟩
abbrev S1x1x128 : Shape := ⟨3, ![1, 1, 128]⟩
abbrev S1x128 : Shape := ⟨2, ![1, 128]⟩

abbrev nBuf : Space → Nat
  | .hbm => 92
  | .vmem => 20
  | .smem => 1
  | _ => 0

abbrev bufTy : (tb : Table) → Fin (tcTables nBuf tb) → BufTy
  | .hbm, ⟨0, _⟩ => ⟨S128x8x3584, .f32⟩
  | .hbm, ⟨1, _⟩ => ⟨S1x128x4x128x128, .f32⟩
  | .hbm, ⟨2, _⟩ => ⟨S1x4x128, .f32⟩
  | .hbm, ⟨3, _⟩ => ⟨S128x4x128x128, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S8, .f32⟩
  | .hbm, ⟨17, _⟩ => ⟨S8x1, .f32⟩
  | .hbm, ⟨18, _⟩ => ⟨S1x64, .f32⟩
  | .hbm, ⟨19, _⟩ => ⟨S8x64, .f32⟩
  | .hbm, ⟨20, _⟩ => ⟨S8x64, .f32⟩
  | .hbm, ⟨21, _⟩ => ⟨S8x64, .f32⟩
  | .hbm, ⟨22, _⟩ => ⟨S8x64, .f32⟩
  | .hbm, ⟨23, _⟩ => ⟨S8x64, .f32⟩
  | .hbm, ⟨24, _⟩ => ⟨S8x128, .f32⟩
  | .hbm, ⟨25, _⟩ => ⟨S8x64, .f32⟩
  | .hbm, ⟨26, _⟩ => ⟨S8x128, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S4, .f32⟩
  | .hbm, ⟨39, _⟩ => ⟨S8, .f32⟩
  | .hbm, ⟨40, _⟩ => ⟨S8x1, .f32⟩
  | .hbm, ⟨41, _⟩ => ⟨S1x8, .f32⟩
  | .hbm, ⟨42, _⟩ => ⟨S8x8, .f32⟩
  | .hbm, ⟨43, _⟩ => ⟨S8x8, .f32⟩
  | .hbm, ⟨44, _⟩ => ⟨S8x8, .f32⟩
  | .hbm, ⟨45, _⟩ => ⟨S1x8x8, .f32⟩
  | .hbm, ⟨46, _⟩ => ⟨S_, .f32⟩
  | .hbm, ⟨47, _⟩ => ⟨S1x8x8, .f32⟩
  | .hbm, ⟨48, _⟩ => ⟨S1x8x8, .i1⟩
  | .hbm, ⟨49, _⟩ => ⟨S_, .f32⟩
  | .hbm, ⟨50, _⟩ => ⟨S8x8, .f32⟩
  | .hbm, ⟨51, _⟩ => ⟨S8x8, .f32⟩
  | .hbm, ⟨52, _⟩ => ⟨S1x8x8, .f32⟩
  | .hbm, ⟨53, _⟩ => ⟨S4x1x1, .f32⟩
  | .hbm, ⟨54, _⟩ => ⟨S4x8x8, .f32⟩
  | .hbm, ⟨55, _⟩ => ⟨S4x8x8, .f32⟩
  | .hbm, ⟨56, _⟩ => ⟨S4x8x8, .f32⟩
  | .hbm, ⟨57, _⟩ => ⟨S4x8x8, .f32⟩
  | .hbm, ⟨58, _⟩ => ⟨S_, .f32⟩
  | .hbm, ⟨59, _⟩ => ⟨S_, .f32⟩
  | .hbm, ⟨60, _⟩ => ⟨S4x8x8, .i1⟩
  | .hbm, ⟨61, _⟩ => ⟨S4x8x8, .f32⟩
  | .hbm, ⟨62, _⟩ => ⟨S4x8x8, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S1x8, .f32⟩
  | .hbm, ⟨67, _⟩ => ⟨S4x1, .f32⟩
  | .hbm, ⟨68, _⟩ => ⟨S4x8, .f32⟩
  | .hbm, ⟨69, _⟩ => ⟨S4x8, .f32⟩
  | .hbm, ⟨70, _⟩ => ⟨S4x8, .f32⟩
  | .hbm, ⟨71, _⟩ => ⟨S4x8, .f32⟩
  | .hbm, ⟨72, _⟩ => ⟨S_, .f32⟩
  | .hbm, ⟨73, _⟩ => ⟨S8, .f32⟩
  | .hbm, ⟨74, _⟩ => ⟨S8, .f32⟩
  | .hbm, ⟨75, _⟩ => ⟨S1x8, .f32⟩
  | .hbm, ⟨76, _⟩ => ⟨S4x1, .f32⟩
  | .hbm, ⟨77, _⟩ => ⟨S4x8, .f32⟩
  | .hbm, ⟨78, _⟩ => ⟨S4x8, .f32⟩
  | .hbm, ⟨79, _⟩ => ⟨S4x8, .f32⟩
  | .hbm, ⟨80, _⟩ => ⟨S4x8, .f32⟩
  | .hbm, ⟨81, _⟩ => ⟨S4x8x1, .f32⟩
  | .hbm, ⟨82, _⟩ => ⟨S4x8x128, .f32⟩
  | .hbm, ⟨83, _⟩ => ⟨S4x8x1, .f32⟩
  | .hbm, ⟨84, _⟩ => ⟨S4x8x128, .f32⟩
  | .hbm, ⟨85, _⟩ => ⟨S_, .f32⟩
  | .hbm, ⟨86, _⟩ => ⟨S4, .f32⟩
  | .hbm, ⟨87, _⟩ => ⟨S4, .f32⟩
  | .hbm, ⟨88, _⟩ => ⟨S4, .f32⟩
  | .hbm, ⟨89, _⟩ => ⟨S4x1x128, .f32⟩
  | .hbm, ⟨90, _⟩ => ⟨S128x8x512, .f32⟩
  | .hbm, ⟨91, _⟩ => ⟨S128x4x128x128, .f32⟩
  | .local _ .vmem, ⟨0, _⟩ => ⟨S8x128, .f32⟩
  | .local _ .vmem, ⟨1, _⟩ => ⟨S8x128, .f32⟩
  | .local _ .vmem, ⟨2, _⟩ => ⟨S4x8x8, .f32⟩
  | .local _ .vmem, ⟨3, _⟩ => ⟨S4x8x128, .f32⟩
  | .local _ .vmem, ⟨4, _⟩ => ⟨S4x8x128, .f32⟩
  | .local _ .vmem, ⟨5, _⟩ => ⟨S4x1x128, .f32⟩
  | .local _ .vmem, ⟨6, _⟩ => ⟨S8x8x512, .f32⟩
  | .local _ .vmem, ⟨7, _⟩ => ⟨S8x8x512, .f32⟩
  | .local _ .vmem, ⟨8, _⟩ => ⟨S8x8x512, .f32⟩
  | .local _ .vmem, ⟨9, _⟩ => ⟨S8x8x512, .f32⟩
  | .local _ .vmem, ⟨10, _⟩ => ⟨S8x8x512, .f32⟩
  | .local _ .vmem, ⟨11, _⟩ => ⟨S8x8x512, .f32⟩
  | .local _ .vmem, ⟨12, _⟩ => ⟨S8x8x512, .f32⟩
  | .local _ .vmem, ⟨13, _⟩ => ⟨S8x8x512, .f32⟩
  | .local _ .vmem, ⟨14, _⟩ => ⟨S8x4x128x128, .f32⟩
  | .local _ .vmem, ⟨15, _⟩ => ⟨S8x4x128x128, .f32⟩
  | .local _ .vmem, ⟨16, _⟩ => ⟨S8x8x512, .f32⟩
  | .local _ .vmem, ⟨17, _⟩ => ⟨S8x8x512, .f32⟩
  | .local _ .vmem, ⟨18, _⟩ => ⟨S8x4x128x128, .f32⟩
  | .local _ .vmem, ⟨19, _⟩ => ⟨S8x4x128x128, .f32⟩
  | .local _ .smem, ⟨0, _⟩ => ⟨S4, .f32⟩
  | _, _ => ⟨S128x8x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_9 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72_0 : Ref sig .tc := ⟨.hbm, 90, rfl⟩
abbrev main_v72_1 : Ref sig .tc := ⟨.hbm, 91, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_8 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![arg0.toNat, c0_i32.toNat, c4_i32.toNat]

def cc0_transform_9 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![arg0.toNat, c0_i32.toNat, c5_i32.toNat]

def cc0_transform_10 (i : grid0.Coords) : Fin 3 → Nat :=
  let arg0 : BitVec 32 := BitVec.ofNat 32 (i 0).val
  let c0_i32 : BitVec 32 := 0#32
  let c6_i32 : BitVec 32 := 6#32
  let c0_i32_0 : BitVec 32 := 0#32
  ![arg0.toNat, c0_i32.toNat, c6_i32.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x8x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x4x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RetStateSRefIdeal.lean ====
abbrev S128x8x3584 : Shape := ⟨3, ![128, 8, 3584]⟩
abbrev S1x128x4x128x128 : Shape := ⟨5, ![1, 128, 4, 128, 128]⟩
abbrev S1x4x128 : Shape := ⟨3, ![1, 4, 128]⟩
abbrev S4 : Shape := ⟨1, ![4]⟩
abbrev S_ : Shape := ⟨0, ![]⟩
abbrev S128x8x512 : Shape := ⟨3, ![128, 8, 512]⟩
abbrev S128x8x4x128 : Shape := ⟨4, ![128, 8, 4, 128]⟩
abbrev S8 : Shape := ⟨1, ![8]⟩
abbrev S64 : Shape := ⟨1, ![64]⟩
abbrev S8x1 : Shape := ⟨2, ![8, 1]⟩
abbrev S1x64 : Shape := ⟨2, ![1, 64]⟩
abbrev S8x64 : Shape := ⟨2, ![8, 64]⟩
abbrev S1x8x1x64 : Shape := ⟨4, ![1, 8, 1, 64]⟩
abbrev S128x8x4x64 : Shape := ⟨4, ![128, 8, 4, 64]⟩
abbrev S128x4x128x128 : Shape := ⟨4, ![128, 4, 128, 128]⟩
abbrev S1x4 : Shape := ⟨2, ![1, 4]⟩
abbrev S8x4 : Shape := ⟨2, ![8, 4]⟩
abbrev S1x4x1x1 : Shape := ⟨4, ![1, 4, 1, 1]⟩
abbrev S1x8x4x1 : Shape := ⟨4, ![1, 8, 4, 1]⟩

abbrev nBuf : Space → Nat
  | .hbm => 80
  | .vmem => 0
  | .smem => 0
  | _ => 0

abbrev bufTy : (tb : Table) → Fin (tcTables nBuf tb) → BufTy
  | .hbm, ⟨0, _⟩ => ⟨S128x8x3584, .f32⟩
  | .hbm, ⟨1, _⟩ => ⟨S1x128x4x128x128, .f32⟩
  | .hbm, ⟨2, _⟩ => ⟨S1x4x128, .f32⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S128x8x512, .f32⟩
  | .hbm, ⟨16, _⟩ => ⟨S128x8x4x128, .f32⟩
  | .hbm, ⟨17, _⟩ => ⟨S128x8x512, .f32⟩
  | .hbm, ⟨18, _⟩ => ⟨S128x8x4x128, .f32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S8, .f32⟩
  | .hbm, ⟨32, _⟩ => ⟨S8x1, .f32⟩
  | .hbm, ⟨33, _⟩ => ⟨S1x64, .f32⟩
  | .hbm, ⟨34, _⟩ => ⟨S8x64, .f32⟩
  | .hbm, ⟨35, _⟩ => ⟨S8x64, .f32⟩
  | .hbm, ⟨36, _⟩ => ⟨S8x64, .f32⟩
  | .hbm, ⟨37, _⟩ => ⟨S8x64, .f32⟩
  | .hbm, ⟨38, _⟩ => ⟨S1x8x1x64, .f32⟩
  | .hbm, ⟨39, _⟩ => ⟨S8x64, .f32⟩
  | .hbm, ⟨40, _⟩ => ⟨S1x8x1x64, .f32⟩
  | .hbm, ⟨41, _⟩ => ⟨S128x8x4x64, .f32⟩
  | .hbm, ⟨42, _⟩ => ⟨S128x8x4x64, .f32⟩
  | .hbm, ⟨43, _⟩ => ⟨S128x8x4x64, .f32⟩
  | .hbm, ⟨44, _⟩ => ⟨S128x8x4x64, .f32⟩
  | .hbm, ⟨45, _⟩ => ⟨S128x8x4x64, .f32⟩
  | .hbm, ⟨46, _⟩ => ⟨S128x8x4x64, .f32⟩
  | .hbm, ⟨47, _⟩ => ⟨S128x8x4x64, .f32⟩
  | .hbm, ⟨48, _⟩ => ⟨S128x8x4x64, .f32⟩
  | .hbm, ⟨49, _⟩ => ⟨S128x8x4x64, .f32⟩
  | .hbm, ⟨50, _⟩ => ⟨S128x8x4x64, .f32⟩
  | .hbm, ⟨51, _⟩ => ⟨S128x8x4x64, .f32⟩
  | .hbm, ⟨52, _⟩ => ⟨S128x8x4x64, .f32⟩
  | .hbm, ⟨53, _⟩ => ⟨S128x8x4x128, .f32⟩
  | .hbm, ⟨54, _⟩ => ⟨S_, .f32⟩
  | .hbm, ⟨55, _⟩ => ⟨S128x8x4x128, .f32⟩
  | .hbm, ⟨56, _⟩ => ⟨S128x8x4x128, .f32⟩
  | .hbm, ⟨57, _⟩ => ⟨S128x4x128x128, .f32⟩
  | .hbm, ⟨58, _⟩ => ⟨S8, .f32⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S8x1, .f32⟩
  | .hbm, ⟨63, _⟩ => ⟨S1x4, .f32⟩
  | .hbm, ⟨64, _⟩ => ⟨S8x4, .f32⟩
  | .hbm, ⟨65, _⟩ => ⟨S8x4, .f32⟩
  | .hbm, ⟨66, _⟩ => ⟨S8x4, .f32⟩
  | .hbm, ⟨67, _⟩ => ⟨S8x4, .f32⟩
  | .hbm, ⟨68, _⟩ => ⟨S_, .f32⟩
  | .hbm, ⟨69, _⟩ => ⟨S4, .f32⟩
  | .hbm, ⟨70, _⟩ => ⟨S4, .f32⟩
  | .hbm, ⟨71, _⟩ => ⟨S4, .f32⟩
  | .hbm, ⟨72, _⟩ => ⟨S1x4x1x1, .f32⟩
  | .hbm, ⟨73, _⟩ => ⟨S128x4x128x128, .f32⟩
  | .hbm, ⟨74, _⟩ => ⟨S128x4x128x128, .f32⟩
  | .hbm, ⟨75, _⟩ => ⟨S1x8x4x1, .f32⟩
  | .hbm, ⟨76, _⟩ => ⟨S128x8x4x128, .f32⟩
  | .hbm, ⟨77, _⟩ => ⟨S128x8x4x128, .f32⟩
  | .hbm, ⟨78, _⟩ => ⟨S128x4x128x128, .f32⟩
  | .hbm, ⟨79, _⟩ => ⟨S128x4x128x128, .f32⟩
  | _, _ => ⟨S128x8x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_4 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_6 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩

abbrev nD : Nat := 1
abbrev τ : Topo := Topo.v7x

variable {F : FTy → Type} [FloatOps F]
-- ==== Proof.Frames.lean ====
/- Every program runs and ends with its arguments unchanged and every semaphore at zero. -/
module

public import proofs.«01_k».proof.Defs
public import proofs.«01_k».proof.Proof.Gen.Post.Frame
public import proofs.«01_k».proof.Proof.Gen.PostIdeal.Frame
public import proofs.«01_k».proof.Proof.Gen.PostRefIdeal.Run
public import proofs.«01_k».proof.Proof.Gen.Proj.Frame
public import proofs.«01_k».proof.Proof.Gen.ProjIdeal.Frame
public import proofs.«01_k».proof.Proof.Gen.ProjRefIdeal.Run
public import proofs.«01_k».proof.Proof.Gen.Sb.Frame
public import proofs.«01_k».proof.Proof.Gen.SbIdeal.Frame
public import proofs.«01_k».proof.Proof.Gen.SbRefIdeal.Run
public import proofs.«01_k».proof.Proof.Gen.Ret.Frame
public import proofs.«01_k».proof.Proof.Gen.RetIdeal.Frame
public import proofs.«01_k».proof.Proof.Gen.RetRefIdeal.Run
public import proofs.«01_k».proof.Proof.Gen.PostS.Frame
public import proofs.«01_k».proof.Proof.Gen.PostSIdeal.Frame
public import proofs.«01_k».proof.Proof.Gen.PostSRefIdeal.Run
public import proofs.«01_k».proof.Proof.Gen.ProjS.Frame
public import proofs.«01_k».proof.Proof.Gen.ProjSIdeal.Frame
public import proofs.«01_k».proof.Proof.Gen.ProjSRefIdeal.Run
public import proofs.«01_k».proof.Proof.Gen.RetState.Frame
public import proofs.«01_k».proof.Proof.Gen.RetStateIdeal.Frame
public import proofs.«01_k».proof.Proof.Gen.RetStateRefIdeal.Run
public import proofs.«01_k».proof.Proof.Gen.RetStateS.Frame
public import proofs.«01_k».proof.Proof.Gen.RetStateSIdeal.Frame
public import proofs.«01_k».proof.Proof.Gen.RetStateSRefIdeal.Run
public import Idealize.ShloMosaic.Lib.Quiescent

@[expose] public section

noncomputable section

namespace Cert.Frames

open Idealize.ShloMosaic Idealize.ShloMosaic.TcCoe Idealize.SL.Sem

theorem post : Cert.quiescent_Post := fun m ρ _ => Cert.Post.Gen.frame m ρ
theorem postIdeal : Cert.quiescent_PostIdeal := fun m ρ _ => Cert.PostIdeal.Gen.frame m ρ
theorem proj : Cert.quiescent_Proj := fun m ρ _ => Cert.Proj.Gen.frame m ρ
theorem projIdeal : Cert.quiescent_ProjIdeal := fun m ρ _ => Cert.ProjIdeal.Gen.frame m ρ
theorem sb : Cert.quiescent_Sb := fun m ρ _ => Cert.Sb.Gen.frame m ρ
theorem sbIdeal : Cert.quiescent_SbIdeal := fun m ρ _ => Cert.SbIdeal.Gen.frame m ρ
theorem ret : Cert.quiescent_Ret := fun m ρ _ => Cert.Ret.Gen.frame m ρ
theorem retIdeal : Cert.quiescent_RetIdeal := fun m ρ _ => Cert.RetIdeal.Gen.frame m ρ
theorem postS : Cert.quiescent_PostS := fun m ρ _ => Cert.PostS.Gen.frame m ρ
theorem postSIdeal : Cert.quiescent_PostSIdeal := fun m ρ _ => Cert.PostSIdeal.Gen.frame m ρ
theorem projS : Cert.quiescent_ProjS := fun m ρ _ => Cert.ProjS.Gen.frame m ρ
theorem projSIdeal : Cert.quiescent_ProjSIdeal := fun m ρ _ => Cert.ProjSIdeal.Gen.frame m ρ
theorem retState : Cert.quiescent_RetState := fun m ρ _ => Cert.RetState.Gen.frame m ρ
theorem retStateIdeal : Cert.quiescent_RetStateIdeal := fun m ρ _ => Cert.RetStateIdeal.Gen.frame m ρ
theorem retStateS : Cert.quiescent_RetStateS := fun m ρ _ => Cert.RetStateS.Gen.frame m ρ
theorem retStateSIdeal : Cert.quiescent_RetStateSIdeal := fun m ρ _ => Cert.RetStateSIdeal.Gen.frame m ρ

theorem postRef : Cert.quiescent_PostRefIdeal := fun m ρ _ =>
  (θ_run Cert.PostRefIdeal.defs _ _).mono (fun r h => ⟨fun c => (h c).2, sem_eq_zero_of_no_sems (by decide) r.2⟩)
    (Cert.PostRefIdeal.Value.run (F := Ideal) m ρ)
theorem projRef : Cert.quiescent_ProjRefIdeal := fun m ρ _ =>
  (θ_run Cert.ProjRefIdeal.defs _ _).mono (fun r h => ⟨fun c => (h c).2.2.2.2, sem_eq_zero_of_no_sems (by decide) r.2⟩)
    (Cert.ProjRefIdeal.Value.run (F := Ideal) m ρ)
theorem sbRef : Cert.quiescent_SbRefIdeal := fun m ρ _ =>
  (θ_run Cert.SbRefIdeal.defs _ _).mono (fun r h => ⟨fun c => (h c).2, sem_eq_zero_of_no_sems (by decide) r.2⟩)
    (Cert.SbRefIdeal.Value.run (F := Ideal) m ρ)
theorem retRef : Cert.quiescent_RetRefIdeal := fun m ρ _ =>
  (θ_run Cert.RetRefIdeal.defs _ _).mono (fun r h => ⟨fun c => (h c).2.2, sem_eq_zero_of_no_sems (by decide) r.2⟩)
    (Cert.RetRefIdeal.Value.run (F := Ideal) m ρ)
theorem postSRef : Cert.quiescent_PostSRefIdeal := fun m ρ _ =>
  (θ_run Cert.PostSRefIdeal.defs _ _).mono (fun r h => ⟨fun c => (h c).2, sem_eq_zero_of_no_sems (by decide) r.2⟩)
    (Cert.PostSRefIdeal.Value.run (F := Ideal) m ρ)
theorem projSRef : Cert.quiescent_ProjSRefIdeal := fun m ρ _ =>
  (θ_run Cert.ProjSRefIdeal.defs _ _).mono (fun r h => ⟨fun c => (h c).2.2.2.2, sem_eq_zero_of_no_sems (by decide) r.2⟩)
    (Cert.ProjSRefIdeal.Value.run (F := Ideal) m ρ)
theorem retStateRef : Cert.quiescent_RetStateRefIdeal := fun m ρ _ =>
  (θ_run Cert.RetStateRefIdeal.defs _ _).mono (fun r h => ⟨fun c => (h c).2, sem_eq_zero_of_no_sems (by decide) r.2⟩)
    (Cert.RetStateRefIdeal.Value.run (F := Ideal) m ρ)
theorem retStateSRef : Cert.quiescent_RetStateSRefIdeal := fun m ρ _ =>
  (θ_run Cert.RetStateSRefIdeal.defs _ _).mono (fun r h => ⟨fun c => (h c).2, sem_eq_zero_of_no_sems (by decide) r.2⟩)
    (Cert.RetStateSRefIdeal.Value.run (F := Ideal) m ρ)

end Cert.Frames

end
-- ==== Proof.RowSpec.lean ====
/- What the layer's projections, norms and feed-forward lines compute of one row of activations, over the extended
   reals: the common form in which the kernels and the references are read. -/
module

public import Idealize.ShloMosaic.Lib.Pointwise

@[expose] public section

noncomputable section

namespace Cert.RowSpec

open Idealize.ShloMosaic

/-- The root-mean-square norm of a row of 1024 activations, times a gain. -/
def rms (f g : Fin 1024 → EReal) : Fin 1024 → EReal := fun j =>
  f j * Ideal.rsqrt (Ideal.div (∑ k, f k * f k) (Ideal.ofBits .f32 0x44800000#32) + Ideal.ofBits .f32 0x358637BD#32) * g j

/-- A row times a matrix. -/
def lin {n m : Nat} (f : Fin n → EReal) (w : Fin n → Fin m → EReal) : Fin m → EReal := fun j => ∑ k, f k * w k j

/-- The residual stream after the gated mix of the two branches. -/
def mix (oa rr : Fin 512 → EReal) (ga gr x : Fin 1024 → EReal) (wa wr : Fin 512 → Fin 1024 → EReal)
    (wo : Fin 1024 → Fin 1024 → EReal) : Fin 1024 → EReal := fun c =>
  x c + lin (fun k => Ideal.logistic (ga k) * lin oa wa k + Ideal.logistic (gr k) * lin rr wr k) wo c

/-- The hidden row of the feed-forward block: the square of the rectified projection. -/
def hidden {n : Nat} (u : Fin 1024 → EReal) (w : Fin 1024 → Fin n → EReal) : Fin n → EReal := fun f =>
  max (lin u w f) 0 * max (lin u w f) 0

/-- The residual stream after the feed-forward block. -/
def mlp (h g : Fin 1024 → EReal) (w₁ : Fin 1024 → Fin 4096 → EReal) (w₂ : Fin 4096 → Fin 1024 → EReal) :
    Fin 1024 → EReal := fun c => h c + lin (hidden (rms h g) w₁) w₂ c

/-- The residual stream after the gated per-layer embedding. -/
def ple (h g : Fin 1024 → EReal) (wg : Fin 1024 → Fin 1024 → EReal) (p : Fin 256 → EReal)
    (wp : Fin 256 → Fin 1024 → EReal) : Fin 1024 → EReal := fun c =>
  h c + Ideal.logistic (lin (rms h g) wg c) * lin p wp c

/-- Everything after the two mixers, of one row. -/
def tail (oa rr : Fin 512 → EReal) (ga gr x : Fin 1024 → EReal) (p : Fin 256 → EReal)
    (wa wr : Fin 512 → Fin 1024 → EReal) (wo : Fin 1024 → Fin 1024 → EReal) (gf : Fin 1024 → EReal)
    (w₁ : Fin 1024 → Fin 4096 → EReal) (w₂ : Fin 4096 → Fin 1024 → EReal) (gp : Fin 1024 → EReal)
    (wg : Fin 1024 → Fin 1024 → EReal) (wp : Fin 256 → Fin 1024 → EReal) (gn : Fin 1024 → EReal) : Fin 1024 → EReal :=
  rms (ple (mlp (mix oa rr ga gr x wa wr wo) gf w₁ w₂) gp wg p wp) gn

/-- The mixers' columns of the input projection of one row: the queries scaled, the rest as they are. -/
def branch (f g : Fin 1024 → EReal) (w : Fin 1024 → Fin 5632 → EReal) (c : Fin 3584) : EReal :=
  if c.val < 512 then lin (rms f g) w ⟨c.val, by omega⟩ * Ideal.ofBits .f32 0x3E000000#32
  else lin (rms f g) w ⟨c.val, by omega⟩

/-- A sum over 4096 indices is the sum over its four quarters. -/
theorem sum_quarters (F : Fin 4096 → EReal) :
    ∑ k, F k = (∑ k : Fin 1024, F ⟨k.val, by omega⟩) + (∑ k : Fin 1024, F ⟨1024 + k.val, by omega⟩)
      + (∑ k : Fin 1024, F ⟨2048 + k.val, by omega⟩) + (∑ k : Fin 1024, F ⟨3072 + k.val, by omega⟩) := by
  rw [show (∑ k, F k) = ∑ k : Fin (1024 + 1024 + 1024 + 1024), F ⟨k.val, k.isLt⟩ from rfl,
    Fin.sum_univ_add, Fin.sum_univ_add, Fin.sum_univ_add]
  rfl

theorem branch_lo (f g : Fin 1024 → EReal) (w : Fin 1024 → Fin 5632 → EReal) (c : Fin 3584) (h : c.val < 512) :
    branch f g w c = lin (rms f g) w ⟨c.val, by omega⟩ * Ideal.ofBits .f32 0x3E000000#32 := if_pos h

theorem branch_hi (f g : Fin 1024 → EReal) (w : Fin 1024 → Fin 5632 → EReal) (c : Fin 3584) (h : ¬ c.val < 512) :
    branch f g w c = lin (rms f g) w ⟨c.val, by omega⟩ := if_neg h

theorem at_val {α : Type} {n : Nat} (f : Fin n → α) {p q : Fin n} (h : p.val = q.val) : f p = f q := congrArg f (Fin.ext h)

end Cert.RowSpec

end
-- ==== Proof.PostKernel.lean ====
/- What the kernel after the two mixers writes for one block of rows, read at an index. -/
module

public import proofs.«01_k».proof.Proof.RowSpec
public import proofs.«01_k».proof.Proof.Gen.PostIdeal.Value

@[expose] public section

set_option maxRecDepth 16384

noncomputable section

namespace Cert.PostKernel

open Idealize.ShloMosaic Cert.PostIdeal Cert.PostIdeal.Gen Cert.RowSpec

variable (v0 v5 : Vec Ideal S256x512 .bf16) (v2 v7 : Vec Ideal S512x1024 .bf16) (v10 v12 : Vec Ideal S256x1024 .bf16)
  (v19 : Vec Ideal S256x1024 .f32) (v22 : Vec Ideal S1024x1024 .bf16) (v26 : Vec Ideal S1x1024 .f32)

theorem pay2_apply (r : Fin 256) (c : Fin 1024) :
    k0_pay2 (F := Ideal) v0 v2 v5 v7 v10 v12 v19 v22 (ix2 r c)
      = mix (fun k => v0 (ix2 r k)) (fun k => v5 (ix2 r k)) (fun k => v10 (ix2 r k)) (fun k => v12 (ix2 r k))
          (fun k => v19 (ix2 r k)) (fun k j => v2 (ix2 k j)) (fun k j => v7 (ix2 k j)) (fun k j => v22 (ix2 k j)) c := by
  pointwise [k0_pay2]
  rfl

theorem pay5_apply (h : FVec Ideal S256x1024 .f32) (g : FVec Ideal S1x1024 .f32) (s : FVec Ideal S256x1 .f32) (r : Fin 256) (c : Fin 1024) :
    k0_pay5 (F := Ideal) h g s (ix2 r c) = h (ix2 r c) * Ideal.rsqrt (s (ix2 r 0)) * g (ix2 0 c) := by
  pointwise [k0_pay5]

theorem pay4_apply (r : Fin 256) :
    k0_pay4 (F := Ideal) v0 v2 v5 v7 v10 v12 v19 v22 (ix2 r 0)
      = Ideal.div (∑ k : Fin 1024, k0_pay2 (F := Ideal) v0 v2 v5 v7 v10 v12 v19 v22 (ix2 r k) * k0_pay2 (F := Ideal) v0 v2 v5 v7 v10 v12 v19 v22 (ix2 r k))
          (Ideal.ofBits .f32 0x44800000#32) + Ideal.ofBits .f32 0x358637BD#32 := by
  pointwise [k0_pay4]

theorem pay1_apply (h : FVec Ideal S256x1024 .f32) (g : FVec Ideal S1x1024 .f32) (r : Fin 256) (c : Fin 1024) :
    k0_pay1 (F := Ideal) h g (ix2 r c) = rms (fun k => h (ix2 r k)) (fun k => g (ix2 0 k)) c := by
  pointwise [k0_pay1]
  rfl

variable (h : FVec Ideal S256x1024 .f32) (g : FVec Ideal S1x1024 .f32) (s : FVec Ideal S256x1 .f32)
  (a₁ a₂ a₃ a₄ : Vec Ideal S1024x1024 .bf16) (b₁ b₂ b₃ b₄ : Vec Ideal S1024x1024 .bf16)

theorem pay6_apply (r : Fin 256) (c : Fin 1024) :
    k0_pay6 (F := Ideal) h g s a₁ b₁ a₂ b₂ a₃ b₃ (ix2 r c)
      = h (ix2 r c) + lin (hidden (fun k => k0_pay5 (F := Ideal) h g s (ix2 r k)) (fun k j => a₁ (ix2 k j))) (fun k j => b₁ (ix2 k j)) c
          + lin (hidden (fun k => k0_pay5 (F := Ideal) h g s (ix2 r k)) (fun k j => a₂ (ix2 k j))) (fun k j => b₂ (ix2 k j)) c
          + lin (hidden (fun k => k0_pay5 (F := Ideal) h g s (ix2 r k)) (fun k j => a₃ (ix2 k j))) (fun k j => b₃ (ix2 k j)) c := by
  pointwise [k0_pay6, k0_pay5]
  rfl

theorem pay7_apply (u : FVec Ideal S256x1024 .bf16) (w₁ w₂ wg : Vec Ideal S1024x1024 .bf16) (gp : Vec Ideal S1x1024 .f32) (p : Vec Ideal S256x256 .f32)
    (wp : Vec Ideal S256x1024 .bf16) (r : Fin 256) (c : Fin 1024) :
    k0_pay7 (F := Ideal) u h w₁ w₂ gp wg p wp (ix2 r c)
      = ple (fun k => h (ix2 r k) + lin (hidden (fun k => u (ix2 r k)) (fun k j => w₁ (ix2 k j))) (fun k j => w₂ (ix2 k j)) k)
          (fun k => gp (ix2 0 k)) (fun k j => wg (ix2 k j)) (fun k => p (ix2 r k)) (fun k j => wp (ix2 k j)) c := by
  pointwise [k0_pay7]
  rfl

theorem pay3_apply (c : Fin 1024) : k0_pay3 (F := Ideal) v26 (ix2 0 c) = v26 (ix2 0 c) := by
  pointwise [k0_pay3]

/-- A sum over the hidden units is summed quarter by quarter, as the kernel does. -/
theorem mlp_quarters (x g : Fin 1024 → EReal) (w₁ : Fin 1024 → Fin 4096 → EReal) (w₂ : Fin 4096 → Fin 1024 → EReal) :
    mlp x g w₁ w₂
      = fun c => x c + lin (hidden (rms x g) (fun (k j : Fin 1024) => w₁ k ⟨j.val, by omega⟩)) (fun (k j : Fin 1024) => w₂ ⟨k.val, by omega⟩ j) c
          + lin (hidden (rms x g) (fun (k j : Fin 1024) => w₁ k ⟨1024 + j.val, by omega⟩)) (fun (k j : Fin 1024) => w₂ ⟨1024 + k.val, by omega⟩ j) c
          + lin (hidden (rms x g) (fun (k j : Fin 1024) => w₁ k ⟨2048 + j.val, by omega⟩)) (fun (k j : Fin 1024) => w₂ ⟨2048 + k.val, by omega⟩ j) c
          + lin (hidden (rms x g) (fun (k j : Fin 1024) => w₁ k ⟨3072 + j.val, by omega⟩)) (fun (k j : Fin 1024) => w₂ ⟨3072 + k.val, by omega⟩ j) c := by
  funext c
  show x c + (∑ k, _) = _
  rw [sum_quarters, ← add_assoc, ← add_assoc, ← add_assoc]
  rfl

/-- What the kernel writes back of one block, as the layer's lines of one row. -/
theorem out_apply (x0 : Vec Ideal S256x512 .bf16) (x1 : Vec Ideal S256x512 .bf16) (x2 : Vec Ideal S256x2048 .bf16) (x3 : Vec Ideal S256x1024 .f32) (x4 : Vec Ideal S256x256 .f32) (x5 : Vec Ideal S512x1024 .bf16) (x6 : Vec Ideal S512x1024 .bf16) (x7 : Vec Ideal S1024x1024 .bf16) (x8 : Vec Ideal S1x1024 .f32) (x9 : Vec Ideal S1024x4096 .bf16) (x10 : Vec Ideal S4096x1024 .bf16) (x11 : Vec Ideal S1x1024 .f32) (x12 : Vec Ideal S1024x1024 .bf16) (x13 : Vec Ideal S256x1024 .bf16) (x14 : Vec Ideal S1x1024 .f32) (r : Fin 256) (c : Fin 1024) :
    out0_15 (F := Ideal) x0 x1 x2 x3 x4 x5 x6 x7 x8 x9 x10 x11 x12 x13 x14 (ix2 r c)
      = RowSpec.tail (fun k => x0 (ix2 r k)) (fun k => x1 (ix2 r k)) (fun k => x2 (ix2 r ⟨k.val, by omega⟩)) (fun k => x2 (ix2 r ⟨1024 + k.val, by omega⟩))
          (fun k => x3 (ix2 r k)) (fun k => x4 (ix2 r k)) (fun k j => x5 (ix2 k j)) (fun k j => x6 (ix2 k j)) (fun k j => x7 (ix2 k j))
          (fun k => x8 (ix2 0 k)) (fun k j => x9 (ix2 k j)) (fun k j => x10 (ix2 k j)) (fun k => x11 (ix2 0 k)) (fun k j => x12 (ix2 k j))
          (fun k j => x13 (ix2 k j)) (fun k => x14 (ix2 0 k)) c := by
  unfold_out out0_15
  rw [View.canon_unit_zero (by funext a; fin_cases a <;> rfl), pay1_apply]
  unfold RowSpec.tail
  simp only [mlp_quarters, pay7_apply, pay6_apply, pay5_apply, pay4_apply, pay3_apply, pay2_apply]
  pointwise
  rfl

end Cert.PostKernel

end
-- ==== Proof.PostRef.lean ====
/- The reference lines after the two mixers, read at an index. -/
module

public import proofs.«01_k».proof.Proof.RowSpec
public import proofs.«01_k».proof.Proof.Gen.PostRefIdeal.Read

@[expose] public section

set_option maxRecDepth 16384

noncomputable section

namespace Cert.PostRef

open Idealize.ShloMosaic Cert.PostRefIdeal Cert.PostRefIdeal.Gen Cert.PostRefIdeal.Read Cert.RowSpec

variable (x0 x1 : (⟨S8x4096x512, .bf16⟩ : BufTy).Contents (Elt Ideal)) (x2 : (⟨S32768x2048, .bf16⟩ : BufTy).Contents (Elt Ideal))
  (x3 : (⟨S8x4096x1024, .f32⟩ : BufTy).Contents (Elt Ideal)) (x4 : (⟨S1x8x4096x256, .f32⟩ : BufTy).Contents (Elt Ideal))
  (x5 x6 : (⟨S1x512x1024, .f32⟩ : BufTy).Contents (Elt Ideal)) (x7 : (⟨S1x1024x1024, .f32⟩ : BufTy).Contents (Elt Ideal))
  (x8 : (⟨S1x1024, .f32⟩ : BufTy).Contents (Elt Ideal)) (x9 : (⟨S1x1024x4096, .f32⟩ : BufTy).Contents (Elt Ideal))
  (x10 : (⟨S1x4096x1024, .f32⟩ : BufTy).Contents (Elt Ideal)) (x11 : (⟨S1x1024, .f32⟩ : BufTy).Contents (Elt Ideal))
  (x12 : (⟨S1x1024x1024, .f32⟩ : BufTy).Contents (Elt Ideal)) (x13 : (⟨S1x256x1024, .f32⟩ : BufTy).Contents (Elt Ideal))
  (x14 : (⟨S1024, .f32⟩ : BufTy).Contents (Elt Ideal))

theorem v18_apply (i : Fin 32768) (c : Fin 1024) :
    val_main_v18 (F := Ideal) x2 (ix2 i c) = Ideal.logistic (x2 (ix2 i ⟨c.val, by omega⟩)) := by
  pointwise [val_main_v18, val_main_v17, val_main_v16, val_main_v15, val_main_v14, val_main_v13, val_main_v3, val_main_v2, val_main_cst, val_main_cst_0]
  rfl

theorem v25_apply (i : Fin 32768) (c : Fin 1024) :
    val_main_v25 (F := Ideal) x2 (ix2 i c) = Ideal.logistic (x2 (ix2 i ⟨1024 + c.val, by omega⟩)) := by
  pointwise [val_main_v25, val_main_v24, val_main_v23, val_main_v22, val_main_v21, val_main_v20, val_main_v4, val_main_v2, val_main_cst_1, val_main_cst_2]
  rfl

/-- The residual stream after the mix, of one row. -/
abbrev mixRow (i : Fin 32768) : Fin 1024 → EReal :=
  mix (fun k => val_main_v6 (F := Ideal) x0 (ix2 i k)) (fun k => val_main_v10 (F := Ideal) x1 (ix2 i k))
    (fun k => x2 (ix2 i ⟨k.val, by omega⟩)) (fun k => x2 (ix2 i ⟨1024 + k.val, by omega⟩))
    (fun k => val_main_v0 (F := Ideal) x3 (ix2 i k)) (fun k j => val_main_v7 (F := Ideal) x5 (ix2 k j))
    (fun k j => val_main_v11 (F := Ideal) x6 (ix2 k j)) (fun k j => val_main_v28 (F := Ideal) x7 (ix2 k j))

theorem v30_apply (i : Fin 32768) (c : Fin 1024) :
    val_main_v30 (F := Ideal) x0 x1 x2 x3 x5 x6 x7 (ix2 i c) = mixRow x0 x1 x2 x3 x5 x6 x7 i c := by
  pointwise [val_main_v30, val_main_v29, val_main_v27, val_main_v26, val_main_v19, val_main_v12, val_main_v8]
  simp only [v18_apply, v25_apply]
  rfl

theorem v44_apply (i : Fin 32768) (c : Fin 1024) :
    val_main_v44 (F := Ideal) x0 x1 x2 x3 x5 x6 x7 x8 (ix2 i c)
      = rms (mixRow x0 x1 x2 x3 x5 x6 x7 i) (fun k => x8 (ix2 0 k)) c := by
  pointwise [val_main_v44, val_main_v43, val_main_v42, val_main_v41, val_main_v40, val_main_v39, val_main_v38, val_main_v37, val_main_v36, val_main_v35,
    val_main_v34, val_main_v33, val_main_v32, val_main_v31, val_main_cst_3, val_main_cst_4, val_main_cst_5]
  simp only [v30_apply]
  rfl

abbrev mlpRow (i : Fin 32768) : Fin 1024 → EReal :=
  mlp (mixRow x0 x1 x2 x3 x5 x6 x7 i) (fun k => x8 (ix2 0 k)) (fun k j => val_main_v45 (F := Ideal) x9 (ix2 k j))
    (fun k j => val_main_v49 (F := Ideal) x10 (ix2 k j))

theorem v51_apply (i : Fin 32768) (c : Fin 1024) :
    val_main_v51 (F := Ideal) x0 x1 x2 x3 x5 x6 x7 x8 x9 x10 (ix2 i c) = mlpRow x0 x1 x2 x3 x5 x6 x7 x8 x9 x10 i c := by
  pointwise [val_main_v51, val_main_v50, val_main_v48, val_main_v47, val_main_v46, val_main_call0_v0, val_main_call0_cst]
  simp only [v30_apply, v44_apply]
  rfl

theorem v65_apply (i : Fin 32768) (c : Fin 1024) :
    val_main_v65 (F := Ideal) x0 x1 x2 x3 x5 x6 x7 x8 x9 x10 x11 (ix2 i c)
      = rms (mlpRow x0 x1 x2 x3 x5 x6 x7 x8 x9 x10 i) (fun k => x11 (ix2 0 k)) c := by
  pointwise [val_main_v65, val_main_v64, val_main_v63, val_main_v62, val_main_v61, val_main_v60, val_main_v59, val_main_v58, val_main_v57, val_main_v56,
    val_main_v55, val_main_v54, val_main_v53, val_main_v52, val_main_cst_6, val_main_cst_7, val_main_cst_8]
  simp only [v51_apply]
  rfl

abbrev pleRow (i : Fin 32768) : Fin 1024 → EReal :=
  ple (mlpRow x0 x1 x2 x3 x5 x6 x7 x8 x9 x10 i) (fun k => x11 (ix2 0 k)) (fun k j => val_main_v66 (F := Ideal) x12 (ix2 k j))
    (fun k => val_main_v1 (F := Ideal) x4 (ix2 i k)) (fun k j => val_main_v74 (F := Ideal) x13 (ix2 k j))

theorem v77_apply (i : Fin 32768) (c : Fin 1024) :
    val_main_v77 (F := Ideal) x0 x1 x2 x3 x4 x5 x6 x7 x8 x9 x10 x11 x12 x13 (ix2 i c)
      = pleRow x0 x1 x2 x3 x4 x5 x6 x7 x8 x9 x10 x11 x12 x13 i c := by
  pointwise [val_main_v77, val_main_v76, val_main_v75, val_main_v73, val_main_v72, val_main_v71, val_main_v70, val_main_v69, val_main_v68, val_main_v67,
    val_main_cst_9, val_main_cst_10]
  simp only [v51_apply, v65_apply]
  rfl

/-- The reference's result of one row. -/
theorem v90_apply (i : Fin 32768) (c : Fin 1024) :
    val_main_v90 (F := Ideal) x0 x1 x2 x3 x4 x5 x6 x7 x8 x9 x10 x11 x12 x13 x14 (ix2 i c)
      = rms (pleRow x0 x1 x2 x3 x4 x5 x6 x7 x8 x9 x10 x11 x12 x13 i) (fun k => x14 (ix1 k)) c := by
  pointwise [val_main_v90, val_main_v89, val_main_v88, val_main_v87, val_main_v86, val_main_v85, val_main_v84, val_main_v83, val_main_v82, val_main_v81,
    val_main_v80, val_main_v79, val_main_v78, val_main_cst_11, val_main_cst_12, val_main_cst_13]
  simp only [v77_apply]
  rfl

end Cert.PostRef

end
-- ==== Proof.PostValue.lean ====
/- The kernel after the two mixers: its result array after the run is the reference's, index by index. -/
module

public import proofs.«01_k».proof.Proof.PostKernel
public import proofs.«01_k».proof.Proof.PostRef
public import proofs.«01_k».proof.Defs
public import Idealize.ShloMosaic.Lib.Pipeline.ValueKit.Geometry
public import Idealize.ShloMosaic.Lib.Claim

@[expose] public section

set_option maxRecDepth 16384

noncomputable section

namespace Cert.PostValue

open Cert.PostIdeal Cert.PostIdeal.Gen Idealize.ShloMosaic Idealize.ShloMosaic.TcCoe Idealize.SL.Sem Cert.RowSpec

variable (m : (ℓ : Loc nD τ sig) → Buf (Elt Ideal) ℓ) (c : Dev nD)

/-- The reference's result of the kernel's arguments. -/
abbrev out : Buf (Elt Ideal) ((c : Thread nD τ).loc main_v24) :=
  PostRefIdeal.Read.val_main_v90 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14))

theorem lt_N (t : Fin cfg0.N) : t.val < 128 := t.isLt.trans_eq (by decide +kernel)

/-- Row `r` of block `t`. -/
abbrev row (t : Fin cfg0.N) (r : Fin 256) : Fin 32768 := ⟨t.val * 256 + r.val, by have := lt_N t; omega⟩

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0] := (by decide +kernel : ∀ t : Fin grid0.N, _)
theorem index_10 : ∀ t : Fin cfg0.N, win0_10.index t = ![0, 0] := (by decide +kernel : ∀ t : Fin grid0.N, _)
theorem index_11 : ∀ t : Fin cfg0.N, win0_11.index t = ![0, 0] := (by decide +kernel : ∀ t : Fin grid0.N, _)
theorem index_12 : ∀ t : Fin cfg0.N, win0_12.index t = ![0, 0] := (by decide +kernel : ∀ t : Fin grid0.N, _)
theorem index_13 : ∀ t : Fin cfg0.N, win0_13.index t = ![0, 0] := (by decide +kernel : ∀ t : Fin grid0.N, _)
theorem index_14 : ∀ t : Fin cfg0.N, win0_14.index t = ![0, 0] := (by decide +kernel : ∀ t : Fin grid0.N, _)
theorem index_15 : ∀ t : Fin cfg0.N, win0_15.index t = ![t.val, 0] := (by decide +kernel : ∀ t : Fin grid0.N, _)

theorem blk_0 (t : Fin cfg0.N) (r : Fin 256) (k : Fin 512) :
    (iblk m c 0 t : Vec Ideal ⟨2, ![256, 512]⟩ _) (ix2 r k) = PostRefIdeal.Read.val_main_v6 (F := Ideal) (m ((c : Thread nD τ).loc main_arg0)) (ix2 (row t r) k) := by
  have e : (win0_0.blk t).view.emb (ix2 r k) = (ix2 (row t r) k : Shape.Idx ⟨2, ![32768, 512]⟩) := by blk_ext [index_0]
  show V m c main_v19 ((win0_0.blk t).view.emb (ix2 r k)) = _
  rw [e]
  entry_read
  rfl

theorem blk_1 (t : Fin cfg0.N) (r : Fin 256) (k : Fin 512) :
    (iblk m c 1 t : Vec Ideal ⟨2, ![256, 512]⟩ _) (ix2 r k) = PostRefIdeal.Read.val_main_v10 (F := Ideal) (m ((c : Thread nD τ).loc main_arg1)) (ix2 (row t r) k) := by
  have e : (win0_1.blk t).view.emb (ix2 r k) = (ix2 (row t r) k : Shape.Idx ⟨2, ![32768, 512]⟩) := by blk_ext [index_1]
  show V m c main_v20 ((win0_1.blk t).view.emb (ix2 r k)) = _
  rw [e]
  entry_read
  rfl

theorem blk_2 (t : Fin cfg0.N) (r : Fin 256) (k : Fin 2048) :
    (iblk m c 2 t : Vec Ideal ⟨2, ![256, 2048]⟩ _) (ix2 r k) = (m ((c : Thread nD τ).loc main_arg2) : Vec Ideal S32768x2048 .bf16) (ix2 (row t r) k) := by
  have e : (win0_2.blk t).view.emb (ix2 r k) = (ix2 (row t r) k : Shape.Idx ⟨2, ![32768, 2048]⟩) := by blk_ext [index_2]
  show V m c main_arg2 ((win0_2.blk t).view.emb (ix2 r k)) = _
  rw [e]
  entry_read
  rfl

theorem blk_3 (t : Fin cfg0.N) (r : Fin 256) (k : Fin 1024) :
    (iblk m c 3 t : Vec Ideal ⟨2, ![256, 1024]⟩ _) (ix2 r k) = PostRefIdeal.Read.val_main_v0 (F := Ideal) (m ((c : Thread nD τ).loc main_arg3)) (ix2 (row t r) k) := by
  have e : (win0_3.blk t).view.emb (ix2 r k) = (ix2 (row t r) k : Shape.Idx ⟨2, ![32768, 1024]⟩) := by blk_ext [index_3]
  show V m c main_v0 ((win0_3.blk t).view.emb (ix2 r k)) = _
  rw [e]
  entry_read
  rfl

theorem blk_4 (t : Fin cfg0.N) (r : Fin 256) (k : Fin 256) :
    (iblk m c 4 t : Vec Ideal ⟨2, ![256, 256]⟩ _) (ix2 r k) = PostRefIdeal.Read.val_main_v1 (F := Ideal) (m ((c : Thread nD τ).loc main_arg4)) (ix2 (row t r) k) := by
  have e : (win0_4.blk t).view.emb (ix2 r k) = (ix2 (row t r) k : Shape.Idx ⟨2, ![32768, 256]⟩) := by blk_ext [index_4]
  show V m c main_v22 ((win0_4.blk t).view.emb (ix2 r k)) = _
  rw [e]
  entry_read
  pointwise [PostRefIdeal.Read.val_main_v1]

theorem blk_5 (t : Fin cfg0.N) (r : Fin 512) (k : Fin 1024) :
    (iblk m c 5 t : Vec Ideal ⟨2, ![512, 1024]⟩ _) (ix2 r k) = PostRefIdeal.Read.val_main_v7 (F := Ideal) (m ((c : Thread nD τ).loc main_arg5)) (ix2 r k) := by
  have e : (win0_5.blk t).view.emb (ix2 r k) = (ix2 r k : Shape.Idx ⟨2, ![512, 1024]⟩) := by blk_ext [index_5]
  show V m c main_v2 ((win0_5.blk t).view.emb (ix2 r k)) = _
  rw [e]
  entry_read
  pointwise [PostRefIdeal.Read.val_main_v7]

theorem blk_6 (t : Fin cfg0.N) (r : Fin 512) (k : Fin 1024) :
    (iblk m c 6 t : Vec Ideal ⟨2, ![512, 1024]⟩ _) (ix2 r k) = PostRefIdeal.Read.val_main_v11 (F := Ideal) (m ((c : Thread nD τ).loc main_arg6)) (ix2 r k) := by
  have e : (win0_6.blk t).view.emb (ix2 r k) = (ix2 r k : Shape.Idx ⟨2, ![512, 1024]⟩) := by blk_ext [index_6]
  show V m c main_v4 ((win0_6.blk t).view.emb (ix2 r k)) = _
  rw [e]
  entry_read
  pointwise [PostRefIdeal.Read.val_main_v11]

theorem blk_7 (t : Fin cfg0.N) (r : Fin 1024) (k : Fin 1024) :
    (iblk m c 7 t : Vec Ideal ⟨2, ![1024, 1024]⟩ _) (ix2 r k) = PostRefIdeal.Read.val_main_v28 (F := Ideal) (m ((c : Thread nD τ).loc main_arg7)) (ix2 r k) := by
  have e : (win0_7.blk t).view.emb (ix2 r k) = (ix2 r k : Shape.Idx ⟨2, ![1024, 1024]⟩) := by blk_ext [index_7]
  show V m c main_v6 ((win0_7.blk t).view.emb (ix2 r k)) = _
  rw [e]
  entry_read
  pointwise [PostRefIdeal.Read.val_main_v28]

theorem blk_8 (t : Fin cfg0.N) (r : Fin 1) (k : Fin 1024) :
    (iblk m c 8 t : Vec Ideal ⟨2, ![1, 1024]⟩ _) (ix2 r k) = (m ((c : Thread nD τ).loc main_arg8) : Vec Ideal S1x1024 .f32) (ix2 r k) := by
  have e : (win0_8.blk t).view.emb (ix2 r k) = (ix2 r k : Shape.Idx ⟨2, ![1, 1024]⟩) := by blk_ext [index_8]
  show V m c main_v8 ((win0_8.blk t).view.emb (ix2 r k)) = _
  rw [e]
  entry_read
  exact congrFun (shapeCast_shapeCast _ _ _) _

theorem blk_9 (t : Fin cfg0.N) (r : Fin 1024) (k : Fin 4096) :
    (iblk m c 9 t : Vec Ideal ⟨2, ![1024, 4096]⟩ _) (ix2 r k) = PostRefIdeal.Read.val_main_v45 (F := Ideal) (m ((c : Thread nD τ).loc main_arg9)) (ix2 r k) := by
  have e : (win0_9.blk t).view.emb (ix2 r k) = (ix2 r k : Shape.Idx ⟨2, ![1024, 4096]⟩) := by blk_ext [index_9]
  show V m c main_v10 ((win0_9.blk t).view.emb (ix2 r k)) = _
  rw [e]
  entry_read
  pointwise [PostRefIdeal.Read.val_main_v45]

theorem blk_10 (t : Fin cfg0.N) (r : Fin 4096) (k : Fin 1024) :
    (iblk m c 10 t : Vec Ideal ⟨2, ![4096, 1024]⟩ _) (ix2 r k) = PostRefIdeal.Read.val_main_v49 (F := Ideal) (m ((c : Thread nD τ).loc main_arg10)) (ix2 r k) := by
  have e : (win0_10.blk t).view.emb (ix2 r k) = (ix2 r k : Shape.Idx ⟨2, ![4096, 1024]⟩) := by blk_ext [index_10]
  show V m c main_v12 ((win0_10.blk t).view.emb (ix2 r k)) = _
  rw [e]
  entry_read
  pointwise [PostRefIdeal.Read.val_main_v49]

theorem blk_11 (t : Fin cfg0.N) (r : Fin 1) (k : Fin 1024) :
    (iblk m c 11 t : Vec Ideal ⟨2, ![1, 1024]⟩ _) (ix2 r k) = (m ((c : Thread nD τ).loc main_arg11) : Vec Ideal S1x1024 .f32) (ix2 r k) := by
  have e : (win0_11.blk t).view.emb (ix2 r k) = (ix2 r k : Shape.Idx ⟨2, ![1, 1024]⟩) := by blk_ext [index_11]
  show V m c main_v14 ((win0_11.blk t).view.emb (ix2 r k)) = _
  rw [e]
  entry_read
  exact congrFun (shapeCast_shapeCast _ _ _) _

theorem blk_12 (t : Fin cfg0.N) (r : Fin 1024) (k : Fin 1024) :
    (iblk m c 12 t : Vec Ideal ⟨2, ![1024, 1024]⟩ _) (ix2 r k) = PostRefIdeal.Read.val_main_v66 (F := Ideal) (m ((c : Thread nD τ).loc main_arg12)) (ix2 r k) := by
  have e : (win0_12.blk t).view.emb (ix2 r k) = (ix2 r k : Shape.Idx ⟨2, ![1024, 1024]⟩) := by blk_ext [index_12]
  show V m c main_v16 ((win0_12.blk t).view.emb (ix2 r k)) = _
  rw [e]
  entry_read
  pointwise [PostRefIdeal.Read.val_main_v66]

theorem blk_13 (t : Fin cfg0.N) (r : Fin 256) (k : Fin 1024) :
    (iblk m c 13 t : Vec Ideal ⟨2, ![256, 1024]⟩ _) (ix2 r k) = PostRefIdeal.Read.val_main_v74 (F := Ideal) (m ((c : Thread nD τ).loc main_arg13)) (ix2 r k) := by
  have e : (win0_13.blk t).view.emb (ix2 r k) = (ix2 r k : Shape.Idx ⟨2, ![256, 1024]⟩) := by blk_ext [index_13]
  show V m c main_v18 ((win0_13.blk t).view.emb (ix2 r k)) = _
  rw [e]
  entry_read
  pointwise [PostRefIdeal.Read.val_main_v74]

theorem blk_14 (t : Fin cfg0.N) (r : Fin 1) (k : Fin 1024) :
    (iblk m c 14 t : Vec Ideal ⟨2, ![1, 1024]⟩ _) (ix2 r k) = (m ((c : Thread nD τ).loc main_arg14) : Vec Ideal S1024 .f32) (ix1 k) := by
  have e : (win0_14.blk t).view.emb (ix2 r k) = (ix2 r k : Shape.Idx ⟨2, ![1, 1024]⟩) := by blk_ext [index_14]
  show V m c main_v23 ((win0_14.blk t).view.emb (ix2 r k)) = _
  rw [e]
  entry_read
  pointwise

theorem final : (dats m 0 c).arrAt 15 cfg0.N = out m c := by
  refine (dats m 0 c).arrAt_eq_of_covers 15 _ (by decide +kernel) fun t hf y => ?_
  blk_simp
  rw [after0_15]
  obtain ⟨r, k, rfl⟩ : ∃ (r : Fin 256) (k : Fin 1024), y = ix2 r k := ⟨y 0, y 1, eq_ix2 y⟩
  have e : (win0_15.blk t).view.emb (ix2 r k) = (ix2 (row t r) k : Shape.Idx ⟨2, ![32768, 1024]⟩) := by blk_ext [index_15]
  rw [e]
  refine (PostKernel.out_apply _ _ _ _ _ _ _ _ _ _ _ _ _ _ _ r k).trans ?_
  refine Eq.trans ?_ (PostRef.v90_apply _ _ _ _ _ _ _ _ _ _ _ _ _ _ _ (row t r) k).symm
  simp only [blk_0, blk_1, blk_2, blk_3, blk_4, blk_5, blk_6, blk_7, blk_8, blk_9, blk_10, blk_11, blk_12, blk_13, blk_14]
  rfl

/-- The idealized kernel equals the reference lines, for every input. -/
theorem algebraic : Cert.algebraic_PostIdeal_PostRefIdeal := by
  intro m ρ m' ρ' _ hagree
  refine ⟨fun c => out m c, ?_, ?_⟩
  · exact (θ_run defs _ _).mono (fun _ h c => ⟨(h c).1.trans (final m c), (h c).2⟩) (PostIdeal.Value.run_blocks (F := Ideal) m ρ)
  · refine (θ_run PostRefIdeal.defs _ _).mono (fun _ h c => ⟨(h c).1.trans ?_, (h c).2⟩) (PostRefIdeal.Value.run (F := Ideal) m' ρ')
    refine (PostRefIdeal.Read.val_main_v90_eq (StableHlo.launchContents m' c)).trans ?_
    obtain ⟨h0, h1, h2, h3, h4, h5, h6, h7, h8, h9, h10, h11, h12, h13, h14⟩ := hagree c
    show PostRefIdeal.Read.val_main_v90 (F := Ideal) (m' ((c.tc : Thread PostRefIdeal.nD PostRefIdeal.τ).loc PostRefIdeal.main_arg0)) (m' ((c.tc : Thread PostRefIdeal.nD PostRefIdeal.τ).loc PostRefIdeal.main_arg1))
      (m' ((c.tc : Thread PostRefIdeal.nD PostRefIdeal.τ).loc PostRefIdeal.main_arg2)) (m' ((c.tc : Thread PostRefIdeal.nD PostRefIdeal.τ).loc PostRefIdeal.main_arg3))
      (m' ((c.tc : Thread PostRefIdeal.nD PostRefIdeal.τ).loc PostRefIdeal.main_arg4)) (m' ((c.tc : Thread PostRefIdeal.nD PostRefIdeal.τ).loc PostRefIdeal.main_arg5))
      (m' ((c.tc : Thread PostRefIdeal.nD PostRefIdeal.τ).loc PostRefIdeal.main_arg6)) (m' ((c.tc : Thread PostRefIdeal.nD PostRefIdeal.τ).loc PostRefIdeal.main_arg7))
      (m' ((c.tc : Thread PostRefIdeal.nD PostRefIdeal.τ).loc PostRefIdeal.main_arg8)) (m' ((c.tc : Thread PostRefIdeal.nD PostRefIdeal.τ).loc PostRefIdeal.main_arg9))
      (m' ((c.tc : Thread PostRefIdeal.nD PostRefIdeal.τ).loc PostRefIdeal.main_arg10)) (m' ((c.tc : Thread PostRefIdeal.nD PostRefIdeal.τ).loc PostRefIdeal.main_arg11))
      (m' ((c.tc : Thread PostRefIdeal.nD PostRefIdeal.τ).loc PostRefIdeal.main_arg12)) (m' ((c.tc : Thread PostRefIdeal.nD PostRefIdeal.τ).loc PostRefIdeal.main_arg13))
      (m' ((c.tc : Thread PostRefIdeal.nD PostRefIdeal.τ).loc PostRefIdeal.main_arg14)) = out m c
    rw [h0, h1, h2, h3, h4, h5, h6, h7, h8, h9, h10, h11, h12, h13, h14]

end Cert.PostValue

end
-- ==== Proof.ProjKernel.lean ====
/- What the input projection's kernel writes for one block of rows, read at an index. -/
module

public import proofs.«01_k».proof.Proof.RowSpec
public import proofs.«01_k».proof.Proof.Gen.ProjIdeal.Frame
public import Idealize.ShloMosaic.Lib.Pipeline.ValueKit.Geometry

@[expose] public section

set_option maxRecDepth 16384

noncomputable section

namespace Cert.ProjKernel

open Idealize.ShloMosaic Cert.ProjIdeal Cert.ProjIdeal.Gen Cert.RowSpec

variable (x0 : Vec Ideal S512x1024 .f32) (x1 : Vec Ideal S1x1024 .f32) (x2 : Vec Ideal S1024x5632 .bf16)

/-- One row of the projection. -/
abbrev projRow (r : Fin 512) : Fin 5632 → EReal :=
  lin (rms (fun k => x0 (ix2 r k)) (fun k => x1 (ix2 0 k))) (fun k j => x2 (ix2 k j))

theorem pay18_apply (r : Fin 512) (c : Fin 1024) :
    k0_pay18 (F := Ideal) x0 x1 x2 (ix2 r c) = rms (fun k => x0 (ix2 r k)) (fun k => x1 (ix2 0 k)) c := by
  pointwise [k0_pay18, k0_pay6]
  rfl

/-- A chunk of 512 columns of an array, as a piece of a function of the array's rows and columns. -/
theorem piece {m : Nat} {e : EltTy} (G : Fin 512 → Fin m → Elt Ideal e) (off : Nat) (hoff : off + 512 ≤ m) (P : S512x512.Idx → Elt Ideal e)
    (inb : ∀ a, (![0, off] : Fin 2 → Nat) a + S512x512.size a ≤ (⟨2, ![512, m]⟩ : Shape).size a)
    (hP : ∀ a b : Fin 512, P (ix2 a b) = G a ⟨off + b.val, by omega⟩) (x : S512x512.Idx) :
    P x = (fun j : (⟨2, ![512, m]⟩ : Shape).Idx => G (j 0) (j 1)) ((Rect.unit (s := ⟨2, ![512, m]⟩) ![0, off] S512x512.size inb).emb x) := by
  obtain ⟨a, b, rfl⟩ : ∃ (a b : Fin 512), x = ix2 a b := ⟨x 0, x 1, eq_ix2 x⟩
  rw [hP]
  refine congrArg₂ G (Fin.ext ?_) (Fin.ext ?_)
  · show a.val = 0 + 1 * a.val
    omega
  · show off + b.val = off + 1 * b.val
    omega

theorem out3_apply (r : Fin 512) (c : Fin 3584) :
    out0_3 (F := Ideal) x0 x1 x2 (ix2 r c) = branch (fun k => x0 (ix2 r k)) (fun k => x1 (ix2 0 k)) (fun k j => x2 (ix2 k j)) c := by
  unfold out0_3
  refine (View.canon_apply_of_pieces (fun j : S512x3584.Idx =>
    branch (fun k => x0 (ix2 (j 0) k)) (fun k => x1 (ix2 0 k)) (fun k j => x2 (ix2 k j)) (j 1)) _ ?_ (ix2 r c) (cover0_3 _ _ _ _ _ _ _ _)).trans rfl
  intro p hp
  simp only [List.mem_cons, List.mem_singleton, List.not_mem_nil, or_false] at hp
  have key := piece (m := 3584) (e := .bf16) (fun r c => branch (fun k => x0 (ix2 r k)) (fun k => x1 (ix2 0 k)) (fun k j => x2 (ix2 k j)) c)
  rcases hp with rfl | rfl | rfl | rfl | rfl | rfl | rfl
  · refine key 3072 (by omega) _ inb_S512x3584_S512x512_0_3072 fun a b => ?_
    rw [branch_hi _ _ _ _ (show ¬ 3072 + b.val < 512 by omega)]
    pointwise [k0_pay1, k0_pay17]
    simp only [pay18_apply]
    rfl
  · refine key 2560 (by omega) _ inb_S512x3584_S512x512_0_2560 fun a b => ?_
    rw [branch_hi _ _ _ _ (show ¬ 2560 + b.val < 512 by omega)]
    pointwise [k0_pay16]
    simp only [pay18_apply]
    rfl
  · refine key 2048 (by omega) _ inb_S512x3584_S512x512_0_2048 fun a b => ?_
    rw [branch_hi _ _ _ _ (show ¬ 2048 + b.val < 512 by omega)]
    pointwise [k0_pay15]
    simp only [pay18_apply]
    rfl
  · refine key 1536 (by omega) _ inb_S512x3584_S512x512_0_1536 fun a b => ?_
    rw [branch_hi _ _ _ _ (show ¬ 1536 + b.val < 512 by omega)]
    pointwise [k0_pay14]
    simp only [pay18_apply]
    rfl
  · refine key 1024 (by omega) _ inb_S512x3584_S512x512_0_1024 fun a b => ?_
    rw [branch_hi _ _ _ _ (show ¬ 1024 + b.val < 512 by omega)]
    pointwise [k0_pay13, k0_pay11, k0_pay18, k0_pay6]
    rfl
  · refine key 512 (by omega) _ inb_S512x3584_S512x512_0_512 fun a b => ?_
    rw [branch_hi _ _ _ _ (show ¬ 512 + b.val < 512 by omega)]
    pointwise [k0_pay10, k0_pay8, k0_pay6]
    rfl
  · refine key 0 (by omega) _ inb_S512x3584_S512x512_0_0 fun a b => ?_
    rw [branch_lo _ _ _ _ (show 0 + b.val < 512 by omega)]
    pointwise [k0_pay7, k0_pay6]
    rfl

/-- The gates' columns of the projection of one row. -/
theorem out4_apply (r : Fin 512) (c : Fin 2048) :
    out0_4 (F := Ideal) x0 x1 x2 (ix2 r c) = projRow x0 x1 x2 r ⟨3584 + c.val, by omega⟩ := by
  unfold out0_4
  refine (View.canon_apply_of_pieces (fun j : S512x2048.Idx =>
    projRow x0 x1 x2 (j 0) ⟨3584 + (j 1).val, by have := (j 1).isLt; change (j 1).val < 2048 at this; omega⟩) _ ?_ (ix2 r c) (cover0_4 _ _ _ _ _)).trans rfl
  intro p hp
  simp only [List.mem_cons, List.mem_singleton, List.not_mem_nil, or_false] at hp
  have key := piece (m := 2048) (e := .bf16) (fun r c => projRow x0 x1 x2 r ⟨3584 + c.val, by omega⟩)
  rcases hp with rfl | rfl | rfl | rfl
  · refine key 1536 (by omega) _ inb_S512x2048_S512x512_0_1536 fun a b => ?_
    refine Eq.trans ?_ (congrArg (projRow x0 x1 x2 a) (Fin.ext (show 5120 + b.val = 3584 + (1536 + b.val) by omega) : (⟨5120 + b.val, by omega⟩ : Fin 5632) = _))
    pointwise [k0_pay5]
    simp only [pay18_apply]
    rfl
  · refine key 1024 (by omega) _ inb_S512x2048_S512x512_0_1024 fun a b => ?_
    refine Eq.trans ?_ (congrArg (projRow x0 x1 x2 a) (Fin.ext (show 4608 + b.val = 3584 + (1024 + b.val) by omega) : (⟨4608 + b.val, by omega⟩ : Fin 5632) = _))
    pointwise [k0_pay4]
    simp only [pay18_apply]
    rfl
  · refine key 512 (by omega) _ inb_S512x2048_S512x512_0_512 fun a b => ?_
    refine Eq.trans ?_ (congrArg (projRow x0 x1 x2 a) (Fin.ext (show 4096 + b.val = 3584 + (512 + b.val) by omega) : (⟨4096 + b.val, by omega⟩ : Fin 5632) = _))
    pointwise [k0_pay3]
    simp only [pay18_apply]
    rfl
  · refine key 0 (by omega) _ inb_S512x2048_S512x512_0_0 fun a b => ?_
    refine Eq.trans ?_ (congrArg (projRow x0 x1 x2 a) (Fin.ext (show 3584 + b.val = 3584 + (0 + b.val) by omega) : (⟨3584 + b.val, by omega⟩ : Fin 5632) = _))
    pointwise [k0_pay2]
    simp only [pay18_apply]
    rfl

/-- A head's key: column `512 + 64 h + d` of the projection. -/
theorem out5_apply (h : Fin 8) (d : Fin 64) (r : Fin 512) :
    out0_5 (F := Ideal) x0 x1 x2 (ix4 0 h d r) = projRow x0 x1 x2 r ⟨512 + (h.val * 64 + d.val), by omega⟩ := by
  unfold out0_5
  rw [View.canon_unit_zero (by funext a; fin_cases a <;> rfl)]
  pointwise [k0_pay9, k0_pay8, k0_pay6]
  rfl

/-- A head's value: column `1024 + 64 h + d` of the projection. -/
theorem out6_apply (h : Fin 8) (d : Fin 64) (r : Fin 512) :
    out0_6 (F := Ideal) x0 x1 x2 (ix4 0 h d r) = projRow x0 x1 x2 r ⟨1024 + (h.val * 64 + d.val), by omega⟩ := by
  unfold out0_6
  rw [View.canon_unit_zero (by funext a; fin_cases a <;> rfl)]
  pointwise [k0_pay12, k0_pay11]
  simp only [pay18_apply]
  rfl

end Cert.ProjKernel

end
-- ==== Proof.ProjRef.lean ====
/- The reference's projection, read at an index. -/
module

public import proofs.«01_k».proof.Proof.RowSpec
public import proofs.«01_k».proof.Proof.Gen.ProjRefIdeal.Read

@[expose] public section

set_option maxRecDepth 16384

noncomputable section

namespace Cert.ProjRef

open Idealize.ShloMosaic Cert.ProjRefIdeal Cert.ProjRefIdeal.Gen Cert.ProjRefIdeal.Read Cert.RowSpec

variable (x0 : (⟨S8x4096x1024, .f32⟩ : BufTy).Contents (Elt Ideal)) (x1 : (⟨S1x1024, .f32⟩ : BufTy).Contents (Elt Ideal))
  (x2 : (⟨S1x1024x5632, .f32⟩ : BufTy).Contents (Elt Ideal))

/-- One row of the projection. -/
abbrev projRow (i : Fin 32768) : Fin 5632 → EReal :=
  lin (rms (fun k => val_main_v0 (F := Ideal) x0 (ix2 i k)) (fun k => x1 (ix2 0 k))) (fun k j => val_main_v15 (F := Ideal) x2 (ix2 k j))

theorem v14_apply (i : Fin 32768) (c : Fin 1024) :
    val_main_v14 (F := Ideal) x0 x1 (ix2 i c) = rms (fun k => val_main_v0 (F := Ideal) x0 (ix2 i k)) (fun k => x1 (ix2 0 k)) c := by
  pointwise [val_main_v14, val_main_v13, val_main_v12, val_main_v11, val_main_v10, val_main_v9, val_main_v8, val_main_v7, val_main_v6, val_main_v5,
    val_main_v4, val_main_v3, val_main_v2, val_main_v1, val_main_cst, val_main_cst_0, val_main_cst_1]
  rfl

theorem v16_apply (i : Fin 32768) (c : Fin 5632) : val_main_v16 (F := Ideal) x0 x1 x2 (ix2 i c) = projRow x0 x1 x2 i c := by
  pointwise [val_main_v16]
  simp only [v14_apply]
  rfl

theorem v30_apply (i : Fin 32768) (c : Fin 3584) :
    val_main_v30 (F := Ideal) x0 x1 x2 (ix2 i c)
      = branch (fun k => val_main_v0 (F := Ideal) x0 (ix2 i k)) (fun k => x1 (ix2 0 k)) (fun k j => val_main_v15 (F := Ideal) x2 (ix2 k j)) c := by
  pointwise [val_main_v30, val_main_v28, val_main_v27, val_main_v26, val_main_v17, val_main_v18, val_main_v19, val_main_v20, val_main_v21, val_main_v22, val_main_v23, val_main_cst_2]
  simp only [v16_apply]
  by_cases h : c.val < 512
  · rw [dif_pos h, branch_lo _ _ _ _ h]
  · rw [dif_neg h, branch_hi _ _ _ _ h]
    split_ifs <;> exact congrArg (projRow x0 x1 x2 i) (Fin.ext (by dsimp only; omega))

theorem v31_apply (i : Fin 32768) (c : Fin 2048) :
    val_main_v31 (F := Ideal) x0 x1 x2 (ix2 i c) = projRow x0 x1 x2 i ⟨3584 + c.val, by omega⟩ := by
  pointwise [val_main_v31, val_main_v29, val_main_v24, val_main_v25]
  simp only [v16_apply]
  by_cases h : c.val < 1024
  · rw [dif_pos h]
  · rw [dif_neg h]
    exact at_val (projRow x0 x1 x2 i) (by dsimp only; omega)

theorem v32_apply (b : Fin 8) (s : Fin 4096) (h : Fin 8) (d : Fin 64) :
    val_main_v32 (F := Ideal) x0 x1 x2 (ix4 b s h d) = projRow x0 x1 x2 ⟨b.val * 4096 + s.val, by omega⟩ ⟨512 + (h.val * 64 + d.val), by omega⟩ := by
  pointwise [val_main_v32, val_main_v18]
  simp only [v16_apply]

theorem v33_apply (b : Fin 8) (s : Fin 4096) (h : Fin 8) (d : Fin 64) :
    val_main_v33 (F := Ideal) x0 x1 x2 (ix4 b s h d) = projRow x0 x1 x2 ⟨b.val * 4096 + s.val, by omega⟩ ⟨1024 + (h.val * 64 + d.val), by omega⟩ := by
  pointwise [val_main_v33, val_main_v19]
  simp only [v16_apply]

end Cert.ProjRef

end
-- ==== Proof.ProjValue.lean ====
/- The input projection: the four result arrays after the run are the reference's, index by index. -/
module

public import proofs.«01_k».proof.Proof.ProjKernel
public import proofs.«01_k».proof.Proof.ProjRef
public import proofs.«01_k».proof.Defs
public import Idealize.ShloMosaic.Lib.Pipeline.ValueKit.Geometry
public import Idealize.ShloMosaic.Lib.Claim

@[expose] public section

set_option maxRecDepth 16384

noncomputable section

namespace Cert.ProjValue

open Cert.ProjIdeal Cert.ProjIdeal.Gen Idealize.ShloMosaic Idealize.ShloMosaic.TcCoe Idealize.SL.Sem Cert.RowSpec

variable (m : (ℓ : Loc nD τ sig) → Buf (Elt Ideal) ℓ) (c : Dev nD)

theorem lt_N (t : Fin cfg0.N) : t.val < 64 := t.isLt.trans_eq (by decide +kernel)

/-- Row `r` of block `t`. -/
abbrev row (t : Fin cfg0.N) (r : Fin 512) : Fin 32768 := ⟨t.val * 512 + r.val, by have := lt_N t; omega⟩

/-- The batch entry that block `t` belongs to. -/
abbrev bat (t : Fin cfg0.N) : Fin 8 := ⟨t.val / 8, by have := lt_N t; omega⟩

/-- The position, in its sequence, of row `r` of block `t`. -/
abbrev pos (t : Fin cfg0.N) (r : Fin 512) : Fin 4096 := ⟨t.val % 8 * 512 + r.val, by omega⟩

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val / 8, 0, 0, t.val % 8] := (by decide +kernel : ∀ t : Fin grid0.N, _)
theorem index_6 : ∀ t : Fin cfg0.N, win0_6.index t = ![t.val / 8, 0, 0, t.val % 8] := (by decide +kernel : ∀ t : Fin grid0.N, _)

/-- The three arguments. -/
abbrev a0 : Vec Ideal S8x4096x1024 .f32 := m ((c : Thread nD τ).loc main_arg0)
abbrev a1 : Vec Ideal S1x1024 .f32 := m ((c : Thread nD τ).loc main_arg1)
abbrev a2 : Vec Ideal S1x1024x5632 .f32 := m ((c : Thread nD τ).loc main_arg2)

theorem blk_0 (t : Fin cfg0.N) (r : Fin 512) (k : Fin 1024) :
    (iblk m c 0 t : Vec Ideal ⟨2, ![512, 1024]⟩ _) (ix2 r k) = ProjRefIdeal.Read.val_main_v0 (F := Ideal) (a0 m c) (ix2 (row t r) k) := by
  have e : (win0_0.blk t).view.emb (ix2 r k) = (ix2 (row t r) k : Shape.Idx ⟨2, ![32768, 1024]⟩) := by blk_ext [index_0]
  show V m c main_v0 ((win0_0.blk t).view.emb (ix2 r k)) = _
  rw [e]
  entry_read
  rfl

theorem blk_1 (t : Fin cfg0.N) (r : Fin 1) (k : Fin 1024) :
    (iblk m c 1 t : Vec Ideal ⟨2, ![1, 1024]⟩ _) (ix2 r k) = a1 m c (ix2 r k) := by
  have e : (win0_1.blk t).view.emb (ix2 r k) = (ix2 r k : Shape.Idx ⟨2, ![1, 1024]⟩) := by blk_ext [index_1]
  show V m c main_v4 ((win0_1.blk t).view.emb (ix2 r k)) = _
  rw [e]
  entry_read
  exact congrFun (shapeCast_shapeCast _ _ _) _

theorem blk_2 (t : Fin cfg0.N) (r : Fin 1024) (k : Fin 5632) :
    (iblk m c 2 t : Vec Ideal ⟨2, ![1024, 5632]⟩ _) (ix2 r k) = ProjRefIdeal.Read.val_main_v15 (F := Ideal) (a2 m c) (ix2 r k) := by
  have e : (win0_2.blk t).view.emb (ix2 r k) = (ix2 r k : Shape.Idx ⟨2, ![1024, 5632]⟩) := by blk_ext [index_2]
  show V m c main_v3 ((win0_2.blk t).view.emb (ix2 r k)) = _
  rw [e]
  rfl

theorem in_branch (t : Fin cfg0.N) (r : Fin 512) (k : Fin 3584) :
    branch (fun k => (iblk m c 0 t : Vec Ideal ⟨2, ![512, 1024]⟩ .f32) (ix2 r k)) (fun k => (iblk m c 1 t : Vec Ideal ⟨2, ![1, 1024]⟩ .f32) (ix2 0 k))
      (fun k j => (iblk m c 2 t : Vec Ideal ⟨2, ![1024, 5632]⟩ .bf16) (ix2 k j)) k
      = branch (fun k => ProjRefIdeal.Read.val_main_v0 (F := Ideal) (a0 m c) (ix2 (row t r) k)) (fun k => a1 m c (ix2 0 k))
      (fun k j => ProjRefIdeal.Read.val_main_v15 (F := Ideal) (a2 m c) (ix2 k j)) k := by
  simp only [blk_0, blk_1, blk_2]

theorem in_row (t : Fin cfg0.N) (r : Fin 512) :
    ProjKernel.projRow (iblk m c 0 t) (iblk m c 1 t) (iblk m c 2 t) r = ProjRef.projRow (a0 m c) (a1 m c) (a2 m c) (row t r) := by
  funext k
  show lin (rms (fun k => (iblk m c 0 t : Vec Ideal ⟨2, ![512, 1024]⟩ .f32) (ix2 r k)) (fun k => (iblk m c 1 t : Vec Ideal ⟨2, ![1, 1024]⟩ .f32) (ix2 0 k)))
      (fun k j => (iblk m c 2 t : Vec Ideal ⟨2, ![1024, 5632]⟩ .bf16) (ix2 k j)) k = _
  simp only [blk_0, blk_1, blk_2]

theorem final_3 : (dats m 0 c).arrAt 3 cfg0.N = (ProjRefIdeal.Read.val_main_v30 (F := Ideal) (a0 m c) (a1 m c) (a2 m c) : Vec Ideal S32768x3584 .bf16) := by
  refine (dats m 0 c).arrAt_eq_of_covers 3 _ (by decide +kernel) fun t hf y => ?_
  blk_simp
  rw [after0_3]
  obtain ⟨r, k, rfl⟩ : ∃ (r : Fin 512) (k : Fin 3584), y = ix2 r k := ⟨y 0, y 1, eq_ix2 y⟩
  have e : (win0_3.blk t).view.emb (ix2 r k) = (ix2 (row t r) k : Shape.Idx ⟨2, ![32768, 3584]⟩) := by blk_ext [index_3]
  rw [e]
  refine (ProjKernel.out3_apply _ _ _ r k).trans ?_
  refine Eq.trans ?_ (ProjRef.v30_apply _ _ _ (row t r) k).symm
  exact in_branch m c t r k

theorem final_4 : (dats m 0 c).arrAt 4 cfg0.N = (ProjRefIdeal.Read.val_main_v31 (F := Ideal) (a0 m c) (a1 m c) (a2 m c) : Vec Ideal S32768x2048 .bf16) := by
  refine (dats m 0 c).arrAt_eq_of_covers 4 _ (by decide +kernel) fun t hf y => ?_
  blk_simp
  rw [after0_4]
  obtain ⟨r, k, rfl⟩ : ∃ (r : Fin 512) (k : Fin 2048), y = ix2 r k := ⟨y 0, y 1, eq_ix2 y⟩
  have e : (win0_4.blk t).view.emb (ix2 r k) = (ix2 (row t r) k : Shape.Idx ⟨2, ![32768, 2048]⟩) := by blk_ext [index_4]
  rw [e]
  refine (ProjKernel.out4_apply _ _ _ r k).trans ?_
  refine Eq.trans ?_ (ProjRef.v31_apply _ _ _ (row t r) k).symm
  exact congrFun (in_row m c t r) _

/-- The keys as the kernel leaves them, the sequence on the last axis. -/
abbrev keys : Vec Ideal S8x8x64x4096 .f32 := fun j =>
  (ProjRefIdeal.Read.val_main_v32 (F := Ideal) (a0 m c) (a1 m c) (a2 m c) : Vec Ideal S8x4096x8x64 .f32) (ix4 (j 0) (j 3) (j 1) (j 2))

/-- The values likewise. -/
abbrev vals : Vec Ideal S8x8x64x4096 .f32 := fun j =>
  (ProjRefIdeal.Read.val_main_v33 (F := Ideal) (a0 m c) (a1 m c) (a2 m c) : Vec Ideal S8x4096x8x64 .f32) (ix4 (j 0) (j 3) (j 1) (j 2))

theorem row_eq (t : Fin cfg0.N) (r : Fin 512) (h : (bat t).val * 4096 + (pos t r).val < 32768) :
    (⟨(bat t).val * 4096 + (pos t r).val, h⟩ : Fin 32768) = row t r := Fin.ext (by
  show t.val / 8 * 4096 + (t.val % 8 * 512 + r.val) = t.val * 512 + r.val
  omega)

theorem final_5 : (dats m 0 c).arrAt 5 cfg0.N = keys m c := by
  refine (dats m 0 c).arrAt_eq_of_covers 5 _ (by decide +kernel) fun t hf y => ?_
  blk_simp
  rw [after0_5]
  obtain ⟨u, h, d, r, rfl⟩ : ∃ (u : Fin 1) (h : Fin 8) (d : Fin 64) (r : Fin 512), y = ix4 u h d r := ⟨y 0, y 1, y 2, y 3, eq_ix4 y⟩
  obtain rfl : u = 0 := Subsingleton.elim _ _
  have e : (win0_5.blk t).view.emb (ix4 0 h d r) = (ix4 (bat t) h d (pos t r) : Shape.Idx ⟨4, ![8, 8, 64, 4096]⟩) := by blk_ext [index_5]
  rw [e]
  refine (ProjKernel.out5_apply _ _ _ h d r).trans ?_
  refine Eq.trans ?_ (ProjRef.v32_apply _ _ _ (bat t) (pos t r) h d).symm
  rw [row_eq]
  exact congrFun (in_row m c t r) _

theorem final_6 : (dats m 0 c).arrAt 6 cfg0.N = vals m c := by
  refine (dats m 0 c).arrAt_eq_of_covers 6 _ (by decide +kernel) fun t hf y => ?_
  blk_simp
  rw [after0_6]
  obtain ⟨u, h, d, r, rfl⟩ : ∃ (u : Fin 1) (h : Fin 8) (d : Fin 64) (r : Fin 512), y = ix4 u h d r := ⟨y 0, y 1, y 2, y 3, eq_ix4 y⟩
  obtain rfl : u = 0 := Subsingleton.elim _ _
  have e : (win0_6.blk t).view.emb (ix4 0 h d r) = (ix4 (bat t) h d (pos t r) : Shape.Idx ⟨4, ![8, 8, 64, 4096]⟩) := by blk_ext [index_6]
  rw [e]
  refine (ProjKernel.out6_apply _ _ _ h d r).trans ?_
  refine Eq.trans ?_ (ProjRef.v33_apply _ _ _ (bat t) (pos t r) h d).symm
  rw [row_eq]
  exact congrFun (in_row m c t r) _

/-- The sequence axis moved back. -/
theorem back (x : Vec Ideal S8x4096x8x64 .f32) :
    transpose S8x4096x8x64 [0, 3, 1, 2] (fun j => x (ix4 (j 0) (j 3) (j 1) (j 2)) : Vec Ideal S8x8x64x4096 .f32) transposes_S8x8x64x4096_S8x4096x8x64_0_3_1_2 = x := by
  funext i
  obtain ⟨b, s, h, d, rfl⟩ : ∃ (b : Fin 8) (s : Fin 4096) (h : Fin 8) (d : Fin 64), i = ix4 b s h d := ⟨i 0, i 1, i 2, i 3, eq_ix4 i⟩
  pointwise

theorem tail_5 : Pipeline.afterTail₀ cfgs (dats m) 0 (V0 m) [hostOps1] c main_v6
    = (ProjRefIdeal.Read.val_main_v32 (F := Ideal) (a0 m c) (a1 m c) (a2 m c) : Vec Ideal S8x4096x8x64 .f32) := by
  have e : Pipeline.withArrays (cfgs 0).spec c (V0 m c) (fun w => (dats m 0 c).arrAt w (cfgs 0).N) (Proc.devRef .tc main_v5_2) = keys m c :=
    (Pipeline.withArrays_arr (cfgs 0).spec (by decide) c (V0 m c) (fun w => (dats m 0 c).arrAt w (cfgs 0).N) 5).trans (final_5 m c)
  refine Eq.trans (b := transpose S8x4096x8x64 [0, 3, 1, 2] (Pipeline.withArrays (cfgs 0).spec c (V0 m c) (fun w => (dats m 0 c).arrAt w (cfgs 0).N) (Proc.devRef .tc main_v5_2) :
    Vec Ideal S8x8x64x4096 .f32) transposes_S8x8x64x4096_S8x4096x8x64_0_3_1_2) rfl ?_
  rw [e]
  exact back _

theorem tail_6 : Pipeline.afterTail₀ cfgs (dats m) 0 (V0 m) [hostOps1] c main_v7
    = (ProjRefIdeal.Read.val_main_v33 (F := Ideal) (a0 m c) (a1 m c) (a2 m c) : Vec Ideal S8x4096x8x64 .f32) := by
  have e : Pipeline.withArrays (cfgs 0).spec c (V0 m c) (fun w => (dats m 0 c).arrAt w (cfgs 0).N) (Proc.devRef .tc main_v5_3) = vals m c :=
    (Pipeline.withArrays_arr (cfgs 0).spec (by decide) c (V0 m c) (fun w => (dats m 0 c).arrAt w (cfgs 0).N) 6).trans (final_6 m c)
  refine Eq.trans (b := transpose S8x4096x8x64 [0, 3, 1, 2] (Pipeline.withArrays (cfgs 0).spec c (V0 m c) (fun w => (dats m 0 c).arrAt w (cfgs 0).N) (Proc.devRef .tc main_v5_3) :
    Vec Ideal S8x8x64x4096 .f32) transposes_S8x8x64x4096_S8x4096x8x64_0_3_1_2) rfl ?_
  rw [e]
  exact back _

/-- The idealized kernel equals the reference lines, for every input. -/
theorem algebraic : Cert.algebraic_ProjIdeal_ProjRefIdeal := by
  intro m g m' g' _ hagree
  refine ⟨fun c => ProjRefIdeal.Read.val_main_v30 (F := Ideal) (a0 m c) (a1 m c) (a2 m c), fun c => ProjRefIdeal.Read.val_main_v31 (F := Ideal) (a0 m c) (a1 m c) (a2 m c),
    fun c => ProjRefIdeal.Read.val_main_v32 (F := Ideal) (a0 m c) (a1 m c) (a2 m c), fun c => ProjRefIdeal.Read.val_main_v33 (F := Ideal) (a0 m c) (a1 m c) (a2 m c), ?_, ?_⟩
  · run_from (run_main (F := Ideal) m g)
    all_goals first
      | exact final_3 m c | exact final_4 m c | exact tail_5 m c | exact tail_6 m c
      | exact W_main_arg0 m (dats m) c | exact W_main_arg1 m (dats m) c | exact W_main_arg2 m (dats m) c
  · refine (θ_run ProjRefIdeal.defs _ _).mono (fun _ h c => ?_) (ProjRefIdeal.Value.run (F := Ideal) m' g')
    obtain ⟨h0, h1, h2⟩ := hagree c
    obtain ⟨r0, r1, r2, r3, hs⟩ := h c
    refine ⟨r0.trans ?_, r1.trans ?_, r2.trans ?_, r3.trans ?_, hs⟩
    · refine (ProjRefIdeal.Read.val_main_v30_eq m' c).trans ?_
      show ProjRefIdeal.Read.val_main_v30 (F := Ideal) (m' ((c.tc : Thread ProjRefIdeal.nD ProjRefIdeal.τ).loc ProjRefIdeal.main_arg0)) (m' ((c.tc : Thread ProjRefIdeal.nD ProjRefIdeal.τ).loc ProjRefIdeal.main_arg1))
        (m' ((c.tc : Thread ProjRefIdeal.nD ProjRefIdeal.τ).loc ProjRefIdeal.main_arg2)) = _
      rw [h0, h1, h2]
    · refine (ProjRefIdeal.Read.val_main_v31_eq _ _ _).trans ?_
      show ProjRefIdeal.Read.val_main_v31 (F := Ideal) (m' ((c.tc : Thread ProjRefIdeal.nD ProjRefIdeal.τ).loc ProjRefIdeal.main_arg0)) (m' ((c.tc : Thread ProjRefIdeal.nD ProjRefIdeal.τ).loc ProjRefIdeal.main_arg1))
        (m' ((c.tc : Thread ProjRefIdeal.nD ProjRefIdeal.τ).loc ProjRefIdeal.main_arg2)) = _
      rw [h0, h1, h2]
    · refine (ProjRefIdeal.Read.val_main_v32_eq _ _ _).trans ?_
      show ProjRefIdeal.Read.val_main_v32 (F := Ideal) (m' ((c.tc : Thread ProjRefIdeal.nD ProjRefIdeal.τ).loc ProjRefIdeal.main_arg0)) (m' ((c.tc : Thread ProjRefIdeal.nD ProjRefIdeal.τ).loc ProjRefIdeal.main_arg1))
        (m' ((c.tc : Thread ProjRefIdeal.nD ProjRefIdeal.τ).loc ProjRefIdeal.main_arg2)) = _
      rw [h0, h1, h2]
    · refine (ProjRefIdeal.Read.val_main_v33_eq _ _ _).trans ?_
      show ProjRefIdeal.Read.val_main_v33 (F := Ideal) (m' ((c.tc : Thread ProjRefIdeal.nD ProjRefIdeal.τ).loc ProjRefIdeal.main_arg0)) (m' ((c.tc : Thread ProjRefIdeal.nD ProjRefIdeal.τ).loc ProjRefIdeal.main_arg1))
        (m' ((c.tc : Thread ProjRefIdeal.nD ProjRefIdeal.τ).loc ProjRefIdeal.main_arg2)) = _
      rw [h0, h1, h2]

end Cert.ProjValue

end
-- ==== Proof.SbMath.lean ====
/- Stick-breaking over the extended reals: the weights of one query, block of keys by block of keys. -/
module

public import Idealize.ShloMosaic.Lib.Pointwise
public import Mathlib.Analysis.SpecialFunctions.Log.Basic

@[expose] public section

noncomputable section

namespace Cert.SbMath

open Idealize.ShloMosaic

theorem c80 : Ideal.ofBits .f32 0x42A00000#32 = ((80 : ℝ) : EReal) := by
  simp [Ideal.ofBits, Ideal.ieee, -EReal.coe_mul]
  norm_num

theorem coe_max (a b : ℝ) : ((max a b : ℝ) : EReal) = max (a : EReal) (b : EReal) :=
  EReal.coe_strictMono.monotone.map_max

/-- The kernel's log term of a score. -/
def stay (x : EReal) : EReal := max x (Ideal.log (1 + Ideal.exp (min x (Ideal.ofBits .f32 0x42A00000#32))))

/-- The log of one plus the exponential, as a real. -/
def sp (x : EReal) : ℝ := if x = ⊥ then 0 else Real.log (1 + Real.exp x.toReal)

theorem log_one_add_exp (r : ℝ) : Ideal.log (1 + Ideal.exp (r : EReal)) = ((Real.log (1 + Real.exp r) : ℝ) : EReal) := by
  have h : (1 + Ideal.exp (r : EReal)) = ((1 + Real.exp r : ℝ) : EReal) := by
    show (1 : EReal) + ((Real.exp r : ℝ) : EReal) = _
    rw [EReal.coe_add, EReal.coe_one]
  rw [h]
  show (if 1 + Real.exp r ≤ 0 then (⊥ : EReal) else _) = _
  rw [if_neg (by have := Real.exp_pos r; linarith)]

theorem log_one : Ideal.log (1 : EReal) = 0 := by
  rw [← EReal.coe_one]
  show (if (1 : ℝ) ≤ 0 then (⊥ : EReal) else ((Real.log 1 : ℝ) : EReal)) = 0
  rw [if_neg (by norm_num), Real.log_one]; rfl

/-- A score of at most 80 is a real or `⊥`. -/
theorem cases_le (x : EReal) (h : x ≤ Ideal.ofBits .f32 0x42A00000#32) : x = ⊥ ∨ ∃ r : ℝ, x = r := by
  induction x with
  | bot => exact .inl rfl
  | coe r => exact .inr ⟨r, rfl⟩
  | top => rw [c80] at h; exact absurd (top_le_iff.1 h) (EReal.coe_ne_top _)

theorem le_log (r : ℝ) : r ≤ Real.log (1 + Real.exp r) := by
  rw [Real.le_log_iff_exp_le (by positivity)]; linarith

/-- Where the score is at most 80 the clamp changes nothing. -/
theorem stay_eq (x : EReal) (h : x ≤ Ideal.ofBits .f32 0x42A00000#32) : stay x = (sp x : EReal) := by
  unfold stay sp
  rw [min_eq_left h]
  obtain rfl | ⟨r, rfl⟩ := cases_le x h
  · have e : (1 : EReal) + Ideal.exp ⊥ = 1 := by show (1 : EReal) + 0 = 1; rw [add_zero]
    rw [e, log_one, if_pos rfl]; simp
  · rw [log_one_add_exp, if_neg (EReal.coe_ne_bot r), EReal.toReal_coe, ← coe_max, max_eq_right (le_log r)]

/-- The reference's softplus. -/
def soft (y : EReal) : EReal :=
  max y 0 + Ideal.log1p (Ideal.exp (-(max y (-y))))

theorem soft_coe (r : ℝ) : soft (r : EReal) = ((Real.log (1 + Real.exp r) : ℝ) : EReal) := by
  have e : soft (r : EReal) = ((max r 0 + Real.log (1 + Real.exp (-|r|)) : ℝ) : EReal) := by
    unfold soft Ideal.log1p
    rw [← EReal.coe_neg, ← coe_max, ← EReal.coe_neg, log_one_add_exp, ← EReal.coe_zero, ← coe_max, ← EReal.coe_add]
    rfl
  rw [e]
  congr 1
  rcases le_total 0 r with h | h
  · rw [max_eq_left h, abs_of_nonneg h]
    have : 1 + Real.exp r = Real.exp r * (1 + Real.exp (-r)) := by rw [mul_add, ← Real.exp_add]; simp; ring
    rw [this, Real.log_mul (by positivity) (by positivity), Real.log_exp]
  · rw [max_eq_right h, abs_of_nonpos h, neg_neg, zero_add]

/-- The log of the chance of passing a key by, as the reference has it. -/
theorem log_stay (x : EReal) (h : x ≤ Ideal.ofBits .f32 0x42A00000#32) : -soft (- -x) = ((-sp x : ℝ) : EReal) := by
  rw [neg_neg]
  obtain rfl | ⟨r, rfl⟩ := cases_le x h
  · unfold soft Ideal.log1p
    have e : Ideal.exp (-(max (⊥ : EReal) (-(⊥ : EReal)))) = 0 := by simp
    rw [e, add_zero, log_one]; simp [sp]
  · rw [soft_coe, sp, if_neg (EReal.coe_ne_bot r), EReal.toReal_coe, EReal.coe_neg]

/-- The reference's weight is the kernel's. -/
theorem weight (x : EReal) (h : x ≤ Ideal.ofBits .f32 0x42A00000#32) (S : ℝ) :
    Ideal.exp (-soft (-x) + (((-S : ℝ) : EReal) - ((-sp x : ℝ) : EReal))) = Ideal.exp (x - (S : EReal)) := by
  obtain rfl | ⟨r, rfl⟩ := cases_le x h
  · unfold soft Ideal.log1p
    have e : Ideal.exp (-(max (-(⊥ : EReal)) (-(-(⊥ : EReal))))) = 0 := by simp
    rw [e, add_zero, log_one]; simp
  · rw [← EReal.coe_neg r, soft_coe, sp, if_neg (EReal.coe_ne_bot r), EReal.toReal_coe, ← EReal.coe_neg, ← EReal.coe_sub, ← EReal.coe_add, ← EReal.coe_sub]
    congr 2
    have : 1 + Real.exp r = Real.exp r * (1 + Real.exp (-r)) := by rw [mul_add, ← Real.exp_add]; simp; ring
    rw [this, Real.log_mul (by positivity) (by positivity), Real.log_exp]
    ring

/-! ## One query: scores `Z` of the keys, the query at `t` -/

variable (Z : ℕ → EReal) (t : ℕ)

/-- The log term of key `j`, zero from the query on. -/
def st (j : ℕ) : ℝ := if j < t then sp (Z j) else 0
/-- The log terms from key `n` on. -/
def S (n : ℕ) : ℝ := ∑ j ∈ Finset.Ico n 4096, st Z t j
/-- The weight of key `j`. -/
def W (j : ℕ) : EReal := if j < t then Ideal.exp (Z j - (S Z t j : EReal)) else 0

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Sums over a stretch of keys, by position in it. -/
theorem sum_Ico {M : Type} [AddCommMonoid M] (f : ℕ → M) (n m : ℕ) : ∑ j ∈ Finset.Ico n (n + m), f j = ∑ x : Fin m, f (n + x.val) := by
  rw [Finset.sum_Ico_eq_sum_range, Nat.add_sub_cancel_left, Finset.sum_range]

theorem S_block (n m : ℕ) (h : n + m ≤ 4096) : S Z t n = ∑ x : Fin m, st Z t (n + x.val) + S Z t (n + m) := by
  rw [← sum_Ico (st Z t) n m]
  exact (Finset.sum_Ico_consecutive _ (Nat.le_add_right _ _) h).symm

theorem S_carry (n m : ℕ) (h : n + m ≤ 4096) :
    (S Z t (n + m) : EReal) + ∑ x : Fin m, (st Z t (n + x.val) : EReal) = (S Z t n : EReal) := by
  rw [S_block Z t n m h, EReal.coe_add, coe_sum, add_comm]

theorem S_zero (n : ℕ) (h : t ≤ n) : S Z t n = 0 :=
  Finset.sum_eq_zero fun j hj => if_neg (by have := Finset.mem_Ico.1 hj; omega)

/-- A block's weight before masking: score less own log term, less the terms to the right in the block, less the carry. -/
theorem block_weight (n : ℕ) (h : n + 256 ≤ 4096) (x : Fin 256) :
    Ideal.exp (Z (n + x.val) - (st Z t (n + x.val) : EReal)
      - (∑ j : Fin 256, (st Z t (n + j.val) : EReal) * (if x.val < j.val then 1 else 0)) - (S Z t (n + 256) : EReal))
    = Ideal.exp (Z (n + x.val) - (S Z t (n + x.val) : EReal)) := by
  have hx := x.isLt
  have e1 : (∑ j : Fin 256, (st Z t (n + j.val) : EReal) * (if x.val < j.val then 1 else 0))
      = ((∑ j ∈ Finset.Ico (n + x.val + 1) (n + 256), st Z t j : ℝ) : EReal) := by
    rw [coe_sum]
    rw [← sum_Ico (fun j => (st Z t j : EReal) * (if n + x.val < j then 1 else 0)) n 256 |>.trans
      (Finset.sum_congr rfl fun j _ => by simp)]
    rw [← Finset.sum_Ico_consecutive _ (show n ≤ n + x.val + 1 by omega) (show n + x.val + 1 ≤ n + 256 by omega)]
    rw [Finset.sum_eq_zero (fun j hj => by rw [if_neg (by have := Finset.mem_Ico.1 hj; omega), mul_zero]), zero_add]
    exact Finset.sum_congr rfl fun j hj => by rw [if_pos (by have := Finset.mem_Ico.1 hj; omega), mul_one]
  have e2 : S Z t (n + x.val) = st Z t (n + x.val) + (∑ j ∈ Finset.Ico (n + x.val + 1) (n + 256), st Z t j) + S Z t (n + 256) := by
    unfold S
    rw [Finset.sum_eq_sum_Ico_succ_bot (by omega), ← Finset.sum_Ico_consecutive _ (show n + x.val + 1 ≤ n + 256 by omega) h]
    simp only [add_assoc]
  rw [e1, e2]
  congr 1
  rw [EReal.coe_add, EReal.coe_add]
  simp only [sub_eq_add_neg]
  rw [EReal.neg_add (.inr (EReal.coe_ne_top _)) (.inr (EReal.coe_ne_bot _)), EReal.neg_add (.inr (EReal.coe_ne_top _)) (.inr (EReal.coe_ne_bot _))]
  simp only [sub_eq_add_neg, add_assoc]

/-! ## The scores and the output, from the branch array and the biases -/

variable (X : (⟨3, ![8, 4096, 3584]⟩ : Shape).Idx → EReal) (B : (⟨1, ![8]⟩ : Shape).Idx → EReal)

/-- The score of key `s` by query `t` of head `h`. -/
def score (b h : Fin 8) (t : Fin 4096) (s : ℕ) : EReal :=
  if hs : s < 4096 then
    (∑ x : Fin 64, X (ix3 b t ⟨h.val * 64 + x.val, by omega⟩) * X (ix3 b ⟨s, hs⟩ ⟨512 + (h.val * 64 + x.val), by omega⟩)) + B (ix1 h)
  else 0

/-- Value `l` of key `s`. -/
def vals (b : Fin 8) (l : Fin 512) (s : ℕ) : EReal := if hs : s < 4096 then X (ix3 b ⟨s, hs⟩ ⟨1024 + l.val, by omega⟩) else 0

/-- The head of lane `l`. -/
abbrev headOf (l : Fin 512) : Fin 8 := ⟨l.val / 64, by omega⟩

/-- What keys `n` and up add to the output at query `t`, lane `l`. -/
def acc (n : ℕ) (b : Fin 8) (t : Fin 4096) (l : Fin 512) : EReal :=
  ∑ s ∈ Finset.Ico n 4096, W (score X B b (headOf l) t) t.val s * vals X b l s

/-- Every score is at most 80. -/
def Bounded : Prop := ∀ b h t s, score X B b h t s ≤ Ideal.ofBits .f32 0x42A00000#32

end Cert.SbMath
-- ==== Proof.SbStep.lean ====
/- The attention kernel: what one block of keys does to the running sums of one head, as arrays and index by index. -/
module

public import proofs.«01_k».proof.Proof.Gen.SbIdeal.Frame
public import proofs.«01_k».proof.Proof.SbMath
public import Idealize.ShloMosaic.Lib.Pointwise
public import Idealize.ShloMosaic.Lib.WordCmp

@[expose] public section

set_option maxRecDepth 16384

noncomputable section

namespace Cert.SbStep

open Cert.SbMath Cert.SbIdeal Cert.SbIdeal.Gen Idealize.ShloMosaic Idealize.ShloMosaic.TcCoe

/-- An array of reals of shape `S`. -/
abbrev Arr (S : Shape) (e : FTy) := FVec Ideal S e

/-- The lanes of the even head of a pair. -/
abbrev lanesQ : IVec S256x128 1 := cmpi .slt (iota .tc S256x128 32 [1] iota_S256x128_d1_w32) (broadcast S256x128 64#32)
/-- The same lanes over two key blocks. -/
abbrev lanesV : IVec S512x128 1 := cmpi .slt (iota .tc S512x128 32 [1] iota_S512x128_d1_w32) (broadcast S512x128 64#32)

/-- The arrays of one head of a pair: the other head's lanes at zero. -/
abbrev evenQ (x : Arr S256x128 .bf16) : Arr S256x128 .bf16 := select lanesQ x (broadcast S256x128 (Scalar.ofBits .bf16 0x0000#16))
abbrev oddQ (x : Arr S256x128 .bf16) : Arr S256x128 .bf16 :=
  select (xori lanesQ (constantI S256x128 1 1#1)) x (broadcast S256x128 (Scalar.ofBits .bf16 0x0000#16))
abbrev evenV (x : Arr S512x128 .bf16) : Arr S512x128 .bf16 := select lanesV x (broadcast S512x128 (Scalar.ofBits .bf16 0x0000#16))
abbrev oddV (x : Arr S512x128 .bf16) : Arr S512x128 .bf16 :=
  select (xori lanesV (constantI S512x128 1 1#1)) x (broadcast S512x128 (Scalar.ofBits .bf16 0x0000#16))

/-- The scores of one and of two blocks of keys. -/
def zed1 (q k : Arr S256x128 .bf16) (b : Ideal .f32) : Arr S256x256 .f32 :=
  addf (matmul dot_S256x128_S256x128_S256x256_1_1_0_0_n_n none q k (constant S256x256 .f32 0x00000000#32)) (broadcast S256x256 b)
def zed2 (q : Arr S256x128 .bf16) (k : Arr S512x128 .bf16) (b : Ideal .f32) : Arr S256x512 .f32 :=
  addf (matmul dot_S256x128_S512x128_S256x512_1_1_0_0_n_n none q k (constant S256x512 .f32 0x00000000#32)) (broadcast S256x512 b)

/-- The log of one plus the exponential, score by score. -/
def stayA (S : Shape) (z : Arr S .f32) : Arr S .f32 :=
  maximumf z (log (addf (broadcast S (Scalar.ofBits .f32 0x3F800000#32)) (exp (minimumf z (broadcast S (Scalar.ofBits .f32 0x42A00000#32))))))

/-- The causal mask of the diagonal block. -/
abbrev mask (m : IVec S256x256 1) (x : Arr S256x256 .f32) : Arr S256x256 .f32 :=
  select m x (broadcast S256x256 (Scalar.ofBits .f32 0x00000000#32))

/-- The carry after a block. -/
def car (C : Arr S256x128 .f32) (s : Arr S256x256 .f32) : Arr S256x128 .f32 :=
  addf C (broadcastTo S256x128 (shapeCast S256x1 (shapeCast S256x1 (multiReduction .add [1] S256 s 0x00000000#32 reduces_S256x256_S256 (.inl rfl) rfl)
    shapeCasts_S256_S256x1) shapeCasts_S256x1_S256x1) broadcasts_S256x1_S256x128)

/-- The weights of a block. -/
def wts (z s r : Arr S256x256 .f32) (C : Arr S256x128 .f32) : Arr S256x256 .f32 :=
  exp (subf (subf (subf z s) r) (concatenate S256x256 1 [⟨S256x128, C⟩, ⟨S256x128, C⟩] concatenates_S256x128_S256x128_S256x256_d1))

/-- One masked block: its log terms, its weights, its update. -/
def st1 (m : IVec S256x256 1) (z : Arr S256x256 .f32) : Arr S256x256 .f32 := mask m (stayA S256x256 z)
def upd1 (m : IVec S256x256 1) (tri : Arr S256x256 .bf16) (z : Arr S256x256 .f32) (C : Arr S256x128 .f32) (v : Arr S256x128 .bf16) :
    Arr S256x128 .f32 :=
  matmul dot_S256x256_S256x128_S256x128_1_0_0_1_n_n none
    (truncf .bf16 (mask m (wts z (st1 m z)
      (matmul dot_S256x256_S256x256_S256x256_1_0_0_1_n_n none (truncf .bf16 (st1 m z) bitsLt_bf16_f32) tri (constant S256x256 .f32 0x00000000#32)) C))
      bitsLt_bf16_f32) v (constant S256x128 .f32 0x00000000#32)

/-- The two halves of two blocks. -/
abbrev lo (z : Arr S256x512 .f32) : Arr S256x256 .f32 := extractStridedSlice S256x256 ![0, 0] z slices_S256x512_o0_0_S256x256
abbrev hi (z : Arr S256x512 .f32) : Arr S256x256 .f32 := extractStridedSlice S256x256 ![0, 256] z slices_S256x512_o0_256_S256x256

/-- Two blocks, `f` masking the last: the sums to the right, the weights, the update. -/
def right2 (tri : Arr S256x256 .bf16) (s0 s1 : Arr S256x256 .f32) : Arr S512x256 .f32 :=
  matmul dot_S512x256_S256x256_S512x256_1_0_0_1_n_n none
    (truncf .bf16 (concatenate S512x256 0 [⟨S256x256, s0⟩, ⟨S256x256, s1⟩] concatenates_S256x256_S256x256_S512x256_d0) bitsLt_bf16_f32)
    tri (constant S512x256 .f32 0x00000000#32)
def upd2 (f : Arr S256x256 .f32 → Arr S256x256 .f32) (tri : Arr S256x256 .bf16) (z : Arr S256x512 .f32) (C : Arr S256x128 .f32)
    (v : Arr S512x128 .bf16) : Arr S256x128 .f32 :=
  matmul dot_S256x512_S512x128_S256x128_1_0_0_1_n_n none
    (truncf .bf16 (concatenate S256x512 1
      [⟨S256x256, wts (lo z) (lo (stayA S256x512 z))
          (extractStridedSlice S256x256 ![0, 0] (right2 tri (lo (stayA S256x512 z)) (f (hi (stayA S256x512 z)))) slices_S512x256_o0_0_S256x256)
          (car C (f (hi (stayA S256x512 z))))⟩,
       ⟨S256x256, f (wts (hi z) (f (hi (stayA S256x512 z)))
          (extractStridedSlice S256x256 ![256, 0] (right2 tri (lo (stayA S256x512 z)) (f (hi (stayA S256x512 z)))) slices_S512x256_o256_0_S256x256) C)⟩]
      concatenates_S256x256_S256x256_S256x512_d1) bitsLt_bf16_f32) v (constant S256x128 .f32 0x00000000#32)
def car2 (f : Arr S256x256 .f32 → Arr S256x256 .f32) (z : Arr S256x512 .f32) (C : Arr S256x128 .f32) : Arr S256x128 .f32 :=
  car (car C (f (hi (stayA S256x512 z)))) (lo (stayA S256x512 z))

/-- Blocks with and without their leading axis of one. -/
abbrev up (x : Arr S256x128 .f32) : Arr S1x256x128 .f32 := shapeCast S1x256x128 x shapeCasts_S256x128_S1x256x128
abbrev dn (x : Arr S1x256x128 .f32) : Arr S256x128 .f32 := shapeCast S256x128 x shapeCasts_S1x256x128_S256x128

/-- The blocks as the kernel loads them, without their leading axis of one. -/
abbrev dnB (x : Arr S1x256x128 .bf16) : Arr S256x128 .bf16 := shapeCast S256x128 x shapeCasts_S1x256x128_S256x128
abbrev dn2 (x : Arr S1x512x128 .bf16) : Arr S512x128 .bf16 := shapeCast S512x128 x shapeCasts_S1x512x128_S512x128
abbrev sq (x : Arr S256x256 .bf16) : Arr S256x256 .bf16 := shapeCast S256x256 x shapeCasts_S256x256_S256x256

/-- What two blocks of keys do to a pair's running output and to its heads' carries. -/
def acc2 (f : Arr S256x256 .f32 → Arr S256x256 .f32) (tri : Arr S256x256 .bf16) (q : Arr S1x256x128 .bf16) (k v : Arr S1x512x128 .bf16)
    (b0 b1 : Ideal .f32) (C0 C1 A : Arr S1x256x128 .f32) : Arr S1x256x128 .f32 :=
  up (addf (dn A) (addf (upd2 f (sq tri) (zed2 (evenQ (dnB q)) (dn2 k) b0) (dn C0) (evenV (dn2 v)))
    (upd2 f (sq tri) (zed2 (oddQ (dnB q)) (dn2 k) b1) (dn C1) (oddV (dn2 v)))))
def carE2 (f : Arr S256x256 .f32 → Arr S256x256 .f32) (q : Arr S1x256x128 .bf16) (k : Arr S1x512x128 .bf16) (b : Ideal .f32)
    (C : Arr S1x256x128 .f32) : Arr S1x256x128 .f32 := up (car2 f (zed2 (evenQ (dnB q)) (dn2 k) b) (dn C))
def carO2 (f : Arr S256x256 .f32 → Arr S256x256 .f32) (q : Arr S1x256x128 .bf16) (k : Arr S1x512x128 .bf16) (b : Ideal .f32)
    (C : Arr S1x256x128 .f32) : Arr S1x256x128 .f32 := up (car2 f (zed2 (oddQ (dnB q)) (dn2 k) b) (dn C))

/-- The same for one masked block. -/
def acc1 (m : IVec S256x256 1) (tri : Arr S256x256 .bf16) (q k v : Arr S1x256x128 .bf16)
    (b0 b1 : Ideal .f32) (C0 C1 A : Arr S1x256x128 .f32) : Arr S1x256x128 .f32 :=
  up (addf (dn A) (addf (upd1 m (sq tri) (zed1 (evenQ (dnB q)) (dnB k) b0) (dn C0) (evenQ (dnB v)))
    (upd1 m (sq tri) (zed1 (oddQ (dnB q)) (dnB k) b1) (dn C1) (oddQ (dnB v)))))
def carE1 (m : IVec S256x256 1) (q k : Arr S1x256x128 .bf16) (b : Ideal .f32)
    (C : Arr S1x256x128 .f32) : Arr S1x256x128 .f32 := up (car (dn C) (st1 m (zed1 (evenQ (dnB q)) (dnB k) b)))
def carO1 (m : IVec S256x256 1) (q k : Arr S1x256x128 .bf16) (b : Ideal .f32)
    (C : Arr S1x256x128 .f32) : Arr S1x256x128 .f32 := up (car (dn C) (st1 m (zed1 (oddQ (dnB q)) (dnB k) b)))

/-! ## Index by index -/

theorem zed1_apply (q k : Arr S256x128 .bf16) (b : Ideal .f32) (a s : Fin 256) :
    zed1 q k b (ix2 a s) = ((∑ x : Fin 128, q (ix2 a x) * k (ix2 s x)) + b : EReal) := by
  pointwise [zed1]

theorem zed2_apply (q : Arr S256x128 .bf16) (k : Arr S512x128 .bf16) (b : Ideal .f32) (a : Fin 256) (s : Fin 512) :
    zed2 q k b (ix2 a s) = ((∑ x : Fin 128, q (ix2 a x) * k (ix2 s x)) + b : EReal) := by
  pointwise [zed2]

theorem slt_apply (l k : ℕ) (hl : l < 4096) (hk : k < 4096) (a b : EReal) :
    Scalar.select (IntOp.cmpi CmpIPredicate.slt (BitVec.ofNat 32 l) (BitVec.ofNat 32 k)) a b = if l < k then a else b := by
  rw [WordCmp.cmpi_slt_ofNat (by omega) (by omega)]
  unfold Scalar.select
  by_cases h : l < k <;> simp [h]

theorem xslt_apply (l k : ℕ) (hl : l < 4096) (hk : k < 4096) (a b : EReal) :
    Scalar.select (IntOp.xori (IntOp.cmpi CmpIPredicate.slt (BitVec.ofNat 32 l) (BitVec.ofNat 32 k)) 1#1) a b = if l < k then b else a := by
  rw [WordCmp.cmpi_slt_ofNat (by omega) (by omega)]
  unfold Scalar.select IntOp.xori
  by_cases h : l < k <;> simp [h]

theorem evenQ_apply (x : Arr S256x128 .bf16) (a : Fin 256) (l : Fin 128) : evenQ x (ix2 a l) = if l.val < 64 then x (ix2 a l) else (0 : EReal) := by
  pointwise []
  exact slt_apply l.val 64 (by omega) (by omega) _ _

theorem oddQ_apply (x : Arr S256x128 .bf16) (a : Fin 256) (l : Fin 128) : oddQ x (ix2 a l) = if l.val < 64 then (0 : EReal) else x (ix2 a l) := by
  pointwise []
  exact xslt_apply l.val 64 (by omega) (by omega) _ _

theorem evenV_apply (x : Arr S512x128 .bf16) (a : Fin 512) (l : Fin 128) : evenV x (ix2 a l) = if l.val < 64 then x (ix2 a l) else (0 : EReal) := by
  pointwise []
  exact slt_apply l.val 64 (by omega) (by omega) _ _

theorem oddV_apply (x : Arr S512x128 .bf16) (a : Fin 512) (l : Fin 128) : oddV x (ix2 a l) = if l.val < 64 then (0 : EReal) else x (ix2 a l) := by
  pointwise []
  exact xslt_apply l.val 64 (by omega) (by omega) _ _

theorem stay1_apply (z : Arr S256x256 .f32) (a s : Fin 256) : stayA S256x256 z (ix2 a s) = stay (z (ix2 a s)) := by
  pointwise [stayA]; rfl

theorem stay2_apply (z : Arr S256x512 .f32) (a : Fin 256) (s : Fin 512) : stayA S256x512 z (ix2 a s) = stay (z (ix2 a s)) := by
  pointwise [stayA]; rfl

theorem lo_apply (z : Arr S256x512 .f32) (a s : Fin 256) : lo z (ix2 a s) = z (ix2 a ⟨s.val, by omega⟩) := by pointwise []
theorem hi_apply (z : Arr S256x512 .f32) (a s : Fin 256) : hi z (ix2 a s) = z (ix2 a ⟨256 + s.val, by omega⟩) := by pointwise []

theorem mask_apply (m : IVec S256x256 1) (z : Arr S256x256 .f32) (a s : Fin 256) : mask m z (ix2 a s) = Scalar.select (m (ix2 a s)) (z (ix2 a s)) (0 : EReal) := by
  pointwise []

theorem car_apply (C : Arr S256x128 .f32) (s : Arr S256x256 .f32) (a : Fin 256) (l : Fin 128) :
    car C s (ix2 a l) = (C (ix2 a l) + ∑ x : Fin 256, s (ix2 a x) : EReal) := by
  pointwise [car]

theorem wts_apply (z s r : Arr S256x256 .f32) (C : Arr S256x128 .f32) (a j : Fin 256) (c : EReal) (hC : ∀ l : Fin 128, C (ix2 a l) = c) :
    wts z s r C (ix2 a j) = Ideal.exp ((z (ix2 a j) - s (ix2 a j) - r (ix2 a j) - c : EReal)) := by
  pointwise [wts]
  split_ifs <;> rw [hC]

theorem right2_lo (tri : Arr S256x256 .bf16) (s0 s1 : Arr S256x256 .f32) (a j : Fin 256) :
    extractStridedSlice S256x256 ![0, 0] (right2 tri s0 s1) slices_S512x256_o0_0_S256x256 (ix2 a j)
      = (∑ x : Fin 256, s0 (ix2 a x) * tri (ix2 x j) : EReal) := by
  pointwise [right2]

theorem right2_hi (tri : Arr S256x256 .bf16) (s0 s1 : Arr S256x256 .f32) (a j : Fin 256) :
    extractStridedSlice S256x256 ![256, 0] (right2 tri s0 s1) slices_S512x256_o256_0_S256x256 (ix2 a j)
      = (∑ x : Fin 256, s1 (ix2 a x) * tri (ix2 x j) : EReal) := by
  pointwise [right2]

/-! ## One row: query `t`, keys from `n` -/

section row
variable (Z V : ℕ → EReal) (t n : ℕ) (a : Fin 256) (hle : ∀ j, Z j ≤ Ideal.ofBits .f32 0x42A00000#32)

/-- The masking function of a block whose first key is `n`, on row `a`. -/
def Masks (f : Arr S256x256 .f32 → Arr S256x256 .f32) : Prop :=
  ∀ y (x : Fin 256), f y (ix2 a x) = if n + x.val < t then y (ix2 a x) else (0 : EReal)

theorem masks_id (h : n + 256 ≤ t) : Masks t n a id := fun y x => by rw [if_pos (by omega)]; rfl

variable {Z V t n a}

include hle in
theorem st_of_mask {f : Arr S256x256 .f32 → Arr S256x256 .f32} (hf : Masks t n a f) {z : Arr S256x256 .f32} (hz : ∀ x : Fin 256, z (ix2 a x) = stay (Z (n + x.val))) (x : Fin 256) :
    f z (ix2 a x) = (st Z t (n + x.val) : EReal) := by
  rw [hf, hz, stay_eq _ (hle _)]
  unfold st
  split_ifs <;> rfl

theorem car_row {s : Arr S256x256 .f32} {C : Arr S256x128 .f32} (h : n + 256 ≤ 4096) (hs : ∀ x : Fin 256, s (ix2 a x) = (st Z t (n + x.val) : EReal))
    (hC : ∀ l : Fin 128, C (ix2 a l) = (S Z t (n + 256) : EReal)) (l : Fin 128) : car C s (ix2 a l) = (S Z t n : EReal) := by
  rw [car_apply, hC, ← S_carry Z t n 256 h]
  exact congrArg _ (Finset.sum_congr rfl fun x _ => hs x)

theorem wts_row {z s r : Arr S256x256 .f32} {C : Arr S256x128 .f32} {tri : Arr S256x256 .bf16} (h : n + 256 ≤ 4096)
    (htri : ∀ x j : Fin 256, tri (ix2 x j) = if j.val < x.val then (1 : EReal) else 0)
    (hz : ∀ x : Fin 256, z (ix2 a x) = Z (n + x.val)) (hs : ∀ x : Fin 256, s (ix2 a x) = (st Z t (n + x.val) : EReal))
    (hr : ∀ j : Fin 256, r (ix2 a j) = (∑ x : Fin 256, s (ix2 a x) * tri (ix2 x j) : EReal))
    (hC : ∀ l : Fin 128, C (ix2 a l) = (S Z t (n + 256) : EReal)) (x : Fin 256) :
    wts z s r C (ix2 a x) = Ideal.exp (Z (n + x.val) - (S Z t (n + x.val) : EReal)) := by
  rw [wts_apply z s r C a x _ hC, hz, hs, hr, ← block_weight Z t n h x]
  simp only [hs, htri]

/-- A masked weight is the weight. -/
theorem W_of_mask {f : Arr S256x256 .f32 → Arr S256x256 .f32} (hf : Masks t n a f) {w : Arr S256x256 .f32}
    (hw : ∀ x : Fin 256, w (ix2 a x) = Ideal.exp (Z (n + x.val) - (S Z t (n + x.val) : EReal))) (x : Fin 256) : f w (ix2 a x) = W Z t (n + x.val) := by
  rw [hf, hw]; rfl

variable {tri : Arr S256x256 .bf16} (htri : ∀ x j : Fin 256, tri (ix2 x j) = if j.val < x.val then (1 : EReal) else 0)

include hle htri in
theorem upd1_row {m : IVec S256x256 1} {z : Arr S256x256 .f32} {C : Arr S256x128 .f32} {v : Arr S256x128 .bf16} (h : n + 256 ≤ 4096)
    (hf : Masks t n a (mask m)) (hz : ∀ x : Fin 256, z (ix2 a x) = Z (n + x.val))
    (hC : ∀ l : Fin 128, C (ix2 a l) = (S Z t (n + 256) : EReal)) (l : Fin 128) (hv : ∀ x : Fin 256, v (ix2 x l) = V (n + x.val)) :
    upd1 m tri z C v (ix2 a l) = ∑ j ∈ Finset.Ico n (n + 256), W Z t j * V j := by
  have hs : ∀ x : Fin 256, st1 m z (ix2 a x) = (st Z t (n + x.val) : EReal) := st_of_mask hle hf fun x => by rw [stay1_apply, hz]
  have hw := W_of_mask hf (wts_row h htri hz hs (C := C)
    (r := matmul dot_S256x256_S256x256_S256x256_1_0_0_1_n_n none (truncf .bf16 (st1 m z) bitsLt_bf16_f32) tri (constant S256x256 .f32 0x00000000#32))
    (fun j => by pointwise []) hC)
  rw [sum_Ico]
  unfold upd1
  refine Eq.trans (b := ∑ x : Fin 256, (mask m _ (ix2 a x) * v (ix2 x l) : EReal)) (by pointwise []; rfl) (Finset.sum_congr rfl fun x _ => ?_)
  exact congrArg₂ (· * ·) (hw x) (hv x)

include hle in
theorem car1_row {m : IVec S256x256 1} {z : Arr S256x256 .f32} {C : Arr S256x128 .f32} (h : n + 256 ≤ 4096)
    (hf : Masks t n a (mask m)) (hz : ∀ x : Fin 256, z (ix2 a x) = Z (n + x.val))
    (hC : ∀ l : Fin 128, C (ix2 a l) = (S Z t (n + 256) : EReal)) (l : Fin 128) : car C (st1 m z) (ix2 a l) = (S Z t n : EReal) :=
  car_row h (st_of_mask hle hf fun x => by rw [stay1_apply, hz]) hC l

variable {f : Arr S256x256 .f32 → Arr S256x256 .f32} {z : Arr S256x512 .f32} {C : Arr S256x128 .f32} {v : Arr S512x128 .bf16} (h : n + 512 ≤ 4096)
    (hlo : n + 256 ≤ t) (hf : Masks t (n + 256) a f) (hz : ∀ x : Fin 512, z (ix2 a x) = Z (n + x.val))
    (hC : ∀ l : Fin 128, C (ix2 a l) = (S Z t (n + 512) : EReal))

include hle hlo hz in
theorem lo_row (x : Fin 256) : lo (stayA S256x512 z) (ix2 a x) = (st Z t (n + x.val) : EReal) :=
  st_of_mask hle (masks_id t n a hlo) (z := lo (stayA S256x512 z)) (fun x => by rw [lo_apply, stay2_apply, hz]) x

include hle hf hz in
theorem hi_row (x : Fin 256) : f (hi (stayA S256x512 z)) (ix2 a x) = (st Z t (n + 256 + x.val) : EReal) :=
  st_of_mask hle hf (fun x => by rw [hi_apply, stay2_apply, hz]; exact congrArg (fun k => stay (Z k)) (by show n + (256 + x.val) = _; omega)) x

include hle h hf hz hC in
theorem car_hi_row (l : Fin 128) : car C (f (hi (stayA S256x512 z))) (ix2 a l) = (S Z t (n + 256) : EReal) :=
  car_row (by omega) (hi_row hle hf hz) hC l

include hle h hlo hf hz hC in
theorem car2_row (l : Fin 128) : car2 f z C (ix2 a l) = (S Z t n : EReal) :=
  car_row (by omega) (lo_row hle hlo hz) (car_hi_row hle h hf hz hC) l

include hle htri h hlo hf hz hC in
theorem upd2_row (l : Fin 128) (hv : ∀ x : Fin 512, v (ix2 x l) = V (n + x.val)) :
    upd2 f tri z C v (ix2 a l) = ∑ j ∈ Finset.Ico n (n + 512), W Z t j * V j := by
  have hw1 := W_of_mask hf (wts_row (n := n + 256) (by omega) htri (z := hi z)
    (fun x => by rw [hi_apply, hz]; exact congrArg Z (by show n + (256 + x.val) = _; omega)) (hi_row hle hf hz)
    (right2_hi tri (lo (stayA S256x512 z)) (f (hi (stayA S256x512 z))) a) hC)
  have hw0 := W_of_mask (masks_id t n a hlo) (wts_row (n := n) (by omega) htri (z := lo z)
    (fun x => by rw [lo_apply, hz]) (lo_row hle hlo hz)
    (right2_lo tri (lo (stayA S256x512 z)) (f (hi (stayA S256x512 z))) a) (car_hi_row hle h hf hz hC))
  rw [← Finset.sum_Ico_consecutive _ (show n ≤ n + 256 by omega) (show n + 256 ≤ n + 512 by omega), sum_Ico, sum_Ico (m := 256) (n := n + 256)]
  pointwise [upd2]
  refine congrArg₂ (· + ·) (Finset.sum_congr rfl fun x _ => ?_) (Finset.sum_congr rfl fun x _ => ?_)
  · exact congrArg₂ (· * ·) (hw0 x) (hv _)
  · exact congrArg₂ (· * ·) (hw1 x) ((hv _).trans (congrArg V (by show n + (256 + x.val) = _; omega)))

end row

end Cert.SbStep
-- ==== Proof.SbPair.lean ====
module
public import proofs.«01_k».proof.Proof.SbStep
@[expose] public section
set_option maxRecDepth 16384
/-! What a block of keys does to a pair of heads, in the terms of the attention's own sums. -/
noncomputable section
namespace Cert.SbPair
open Cert.SbIdeal Cert.SbIdeal.Gen Cert.SbMath Cert.SbStep Idealize.ShloMosaic Idealize.ShloMosaic.TcCoe

theorem sum_halves (g : Fin 128 → EReal) : ∑ x, g x = (∑ x : Fin 64, g ⟨x.val, by omega⟩) + ∑ x : Fin 64, g ⟨64 + x.val, by omega⟩ :=
  Fin.sum_univ_add (a := 64) (b := 64) g

theorem dnB_apply (x : Arr S1x256x128 .bf16) (a : Fin 256) (l : Fin 128) : dnB x (ix2 a l) = x (ix3 0 a l) := by pointwise []
theorem dn2_apply (x : Arr S1x512x128 .bf16) (a : Fin 512) (l : Fin 128) : dn2 x (ix2 a l) = x (ix3 0 a l) := by pointwise []
theorem dn_apply (x : Arr S1x256x128 .f32) (a : Fin 256) (l : Fin 128) : dn x (ix2 a l) = x (ix3 0 a l) := by pointwise []
theorem up_apply (x : Arr S256x128 .f32) (a : Fin 256) (l : Fin 128) : up x (ix3 0 a l) = x (ix2 a l) := by pointwise []
theorem sq_apply (x : Arr S256x256 .bf16) (a l : Fin 256) : sq x (ix2 a l) = x (ix2 a l) := by pointwise []

variable {X : (⟨3, ![8, 4096, 3584]⟩ : Shape).Idx → EReal} {B : (⟨1, ![8]⟩ : Shape).Idx → EReal}
  {b : Fin 8} {t : Fin 4096} {n : ℕ} {a : Fin 256} {p : Fin 4}

theorem even_sum (q : Arr S256x128 .bf16) (f : Fin 128 → EReal) : (∑ x : Fin 128, evenQ q (ix2 a x) * f x : EReal)
    = ∑ x : Fin 64, q (ix2 a ⟨x.val, by omega⟩) * f ⟨x.val, by omega⟩ := by
  rw [sum_halves, Finset.sum_eq_zero (s := Finset.univ (α := Fin 64)) (f := fun x => evenQ q (ix2 a ⟨64 + x.val, by omega⟩) * f ⟨64 + x.val, by omega⟩), add_zero]
  · exact Finset.sum_congr rfl fun x _ => by rw [evenQ_apply, if_pos x.isLt]
  · intro x _
    rw [evenQ_apply, if_neg (by simp), zero_mul]

theorem odd_sum (q : Arr S256x128 .bf16) (f : Fin 128 → EReal) : (∑ x : Fin 128, oddQ q (ix2 a x) * f x : EReal)
    = ∑ x : Fin 64, q (ix2 a ⟨64 + x.val, by omega⟩) * f ⟨64 + x.val, by omega⟩ := by
  rw [sum_halves, Finset.sum_eq_zero (s := Finset.univ (α := Fin 64)) (f := fun x => oddQ q (ix2 a ⟨x.val, by omega⟩) * f ⟨x.val, by omega⟩), zero_add]
  · exact Finset.sum_congr rfl fun x _ => by rw [oddQ_apply, if_neg (by simp)]
  · intro x _
    rw [oddQ_apply, if_pos x.isLt, zero_mul]

/-- The two heads of a pair. -/
abbrev hE (p : Fin 4) : Fin 8 := ⟨2 * p.val, by omega⟩
abbrev hO (p : Fin 4) : Fin 8 := ⟨2 * p.val + 1, by omega⟩
abbrev lane (p : Fin 4) (l : Fin 128) : Fin 512 := ⟨128 * p.val + l.val, by omega⟩

theorem score_even (q : Arr S256x128 .bf16) (f : Fin 128 → EReal) (s : ℕ) (hs : s < 4096)
    (hq : ∀ x, q (ix2 a x) = X (ix3 b t ⟨128 * p.val + x.val, by omega⟩))
    (hf : ∀ x, f x = X (ix3 b ⟨s, hs⟩ ⟨512 + (128 * p.val + x.val), by omega⟩)) :
    (∑ x : Fin 128, evenQ q (ix2 a x) * f x : EReal) + B (ix1 (hE p)) = score X B b (hE p) t s := by
  rw [even_sum, score, dif_pos hs]
  refine congrArg (· + B (ix1 (hE p))) (Finset.sum_congr rfl fun x _ => ?_)
  rw [hq, hf]
  refine congrArg₂ (· * ·) (congrArg (fun z => X (ix3 b t z)) (Fin.ext ?_)) (congrArg (fun z => X (ix3 b ⟨s, hs⟩ z)) (Fin.ext ?_)) <;>
  · simp only [hE]; omega

theorem score_odd (q : Arr S256x128 .bf16) (f : Fin 128 → EReal) (s : ℕ) (hs : s < 4096)
    (hq : ∀ x, q (ix2 a x) = X (ix3 b t ⟨128 * p.val + x.val, by omega⟩))
    (hf : ∀ x, f x = X (ix3 b ⟨s, hs⟩ ⟨512 + (128 * p.val + x.val), by omega⟩)) :
    (∑ x : Fin 128, oddQ q (ix2 a x) * f x : EReal) + B (ix1 (hO p)) = score X B b (hO p) t s := by
  rw [odd_sum, score, dif_pos hs]
  refine congrArg (· + B (ix1 (hO p))) (Finset.sum_congr rfl fun x _ => ?_)
  rw [hq, hf]
  refine congrArg₂ (· * ·) (congrArg (fun z => X (ix3 b t z)) (Fin.ext ?_)) (congrArg (fun z => X (ix3 b ⟨s, hs⟩ z)) (Fin.ext ?_)) <;>
  · simp only [hO]; omega

/-- The output's sum, block by block. -/
theorem acc_block (m : ℕ) (h : n + m ≤ 4096) (l : Fin 512) : acc X B n b t l
    = acc X B (n + m) b t l + ∑ s ∈ Finset.Ico n (n + m), W (score X B b (headOf l) t) t.val s * vals X b l s := by
  unfold acc
  rw [add_comm]
  exact (Finset.sum_Ico_consecutive _ (by omega) h).symm

theorem head_even (l : Fin 128) (h : l.val < 64) : headOf (lane p l) = hE p := Fin.ext (by simp only [lane, hE]; omega)
theorem head_odd (l : Fin 128) (h : ¬ l.val < 64) : headOf (lane p l) = hO p := Fin.ext (by simp only [lane, hO]; omega)

/-- One of the two heads of a pair writes lane `l`. -/
theorem acc_pair (m : ℕ) (h : n + m ≤ 4096) (l : Fin 128) (A e o : EReal) (hA : A = acc X B (n + m) b t (lane p l))
    (he : e = ∑ s ∈ Finset.Ico n (n + m), W (score X B b (hE p) t) t.val s * (if l.val < 64 then vals X b (lane p l) s else 0))
    (ho : o = ∑ s ∈ Finset.Ico n (n + m), W (score X B b (hO p) t) t.val s * (if l.val < 64 then 0 else vals X b (lane p l) s)) :
    A + (e + o) = acc X B n b t (lane p l) := by
  rw [acc_block m h, hA, he, ho]
  refine congrArg (acc X B (n + m) b t (lane p l) + ·) ?_
  by_cases hl : l.val < 64
  · simp only [if_pos hl, mul_zero, Finset.sum_const_zero, add_zero, head_even l hl]
  · simp only [if_neg hl, mul_zero, Finset.sum_const_zero, zero_add, head_odd l hl]

/-- What the blocks of a step hold: the pair's queries, keys and values. -/
structure Blocks (X : (⟨3, ![8, 4096, 3584]⟩ : Shape).Idx → EReal) (b : Fin 8) (t : Fin 4096) (n : ℕ) (a : Fin 256) (p : Fin 4) (m : ℕ)
    (q : Arr S1x256x128 .bf16) (k v : Arr ⟨3, ![1, m, 128]⟩ .bf16) : Prop where
  h : n + m ≤ 4096
  q : ∀ x, q (ix3 0 a x) = X (ix3 b t ⟨128 * p.val + x.val, by omega⟩)
  k : ∀ (y : Fin m) x, k (ix3 0 y x) = X (ix3 b ⟨n + y.val, by omega⟩ ⟨512 + (128 * p.val + x.val), by omega⟩)
  v : ∀ (y : Fin m) x, v (ix3 0 y x) = X (ix3 b ⟨n + y.val, by omega⟩ ⟨1024 + (128 * p.val + x.val), by omega⟩)

variable {q : Arr S1x256x128 .bf16} {b0 b1 : Ideal .f32} {tri : Arr S256x256 .bf16} {C0 C1 A : Arr S1x256x128 .f32} (hB : Bounded X B)
  (htri : ∀ x j : Fin 256, tri (ix2 x j) = if j.val < x.val then (1 : EReal) else 0)

section two
variable {k v : Arr S1x512x128 .bf16} (H : Blocks X b t n a p 512 q k v) {f : Arr S256x256 .f32 → Arr S256x256 .f32} (hlo : n + 256 ≤ t.val) (hf : Masks t.val (n + 256) a f)

include H in
theorem zedE2 (h0 : b0 = B (ix1 (hE p))) (y : Fin 512) : zed2 (evenQ (dnB q)) (dn2 k) b0 (ix2 a y) = score X B b (hE p) t (n + y.val) := by
  rw [zed2_apply, h0]
  exact score_even (dnB q) (fun x => dn2 k (ix2 y x)) _ _ (fun x => (dnB_apply q a x).trans (H.q x)) fun x => (dn2_apply k y x).trans (H.k y x)

include H in
theorem zedO2 (h1 : b1 = B (ix1 (hO p))) (y : Fin 512) : zed2 (oddQ (dnB q)) (dn2 k) b1 (ix2 a y) = score X B b (hO p) t (n + y.val) := by
  rw [zed2_apply, h1]
  exact score_odd (dnB q) (fun x => dn2 k (ix2 y x)) _ _ (fun x => (dnB_apply q a x).trans (H.q x)) fun x => (dn2_apply k y x).trans (H.k y x)

include hB H hlo hf in
theorem carE2_row (h0 : b0 = B (ix1 (hE p))) (hC : ∀ l, C0 (ix3 0 a l) = (S (score X B b (hE p) t) t.val (n + 512) : EReal)) (l : Fin 128) :
    carE2 f q k b0 C0 (ix3 0 a l) = (S (score X B b (hE p) t) t.val n : EReal) :=
  (up_apply _ a l).trans (car2_row (hB _ _ _) H.h hlo hf (zedE2 H h0) (fun l => (dn_apply C0 a l).trans (hC l)) l)

include hB H hlo hf in
theorem carO2_row (h1 : b1 = B (ix1 (hO p))) (hC : ∀ l, C1 (ix3 0 a l) = (S (score X B b (hO p) t) t.val (n + 512) : EReal)) (l : Fin 128) :
    carO2 f q k b1 C1 (ix3 0 a l) = (S (score X B b (hO p) t) t.val n : EReal) :=
  (up_apply _ a l).trans (car2_row (hB _ _ _) H.h hlo hf (zedO2 H h1) (fun l => (dn_apply C1 a l).trans (hC l)) l)

include H in
theorem vals2 (y : Fin 512) (l : Fin 128) : dn2 v (ix2 y l) = vals X b (lane p l) (n + y.val) := by
  have := H.h
  rw [dn2_apply, H.v, vals, dif_pos (by omega)]

include hB htri H hlo hf in
theorem acc2_row (h0 : b0 = B (ix1 (hE p))) (h1 : b1 = B (ix1 (hO p)))
    (hC0 : ∀ l, C0 (ix3 0 a l) = (S (score X B b (hE p) t) t.val (n + 512) : EReal))
    (hC1 : ∀ l, C1 (ix3 0 a l) = (S (score X B b (hO p) t) t.val (n + 512) : EReal)) (l : Fin 128)
    (hA : A (ix3 0 a l) = acc X B (n + 512) b t (lane p l)) :
    acc2 f tri q k v b0 b1 C0 C1 A (ix3 0 a l) = acc X B n b t (lane p l) := by
  refine (up_apply _ a l).trans (acc_pair (p := p) 512 H.h l (dn A (ix2 a l)) _ _ ((dn_apply A a l).trans hA)
    (upd2_row (hB _ _ _) (fun x j => (sq_apply tri x j).trans (htri x j)) H.h hlo hf (zedE2 H h0) (fun l => (dn_apply C0 a l).trans (hC0 l)) l
      (V := fun s => if l.val < 64 then vals X b (lane p l) s else 0) fun x => ?_)
    (upd2_row (hB _ _ _) (fun x j => (sq_apply tri x j).trans (htri x j)) H.h hlo hf (zedO2 H h1) (fun l => (dn_apply C1 a l).trans (hC1 l)) l
      (V := fun s => if l.val < 64 then 0 else vals X b (lane p l) s) fun x => ?_))
  · rw [evenV_apply, vals2 H]
  · rw [oddV_apply, vals2 H]
end two

section one
variable {k v : Arr S1x256x128 .bf16} (H : Blocks X b t n a p 256 q k v) {m : IVec S256x256 1} (hf : Masks t.val n a (mask m))

include H in
theorem zedE1 (h0 : b0 = B (ix1 (hE p))) (y : Fin 256) : zed1 (evenQ (dnB q)) (dnB k) b0 (ix2 a y) = score X B b (hE p) t (n + y.val) := by
  rw [zed1_apply, h0]
  exact score_even (dnB q) (fun x => dnB k (ix2 y x)) _ _ (fun x => (dnB_apply q a x).trans (H.q x)) fun x => (dnB_apply k y x).trans (H.k y x)

include H in
theorem zedO1 (h1 : b1 = B (ix1 (hO p))) (y : Fin 256) : zed1 (oddQ (dnB q)) (dnB k) b1 (ix2 a y) = score X B b (hO p) t (n + y.val) := by
  rw [zed1_apply, h1]
  exact score_odd (dnB q) (fun x => dnB k (ix2 y x)) _ _ (fun x => (dnB_apply q a x).trans (H.q x)) fun x => (dnB_apply k y x).trans (H.k y x)

include hB H hf in
theorem carE1_row (h0 : b0 = B (ix1 (hE p))) (hC : ∀ l, C0 (ix3 0 a l) = (S (score X B b (hE p) t) t.val (n + 256) : EReal)) (l : Fin 128) :
    carE1 m q k b0 C0 (ix3 0 a l) = (S (score X B b (hE p) t) t.val n : EReal) :=
  (up_apply _ a l).trans (car1_row (hB _ _ _) H.h hf (zedE1 H h0) (fun l => (dn_apply C0 a l).trans (hC l)) l)

include hB H hf in
theorem carO1_row (h1 : b1 = B (ix1 (hO p))) (hC : ∀ l, C1 (ix3 0 a l) = (S (score X B b (hO p) t) t.val (n + 256) : EReal)) (l : Fin 128) :
    carO1 m q k b1 C1 (ix3 0 a l) = (S (score X B b (hO p) t) t.val n : EReal) :=
  (up_apply _ a l).trans (car1_row (hB _ _ _) H.h hf (zedO1 H h1) (fun l => (dn_apply C1 a l).trans (hC l)) l)

include H in
theorem vals1 (y : Fin 256) (l : Fin 128) : dnB v (ix2 y l) = vals X b (lane p l) (n + y.val) := by
  have := H.h
  rw [dnB_apply, H.v, vals, dif_pos (by omega)]

include hB htri H hf in
theorem acc1_row (h0 : b0 = B (ix1 (hE p))) (h1 : b1 = B (ix1 (hO p)))
    (hC0 : ∀ l, C0 (ix3 0 a l) = (S (score X B b (hE p) t) t.val (n + 256) : EReal))
    (hC1 : ∀ l, C1 (ix3 0 a l) = (S (score X B b (hO p) t) t.val (n + 256) : EReal)) (l : Fin 128)
    (hA : A (ix3 0 a l) = acc X B (n + 256) b t (lane p l)) :
    acc1 m tri q k v b0 b1 C0 C1 A (ix3 0 a l) = acc X B n b t (lane p l) := by
  refine (up_apply _ a l).trans (acc_pair (p := p) 256 H.h l (dn A (ix2 a l)) _ _ ((dn_apply A a l).trans hA)
    (upd1_row (hB _ _ _) (fun x j => (sq_apply tri x j).trans (htri x j)) H.h hf (zedE1 H h0) (fun l => (dn_apply C0 a l).trans (hC0 l)) l
      (V := fun s => if l.val < 64 then vals X b (lane p l) s else 0) fun x => ?_)
    (upd1_row (hB _ _ _) (fun x j => (sq_apply tri x j).trans (htri x j)) H.h hf (zedO1 H h1) (fun l => (dn_apply C1 a l).trans (hC1 l)) l
      (V := fun s => if l.val < 64 then 0 else vals X b (lane p l) s) fun x => ?_))
  · rw [evenQ_apply, vals1 H]
  · rw [oddQ_apply, vals1 H]
end one
end Cert.SbPair
-- ==== Proof.SbState.lean ====
module
public import proofs.«01_k».proof.Proof.SbPair
public import Idealize.ShloMosaic.Lib.WritesUnit
@[expose] public section
set_option maxRecDepth 16384
/-! The two scratch arrays of a grid step, what is written to them, and what the blocks loaded in a step hold. -/
noncomputable section
namespace Cert.SbState
open Cert.SbIdeal Cert.SbIdeal.Gen Cert.SbMath Cert.SbStep Cert.SbPair Idealize.ShloMosaic Idealize.ShloMosaic.TcCoe

/-- Where a rectangle of rank three puts an index. -/
theorem unit_idx {d : Fin 3 → ℕ} {o z : Fin 3 → ℕ} (inb : ∀ a, o a + z a ≤ d a) (x : (Rect.unit (s := ⟨3, d⟩) o z inb).toLoadRect.shape.Idx)
    (y : (⟨3, d⟩ : Shape).Idx) (h : ∀ a : Fin 3, (y a).val = o a + (x a).val) : (Rect.unit (s := ⟨3, d⟩) o z inb).toLoadRect.idx x = y :=
  funext fun a => Fin.ext (by rw [h a]; exact congrArg (o a + ·) (Nat.one_mul _))

theorem coord {m : ℕ} (h : Fin m) (a : Fin 256) (l : Fin 128) (c : Fin 3) :
    ((ix3 h a l : (⟨3, ![m, 256, 128]⟩ : Shape).Idx) c).val = (![h.val, 0, 0] : Fin 3 → ℕ) c + ((ix3 0 a l : (⟨3, ![1, 256, 128]⟩ : Shape).Idx) c).val := by
  fin_cases c <;> simp [ix3]

/-- A load of one plane reads that plane. -/
theorem plane8 (v : View sig .tc .vmem S8x256x128 .f32) (f : v.ty.Contents (Elt Ideal)) (h : Fin 8) (inb) (a : Fin 256) (l : Fin 128) :
    View.readAt (Elt Ideal) v (Rect.unit (s := S8x256x128) ![h.val, 0, 0] S1x256x128.size inb).toLoadRect f (ix3 0 a l) = v.read (Elt Ideal) f (ix3 h a l) :=
  congrArg (v.read (Elt Ideal) f) (unit_idx _ _ _ fun c => by fin_cases c <;> simp [ix3])

theorem plane4 (v : View sig .tc .vmem S4x256x128 .f32) (f : v.ty.Contents (Elt Ideal)) (h : Fin 4) (inb) (a : Fin 256) (l : Fin 128) :
    View.readAt (Elt Ideal) v (Rect.unit (s := S4x256x128) ![h.val, 0, 0] S1x256x128.size inb).toLoadRect f (ix3 0 a l) = v.read (Elt Ideal) f (ix3 h a l) :=
  congrArg (v.read (Elt Ideal) f) (unit_idx _ _ _ fun c => by fin_cases c <;> simp [ix3])

theorem store_eq {m : ℕ} (v : View sig .tc .vmem ⟨3, ![m, 256, 128]⟩ .f32) (f : v.ty.Contents (Elt Ideal)) (P : Arr S1x256x128 .f32) (L) (p : Fin m) (inb : ∀ a, (![p.val, 0, 0] : Fin 3 → ℕ) a + S1x256x128.size a ≤ (![m, 256, 128] : Fin 3 → ℕ) a)
    (a : Fin 256) (l : Fin 128) :
    v.read (Elt Ideal) (v.writes (Elt Ideal) f (⟨Rect.unit (s := ⟨3, ![m, 256, 128]⟩) ![p.val, 0, 0] S1x256x128.size inb, P⟩ :: L)) (ix3 p a l) = P (ix3 0 a l) :=
  View.read_writes_cons_unit_of_mem v f inb P L _ (ix3 0 a l) rfl (coord p a l)

theorem store_ne {m : ℕ} (v : View sig .tc .vmem ⟨3, ![m, 256, 128]⟩ .f32) (f : v.ty.Contents (Elt Ideal)) {h : ℕ} (inb : ∀ a, (![h, 0, 0] : Fin 3 → ℕ) a + S1x256x128.size a ≤ (![m, 256, 128] : Fin 3 → ℕ) a) (P : Arr S1x256x128 .f32) (L) (p : Fin m)
    (a : Fin 256) (l : Fin 128) (hp : p.val < h ∨ h + 1 ≤ p.val) :
    v.read (Elt Ideal) (v.writes (Elt Ideal) f (⟨Rect.unit (s := ⟨3, ![m, 256, 128]⟩) ![h, 0, 0] S1x256x128.size inb, P⟩ :: L)) (ix3 p a l)
      = v.read (Elt Ideal) (v.writes (Elt Ideal) f L) (ix3 p a l) :=
  View.read_writes_cons_unit_of_not_mem v f inb P L _ rfl 0 hp

/-! Stores of all planes leave, plane by plane, what was stored. -/

theorem stores4 (v : View sig .tc .vmem S4x256x128 .f32) (f : v.ty.Contents (Elt Ideal)) (P0 P1 P2 P3 : Arr S1x256x128 .f32) (L)
    (G : Fin 4 → Fin 256 → Fin 128 → EReal) (h0 : ∀ a l, P0 (ix3 0 a l) = G 0 a l) (h1 : ∀ a l, P1 (ix3 0 a l) = G 1 a l) (h2 : ∀ a l, P2 (ix3 0 a l) = G 2 a l) (h3 : ∀ a l, P3 (ix3 0 a l) = G 3 a l) (p : Fin 4) (a : Fin 256) (l : Fin 128) :
    v.read (Elt Ideal) (v.writes (Elt Ideal) f (⟨Rect.unit (s := S4x256x128) ![3, 0, 0] S1x256x128.size inb_S4x256x128_S1x256x128_3_0_0, P3⟩ ::
      ⟨Rect.unit (s := S4x256x128) ![2, 0, 0] S1x256x128.size inb_S4x256x128_S1x256x128_2_0_0, P2⟩ ::
      ⟨Rect.unit (s := S4x256x128) ![1, 0, 0] S1x256x128.size inb_S4x256x128_S1x256x128_1_0_0, P1⟩ ::
      ⟨Rect.unit (s := S4x256x128) ![0, 0, 0] S1x256x128.size inb_S4x256x128_S1x256x128_0_0_0, P0⟩ :: L)) (ix3 p a l) = G p a l := by
  fin_cases p
  · refine (store_ne v f _ _ _ _ a l (by decide)).trans ?_
    refine (store_ne v f _ _ _ _ a l (by decide)).trans ?_
    refine (store_ne v f _ _ _ _ a l (by decide)).trans ?_
    exact (store_eq v f _ _ 0 _ a l).trans (h0 a l)
  · refine (store_ne v f _ _ _ _ a l (by decide)).trans ?_
    refine (store_ne v f _ _ _ _ a l (by decide)).trans ?_
    exact (store_eq v f _ _ 1 _ a l).trans (h1 a l)
  · refine (store_ne v f _ _ _ _ a l (by decide)).trans ?_
    exact (store_eq v f _ _ 2 _ a l).trans (h2 a l)
  · exact (store_eq v f _ _ 3 _ a l).trans (h3 a l)

theorem stores8 (v : View sig .tc .vmem S8x256x128 .f32) (f : v.ty.Contents (Elt Ideal)) (P0 P1 P2 P3 P4 P5 P6 P7 : Arr S1x256x128 .f32) (L)
    (G : Fin 8 → Fin 256 → Fin 128 → EReal) (h0 : ∀ a l, P0 (ix3 0 a l) = G 0 a l) (h1 : ∀ a l, P1 (ix3 0 a l) = G 1 a l) (h2 : ∀ a l, P2 (ix3 0 a l) = G 2 a l) (h3 : ∀ a l, P3 (ix3 0 a l) = G 3 a l) (h4 : ∀ a l, P4 (ix3 0 a l) = G 4 a l) (h5 : ∀ a l, P5 (ix3 0 a l) = G 5 a l) (h6 : ∀ a l, P6 (ix3 0 a l) = G 6 a l) (h7 : ∀ a l, P7 (ix3 0 a l) = G 7 a l) (p : Fin 8) (a : Fin 256) (l : Fin 128) :
    v.read (Elt Ideal) (v.writes (Elt Ideal) f (⟨Rect.unit (s := S8x256x128) ![7, 0, 0] S1x256x128.size inb_S8x256x128_S1x256x128_7_0_0, P7⟩ ::
      ⟨Rect.unit (s := S8x256x128) ![6, 0, 0] S1x256x128.size inb_S8x256x128_S1x256x128_6_0_0, P6⟩ ::
      ⟨Rect.unit (s := S8x256x128) ![5, 0, 0] S1x256x128.size inb_S8x256x128_S1x256x128_5_0_0, P5⟩ ::
      ⟨Rect.unit (s := S8x256x128) ![4, 0, 0] S1x256x128.size inb_S8x256x128_S1x256x128_4_0_0, P4⟩ ::
      ⟨Rect.unit (s := S8x256x128) ![3, 0, 0] S1x256x128.size inb_S8x256x128_S1x256x128_3_0_0, P3⟩ ::
      ⟨Rect.unit (s := S8x256x128) ![2, 0, 0] S1x256x128.size inb_S8x256x128_S1x256x128_2_0_0, P2⟩ ::
      ⟨Rect.unit (s := S8x256x128) ![1, 0, 0] S1x256x128.size inb_S8x256x128_S1x256x128_1_0_0, P1⟩ ::
      ⟨Rect.unit (s := S8x256x128) ![0, 0, 0] S1x256x128.size inb_S8x256x128_S1x256x128_0_0_0, P0⟩ :: L)) (ix3 p a l) = G p a l := by
  fin_cases p
  · refine (store_ne v f _ _ _ _ a l (by decide)).trans ?_
    refine (store_ne v f _ _ _ _ a l (by decide)).trans ?_
    refine (store_ne v f _ _ _ _ a l (by decide)).trans ?_
    refine (store_ne v f _ _ _ _ a l (by decide)).trans ?_
    refine (store_ne v f _ _ _ _ a l (by decide)).trans ?_
    refine (store_ne v f _ _ _ _ a l (by decide)).trans ?_
    refine (store_ne v f _ _ _ _ a l (by decide)).trans ?_
    exact (store_eq v f _ _ 0 _ a l).trans (h0 a l)
  · refine (store_ne v f _ _ _ _ a l (by decide)).trans ?_
    refine (store_ne v f _ _ _ _ a l (by decide)).trans ?_
    refine (store_ne v f _ _ _ _ a l (by decide)).trans ?_
    refine (store_ne v f _ _ _ _ a l (by decide)).trans ?_
    refine (store_ne v f _ _ _ _ a l (by decide)).trans ?_
    refine (store_ne v f _ _ _ _ a l (by decide)).trans ?_
    exact (store_eq v f _ _ 1 _ a l).trans (h1 a l)
  · refine (store_ne v f _ _ _ _ a l (by decide)).trans ?_
    refine (store_ne v f _ _ _ _ a l (by decide)).trans ?_
    refine (store_ne v f _ _ _ _ a l (by decide)).trans ?_
    refine (store_ne v f _ _ _ _ a l (by decide)).trans ?_
    refine (store_ne v f _ _ _ _ a l (by decide)).trans ?_
    exact (store_eq v f _ _ 2 _ a l).trans (h2 a l)
  · refine (store_ne v f _ _ _ _ a l (by decide)).trans ?_
    refine (store_ne v f _ _ _ _ a l (by decide)).trans ?_
    refine (store_ne v f _ _ _ _ a l (by decide)).trans ?_
    refine (store_ne v f _ _ _ _ a l (by decide)).trans ?_
    exact (store_eq v f _ _ 3 _ a l).trans (h3 a l)
  · refine (store_ne v f _ _ _ _ a l (by decide)).trans ?_
    refine (store_ne v f _ _ _ _ a l (by decide)).trans ?_
    refine (store_ne v f _ _ _ _ a l (by decide)).trans ?_
    exact (store_eq v f _ _ 4 _ a l).trans (h4 a l)
  · refine (store_ne v f _ _ _ _ a l (by decide)).trans ?_
    refine (store_ne v f _ _ _ _ a l (by decide)).trans ?_
    exact (store_eq v f _ _ 5 _ a l).trans (h5 a l)
  · refine (store_ne v f _ _ _ _ a l (by decide)).trans ?_
    exact (store_eq v f _ _ 6 _ a l).trans (h6 a l)
  · exact (store_eq v f _ _ 7 _ a l).trans (h7 a l)

/-! What the windows of grid step `(b, i)` hold. -/

abbrev row (i : Fin 16) (a : Fin 256) : Fin 4096 := ⟨256 * i.val + a.val, by omega⟩

structure Ins (X : (⟨3, ![8, 4096, 3584]⟩ : Shape).Idx → EReal) (B : (⟨1, ![8]⟩ : Shape).Idx → EReal) (b : Fin 8) (i : Fin 16)
    (x2 : Arr S8 .f32) (x3 : Arr S256x256 .bf16) (x4 : Arr S1x256x512 .bf16) (x5 x6 : Arr S1x4096x512 .bf16) : Prop where
  bias : ∀ h, x2 (ix1 h) = B (ix1 h)
  tri : ∀ x j : Fin 256, x3 (ix2 x j) = if j.val < x.val then (1 : EReal) else 0
  q : ∀ a (y : Fin 512), x4 (ix3 0 a y) = X (ix3 b (row i a) ⟨y.val, by omega⟩)
  k : ∀ s (y : Fin 512), x5 (ix3 0 s y) = X (ix3 b s ⟨512 + y.val, by omega⟩)
  v : ∀ s (y : Fin 512), x6 (ix3 0 s y) = X (ix3 b s ⟨1024 + y.val, by omega⟩)

/-- The invariant of the loop: keys `n` and up are in the running outputs and in the carries. -/
structure Inv (X : (⟨3, ![8, 4096, 3584]⟩ : Shape).Idx → EReal) (B : (⟨1, ![8]⟩ : Shape).Idx → EReal) (b : Fin 8) (i : Fin 16) (n : ℕ)
    (A : Arr S4x256x128 .f32) (C : Arr S8x256x128 .f32) : Prop where
  out : ∀ p a l, A (ix3 p a l) = acc X B n b (row i a) (lane p l)
  carry : ∀ h a l, C (ix3 h a l) = (S (score X B b h (row i a)) (row i a).val n : EReal)

variable {X : (⟨3, ![8, 4096, 3584]⟩ : Shape).Idx → EReal} {B : (⟨1, ![8]⟩ : Shape).Idx → EReal} {b : Fin 8} {i : Fin 16}
  {arg2 : Memref sig .tc .smem S8 .f32} {arg3 : Memref sig .tc .vmem S256x256 .bf16} {arg4 : Memref sig .tc .vmem S1x256x512 .bf16}
  {arg5 arg6 : Memref sig .tc .vmem S1x4096x512 .bf16}
  {X2 : BufTy.Contents (Elt Ideal) arg2.view.ty} {X3 : BufTy.Contents (Elt Ideal) arg3.view.ty} {X4 : BufTy.Contents (Elt Ideal) arg4.view.ty}
  {X5 : BufTy.Contents (Elt Ideal) arg5.view.ty} {X6 : BufTy.Contents (Elt Ideal) arg6.view.ty}

/-- The loads of a step are blocks of queries, keys and values. -/
theorem blocks {x2 x3} (hin : Ins X B b i x2 x3 (arg4.view.read (Elt Ideal) X4) (arg5.view.read (Elt Ideal) X5) (arg6.view.read (Elt Ideal) X6))
    (p : Fin 4) (n m : ℕ) (h : n + m ≤ 4096) {oq o : Fin 3 → ℕ} (hq : oq = ![0, 0, 128 * p.val]) (ho : o = ![0, n, 128 * p.val])
    (iq : ∀ a, oq a + S1x256x128.size a ≤ S1x256x512.size a) (ik : ∀ a, o a + (![1, m, 128] : Fin 3 → ℕ) a ≤ S1x4096x512.size a) (a : Fin 256) :
    Blocks X b (row i a) n a p m
      (View.readAt (Elt Ideal) arg4.view (Rect.unit (s := S1x256x512) oq S1x256x128.size iq).toLoadRect X4)
      (View.readAt (Elt Ideal) arg5.view (Rect.unit (s := S1x4096x512) o ![1, m, 128] ik).toLoadRect X5)
      (View.readAt (Elt Ideal) arg6.view (Rect.unit (s := S1x4096x512) o ![1, m, 128] ik).toLoadRect X6) := by
  subst hq ho
  refine ⟨h, fun x => ?_, fun y x => ?_, fun y x => ?_⟩
  · refine Eq.trans (congrArg (arg4.view.read (Elt Ideal) X4) (unit_idx _ _ (ix3 0 a ⟨128 * p.val + x.val, by omega⟩) fun c => ?_)) (hin.q _ _)
    fin_cases c <;> simp [ix3]
  · refine Eq.trans (congrArg (arg5.view.read (Elt Ideal) X5) (unit_idx _ _ (ix3 0 ⟨n + y.val, by omega⟩ ⟨128 * p.val + x.val, by omega⟩) fun c => ?_)) (hin.k _ _)
    fin_cases c <;> simp [ix3]
  · refine Eq.trans (congrArg (arg6.view.read (Elt Ideal) X6) (unit_idx _ _ (ix3 0 ⟨n + y.val, by omega⟩ ⟨128 * p.val + x.val, by omega⟩) fun c => ?_)) (hin.v _ _)
    fin_cases c <;> simp [ix3]

/-- The loaded biases. -/
theorem bias {x3 x4 x5 x6} (hin : Ins X B b i (arg2.view.read (Elt Ideal) X2) x3 x4 x5 x6) (h : Fin 8) {o : Fin 1 → ℕ} (ho : o = ![h.val]) (inb : ∀ a, o a + S1.size a ≤ S8.size a)
    (y : S1.Idx) : View.readAt (Elt Ideal) arg2.view (Rect.unit (s := S8) o S1.size inb).toLoadRect X2 y = B (ix1 h) := by
  subst ho
  refine Eq.trans (congrArg (arg2.view.read (Elt Ideal) X2) (funext fun c => Fin.ext ?_)) (hin.bias h)
  have hy : (y 0).val = 0 := by have := (y 0).isLt; change (y 0).val < 1 at this; omega
  fin_cases c
  show h.val + 1 * (y 0).val = h.val
  omega

/-- The loaded triangle. -/
theorem triangle {x2 x4 x5 x6} (hin : Ins X B b i x2 (arg3.view.read (Elt Ideal) X3) x4 x5 x6) (inb : ∀ a, (![0, 0] : Fin 2 → ℕ) a + S256x256.size a ≤ S256x256.size a) (x j : Fin 256) :
    View.readAt (Elt Ideal) arg3.view (Rect.unit (s := S256x256) ![0, 0] S256x256.size inb).toLoadRect X3 (ix2 x j) = if j.val < x.val then (1 : EReal) else 0 := by
  refine Eq.trans (congrArg (arg3.view.read (Elt Ideal) X3) (funext fun c => Fin.ext ?_)) (hin.tri x j)
  fin_cases c
  · show 0 + 1 * x.val = x.val; omega
  · show 0 + 1 * j.val = j.val; omega

end Cert.SbState
-- ==== Proof.SbTrip.lean ====
module
public import proofs.«01_k».proof.Proof.SbState
@[expose] public section
set_option maxRecDepth 16384
/-! One trip of the key loop: what it stores, and that it keeps the invariant. -/
noncomputable section
namespace Cert.SbTrip
open Cert.SbIdeal Cert.SbIdeal.Gen Cert.SbMath Cert.SbStep Cert.SbPair Cert.SbState Idealize.ShloMosaic Idealize.ShloMosaic.TcCoe

/-- The stores of a trip, last first. -/
theorem trip (𝒱 : Variants) (c : Dev nD) (bd : Option 𝒱.V) (i : grid0.Coords) (arg2 : Memref sig .tc .smem S8 .f32) (harg2 : arg2.IsWhole) (arg3 : Memref sig .tc .vmem S256x256 .bf16) (harg3 : arg3.IsWhole)
  (arg4 : Memref sig .tc .vmem S1x256x512 .bf16) (harg4 : arg4.IsWhole) (arg5 : Memref sig .tc .vmem S1x4096x512 .bf16) (harg5 : arg5.IsWhole) (arg6 : Memref sig .tc .vmem S1x4096x512 .bf16)
  (harg6 : arg6.IsWhole) (arg7 : Memref sig .tc .vmem S1x256x512 .bf16) (harg7 : arg7.IsWhole) (arg8 : Memref sig .tc .vmem S4x256x128 .f32) (harg8 : arg8.IsWhole)
  (arg9 : Memref sig .tc .vmem S8x256x128 .f32) (harg9 : arg9.IsWhole) (arg1 : BitVec 32) (v2 : IVec S256x256 1) (v26 : BitVec 32) (v31 : BitVec 1) (v32 : BitVec 32)
  X2 X3 X4 X5 X6 (k : Fin (k0_t1_loop i).trips) f8 f9 :
  tripL_k0_t1 (F := Ideal) 𝒱 c bd i arg2 harg2 arg3 harg3 arg4 harg4 arg5 harg5 arg6 harg6 arg7 harg7 arg8 harg8 arg9 harg9 arg1 v2 v26 v31 v32 X2 X3 X4 X5 X6 k f8 f9 = ([⟨Rect.unit ![3, 0, 0] S1x256x128.size inb_S4x256x128_S1x256x128_3_0_0, acc2 id (View.readAt (Elt Ideal) arg3.view (Rect.unit (s := S256x256) ![0, 0] S256x256.size inb_S256x256_S256x256_0_0).toLoadRect X3) (View.readAt (Elt Ideal) arg4.view (Rect.unit (s := S1x256x512) ![0, 0, 384] S1x256x128.size inb_S1x256x512_S1x256x128_0_0_384).toLoadRect X4)
      (View.readAt (Elt Ideal) arg5.view (Rect.unit (s := S1x4096x512) (k0_off12 i k) S1x512x128.size (Cert.SbIdeal.Gen.k0_off12_inb i k)).toLoadRect X5)
      (View.readAt (Elt Ideal) arg6.view (Rect.unit (s := S1x4096x512) (k0_off12 i k) S1x512x128.size (Cert.SbIdeal.Gen.k0_off12_inb i k)).toLoadRect X6)
      ((View.readAt (Elt Ideal) arg2.view (Rect.unit (s := S8) ![6] S1.size inb_S8_S1_6).toLoadRect X2) (Shape.Idx.first (by decide))) ((View.readAt (Elt Ideal) arg2.view (Rect.unit (s := S8) ![7] S1.size inb_S8_S1_7).toLoadRect X2) (Shape.Idx.first (by decide)))
      (View.readAt (Elt Ideal) arg9.view (Rect.unit (s := S8x256x128) ![6, 0, 0] S1x256x128.size inb_S8x256x128_S1x256x128_6_0_0).toLoadRect f9) (View.readAt (Elt Ideal) arg9.view (Rect.unit (s := S8x256x128) ![7, 0, 0] S1x256x128.size inb_S8x256x128_S1x256x128_7_0_0).toLoadRect f9) (View.readAt (Elt Ideal) arg8.view (Rect.unit (s := S4x256x128) ![3, 0, 0] S1x256x128.size inb_S4x256x128_S1x256x128_3_0_0).toLoadRect f8)⟩,
    ⟨Rect.unit ![2, 0, 0] S1x256x128.size inb_S4x256x128_S1x256x128_2_0_0, acc2 id (View.readAt (Elt Ideal) arg3.view (Rect.unit (s := S256x256) ![0, 0] S256x256.size inb_S256x256_S256x256_0_0).toLoadRect X3) (View.readAt (Elt Ideal) arg4.view (Rect.unit (s := S1x256x512) ![0, 0, 256] S1x256x128.size inb_S1x256x512_S1x256x128_0_0_256).toLoadRect X4)
      (View.readAt (Elt Ideal) arg5.view (Rect.unit (s := S1x4096x512) (k0_off11 i k) S1x512x128.size (Cert.SbIdeal.Gen.k0_off11_inb i k)).toLoadRect X5)
      (View.readAt (Elt Ideal) arg6.view (Rect.unit (s := S1x4096x512) (k0_off11 i k) S1x512x128.size (Cert.SbIdeal.Gen.k0_off11_inb i k)).toLoadRect X6)
      ((View.readAt (Elt Ideal) arg2.view (Rect.unit (s := S8) ![4] S1.size inb_S8_S1_4).toLoadRect X2) (Shape.Idx.first (by decide))) ((View.readAt (Elt Ideal) arg2.view (Rect.unit (s := S8) ![5] S1.size inb_S8_S1_5).toLoadRect X2) (Shape.Idx.first (by decide)))
      (View.readAt (Elt Ideal) arg9.view (Rect.unit (s := S8x256x128) ![4, 0, 0] S1x256x128.size inb_S8x256x128_S1x256x128_4_0_0).toLoadRect f9) (View.readAt (Elt Ideal) arg9.view (Rect.unit (s := S8x256x128) ![5, 0, 0] S1x256x128.size inb_S8x256x128_S1x256x128_5_0_0).toLoadRect f9) (View.readAt (Elt Ideal) arg8.view (Rect.unit (s := S4x256x128) ![2, 0, 0] S1x256x128.size inb_S4x256x128_S1x256x128_2_0_0).toLoadRect f8)⟩,
    ⟨Rect.unit ![1, 0, 0] S1x256x128.size inb_S4x256x128_S1x256x128_1_0_0, acc2 id (View.readAt (Elt Ideal) arg3.view (Rect.unit (s := S256x256) ![0, 0] S256x256.size inb_S256x256_S256x256_0_0).toLoadRect X3) (View.readAt (Elt Ideal) arg4.view (Rect.unit (s := S1x256x512) ![0, 0, 128] S1x256x128.size inb_S1x256x512_S1x256x128_0_0_128).toLoadRect X4)
      (View.readAt (Elt Ideal) arg5.view (Rect.unit (s := S1x4096x512) (k0_off10 i k) S1x512x128.size (Cert.SbIdeal.Gen.k0_off10_inb i k)).toLoadRect X5)
      (View.readAt (Elt Ideal) arg6.view (Rect.unit (s := S1x4096x512) (k0_off10 i k) S1x512x128.size (Cert.SbIdeal.Gen.k0_off10_inb i k)).toLoadRect X6)
      ((View.readAt (Elt Ideal) arg2.view (Rect.unit (s := S8) ![2] S1.size inb_S8_S1_2).toLoadRect X2) (Shape.Idx.first (by decide))) ((View.readAt (Elt Ideal) arg2.view (Rect.unit (s := S8) ![3] S1.size inb_S8_S1_3).toLoadRect X2) (Shape.Idx.first (by decide)))
      (View.readAt (Elt Ideal) arg9.view (Rect.unit (s := S8x256x128) ![2, 0, 0] S1x256x128.size inb_S8x256x128_S1x256x128_2_0_0).toLoadRect f9) (View.readAt (Elt Ideal) arg9.view (Rect.unit (s := S8x256x128) ![3, 0, 0] S1x256x128.size inb_S8x256x128_S1x256x128_3_0_0).toLoadRect f9) (View.readAt (Elt Ideal) arg8.view (Rect.unit (s := S4x256x128) ![1, 0, 0] S1x256x128.size inb_S4x256x128_S1x256x128_1_0_0).toLoadRect f8)⟩,
    ⟨Rect.unit ![0, 0, 0] S1x256x128.size inb_S4x256x128_S1x256x128_0_0_0, acc2 id (View.readAt (Elt Ideal) arg3.view (Rect.unit (s := S256x256) ![0, 0] S256x256.size inb_S256x256_S256x256_0_0).toLoadRect X3) (View.readAt (Elt Ideal) arg4.view (Rect.unit (s := S1x256x512) ![0, 0, 0] S1x256x128.size inb_S1x256x512_S1x256x128_0_0_0).toLoadRect X4)
      (View.readAt (Elt Ideal) arg5.view (Rect.unit (s := S1x4096x512) (k0_off9 i k) S1x512x128.size (Cert.SbIdeal.Gen.k0_off9_inb i k)).toLoadRect X5)
      (View.readAt (Elt Ideal) arg6.view (Rect.unit (s := S1x4096x512) (k0_off9 i k) S1x512x128.size (Cert.SbIdeal.Gen.k0_off9_inb i k)).toLoadRect X6)
      ((View.readAt (Elt Ideal) arg2.view (Rect.unit (s := S8) ![0] S1.size inb_S8_S1_0).toLoadRect X2) (Shape.Idx.first (by decide))) ((View.readAt (Elt Ideal) arg2.view (Rect.unit (s := S8) ![1] S1.size inb_S8_S1_1).toLoadRect X2) (Shape.Idx.first (by decide)))
      (View.readAt (Elt Ideal) arg9.view (Rect.unit (s := S8x256x128) ![0, 0, 0] S1x256x128.size inb_S8x256x128_S1x256x128_0_0_0).toLoadRect f9) (View.readAt (Elt Ideal) arg9.view (Rect.unit (s := S8x256x128) ![1, 0, 0] S1x256x128.size inb_S8x256x128_S1x256x128_1_0_0).toLoadRect f9) (View.readAt (Elt Ideal) arg8.view (Rect.unit (s := S4x256x128) ![0, 0, 0] S1x256x128.size inb_S4x256x128_S1x256x128_0_0_0).toLoadRect f8)⟩],
   [⟨Rect.unit ![7, 0, 0] S1x256x128.size inb_S8x256x128_S1x256x128_7_0_0, carO2 id (View.readAt (Elt Ideal) arg4.view (Rect.unit (s := S1x256x512) ![0, 0, 384] S1x256x128.size inb_S1x256x512_S1x256x128_0_0_384).toLoadRect X4)
      (View.readAt (Elt Ideal) arg5.view (Rect.unit (s := S1x4096x512) (k0_off12 i k) S1x512x128.size (Cert.SbIdeal.Gen.k0_off12_inb i k)).toLoadRect X5) ((View.readAt (Elt Ideal) arg2.view (Rect.unit (s := S8) ![7] S1.size inb_S8_S1_7).toLoadRect X2) (Shape.Idx.first (by decide))) (View.readAt (Elt Ideal) arg9.view (Rect.unit (s := S8x256x128) ![7, 0, 0] S1x256x128.size inb_S8x256x128_S1x256x128_7_0_0).toLoadRect f9)⟩,
    ⟨Rect.unit ![6, 0, 0] S1x256x128.size inb_S8x256x128_S1x256x128_6_0_0, carE2 id (View.readAt (Elt Ideal) arg4.view (Rect.unit (s := S1x256x512) ![0, 0, 384] S1x256x128.size inb_S1x256x512_S1x256x128_0_0_384).toLoadRect X4)
      (View.readAt (Elt Ideal) arg5.view (Rect.unit (s := S1x4096x512) (k0_off12 i k) S1x512x128.size (Cert.SbIdeal.Gen.k0_off12_inb i k)).toLoadRect X5) ((View.readAt (Elt Ideal) arg2.view (Rect.unit (s := S8) ![6] S1.size inb_S8_S1_6).toLoadRect X2) (Shape.Idx.first (by decide))) (View.readAt (Elt Ideal) arg9.view (Rect.unit (s := S8x256x128) ![6, 0, 0] S1x256x128.size inb_S8x256x128_S1x256x128_6_0_0).toLoadRect f9)⟩,
    ⟨Rect.unit ![5, 0, 0] S1x256x128.size inb_S8x256x128_S1x256x128_5_0_0, carO2 id (View.readAt (Elt Ideal) arg4.view (Rect.unit (s := S1x256x512) ![0, 0, 256] S1x256x128.size inb_S1x256x512_S1x256x128_0_0_256).toLoadRect X4)
      (View.readAt (Elt Ideal) arg5.view (Rect.unit (s := S1x4096x512) (k0_off11 i k) S1x512x128.size (Cert.SbIdeal.Gen.k0_off11_inb i k)).toLoadRect X5) ((View.readAt (Elt Ideal) arg2.view (Rect.unit (s := S8) ![5] S1.size inb_S8_S1_5).toLoadRect X2) (Shape.Idx.first (by decide))) (View.readAt (Elt Ideal) arg9.view (Rect.unit (s := S8x256x128) ![5, 0, 0] S1x256x128.size inb_S8x256x128_S1x256x128_5_0_0).toLoadRect f9)⟩,
    ⟨Rect.unit ![4, 0, 0] S1x256x128.size inb_S8x256x128_S1x256x128_4_0_0, carE2 id (View.readAt (Elt Ideal) arg4.view (Rect.unit (s := S1x256x512) ![0, 0, 256] S1x256x128.size inb_S1x256x512_S1x256x128_0_0_256).toLoadRect X4)
      (View.readAt (Elt Ideal) arg5.view (Rect.unit (s := S1x4096x512) (k0_off11 i k) S1x512x128.size (Cert.SbIdeal.Gen.k0_off11_inb i k)).toLoadRect X5) ((View.readAt (Elt Ideal) arg2.view (Rect.unit (s := S8) ![4] S1.size inb_S8_S1_4).toLoadRect X2) (Shape.Idx.first (by decide))) (View.readAt (Elt Ideal) arg9.view (Rect.unit (s := S8x256x128) ![4, 0, 0] S1x256x128.size inb_S8x256x128_S1x256x128_4_0_0).toLoadRect f9)⟩,
    ⟨Rect.unit ![3, 0, 0] S1x256x128.size inb_S8x256x128_S1x256x128_3_0_0, carO2 id (View.readAt (Elt Ideal) arg4.view (Rect.unit (s := S1x256x512) ![0, 0, 128] S1x256x128.size inb_S1x256x512_S1x256x128_0_0_128).toLoadRect X4)
      (View.readAt (Elt Ideal) arg5.view (Rect.unit (s := S1x4096x512) (k0_off10 i k) S1x512x128.size (Cert.SbIdeal.Gen.k0_off10_inb i k)).toLoadRect X5) ((View.readAt (Elt Ideal) arg2.view (Rect.unit (s := S8) ![3] S1.size inb_S8_S1_3).toLoadRect X2) (Shape.Idx.first (by decide))) (View.readAt (Elt Ideal) arg9.view (Rect.unit (s := S8x256x128) ![3, 0, 0] S1x256x128.size inb_S8x256x128_S1x256x128_3_0_0).toLoadRect f9)⟩,
    ⟨Rect.unit ![2, 0, 0] S1x256x128.size inb_S8x256x128_S1x256x128_2_0_0, carE2 id (View.readAt (Elt Ideal) arg4.view (Rect.unit (s := S1x256x512) ![0, 0, 128] S1x256x128.size inb_S1x256x512_S1x256x128_0_0_128).toLoadRect X4)
      (View.readAt (Elt Ideal) arg5.view (Rect.unit (s := S1x4096x512) (k0_off10 i k) S1x512x128.size (Cert.SbIdeal.Gen.k0_off10_inb i k)).toLoadRect X5) ((View.readAt (Elt Ideal) arg2.view (Rect.unit (s := S8) ![2] S1.size inb_S8_S1_2).toLoadRect X2) (Shape.Idx.first (by decide))) (View.readAt (Elt Ideal) arg9.view (Rect.unit (s := S8x256x128) ![2, 0, 0] S1x256x128.size inb_S8x256x128_S1x256x128_2_0_0).toLoadRect f9)⟩,
    ⟨Rect.unit ![1, 0, 0] S1x256x128.size inb_S8x256x128_S1x256x128_1_0_0, carO2 id (View.readAt (Elt Ideal) arg4.view (Rect.unit (s := S1x256x512) ![0, 0, 0] S1x256x128.size inb_S1x256x512_S1x256x128_0_0_0).toLoadRect X4)
      (View.readAt (Elt Ideal) arg5.view (Rect.unit (s := S1x4096x512) (k0_off9 i k) S1x512x128.size (Cert.SbIdeal.Gen.k0_off9_inb i k)).toLoadRect X5) ((View.readAt (Elt Ideal) arg2.view (Rect.unit (s := S8) ![1] S1.size inb_S8_S1_1).toLoadRect X2) (Shape.Idx.first (by decide))) (View.readAt (Elt Ideal) arg9.view (Rect.unit (s := S8x256x128) ![1, 0, 0] S1x256x128.size inb_S8x256x128_S1x256x128_1_0_0).toLoadRect f9)⟩,
    ⟨Rect.unit ![0, 0, 0] S1x256x128.size inb_S8x256x128_S1x256x128_0_0_0, carE2 id (View.readAt (Elt Ideal) arg4.view (Rect.unit (s := S1x256x512) ![0, 0, 0] S1x256x128.size inb_S1x256x512_S1x256x128_0_0_0).toLoadRect X4)
      (View.readAt (Elt Ideal) arg5.view (Rect.unit (s := S1x4096x512) (k0_off9 i k) S1x512x128.size (Cert.SbIdeal.Gen.k0_off9_inb i k)).toLoadRect X5) ((View.readAt (Elt Ideal) arg2.view (Rect.unit (s := S8) ![0] S1.size inb_S8_S1_0).toLoadRect X2) (Shape.Idx.first (by decide))) (View.readAt (Elt Ideal) arg9.view (Rect.unit (s := S8x256x128) ![0, 0, 0] S1x256x128.size inb_S8x256x128_S1x256x128_0_0_0).toLoadRect f9)⟩]) := by
  unfold tripL_k0_t1 trip_k0_t1
  rfl

/-- Where the blocks of trip `k` lie. -/
theorem trips : ∀ (i : grid0.Coords), (k0_t1_loop i).trips = (i 1).val / 2 := by decide +kernel
theorem offs : ∀ (i : grid0.Coords) (k : Fin (k0_t1_loop i).trips), k0_off9 i k = ![0, 512 * ((i 1).val / 2 - 1 - k.val), 128 * 0] ∧
    k0_off10 i k = ![0, 512 * ((i 1).val / 2 - 1 - k.val), 128 * 1] ∧ k0_off11 i k = ![0, 512 * ((i 1).val / 2 - 1 - k.val), 128 * 2] ∧
    k0_off12 i k = ![0, 512 * ((i 1).val / 2 - 1 - k.val), 128 * 3] := by decide +kernel

variable {X : (⟨3, ![8, 4096, 3584]⟩ : Shape).Idx → EReal} {B : (⟨1, ![8]⟩ : Shape).Idx → EReal} {b : Fin 8} (hB : Bounded X B)

include hB in
/-- A trip takes the keys of two more blocks into the sums. -/
theorem trip_step (𝒱 : Variants) (c : Dev nD) (bd : Option 𝒱.V) (i : grid0.Coords) (arg2 : Memref sig .tc .smem S8 .f32) (harg2 : arg2.IsWhole) (arg3 : Memref sig .tc .vmem S256x256 .bf16) (harg3 : arg3.IsWhole)
  (arg4 : Memref sig .tc .vmem S1x256x512 .bf16) (harg4 : arg4.IsWhole) (arg5 : Memref sig .tc .vmem S1x4096x512 .bf16) (harg5 : arg5.IsWhole) (arg6 : Memref sig .tc .vmem S1x4096x512 .bf16)
  (harg6 : arg6.IsWhole) (arg7 : Memref sig .tc .vmem S1x256x512 .bf16) (harg7 : arg7.IsWhole) (arg8 : Memref sig .tc .vmem S4x256x128 .f32) (harg8 : arg8.IsWhole)
  (arg9 : Memref sig .tc .vmem S8x256x128 .f32) (harg9 : arg9.IsWhole) (arg1 : BitVec 32) (v2 : IVec S256x256 1) (v26 : BitVec 32) (v31 : BitVec 1) (v32 : BitVec 32)
  X2 X3 X4 X5 X6 (k : Fin (k0_t1_loop i).trips) f8 f9 (hin : Ins X B b (i 1) (arg2.view.read (Elt Ideal) X2) (arg3.view.read (Elt Ideal) X3) (arg4.view.read (Elt Ideal) X4) (arg5.view.read (Elt Ideal) X5) (arg6.view.read (Elt Ideal) X6)) (n : ℕ) (hn : n = 512 * ((i 1).val / 2 - 1 - k.val))
  (hinv : Inv X B b (i 1) (n + 512) (arg8.view.read (Elt Ideal) f8) (arg9.view.read (Elt Ideal) f9)) :
  Inv X B b (i 1) n (arg8.view.read (Elt Ideal) (arg8.view.writes (Elt Ideal) f8 (tripL_k0_t1 (F := Ideal) 𝒱 c bd i arg2 harg2 arg3 harg3 arg4 harg4 arg5 harg5 arg6 harg6 arg7 harg7 arg8 harg8 arg9 harg9 arg1 v2 v26 v31 v32 X2 X3 X4 X5 X6 k f8 f9).1)) (arg9.view.read (Elt Ideal) (arg9.view.writes (Elt Ideal) f9 (tripL_k0_t1 (F := Ideal) 𝒱 c bd i arg2 harg2 arg3 harg3 arg4 harg4 arg5 harg5 arg6 harg6 arg7 harg7 arg8 harg8 arg9 harg9 arg1 v2 v26 v31 v32 X2 X3 X4 X5 X6 k f8 f9).2)) := by
  have hk : k.val < (i 1).val / 2 := (trips i) ▸ k.isLt
  have hi : (i 1).val < 16 := (i 1).isLt
  obtain ⟨o0, o1, o2, o3⟩ := offs i k
  rw [← hn] at o0 o1 o2 o3
  have h4 : n + 512 ≤ 4096 := by omega
  have hlo : ∀ a : Fin 256, n + 256 ≤ (row (i 1) a).val := fun a => by show _ ≤ 256 * (i 1).val + a.val; omega
  have hid : ∀ a : Fin 256, n + 256 + 256 ≤ (row (i 1) a).val := fun a => by show _ ≤ 256 * (i 1).val + a.val; omega
  have blk0 := blocks hin 0 n 512 h4 (oq := ![0, 0, 0]) rfl o0 inb_S1x256x512_S1x256x128_0_0_0 (Cert.SbIdeal.Gen.k0_off9_inb i k)
  have blk1 := blocks hin 1 n 512 h4 (oq := ![0, 0, 128]) rfl o1 inb_S1x256x512_S1x256x128_0_0_128 (Cert.SbIdeal.Gen.k0_off10_inb i k)
  have blk2 := blocks hin 2 n 512 h4 (oq := ![0, 0, 256]) rfl o2 inb_S1x256x512_S1x256x128_0_0_256 (Cert.SbIdeal.Gen.k0_off11_inb i k)
  have blk3 := blocks hin 3 n 512 h4 (oq := ![0, 0, 384]) rfl o3 inb_S1x256x512_S1x256x128_0_0_384 (Cert.SbIdeal.Gen.k0_off12_inb i k)
  rw [trip]
  constructor
  · refine stores4 arg8.view f8 _ _ _ _ [] (fun p a l => acc X B n b (row (i 1) a) (lane p l)) ?_ ?_ ?_ ?_
    · exact fun a l => acc2_row hB (fun x j => triangle hin _ x j) (blk0 a) (hlo a) (masks_id _ _ a (hid a)) (bias hin 0 rfl _ _) (bias hin 1 rfl _ _) (fun l => (plane8 _ f9 0 _ a l).trans (hinv.carry 0 a l)) (fun l => (plane8 _ f9 1 _ a l).trans (hinv.carry 1 a l)) l ((plane4 _ f8 0 _ a l).trans (hinv.out 0 a l))
    · exact fun a l => acc2_row hB (fun x j => triangle hin _ x j) (blk1 a) (hlo a) (masks_id _ _ a (hid a)) (bias hin 2 rfl _ _) (bias hin 3 rfl _ _) (fun l => (plane8 _ f9 2 _ a l).trans (hinv.carry 2 a l)) (fun l => (plane8 _ f9 3 _ a l).trans (hinv.carry 3 a l)) l ((plane4 _ f8 1 _ a l).trans (hinv.out 1 a l))
    · exact fun a l => acc2_row hB (fun x j => triangle hin _ x j) (blk2 a) (hlo a) (masks_id _ _ a (hid a)) (bias hin 4 rfl _ _) (bias hin 5 rfl _ _) (fun l => (plane8 _ f9 4 _ a l).trans (hinv.carry 4 a l)) (fun l => (plane8 _ f9 5 _ a l).trans (hinv.carry 5 a l)) l ((plane4 _ f8 2 _ a l).trans (hinv.out 2 a l))
    · exact fun a l => acc2_row hB (fun x j => triangle hin _ x j) (blk3 a) (hlo a) (masks_id _ _ a (hid a)) (bias hin 6 rfl _ _) (bias hin 7 rfl _ _) (fun l => (plane8 _ f9 6 _ a l).trans (hinv.carry 6 a l)) (fun l => (plane8 _ f9 7 _ a l).trans (hinv.carry 7 a l)) l ((plane4 _ f8 3 _ a l).trans (hinv.out 3 a l))
  · refine stores8 arg9.view f9 _ _ _ _ _ _ _ _ [] (fun h a l => (S (score X B b h (row (i 1) a)) (row (i 1) a).val n : EReal)) ?_ ?_ ?_ ?_ ?_ ?_ ?_ ?_
    · exact fun a l => carE2_row hB (blk0 a) (hlo a) (masks_id _ _ a (hid a)) (bias hin 0 rfl _ _) (fun l => (plane8 _ f9 0 _ a l).trans (hinv.carry 0 a l)) l
    · exact fun a l => carO2_row hB (blk0 a) (hlo a) (masks_id _ _ a (hid a)) (bias hin 1 rfl _ _) (fun l => (plane8 _ f9 1 _ a l).trans (hinv.carry 1 a l)) l
    · exact fun a l => carE2_row hB (blk1 a) (hlo a) (masks_id _ _ a (hid a)) (bias hin 2 rfl _ _) (fun l => (plane8 _ f9 2 _ a l).trans (hinv.carry 2 a l)) l
    · exact fun a l => carO2_row hB (blk1 a) (hlo a) (masks_id _ _ a (hid a)) (bias hin 3 rfl _ _) (fun l => (plane8 _ f9 3 _ a l).trans (hinv.carry 3 a l)) l
    · exact fun a l => carE2_row hB (blk2 a) (hlo a) (masks_id _ _ a (hid a)) (bias hin 4 rfl _ _) (fun l => (plane8 _ f9 4 _ a l).trans (hinv.carry 4 a l)) l
    · exact fun a l => carO2_row hB (blk2 a) (hlo a) (masks_id _ _ a (hid a)) (bias hin 5 rfl _ _) (fun l => (plane8 _ f9 5 _ a l).trans (hinv.carry 5 a l)) l
    · exact fun a l => carE2_row hB (blk3 a) (hlo a) (masks_id _ _ a (hid a)) (bias hin 6 rfl _ _) (fun l => (plane8 _ f9 6 _ a l).trans (hinv.carry 6 a l)) l
    · exact fun a l => carO2_row hB (blk3 a) (hlo a) (masks_id _ _ a (hid a)) (bias hin 7 rfl _ _) (fun l => (plane8 _ f9 7 _ a l).trans (hinv.carry 7 a l)) l

include hB in
/-- The loop. -/
theorem loop (𝒱 : Variants) (c : Dev nD) (bd : Option 𝒱.V) (i : grid0.Coords) (arg2 : Memref sig .tc .smem S8 .f32) (harg2 : arg2.IsWhole) (arg3 : Memref sig .tc .vmem S256x256 .bf16) (harg3 : arg3.IsWhole)
  (arg4 : Memref sig .tc .vmem S1x256x512 .bf16) (harg4 : arg4.IsWhole) (arg5 : Memref sig .tc .vmem S1x4096x512 .bf16) (harg5 : arg5.IsWhole) (arg6 : Memref sig .tc .vmem S1x4096x512 .bf16)
  (harg6 : arg6.IsWhole) (arg7 : Memref sig .tc .vmem S1x256x512 .bf16) (harg7 : arg7.IsWhole) (arg8 : Memref sig .tc .vmem S4x256x128 .f32) (harg8 : arg8.IsWhole)
  (arg9 : Memref sig .tc .vmem S8x256x128 .f32) (harg9 : arg9.IsWhole) (arg1 : BitVec 32) (v2 : IVec S256x256 1) (v26 : BitVec 32) (v31 : BitVec 1) (v32 : BitVec 32)
  X2 X3 X4 X5 X6 G8 G9 (hin : Ins X B b (i 1) (arg2.view.read (Elt Ideal) X2) (arg3.view.read (Elt Ideal) X3) (arg4.view.read (Elt Ideal) X4) (arg5.view.read (Elt Ideal) X5) (arg6.view.read (Elt Ideal) X6))
  (hinv : Inv X B b (i 1) (512 * ((i 1).val / 2)) (arg8.view.read (Elt Ideal) G8) (arg9.view.read (Elt Ideal) G9)) (k : ℕ) (hk : k ≤ (i 1).val / 2) :
  Inv X B b (i 1) (512 * ((i 1).val / 2 - k)) (arg8.view.read (Elt Ideal) (arg8.view.writes (Elt Ideal) G8 (pb_k0_t1 (F := Ideal) 𝒱 c bd i arg2 harg2 arg3 harg3 arg4 harg4 arg5 harg5 arg6 harg6 arg7 harg7 arg8 harg8 arg9 harg9 arg1 v2 v26 v31 v32 X2 X3 X4 X5 X6 G8 G9 k).1))
    (arg9.view.read (Elt Ideal) (arg9.view.writes (Elt Ideal) G9 (pb_k0_t1 (F := Ideal) 𝒱 c bd i arg2 harg2 arg3 harg3 arg4 harg4 arg5 harg5 arg6 harg6 arg7 harg7 arg8 harg8 arg9 harg9 arg1 v2 v26 v31 v32 X2 X3 X4 X5 X6 G8 G9 k).2)) := by
  induction k with
  | zero => exact hinv
  | succ k ih =>
    have hk' : k < (k0_t1_loop i).trips := (trips i).symm ▸ hk
    have h := pb_k0_t1_succ (F := Ideal) 𝒱 c bd i arg2 harg2 arg3 harg3 arg4 harg4 arg5 harg5 arg6 harg6 arg7 harg7 arg8 harg8 arg9 harg9 arg1 v2 v26 v31 v32 X2 X3 X4 X5 X6 G8 G9 ⟨k, hk'⟩
    rw [h, View.writes_append, View.writes_append]
    exact trip_step hB 𝒱 c bd i arg2 harg2 arg3 harg3 arg4 harg4 arg5 harg5 arg6 harg6 arg7 harg7 arg8 harg8 arg9 harg9 arg1 v2 v26 v31 v32 X2 X3 X4 X5 X6 ⟨k, hk'⟩ _ _ hin _ (by show _ = 512 * ((i 1).val / 2 - 1 - k); congr 1; omega)
      (by rw [show 512 * ((i 1).val / 2 - (k + 1)) + 512 = 512 * ((i 1).val / 2 - k) by omega]; exact ih (by omega))
end Cert.SbTrip
-- ==== Proof.SbRun.lean ====
module
public import proofs.«01_k».proof.Proof.SbTrip
public import Idealize.ShloMosaic.Lib.VecWindow
@[expose] public section
set_option maxRecDepth 16384
/-! What a grid step stores before its loop: the scratch arrays at zero, then the blocks on the diagonal. -/
noncomputable section
namespace Cert.SbRun
open Cert.SbIdeal Cert.SbIdeal.Gen Cert.SbMath Cert.SbStep Cert.SbPair Cert.SbState Cert.SbTrip Idealize.ShloMosaic Idealize.ShloMosaic.TcCoe

/-- The planes from `h` on are at zero. -/
def Zeros4 (v : View sig .tc .vmem S4x256x128 .f32) (h : ℕ) (L : List (View.Piece (Elt Ideal) S4x256x128 .f32)) : Prop :=
  ∀ (p : Fin 4) (a : Fin 256) (l : Fin 128), h ≤ p.val → v.read (Elt Ideal) (v.writes (Elt Ideal) v.junk L) (ix3 p a l) = (0 : EReal)

theorem zeros4_nil (v : View sig .tc .vmem S4x256x128 .f32) :
    Zeros4 v 0 [⟨Rect.unit ![0, 0, 0] S4x256x128.size inb_S4x256x128_S4x256x128_0_0_0, k0_pay387 (F := Ideal)⟩] := fun p a l _ =>
  (congrFun (View.read_writes_full v v.junk inb_S4x256x128_S4x256x128_0_0_0 _ []) (ix3 p a l)).trans
    (by pointwise [k0_pay387] : k0_pay387 (F := Ideal) (ix3 p a l) = (0 : EReal))

theorem zeros4_cons {v : View sig .tc .vmem S4x256x128 .f32} {h : ℕ} {inb} {P : Arr S1x256x128 .f32} {L} (z : Zeros4 v h L) :
    Zeros4 v (h + 1) (⟨Rect.unit (s := S4x256x128) ![h, 0, 0] S1x256x128.size inb, P⟩ :: L) := fun p a l hp =>
  (store_ne v v.junk inb P L p a l (.inr hp)).trans (z p a l (by omega))

theorem zeros4_load {v : View sig .tc .vmem S4x256x128 .f32} {h : ℕ} {L} (z : Zeros4 v h L) (p : Fin 4) (hp : h ≤ p.val) (inb) (a : Fin 256) (l : Fin 128) :
    v.readCov L (Rect.unit (s := S4x256x128) ![p.val, 0, 0] S1x256x128.size inb).toLoadRect (ix3 0 a l) = (0 : EReal) :=
  (plane4 v _ p inb a l).trans (z p a l hp)

/-- The planes from `h` on are at zero. -/
def Zeros8 (v : View sig .tc .vmem S8x256x128 .f32) (h : ℕ) (L : List (View.Piece (Elt Ideal) S8x256x128 .f32)) : Prop :=
  ∀ (p : Fin 8) (a : Fin 256) (l : Fin 128), h ≤ p.val → v.read (Elt Ideal) (v.writes (Elt Ideal) v.junk L) (ix3 p a l) = (0 : EReal)

theorem zeros8_nil (v : View sig .tc .vmem S8x256x128 .f32) :
    Zeros8 v 0 [⟨Rect.unit ![0, 0, 0] S8x256x128.size inb_S8x256x128_S8x256x128_0_0_0, k0_pay388 (F := Ideal)⟩] := fun p a l _ =>
  (congrFun (View.read_writes_full v v.junk inb_S8x256x128_S8x256x128_0_0_0 _ []) (ix3 p a l)).trans
    (by pointwise [k0_pay388] : k0_pay388 (F := Ideal) (ix3 p a l) = (0 : EReal))

theorem zeros8_cons {v : View sig .tc .vmem S8x256x128 .f32} {h : ℕ} {inb} {P : Arr S1x256x128 .f32} {L} (z : Zeros8 v h L) :
    Zeros8 v (h + 1) (⟨Rect.unit (s := S8x256x128) ![h, 0, 0] S1x256x128.size inb, P⟩ :: L) := fun p a l hp =>
  (store_ne v v.junk inb P L p a l (.inr hp)).trans (z p a l (by omega))

theorem zeros8_load {v : View sig .tc .vmem S8x256x128 .f32} {h : ℕ} {L} (z : Zeros8 v h L) (p : Fin 8) (hp : h ≤ p.val) (inb) (a : Fin 256) (l : Fin 128) :
    v.readCov L (Rect.unit (s := S8x256x128) ![p.val, 0, 0] S1x256x128.size inb).toLoadRect (ix3 0 a l) = (0 : EReal) :=
  (plane8 v _ p inb a l).trans (z p a l hp)

/-! Case A. -/
section A
variable {c : Dev nD} {i : grid0.Coords} {arg2 : Memref sig .tc .smem S8 .f32} {harg2 : arg2.IsWhole} {arg3 : Memref sig .tc .vmem S256x256 .bf16} {harg3 : arg3.IsWhole}
  {arg4 : Memref sig .tc .vmem S1x256x512 .bf16} {harg4 : arg4.IsWhole} {arg5 : Memref sig .tc .vmem S1x4096x512 .bf16} {harg5 : arg5.IsWhole} {arg6 : Memref sig .tc .vmem S1x4096x512 .bf16}
  {harg6 : arg6.IsWhole} {arg7 : Memref sig .tc .vmem S1x256x512 .bf16} {harg7 : arg7.IsWhole} {arg8 : Memref sig .tc .vmem S4x256x128 .f32} {harg8 : arg8.IsWhole}
  {arg9 : Memref sig .tc .vmem S8x256x128 .f32} {harg9 : arg9.IsWhole} {hc0 : cond0_0 i} {hc1 : ¬ cond0_1 i}
  {x0 : Vec Ideal S8 .f32} {x1 : Vec Ideal S256x256 .bf16} {x2 : Vec Ideal S1x256x512 .bf16} {x3 x4 : Vec Ideal S1x4096x512 .bf16}

theorem storesA4 : (kernelRun0_A.sl.HS0_5 (F := Ideal) c i arg2 harg2 arg3 harg3 arg4 harg4 arg5 harg5 arg6 harg6 arg8 arg9 hc0 x0 x1 x2 x3 x4) =     ⟨Rect.unit ![3, 0, 0] S1x256x128.size inb_S4x256x128_S1x256x128_3_0_0, acc1 k0_pay386 (View.readAt (Elt Ideal) arg3.view (Rect.unit (s := S256x256) ![0, 0] S256x256.size inb_S256x256_S256x256_0_0).toLoadRect (harg3.unread x1))
      (View.readAt (Elt Ideal) arg4.view (Rect.unit (s := S1x256x512) ![0, 0, 384] S1x256x128.size inb_S1x256x512_S1x256x128_0_0_384).toLoadRect (harg4.unread x2))
      (View.readAt (Elt Ideal) arg5.view (Rect.unit (s := S1x4096x512) (k0_off4 i) S1x256x128.size (Cert.SbIdeal.Gen.k0_off4_inb i hc0)).toLoadRect (harg5.unread x3)) (View.readAt (Elt Ideal) arg6.view (Rect.unit (s := S1x4096x512) (k0_off4 i) S1x256x128.size (Cert.SbIdeal.Gen.k0_off4_inb i hc0)).toLoadRect (harg6.unread x4))
      ((View.readAt (Elt Ideal) arg2.view (Rect.unit (s := S8) ![6] S1.size inb_S8_S1_6).toLoadRect (harg2.unread x0)) (Shape.Idx.first (by decide))) ((View.readAt (Elt Ideal) arg2.view (Rect.unit (s := S8) ![7] S1.size inb_S8_S1_7).toLoadRect (harg2.unread x0)) (Shape.Idx.first (by decide)))
      (arg9.view.readCov (kernelRun0_A.sl.HS1_7 (F := Ideal) c i arg2 harg2 arg4 harg4 arg5 harg5 arg9 hc0 x0 x2 x3) (Rect.unit (s := S8x256x128) ![6, 0, 0] S1x256x128.size inb_S8x256x128_S1x256x128_6_0_0).toLoadRect)
      (arg9.view.readCov (kernelRun0_A.sl.HS1_8 (F := Ideal) c i arg2 harg2 arg4 harg4 arg5 harg5 arg9 hc0 x0 x2 x3) (Rect.unit (s := S8x256x128) ![7, 0, 0] S1x256x128.size inb_S8x256x128_S1x256x128_7_0_0).toLoadRect) (arg8.view.readCov (kernelRun0_A.sl.HS0_4 (F := Ideal) c i arg2 harg2 arg3 harg3 arg4 harg4 arg5 harg5 arg6 harg6 arg8 arg9 hc0 x0 x1 x2 x3 x4) (Rect.unit (s := S4x256x128) ![3, 0, 0] S1x256x128.size inb_S4x256x128_S1x256x128_3_0_0).toLoadRect)⟩ ::
    ⟨Rect.unit ![2, 0, 0] S1x256x128.size inb_S4x256x128_S1x256x128_2_0_0, acc1 k0_pay386 (View.readAt (Elt Ideal) arg3.view (Rect.unit (s := S256x256) ![0, 0] S256x256.size inb_S256x256_S256x256_0_0).toLoadRect (harg3.unread x1))
      (View.readAt (Elt Ideal) arg4.view (Rect.unit (s := S1x256x512) ![0, 0, 256] S1x256x128.size inb_S1x256x512_S1x256x128_0_0_256).toLoadRect (harg4.unread x2))
      (View.readAt (Elt Ideal) arg5.view (Rect.unit (s := S1x4096x512) (k0_off3 i) S1x256x128.size (Cert.SbIdeal.Gen.k0_off3_inb i hc0)).toLoadRect (harg5.unread x3)) (View.readAt (Elt Ideal) arg6.view (Rect.unit (s := S1x4096x512) (k0_off3 i) S1x256x128.size (Cert.SbIdeal.Gen.k0_off3_inb i hc0)).toLoadRect (harg6.unread x4))
      ((View.readAt (Elt Ideal) arg2.view (Rect.unit (s := S8) ![4] S1.size inb_S8_S1_4).toLoadRect (harg2.unread x0)) (Shape.Idx.first (by decide))) ((View.readAt (Elt Ideal) arg2.view (Rect.unit (s := S8) ![5] S1.size inb_S8_S1_5).toLoadRect (harg2.unread x0)) (Shape.Idx.first (by decide)))
      (arg9.view.readCov (kernelRun0_A.sl.HS1_5 (F := Ideal) c i arg2 harg2 arg4 harg4 arg5 harg5 arg9 hc0 x0 x2 x3) (Rect.unit (s := S8x256x128) ![4, 0, 0] S1x256x128.size inb_S8x256x128_S1x256x128_4_0_0).toLoadRect)
      (arg9.view.readCov (kernelRun0_A.sl.HS1_6 (F := Ideal) c i arg2 harg2 arg4 harg4 arg5 harg5 arg9 hc0 x0 x2 x3) (Rect.unit (s := S8x256x128) ![5, 0, 0] S1x256x128.size inb_S8x256x128_S1x256x128_5_0_0).toLoadRect) (arg8.view.readCov (kernelRun0_A.sl.HS0_3 (F := Ideal) c i arg2 harg2 arg3 harg3 arg4 harg4 arg5 harg5 arg6 harg6 arg8 arg9 hc0 x0 x1 x2 x3 x4) (Rect.unit (s := S4x256x128) ![2, 0, 0] S1x256x128.size inb_S4x256x128_S1x256x128_2_0_0).toLoadRect)⟩ ::
    ⟨Rect.unit ![1, 0, 0] S1x256x128.size inb_S4x256x128_S1x256x128_1_0_0, acc1 k0_pay386 (View.readAt (Elt Ideal) arg3.view (Rect.unit (s := S256x256) ![0, 0] S256x256.size inb_S256x256_S256x256_0_0).toLoadRect (harg3.unread x1))
      (View.readAt (Elt Ideal) arg4.view (Rect.unit (s := S1x256x512) ![0, 0, 128] S1x256x128.size inb_S1x256x512_S1x256x128_0_0_128).toLoadRect (harg4.unread x2))
      (View.readAt (Elt Ideal) arg5.view (Rect.unit (s := S1x4096x512) (k0_off2 i) S1x256x128.size (Cert.SbIdeal.Gen.k0_off2_inb i hc0)).toLoadRect (harg5.unread x3)) (View.readAt (Elt Ideal) arg6.view (Rect.unit (s := S1x4096x512) (k0_off2 i) S1x256x128.size (Cert.SbIdeal.Gen.k0_off2_inb i hc0)).toLoadRect (harg6.unread x4))
      ((View.readAt (Elt Ideal) arg2.view (Rect.unit (s := S8) ![2] S1.size inb_S8_S1_2).toLoadRect (harg2.unread x0)) (Shape.Idx.first (by decide))) ((View.readAt (Elt Ideal) arg2.view (Rect.unit (s := S8) ![3] S1.size inb_S8_S1_3).toLoadRect (harg2.unread x0)) (Shape.Idx.first (by decide)))
      (arg9.view.readCov (kernelRun0_A.sl.HS1_3 (F := Ideal) c i arg2 harg2 arg4 harg4 arg5 harg5 arg9 hc0 x0 x2 x3) (Rect.unit (s := S8x256x128) ![2, 0, 0] S1x256x128.size inb_S8x256x128_S1x256x128_2_0_0).toLoadRect)
      (arg9.view.readCov (kernelRun0_A.sl.HS1_4 (F := Ideal) c i arg2 harg2 arg4 harg4 arg5 harg5 arg9 hc0 x0 x2 x3) (Rect.unit (s := S8x256x128) ![3, 0, 0] S1x256x128.size inb_S8x256x128_S1x256x128_3_0_0).toLoadRect) (arg8.view.readCov (kernelRun0_A.sl.HS0_2 (F := Ideal) c i arg2 harg2 arg3 harg3 arg4 harg4 arg5 harg5 arg6 harg6 arg8 arg9 hc0 x0 x1 x2 x3 x4) (Rect.unit (s := S4x256x128) ![1, 0, 0] S1x256x128.size inb_S4x256x128_S1x256x128_1_0_0).toLoadRect)⟩ ::
    ⟨Rect.unit ![0, 0, 0] S1x256x128.size inb_S4x256x128_S1x256x128_0_0_0, acc1 k0_pay386 (View.readAt (Elt Ideal) arg3.view (Rect.unit (s := S256x256) ![0, 0] S256x256.size inb_S256x256_S256x256_0_0).toLoadRect (harg3.unread x1))
      (View.readAt (Elt Ideal) arg4.view (Rect.unit (s := S1x256x512) ![0, 0, 0] S1x256x128.size inb_S1x256x512_S1x256x128_0_0_0).toLoadRect (harg4.unread x2))
      (View.readAt (Elt Ideal) arg5.view (Rect.unit (s := S1x4096x512) (k0_off1 i) S1x256x128.size (Cert.SbIdeal.Gen.k0_off1_inb i hc0)).toLoadRect (harg5.unread x3)) (View.readAt (Elt Ideal) arg6.view (Rect.unit (s := S1x4096x512) (k0_off1 i) S1x256x128.size (Cert.SbIdeal.Gen.k0_off1_inb i hc0)).toLoadRect (harg6.unread x4))
      ((View.readAt (Elt Ideal) arg2.view (Rect.unit (s := S8) ![0] S1.size inb_S8_S1_0).toLoadRect (harg2.unread x0)) (Shape.Idx.first (by decide))) ((View.readAt (Elt Ideal) arg2.view (Rect.unit (s := S8) ![1] S1.size inb_S8_S1_1).toLoadRect (harg2.unread x0)) (Shape.Idx.first (by decide)))
      (arg9.view.readCov (kernelRun0_A.sl.HS1_1 (F := Ideal)) (Rect.unit (s := S8x256x128) ![0, 0, 0] S1x256x128.size inb_S8x256x128_S1x256x128_0_0_0).toLoadRect)
      (arg9.view.readCov (kernelRun0_A.sl.HS1_2 (F := Ideal) c i arg2 harg2 arg4 harg4 arg5 harg5 arg9 hc0 x0 x2 x3) (Rect.unit (s := S8x256x128) ![1, 0, 0] S1x256x128.size inb_S8x256x128_S1x256x128_1_0_0).toLoadRect) (arg8.view.readCov (kernelRun0_A.sl.HS0_1 (F := Ideal)) (Rect.unit (s := S4x256x128) ![0, 0, 0] S1x256x128.size inb_S4x256x128_S1x256x128_0_0_0).toLoadRect)⟩ :: (kernelRun0_A.sl.HS0_1 (F := Ideal)) := rfl

theorem storesA8 : (kernelRun0_A.sl.HS1_9 (F := Ideal) c i arg2 harg2 arg4 harg4 arg5 harg5 arg9 hc0 x0 x2 x3) =     ⟨Rect.unit ![7, 0, 0] S1x256x128.size inb_S8x256x128_S1x256x128_7_0_0, carO1 k0_pay386 (View.readAt (Elt Ideal) arg4.view (Rect.unit (s := S1x256x512) ![0, 0, 384] S1x256x128.size inb_S1x256x512_S1x256x128_0_0_384).toLoadRect (harg4.unread x2))
      (View.readAt (Elt Ideal) arg5.view (Rect.unit (s := S1x4096x512) (k0_off4 i) S1x256x128.size (Cert.SbIdeal.Gen.k0_off4_inb i hc0)).toLoadRect (harg5.unread x3)) ((View.readAt (Elt Ideal) arg2.view (Rect.unit (s := S8) ![7] S1.size inb_S8_S1_7).toLoadRect (harg2.unread x0)) (Shape.Idx.first (by decide))) (arg9.view.readCov (kernelRun0_A.sl.HS1_8 (F := Ideal) c i arg2 harg2 arg4 harg4 arg5 harg5 arg9 hc0 x0 x2 x3) (Rect.unit (s := S8x256x128) ![7, 0, 0] S1x256x128.size inb_S8x256x128_S1x256x128_7_0_0).toLoadRect)⟩ ::
    ⟨Rect.unit ![6, 0, 0] S1x256x128.size inb_S8x256x128_S1x256x128_6_0_0, carE1 k0_pay386 (View.readAt (Elt Ideal) arg4.view (Rect.unit (s := S1x256x512) ![0, 0, 384] S1x256x128.size inb_S1x256x512_S1x256x128_0_0_384).toLoadRect (harg4.unread x2))
      (View.readAt (Elt Ideal) arg5.view (Rect.unit (s := S1x4096x512) (k0_off4 i) S1x256x128.size (Cert.SbIdeal.Gen.k0_off4_inb i hc0)).toLoadRect (harg5.unread x3)) ((View.readAt (Elt Ideal) arg2.view (Rect.unit (s := S8) ![6] S1.size inb_S8_S1_6).toLoadRect (harg2.unread x0)) (Shape.Idx.first (by decide))) (arg9.view.readCov (kernelRun0_A.sl.HS1_7 (F := Ideal) c i arg2 harg2 arg4 harg4 arg5 harg5 arg9 hc0 x0 x2 x3) (Rect.unit (s := S8x256x128) ![6, 0, 0] S1x256x128.size inb_S8x256x128_S1x256x128_6_0_0).toLoadRect)⟩ ::
    ⟨Rect.unit ![5, 0, 0] S1x256x128.size inb_S8x256x128_S1x256x128_5_0_0, carO1 k0_pay386 (View.readAt (Elt Ideal) arg4.view (Rect.unit (s := S1x256x512) ![0, 0, 256] S1x256x128.size inb_S1x256x512_S1x256x128_0_0_256).toLoadRect (harg4.unread x2))
      (View.readAt (Elt Ideal) arg5.view (Rect.unit (s := S1x4096x512) (k0_off3 i) S1x256x128.size (Cert.SbIdeal.Gen.k0_off3_inb i hc0)).toLoadRect (harg5.unread x3)) ((View.readAt (Elt Ideal) arg2.view (Rect.unit (s := S8) ![5] S1.size inb_S8_S1_5).toLoadRect (harg2.unread x0)) (Shape.Idx.first (by decide))) (arg9.view.readCov (kernelRun0_A.sl.HS1_6 (F := Ideal) c i arg2 harg2 arg4 harg4 arg5 harg5 arg9 hc0 x0 x2 x3) (Rect.unit (s := S8x256x128) ![5, 0, 0] S1x256x128.size inb_S8x256x128_S1x256x128_5_0_0).toLoadRect)⟩ ::
    ⟨Rect.unit ![4, 0, 0] S1x256x128.size inb_S8x256x128_S1x256x128_4_0_0, carE1 k0_pay386 (View.readAt (Elt Ideal) arg4.view (Rect.unit (s := S1x256x512) ![0, 0, 256] S1x256x128.size inb_S1x256x512_S1x256x128_0_0_256).toLoadRect (harg4.unread x2))
      (View.readAt (Elt Ideal) arg5.view (Rect.unit (s := S1x4096x512) (k0_off3 i) S1x256x128.size (Cert.SbIdeal.Gen.k0_off3_inb i hc0)).toLoadRect (harg5.unread x3)) ((View.readAt (Elt Ideal) arg2.view (Rect.unit (s := S8) ![4] S1.size inb_S8_S1_4).toLoadRect (harg2.unread x0)) (Shape.Idx.first (by decide))) (arg9.view.readCov (kernelRun0_A.sl.HS1_5 (F := Ideal) c i arg2 harg2 arg4 harg4 arg5 harg5 arg9 hc0 x0 x2 x3) (Rect.unit (s := S8x256x128) ![4, 0, 0] S1x256x128.size inb_S8x256x128_S1x256x128_4_0_0).toLoadRect)⟩ ::
    ⟨Rect.unit ![3, 0, 0] S1x256x128.size inb_S8x256x128_S1x256x128_3_0_0, carO1 k0_pay386 (View.readAt (Elt Ideal) arg4.view (Rect.unit (s := S1x256x512) ![0, 0, 128] S1x256x128.size inb_S1x256x512_S1x256x128_0_0_128).toLoadRect (harg4.unread x2))
      (View.readAt (Elt Ideal) arg5.view (Rect.unit (s := S1x4096x512) (k0_off2 i) S1x256x128.size (Cert.SbIdeal.Gen.k0_off2_inb i hc0)).toLoadRect (harg5.unread x3)) ((View.readAt (Elt Ideal) arg2.view (Rect.unit (s := S8) ![3] S1.size inb_S8_S1_3).toLoadRect (harg2.unread x0)) (Shape.Idx.first (by decide))) (arg9.view.readCov (kernelRun0_A.sl.HS1_4 (F := Ideal) c i arg2 harg2 arg4 harg4 arg5 harg5 arg9 hc0 x0 x2 x3) (Rect.unit (s := S8x256x128) ![3, 0, 0] S1x256x128.size inb_S8x256x128_S1x256x128_3_0_0).toLoadRect)⟩ ::
    ⟨Rect.unit ![2, 0, 0] S1x256x128.size inb_S8x256x128_S1x256x128_2_0_0, carE1 k0_pay386 (View.readAt (Elt Ideal) arg4.view (Rect.unit (s := S1x256x512) ![0, 0, 128] S1x256x128.size inb_S1x256x512_S1x256x128_0_0_128).toLoadRect (harg4.unread x2))
      (View.readAt (Elt Ideal) arg5.view (Rect.unit (s := S1x4096x512) (k0_off2 i) S1x256x128.size (Cert.SbIdeal.Gen.k0_off2_inb i hc0)).toLoadRect (harg5.unread x3)) ((View.readAt (Elt Ideal) arg2.view (Rect.unit (s := S8) ![2] S1.size inb_S8_S1_2).toLoadRect (harg2.unread x0)) (Shape.Idx.first (by decide))) (arg9.view.readCov (kernelRun0_A.sl.HS1_3 (F := Ideal) c i arg2 harg2 arg4 harg4 arg5 harg5 arg9 hc0 x0 x2 x3) (Rect.unit (s := S8x256x128) ![2, 0, 0] S1x256x128.size inb_S8x256x128_S1x256x128_2_0_0).toLoadRect)⟩ ::
    ⟨Rect.unit ![1, 0, 0] S1x256x128.size inb_S8x256x128_S1x256x128_1_0_0, carO1 k0_pay386 (View.readAt (Elt Ideal) arg4.view (Rect.unit (s := S1x256x512) ![0, 0, 0] S1x256x128.size inb_S1x256x512_S1x256x128_0_0_0).toLoadRect (harg4.unread x2))
      (View.readAt (Elt Ideal) arg5.view (Rect.unit (s := S1x4096x512) (k0_off1 i) S1x256x128.size (Cert.SbIdeal.Gen.k0_off1_inb i hc0)).toLoadRect (harg5.unread x3)) ((View.readAt (Elt Ideal) arg2.view (Rect.unit (s := S8) ![1] S1.size inb_S8_S1_1).toLoadRect (harg2.unread x0)) (Shape.Idx.first (by decide))) (arg9.view.readCov (kernelRun0_A.sl.HS1_2 (F := Ideal) c i arg2 harg2 arg4 harg4 arg5 harg5 arg9 hc0 x0 x2 x3) (Rect.unit (s := S8x256x128) ![1, 0, 0] S1x256x128.size inb_S8x256x128_S1x256x128_1_0_0).toLoadRect)⟩ ::
    ⟨Rect.unit ![0, 0, 0] S1x256x128.size inb_S8x256x128_S1x256x128_0_0_0, carE1 k0_pay386 (View.readAt (Elt Ideal) arg4.view (Rect.unit (s := S1x256x512) ![0, 0, 0] S1x256x128.size inb_S1x256x512_S1x256x128_0_0_0).toLoadRect (harg4.unread x2))
      (View.readAt (Elt Ideal) arg5.view (Rect.unit (s := S1x4096x512) (k0_off1 i) S1x256x128.size (Cert.SbIdeal.Gen.k0_off1_inb i hc0)).toLoadRect (harg5.unread x3)) ((View.readAt (Elt Ideal) arg2.view (Rect.unit (s := S8) ![0] S1.size inb_S8_S1_0).toLoadRect (harg2.unread x0)) (Shape.Idx.first (by decide))) (arg9.view.readCov (kernelRun0_A.sl.HS1_1 (F := Ideal)) (Rect.unit (s := S8x256x128) ![0, 0, 0] S1x256x128.size inb_S8x256x128_S1x256x128_0_0_0).toLoadRect)⟩ :: (kernelRun0_A.sl.HS1_1 (F := Ideal)) := rfl

theorem loadsA4 : (∀ a l, (arg8.view.readCov (kernelRun0_A.sl.HS0_1 (F := Ideal)) (Rect.unit (s := S4x256x128) ![0, 0, 0] S1x256x128.size inb_S4x256x128_S1x256x128_0_0_0).toLoadRect) (ix3 0 a l) = (0 : EReal)) ∧ (∀ a l, (arg8.view.readCov (kernelRun0_A.sl.HS0_2 (F := Ideal) c i arg2 harg2 arg3 harg3 arg4 harg4 arg5 harg5 arg6 harg6 arg8 arg9 hc0 x0 x1 x2 x3 x4) (Rect.unit (s := S4x256x128) ![1, 0, 0] S1x256x128.size inb_S4x256x128_S1x256x128_1_0_0).toLoadRect) (ix3 0 a l) = (0 : EReal)) ∧ (∀ a l, (arg8.view.readCov (kernelRun0_A.sl.HS0_3 (F := Ideal) c i arg2 harg2 arg3 harg3 arg4 harg4 arg5 harg5 arg6 harg6 arg8 arg9 hc0 x0 x1 x2 x3 x4) (Rect.unit (s := S4x256x128) ![2, 0, 0] S1x256x128.size inb_S4x256x128_S1x256x128_2_0_0).toLoadRect) (ix3 0 a l) = (0 : EReal)) ∧ (∀ a l, (arg8.view.readCov (kernelRun0_A.sl.HS0_4 (F := Ideal) c i arg2 harg2 arg3 harg3 arg4 harg4 arg5 harg5 arg6 harg6 arg8 arg9 hc0 x0 x1 x2 x3 x4) (Rect.unit (s := S4x256x128) ![3, 0, 0] S1x256x128.size inb_S4x256x128_S1x256x128_3_0_0).toLoadRect) (ix3 0 a l) = (0 : EReal)) := by
  have z0 : Zeros4 arg8.view 0 (kernelRun0_A.sl.HS0_1 (F := Ideal)) := zeros4_nil arg8.view
  have z1 : Zeros4 arg8.view 1 (kernelRun0_A.sl.HS0_2 (F := Ideal) c i arg2 harg2 arg3 harg3 arg4 harg4 arg5 harg5 arg6 harg6 arg8 arg9 hc0 x0 x1 x2 x3 x4) := zeros4_cons z0
  have z2 : Zeros4 arg8.view 2 (kernelRun0_A.sl.HS0_3 (F := Ideal) c i arg2 harg2 arg3 harg3 arg4 harg4 arg5 harg5 arg6 harg6 arg8 arg9 hc0 x0 x1 x2 x3 x4) := zeros4_cons z1
  have z3 : Zeros4 arg8.view 3 (kernelRun0_A.sl.HS0_4 (F := Ideal) c i arg2 harg2 arg3 harg3 arg4 harg4 arg5 harg5 arg6 harg6 arg8 arg9 hc0 x0 x1 x2 x3 x4) := zeros4_cons z2
  exact ⟨zeros4_load z0 0 (le_refl _) _, zeros4_load z1 1 (le_refl _) _, zeros4_load z2 2 (le_refl _) _, zeros4_load z3 3 (le_refl _) _⟩

theorem loadsA8 : (∀ a l, (arg9.view.readCov (kernelRun0_A.sl.HS1_1 (F := Ideal)) (Rect.unit (s := S8x256x128) ![0, 0, 0] S1x256x128.size inb_S8x256x128_S1x256x128_0_0_0).toLoadRect) (ix3 0 a l) = (0 : EReal)) ∧ (∀ a l, (arg9.view.readCov (kernelRun0_A.sl.HS1_2 (F := Ideal) c i arg2 harg2 arg4 harg4 arg5 harg5 arg9 hc0 x0 x2 x3) (Rect.unit (s := S8x256x128) ![1, 0, 0] S1x256x128.size inb_S8x256x128_S1x256x128_1_0_0).toLoadRect) (ix3 0 a l) = (0 : EReal)) ∧ (∀ a l, (arg9.view.readCov (kernelRun0_A.sl.HS1_3 (F := Ideal) c i arg2 harg2 arg4 harg4 arg5 harg5 arg9 hc0 x0 x2 x3) (Rect.unit (s := S8x256x128) ![2, 0, 0] S1x256x128.size inb_S8x256x128_S1x256x128_2_0_0).toLoadRect) (ix3 0 a l) = (0 : EReal)) ∧ (∀ a l, (arg9.view.readCov (kernelRun0_A.sl.HS1_4 (F := Ideal) c i arg2 harg2 arg4 harg4 arg5 harg5 arg9 hc0 x0 x2 x3) (Rect.unit (s := S8x256x128) ![3, 0, 0] S1x256x128.size inb_S8x256x128_S1x256x128_3_0_0).toLoadRect) (ix3 0 a l) = (0 : EReal)) ∧ (∀ a l, (arg9.view.readCov (kernelRun0_A.sl.HS1_5 (F := Ideal) c i arg2 harg2 arg4 harg4 arg5 harg5 arg9 hc0 x0 x2 x3) (Rect.unit (s := S8x256x128) ![4, 0, 0] S1x256x128.size inb_S8x256x128_S1x256x128_4_0_0).toLoadRect) (ix3 0 a l) = (0 : EReal)) ∧ (∀ a l, (arg9.view.readCov (kernelRun0_A.sl.HS1_6 (F := Ideal) c i arg2 harg2 arg4 harg4 arg5 harg5 arg9 hc0 x0 x2 x3) (Rect.unit (s := S8x256x128) ![5, 0, 0] S1x256x128.size inb_S8x256x128_S1x256x128_5_0_0).toLoadRect) (ix3 0 a l) = (0 : EReal)) ∧ (∀ a l, (arg9.view.readCov (kernelRun0_A.sl.HS1_7 (F := Ideal) c i arg2 harg2 arg4 harg4 arg5 harg5 arg9 hc0 x0 x2 x3) (Rect.unit (s := S8x256x128) ![6, 0, 0] S1x256x128.size inb_S8x256x128_S1x256x128_6_0_0).toLoadRect) (ix3 0 a l) = (0 : EReal)) ∧ (∀ a l, (arg9.view.readCov (kernelRun0_A.sl.HS1_8 (F := Ideal) c i arg2 harg2 arg4 harg4 arg5 harg5 arg9 hc0 x0 x2 x3) (Rect.unit (s := S8x256x128) ![7, 0, 0] S1x256x128.size inb_S8x256x128_S1x256x128_7_0_0).toLoadRect) (ix3 0 a l) = (0 : EReal)) := by
  have z0 : Zeros8 arg9.view 0 (kernelRun0_A.sl.HS1_1 (F := Ideal)) := zeros8_nil arg9.view
  have z1 : Zeros8 arg9.view 1 (kernelRun0_A.sl.HS1_2 (F := Ideal) c i arg2 harg2 arg4 harg4 arg5 harg5 arg9 hc0 x0 x2 x3) := zeros8_cons z0
  have z2 : Zeros8 arg9.view 2 (kernelRun0_A.sl.HS1_3 (F := Ideal) c i arg2 harg2 arg4 harg4 arg5 harg5 arg9 hc0 x0 x2 x3) := zeros8_cons z1
  have z3 : Zeros8 arg9.view 3 (kernelRun0_A.sl.HS1_4 (F := Ideal) c i arg2 harg2 arg4 harg4 arg5 harg5 arg9 hc0 x0 x2 x3) := zeros8_cons z2
  have z4 : Zeros8 arg9.view 4 (kernelRun0_A.sl.HS1_5 (F := Ideal) c i arg2 harg2 arg4 harg4 arg5 harg5 arg9 hc0 x0 x2 x3) := zeros8_cons z3
  have z5 : Zeros8 arg9.view 5 (kernelRun0_A.sl.HS1_6 (F := Ideal) c i arg2 harg2 arg4 harg4 arg5 harg5 arg9 hc0 x0 x2 x3) := zeros8_cons z4
  have z6 : Zeros8 arg9.view 6 (kernelRun0_A.sl.HS1_7 (F := Ideal) c i arg2 harg2 arg4 harg4 arg5 harg5 arg9 hc0 x0 x2 x3) := zeros8_cons z5
  have z7 : Zeros8 arg9.view 7 (kernelRun0_A.sl.HS1_8 (F := Ideal) c i arg2 harg2 arg4 harg4 arg5 harg5 arg9 hc0 x0 x2 x3) := zeros8_cons z6
  exact ⟨zeros8_load z0 0 (le_refl _) _, zeros8_load z1 1 (le_refl _) _, zeros8_load z2 2 (le_refl _) _, zeros8_load z3 3 (le_refl _) _, zeros8_load z4 4 (le_refl _) _, zeros8_load z5 5 (le_refl _) _, zeros8_load z6 6 (le_refl _) _, zeros8_load z7 7 (le_refl _) _⟩
end A

/-! Case B. -/
section B
variable {c : Dev nD} {i : grid0.Coords} {arg2 : Memref sig .tc .smem S8 .f32} {harg2 : arg2.IsWhole} {arg3 : Memref sig .tc .vmem S256x256 .bf16} {harg3 : arg3.IsWhole}
  {arg4 : Memref sig .tc .vmem S1x256x512 .bf16} {harg4 : arg4.IsWhole} {arg5 : Memref sig .tc .vmem S1x4096x512 .bf16} {harg5 : arg5.IsWhole} {arg6 : Memref sig .tc .vmem S1x4096x512 .bf16}
  {harg6 : arg6.IsWhole} {arg7 : Memref sig .tc .vmem S1x256x512 .bf16} {harg7 : arg7.IsWhole} {arg8 : Memref sig .tc .vmem S4x256x128 .f32} {harg8 : arg8.IsWhole}
  {arg9 : Memref sig .tc .vmem S8x256x128 .f32} {harg9 : arg9.IsWhole} {hc0 : ¬ cond0_0 i} {hc1 : cond0_1 i}
  {x0 : Vec Ideal S8 .f32} {x1 : Vec Ideal S256x256 .bf16} {x2 : Vec Ideal S1x256x512 .bf16} {x3 x4 : Vec Ideal S1x4096x512 .bf16}

theorem storesB4 : (kernelRun0_B.sl.HS0_5 (F := Ideal) c i arg2 harg2 arg3 harg3 arg4 harg4 arg5 harg5 arg6 harg6 arg8 arg9 hc1 x0 x1 x2 x3 x4) =     ⟨Rect.unit ![3, 0, 0] S1x256x128.size inb_S4x256x128_S1x256x128_3_0_0, acc2 (mask k0_pay386) (View.readAt (Elt Ideal) arg3.view (Rect.unit (s := S256x256) ![0, 0] S256x256.size inb_S256x256_S256x256_0_0).toLoadRect (harg3.unread x1))
      (View.readAt (Elt Ideal) arg4.view (Rect.unit (s := S1x256x512) ![0, 0, 384] S1x256x128.size inb_S1x256x512_S1x256x128_0_0_384).toLoadRect (harg4.unread x2))
      (View.readAt (Elt Ideal) arg5.view (Rect.unit (s := S1x4096x512) (k0_off8 i) S1x512x128.size (Cert.SbIdeal.Gen.k0_off8_inb i hc1)).toLoadRect (harg5.unread x3)) (View.readAt (Elt Ideal) arg6.view (Rect.unit (s := S1x4096x512) (k0_off8 i) S1x512x128.size (Cert.SbIdeal.Gen.k0_off8_inb i hc1)).toLoadRect (harg6.unread x4))
      ((View.readAt (Elt Ideal) arg2.view (Rect.unit (s := S8) ![6] S1.size inb_S8_S1_6).toLoadRect (harg2.unread x0)) (Shape.Idx.first (by decide))) ((View.readAt (Elt Ideal) arg2.view (Rect.unit (s := S8) ![7] S1.size inb_S8_S1_7).toLoadRect (harg2.unread x0)) (Shape.Idx.first (by decide)))
      (arg9.view.readCov (kernelRun0_B.sl.HS1_7 (F := Ideal) c i arg2 harg2 arg4 harg4 arg5 harg5 arg9 hc1 x0 x2 x3) (Rect.unit (s := S8x256x128) ![6, 0, 0] S1x256x128.size inb_S8x256x128_S1x256x128_6_0_0).toLoadRect)
      (arg9.view.readCov (kernelRun0_B.sl.HS1_8 (F := Ideal) c i arg2 harg2 arg4 harg4 arg5 harg5 arg9 hc1 x0 x2 x3) (Rect.unit (s := S8x256x128) ![7, 0, 0] S1x256x128.size inb_S8x256x128_S1x256x128_7_0_0).toLoadRect) (arg8.view.readCov (kernelRun0_B.sl.HS0_4 (F := Ideal) c i arg2 harg2 arg3 harg3 arg4 harg4 arg5 harg5 arg6 harg6 arg8 arg9 hc1 x0 x1 x2 x3 x4) (Rect.unit (s := S4x256x128) ![3, 0, 0] S1x256x128.size inb_S4x256x128_S1x256x128_3_0_0).toLoadRect)⟩ ::
    ⟨Rect.unit ![2, 0, 0] S1x256x128.size inb_S4x256x128_S1x256x128_2_0_0, acc2 (mask k0_pay386) (View.readAt (Elt Ideal) arg3.view (Rect.unit (s := S256x256) ![0, 0] S256x256.size inb_S256x256_S256x256_0_0).toLoadRect (harg3.unread x1))
      (View.readAt (Elt Ideal) arg4.view (Rect.unit (s := S1x256x512) ![0, 0, 256] S1x256x128.size inb_S1x256x512_S1x256x128_0_0_256).toLoadRect (harg4.unread x2))
      (View.readAt (Elt Ideal) arg5.view (Rect.unit (s := S1x4096x512) (k0_off7 i) S1x512x128.size (Cert.SbIdeal.Gen.k0_off7_inb i hc1)).toLoadRect (harg5.unread x3)) (View.readAt (Elt Ideal) arg6.view (Rect.unit (s := S1x4096x512) (k0_off7 i) S1x512x128.size (Cert.SbIdeal.Gen.k0_off7_inb i hc1)).toLoadRect (harg6.unread x4))
      ((View.readAt (Elt Ideal) arg2.view (Rect.unit (s := S8) ![4] S1.size inb_S8_S1_4).toLoadRect (harg2.unread x0)) (Shape.Idx.first (by decide))) ((View.readAt (Elt Ideal) arg2.view (Rect.unit (s := S8) ![5] S1.size inb_S8_S1_5).toLoadRect (harg2.unread x0)) (Shape.Idx.first (by decide)))
      (arg9.view.readCov (kernelRun0_B.sl.HS1_5 (F := Ideal) c i arg2 harg2 arg4 harg4 arg5 harg5 arg9 hc1 x0 x2 x3) (Rect.unit (s := S8x256x128) ![4, 0, 0] S1x256x128.size inb_S8x256x128_S1x256x128_4_0_0).toLoadRect)
      (arg9.view.readCov (kernelRun0_B.sl.HS1_6 (F := Ideal) c i arg2 harg2 arg4 harg4 arg5 harg5 arg9 hc1 x0 x2 x3) (Rect.unit (s := S8x256x128) ![5, 0, 0] S1x256x128.size inb_S8x256x128_S1x256x128_5_0_0).toLoadRect) (arg8.view.readCov (kernelRun0_B.sl.HS0_3 (F := Ideal) c i arg2 harg2 arg3 harg3 arg4 harg4 arg5 harg5 arg6 harg6 arg8 arg9 hc1 x0 x1 x2 x3 x4) (Rect.unit (s := S4x256x128) ![2, 0, 0] S1x256x128.size inb_S4x256x128_S1x256x128_2_0_0).toLoadRect)⟩ ::
    ⟨Rect.unit ![1, 0, 0] S1x256x128.size inb_S4x256x128_S1x256x128_1_0_0, acc2 (mask k0_pay386) (View.readAt (Elt Ideal) arg3.view (Rect.unit (s := S256x256) ![0, 0] S256x256.size inb_S256x256_S256x256_0_0).toLoadRect (harg3.unread x1))
      (View.readAt (Elt Ideal) arg4.view (Rect.unit (s := S1x256x512) ![0, 0, 128] S1x256x128.size inb_S1x256x512_S1x256x128_0_0_128).toLoadRect (harg4.unread x2))
      (View.readAt (Elt Ideal) arg5.view (Rect.unit (s := S1x4096x512) (k0_off6 i) S1x512x128.size (Cert.SbIdeal.Gen.k0_off6_inb i hc1)).toLoadRect (harg5.unread x3)) (View.readAt (Elt Ideal) arg6.view (Rect.unit (s := S1x4096x512) (k0_off6 i) S1x512x128.size (Cert.SbIdeal.Gen.k0_off6_inb i hc1)).toLoadRect (harg6.unread x4))
      ((View.readAt (Elt Ideal) arg2.view (Rect.unit (s := S8) ![2] S1.size inb_S8_S1_2).toLoadRect (harg2.unread x0)) (Shape.Idx.first (by decide))) ((View.readAt (Elt Ideal) arg2.view (Rect.unit (s := S8) ![3] S1.size inb_S8_S1_3).toLoadRect (harg2.unread x0)) (Shape.Idx.first (by decide)))
      (arg9.view.readCov (kernelRun0_B.sl.HS1_3 (F := Ideal) c i arg2 harg2 arg4 harg4 arg5 harg5 arg9 hc1 x0 x2 x3) (Rect.unit (s := S8x256x128) ![2, 0, 0] S1x256x128.size inb_S8x256x128_S1x256x128_2_0_0).toLoadRect)
      (arg9.view.readCov (kernelRun0_B.sl.HS1_4 (F := Ideal) c i arg2 harg2 arg4 harg4 arg5 harg5 arg9 hc1 x0 x2 x3) (Rect.unit (s := S8x256x128) ![3, 0, 0] S1x256x128.size inb_S8x256x128_S1x256x128_3_0_0).toLoadRect) (arg8.view.readCov (kernelRun0_B.sl.HS0_2 (F := Ideal) c i arg2 harg2 arg3 harg3 arg4 harg4 arg5 harg5 arg6 harg6 arg8 arg9 hc1 x0 x1 x2 x3 x4) (Rect.unit (s := S4x256x128) ![1, 0, 0] S1x256x128.size inb_S4x256x128_S1x256x128_1_0_0).toLoadRect)⟩ ::
    ⟨Rect.unit ![0, 0, 0] S1x256x128.size inb_S4x256x128_S1x256x128_0_0_0, acc2 (mask k0_pay386) (View.readAt (Elt Ideal) arg3.view (Rect.unit (s := S256x256) ![0, 0] S256x256.size inb_S256x256_S256x256_0_0).toLoadRect (harg3.unread x1))
      (View.readAt (Elt Ideal) arg4.view (Rect.unit (s := S1x256x512) ![0, 0, 0] S1x256x128.size inb_S1x256x512_S1x256x128_0_0_0).toLoadRect (harg4.unread x2))
      (View.readAt (Elt Ideal) arg5.view (Rect.unit (s := S1x4096x512) (k0_off5 i) S1x512x128.size (Cert.SbIdeal.Gen.k0_off5_inb i hc1)).toLoadRect (harg5.unread x3)) (View.readAt (Elt Ideal) arg6.view (Rect.unit (s := S1x4096x512) (k0_off5 i) S1x512x128.size (Cert.SbIdeal.Gen.k0_off5_inb i hc1)).toLoadRect (harg6.unread x4))
      ((View.readAt (Elt Ideal) arg2.view (Rect.unit (s := S8) ![0] S1.size inb_S8_S1_0).toLoadRect (harg2.unread x0)) (Shape.Idx.first (by decide))) ((View.readAt (Elt Ideal) arg2.view (Rect.unit (s := S8) ![1] S1.size inb_S8_S1_1).toLoadRect (harg2.unread x0)) (Shape.Idx.first (by decide)))
      (arg9.view.readCov (kernelRun0_B.sl.HS1_1 (F := Ideal)) (Rect.unit (s := S8x256x128) ![0, 0, 0] S1x256x128.size inb_S8x256x128_S1x256x128_0_0_0).toLoadRect)
      (arg9.view.readCov (kernelRun0_B.sl.HS1_2 (F := Ideal) c i arg2 harg2 arg4 harg4 arg5 harg5 arg9 hc1 x0 x2 x3) (Rect.unit (s := S8x256x128) ![1, 0, 0] S1x256x128.size inb_S8x256x128_S1x256x128_1_0_0).toLoadRect) (arg8.view.readCov (kernelRun0_B.sl.HS0_1 (F := Ideal)) (Rect.unit (s := S4x256x128) ![0, 0, 0] S1x256x128.size inb_S4x256x128_S1x256x128_0_0_0).toLoadRect)⟩ :: (kernelRun0_B.sl.HS0_1 (F := Ideal)) := rfl

theorem storesB8 : (kernelRun0_B.sl.HS1_9 (F := Ideal) c i arg2 harg2 arg4 harg4 arg5 harg5 arg9 hc1 x0 x2 x3) =     ⟨Rect.unit ![7, 0, 0] S1x256x128.size inb_S8x256x128_S1x256x128_7_0_0, carO2 (mask k0_pay386) (View.readAt (Elt Ideal) arg4.view (Rect.unit (s := S1x256x512) ![0, 0, 384] S1x256x128.size inb_S1x256x512_S1x256x128_0_0_384).toLoadRect (harg4.unread x2))
      (View.readAt (Elt Ideal) arg5.view (Rect.unit (s := S1x4096x512) (k0_off8 i) S1x512x128.size (Cert.SbIdeal.Gen.k0_off8_inb i hc1)).toLoadRect (harg5.unread x3)) ((View.readAt (Elt Ideal) arg2.view (Rect.unit (s := S8) ![7] S1.size inb_S8_S1_7).toLoadRect (harg2.unread x0)) (Shape.Idx.first (by decide))) (arg9.view.readCov (kernelRun0_B.sl.HS1_8 (F := Ideal) c i arg2 harg2 arg4 harg4 arg5 harg5 arg9 hc1 x0 x2 x3) (Rect.unit (s := S8x256x128) ![7, 0, 0] S1x256x128.size inb_S8x256x128_S1x256x128_7_0_0).toLoadRect)⟩ ::
    ⟨Rect.unit ![6, 0, 0] S1x256x128.size inb_S8x256x128_S1x256x128_6_0_0, carE2 (mask k0_pay386) (View.readAt (Elt Ideal) arg4.view (Rect.unit (s := S1x256x512) ![0, 0, 384] S1x256x128.size inb_S1x256x512_S1x256x128_0_0_384).toLoadRect (harg4.unread x2))
      (View.readAt (Elt Ideal) arg5.view (Rect.unit (s := S1x4096x512) (k0_off8 i) S1x512x128.size (Cert.SbIdeal.Gen.k0_off8_inb i hc1)).toLoadRect (harg5.unread x3)) ((View.readAt (Elt Ideal) arg2.view (Rect.unit (s := S8) ![6] S1.size inb_S8_S1_6).toLoadRect (harg2.unread x0)) (Shape.Idx.first (by decide))) (arg9.view.readCov (kernelRun0_B.sl.HS1_7 (F := Ideal) c i arg2 harg2 arg4 harg4 arg5 harg5 arg9 hc1 x0 x2 x3) (Rect.unit (s := S8x256x128) ![6, 0, 0] S1x256x128.size inb_S8x256x128_S1x256x128_6_0_0).toLoadRect)⟩ ::
    ⟨Rect.unit ![5, 0, 0] S1x256x128.size inb_S8x256x128_S1x256x128_5_0_0, carO2 (mask k0_pay386) (View.readAt (Elt Ideal) arg4.view (Rect.unit (s := S1x256x512) ![0, 0, 256] S1x256x128.size inb_S1x256x512_S1x256x128_0_0_256).toLoadRect (harg4.unread x2))
      (View.readAt (Elt Ideal) arg5.view (Rect.unit (s := S1x4096x512) (k0_off7 i) S1x512x128.size (Cert.SbIdeal.Gen.k0_off7_inb i hc1)).toLoadRect (harg5.unread x3)) ((View.readAt (Elt Ideal) arg2.view (Rect.unit (s := S8) ![5] S1.size inb_S8_S1_5).toLoadRect (harg2.unread x0)) (Shape.Idx.first (by decide))) (arg9.view.readCov (kernelRun0_B.sl.HS1_6 (F := Ideal) c i arg2 harg2 arg4 harg4 arg5 harg5 arg9 hc1 x0 x2 x3) (Rect.unit (s := S8x256x128) ![5, 0, 0] S1x256x128.size inb_S8x256x128_S1x256x128_5_0_0).toLoadRect)⟩ ::
    ⟨Rect.unit ![4, 0, 0] S1x256x128.size inb_S8x256x128_S1x256x128_4_0_0, carE2 (mask k0_pay386) (View.readAt (Elt Ideal) arg4.view (Rect.unit (s := S1x256x512) ![0, 0, 256] S1x256x128.size inb_S1x256x512_S1x256x128_0_0_256).toLoadRect (harg4.unread x2))
      (View.readAt (Elt Ideal) arg5.view (Rect.unit (s := S1x4096x512) (k0_off7 i) S1x512x128.size (Cert.SbIdeal.Gen.k0_off7_inb i hc1)).toLoadRect (harg5.unread x3)) ((View.readAt (Elt Ideal) arg2.view (Rect.unit (s := S8) ![4] S1.size inb_S8_S1_4).toLoadRect (harg2.unread x0)) (Shape.Idx.first (by decide))) (arg9.view.readCov (kernelRun0_B.sl.HS1_5 (F := Ideal) c i arg2 harg2 arg4 harg4 arg5 harg5 arg9 hc1 x0 x2 x3) (Rect.unit (s := S8x256x128) ![4, 0, 0] S1x256x128.size inb_S8x256x128_S1x256x128_4_0_0).toLoadRect)⟩ ::
    ⟨Rect.unit ![3, 0, 0] S1x256x128.size inb_S8x256x128_S1x256x128_3_0_0, carO2 (mask k0_pay386) (View.readAt (Elt Ideal) arg4.view (Rect.unit (s := S1x256x512) ![0, 0, 128] S1x256x128.size inb_S1x256x512_S1x256x128_0_0_128).toLoadRect (harg4.unread x2))
      (View.readAt (Elt Ideal) arg5.view (Rect.unit (s := S1x4096x512) (k0_off6 i) S1x512x128.size (Cert.SbIdeal.Gen.k0_off6_inb i hc1)).toLoadRect (harg5.unread x3)) ((View.readAt (Elt Ideal) arg2.view (Rect.unit (s := S8) ![3] S1.size inb_S8_S1_3).toLoadRect (harg2.unread x0)) (Shape.Idx.first (by decide))) (arg9.view.readCov (kernelRun0_B.sl.HS1_4 (F := Ideal) c i arg2 harg2 arg4 harg4 arg5 harg5 arg9 hc1 x0 x2 x3) (Rect.unit (s := S8x256x128) ![3, 0, 0] S1x256x128.size inb_S8x256x128_S1x256x128_3_0_0).toLoadRect)⟩ ::
    ⟨Rect.unit ![2, 0, 0] S1x256x128.size inb_S8x256x128_S1x256x128_2_0_0, carE2 (mask k0_pay386) (View.readAt (Elt Ideal) arg4.view (Rect.unit (s := S1x256x512) ![0, 0, 128] S1x256x128.size inb_S1x256x512_S1x256x128_0_0_128).toLoadRect (harg4.unread x2))
      (View.readAt (Elt Ideal) arg5.view (Rect.unit (s := S1x4096x512) (k0_off6 i) S1x512x128.size (Cert.SbIdeal.Gen.k0_off6_inb i hc1)).toLoadRect (harg5.unread x3)) ((View.readAt (Elt Ideal) arg2.view (Rect.unit (s := S8) ![2] S1.size inb_S8_S1_2).toLoadRect (harg2.unread x0)) (Shape.Idx.first (by decide))) (arg9.view.readCov (kernelRun0_B.sl.HS1_3 (F := Ideal) c i arg2 harg2 arg4 harg4 arg5 harg5 arg9 hc1 x0 x2 x3) (Rect.unit (s := S8x256x128) ![2, 0, 0] S1x256x128.size inb_S8x256x128_S1x256x128_2_0_0).toLoadRect)⟩ ::
    ⟨Rect.unit ![1, 0, 0] S1x256x128.size inb_S8x256x128_S1x256x128_1_0_0, carO2 (mask k0_pay386) (View.readAt (Elt Ideal) arg4.view (Rect.unit (s := S1x256x512) ![0, 0, 0] S1x256x128.size inb_S1x256x512_S1x256x128_0_0_0).toLoadRect (harg4.unread x2))
      (View.readAt (Elt Ideal) arg5.view (Rect.unit (s := S1x4096x512) (k0_off5 i) S1x512x128.size (Cert.SbIdeal.Gen.k0_off5_inb i hc1)).toLoadRect (harg5.unread x3)) ((View.readAt (Elt Ideal) arg2.view (Rect.unit (s := S8) ![1] S1.size inb_S8_S1_1).toLoadRect (harg2.unread x0)) (Shape.Idx.first (by decide))) (arg9.view.readCov (kernelRun0_B.sl.HS1_2 (F := Ideal) c i arg2 harg2 arg4 harg4 arg5 harg5 arg9 hc1 x0 x2 x3) (Rect.unit (s := S8x256x128) ![1, 0, 0] S1x256x128.size inb_S8x256x128_S1x256x128_1_0_0).toLoadRect)⟩ ::
    ⟨Rect.unit ![0, 0, 0] S1x256x128.size inb_S8x256x128_S1x256x128_0_0_0, carE2 (mask k0_pay386) (View.readAt (Elt Ideal) arg4.view (Rect.unit (s := S1x256x512) ![0, 0, 0] S1x256x128.size inb_S1x256x512_S1x256x128_0_0_0).toLoadRect (harg4.unread x2))
      (View.readAt (Elt Ideal) arg5.view (Rect.unit (s := S1x4096x512) (k0_off5 i) S1x512x128.size (Cert.SbIdeal.Gen.k0_off5_inb i hc1)).toLoadRect (harg5.unread x3)) ((View.readAt (Elt Ideal) arg2.view (Rect.unit (s := S8) ![0] S1.size inb_S8_S1_0).toLoadRect (harg2.unread x0)) (Shape.Idx.first (by decide))) (arg9.view.readCov (kernelRun0_B.sl.HS1_1 (F := Ideal)) (Rect.unit (s := S8x256x128) ![0, 0, 0] S1x256x128.size inb_S8x256x128_S1x256x128_0_0_0).toLoadRect)⟩ :: (kernelRun0_B.sl.HS1_1 (F := Ideal)) := rfl

theorem loadsB4 : (∀ a l, (arg8.view.readCov (kernelRun0_B.sl.HS0_1 (F := Ideal)) (Rect.unit (s := S4x256x128) ![0, 0, 0] S1x256x128.size inb_S4x256x128_S1x256x128_0_0_0).toLoadRect) (ix3 0 a l) = (0 : EReal)) ∧ (∀ a l, (arg8.view.readCov (kernelRun0_B.sl.HS0_2 (F := Ideal) c i arg2 harg2 arg3 harg3 arg4 harg4 arg5 harg5 arg6 harg6 arg8 arg9 hc1 x0 x1 x2 x3 x4) (Rect.unit (s := S4x256x128) ![1, 0, 0] S1x256x128.size inb_S4x256x128_S1x256x128_1_0_0).toLoadRect) (ix3 0 a l) = (0 : EReal)) ∧ (∀ a l, (arg8.view.readCov (kernelRun0_B.sl.HS0_3 (F := Ideal) c i arg2 harg2 arg3 harg3 arg4 harg4 arg5 harg5 arg6 harg6 arg8 arg9 hc1 x0 x1 x2 x3 x4) (Rect.unit (s := S4x256x128) ![2, 0, 0] S1x256x128.size inb_S4x256x128_S1x256x128_2_0_0).toLoadRect) (ix3 0 a l) = (0 : EReal)) ∧ (∀ a l, (arg8.view.readCov (kernelRun0_B.sl.HS0_4 (F := Ideal) c i arg2 harg2 arg3 harg3 arg4 harg4 arg5 harg5 arg6 harg6 arg8 arg9 hc1 x0 x1 x2 x3 x4) (Rect.unit (s := S4x256x128) ![3, 0, 0] S1x256x128.size inb_S4x256x128_S1x256x128_3_0_0).toLoadRect) (ix3 0 a l) = (0 : EReal)) := by
  have z0 : Zeros4 arg8.view 0 (kernelRun0_B.sl.HS0_1 (F := Ideal)) := zeros4_nil arg8.view
  have z1 : Zeros4 arg8.view 1 (kernelRun0_B.sl.HS0_2 (F := Ideal) c i arg2 harg2 arg3 harg3 arg4 harg4 arg5 harg5 arg6 harg6 arg8 arg9 hc1 x0 x1 x2 x3 x4) := zeros4_cons z0
  have z2 : Zeros4 arg8.view 2 (kernelRun0_B.sl.HS0_3 (F := Ideal) c i arg2 harg2 arg3 harg3 arg4 harg4 arg5 harg5 arg6 harg6 arg8 arg9 hc1 x0 x1 x2 x3 x4) := zeros4_cons z1
  have z3 : Zeros4 arg8.view 3 (kernelRun0_B.sl.HS0_4 (F := Ideal) c i arg2 harg2 arg3 harg3 arg4 harg4 arg5 harg5 arg6 harg6 arg8 arg9 hc1 x0 x1 x2 x3 x4) := zeros4_cons z2
  exact ⟨zeros4_load z0 0 (le_refl _) _, zeros4_load z1 1 (le_refl _) _, zeros4_load z2 2 (le_refl _) _, zeros4_load z3 3 (le_refl _) _⟩

theorem loadsB8 : (∀ a l, (arg9.view.readCov (kernelRun0_B.sl.HS1_1 (F := Ideal)) (Rect.unit (s := S8x256x128) ![0, 0, 0] S1x256x128.size inb_S8x256x128_S1x256x128_0_0_0).toLoadRect) (ix3 0 a l) = (0 : EReal)) ∧ (∀ a l, (arg9.view.readCov (kernelRun0_B.sl.HS1_2 (F := Ideal) c i arg2 harg2 arg4 harg4 arg5 harg5 arg9 hc1 x0 x2 x3) (Rect.unit (s := S8x256x128) ![1, 0, 0] S1x256x128.size inb_S8x256x128_S1x256x128_1_0_0).toLoadRect) (ix3 0 a l) = (0 : EReal)) ∧ (∀ a l, (arg9.view.readCov (kernelRun0_B.sl.HS1_3 (F := Ideal) c i arg2 harg2 arg4 harg4 arg5 harg5 arg9 hc1 x0 x2 x3) (Rect.unit (s := S8x256x128) ![2, 0, 0] S1x256x128.size inb_S8x256x128_S1x256x128_2_0_0).toLoadRect) (ix3 0 a l) = (0 : EReal)) ∧ (∀ a l, (arg9.view.readCov (kernelRun0_B.sl.HS1_4 (F := Ideal) c i arg2 harg2 arg4 harg4 arg5 harg5 arg9 hc1 x0 x2 x3) (Rect.unit (s := S8x256x128) ![3, 0, 0] S1x256x128.size inb_S8x256x128_S1x256x128_3_0_0).toLoadRect) (ix3 0 a l) = (0 : EReal)) ∧ (∀ a l, (arg9.view.readCov (kernelRun0_B.sl.HS1_5 (F := Ideal) c i arg2 harg2 arg4 harg4 arg5 harg5 arg9 hc1 x0 x2 x3) (Rect.unit (s := S8x256x128) ![4, 0, 0] S1x256x128.size inb_S8x256x128_S1x256x128_4_0_0).toLoadRect) (ix3 0 a l) = (0 : EReal)) ∧ (∀ a l, (arg9.view.readCov (kernelRun0_B.sl.HS1_6 (F := Ideal) c i arg2 harg2 arg4 harg4 arg5 harg5 arg9 hc1 x0 x2 x3) (Rect.unit (s := S8x256x128) ![5, 0, 0] S1x256x128.size inb_S8x256x128_S1x256x128_5_0_0).toLoadRect) (ix3 0 a l) = (0 : EReal)) ∧ (∀ a l, (arg9.view.readCov (kernelRun0_B.sl.HS1_7 (F := Ideal) c i arg2 harg2 arg4 harg4 arg5 harg5 arg9 hc1 x0 x2 x3) (Rect.unit (s := S8x256x128) ![6, 0, 0] S1x256x128.size inb_S8x256x128_S1x256x128_6_0_0).toLoadRect) (ix3 0 a l) = (0 : EReal)) ∧ (∀ a l, (arg9.view.readCov (kernelRun0_B.sl.HS1_8 (F := Ideal) c i arg2 harg2 arg4 harg4 arg5 harg5 arg9 hc1 x0 x2 x3) (Rect.unit (s := S8x256x128) ![7, 0, 0] S1x256x128.size inb_S8x256x128_S1x256x128_7_0_0).toLoadRect) (ix3 0 a l) = (0 : EReal)) := by
  have z0 : Zeros8 arg9.view 0 (kernelRun0_B.sl.HS1_1 (F := Ideal)) := zeros8_nil arg9.view
  have z1 : Zeros8 arg9.view 1 (kernelRun0_B.sl.HS1_2 (F := Ideal) c i arg2 harg2 arg4 harg4 arg5 harg5 arg9 hc1 x0 x2 x3) := zeros8_cons z0
  have z2 : Zeros8 arg9.view 2 (kernelRun0_B.sl.HS1_3 (F := Ideal) c i arg2 harg2 arg4 harg4 arg5 harg5 arg9 hc1 x0 x2 x3) := zeros8_cons z1
  have z3 : Zeros8 arg9.view 3 (kernelRun0_B.sl.HS1_4 (F := Ideal) c i arg2 harg2 arg4 harg4 arg5 harg5 arg9 hc1 x0 x2 x3) := zeros8_cons z2
  have z4 : Zeros8 arg9.view 4 (kernelRun0_B.sl.HS1_5 (F := Ideal) c i arg2 harg2 arg4 harg4 arg5 harg5 arg9 hc1 x0 x2 x3) := zeros8_cons z3
  have z5 : Zeros8 arg9.view 5 (kernelRun0_B.sl.HS1_6 (F := Ideal) c i arg2 harg2 arg4 harg4 arg5 harg5 arg9 hc1 x0 x2 x3) := zeros8_cons z4
  have z6 : Zeros8 arg9.view 6 (kernelRun0_B.sl.HS1_7 (F := Ideal) c i arg2 harg2 arg4 harg4 arg5 harg5 arg9 hc1 x0 x2 x3) := zeros8_cons z5
  have z7 : Zeros8 arg9.view 7 (kernelRun0_B.sl.HS1_8 (F := Ideal) c i arg2 harg2 arg4 harg4 arg5 harg5 arg9 hc1 x0 x2 x3) := zeros8_cons z6
  exact ⟨zeros8_load z0 0 (le_refl _) _, zeros8_load z1 1 (le_refl _) _, zeros8_load z2 2 (le_refl _) _, zeros8_load z3 3 (le_refl _) _, zeros8_load z4 4 (le_refl _) _, zeros8_load z5 5 (le_refl _) _, zeros8_load z6 6 (le_refl _) _, zeros8_load z7 7 (le_refl _) _⟩
end B

end Cert.SbRun
-- ==== Proof.SbOut.lean ====
module
public import proofs.«01_k».proof.Proof.SbRun
@[expose] public section
set_option maxRecDepth 16384
/-! A grid step's running outputs: after its diagonal blocks, and after its loop. -/
noncomputable section
namespace Cert.SbOut
open Cert.SbIdeal Cert.SbIdeal.Gen Cert.SbMath Cert.SbStep Cert.SbPair Cert.SbState Cert.SbTrip Cert.SbRun Idealize.ShloMosaic Idealize.ShloMosaic.TcCoe

variable {X : (⟨3, ![8, 4096, 3584]⟩ : Shape).Idx → EReal} {B : (⟨1, ![8]⟩ : Shape).Idx → EReal} {b : Fin 8}

theorem acc_zero {n : ℕ} {t : Fin 4096} (h : t.val ≤ n) (l : Fin 512) : SbMath.acc X B n b t l = 0 :=
  Finset.sum_eq_zero fun j hj => by
    rw [W, if_neg (by have := (Finset.mem_Ico.mp hj).1; omega), zero_mul]

theorem masks_diag (i : Fin 16) (a : Fin 256) (n : ℕ) (hn : n = 256 * i.val) : Masks (row i a).val n a (mask k0_pay386) := fun y x => by
  rw [mask_apply, show k0_pay386 (ix2 a x) = IntOp.cmpi CmpIPredicate.slt (BitVec.ofNat 32 x.val) (BitVec.ofNat 32 a.val) by pointwise [k0_pay386],
    slt_apply _ _ (by omega) (by omega), hn]
  show (if _ then _ else _) = if 256 * i.val + x.val < 256 * i.val + a.val then _ else _
  by_cases h : x.val < a.val
  · rw [if_pos h, if_pos (by omega)]
  · rw [if_neg h, if_neg (by omega)]

theorem trips2 : ∀ (i : grid0.Coords), (k0_t2_loop i).trips = 0 := by decide +kernel

/-- A column store is read back at its own columns. -/
theorem col_eq (v : View sig .tc .vmem S1x256x512 .bf16) (f : v.ty.Contents (Elt Ideal)) {o : ℕ} (P : Arr S1x256x128 .bf16) (L)
    (inb : ∀ a, (![0, 0, o] : Fin 3 → ℕ) a + S1x256x128.size a ≤ S1x256x512.size a) (p : Fin 4) (a : Fin 256) (l : Fin 128) (ho : o = 128 * p.val) :
    v.read (Elt Ideal) (v.writes (Elt Ideal) f (⟨Rect.unit (s := S1x256x512) ![0, 0, o] S1x256x128.size inb, P⟩ :: L)) (ix3 0 a (lane p l)) = P (ix3 0 a l) :=
  View.read_writes_cons_unit_of_mem v f inb P L _ (ix3 0 a l) rfl (by subst ho; intro c; fin_cases c <;> simp [ix3])

theorem col_ne (v : View sig .tc .vmem S1x256x512 .bf16) (f : v.ty.Contents (Elt Ideal)) {o : ℕ} (P : Arr S1x256x128 .bf16) (L)
    (inb : ∀ a, (![0, 0, o] : Fin 3 → ℕ) a + S1x256x128.size a ≤ S1x256x512.size a) (p : Fin 4) (a : Fin 256) (l : Fin 128) (ho : 128 * p.val + 128 ≤ o) :
    v.read (Elt Ideal) (v.writes (Elt Ideal) f (⟨Rect.unit (s := S1x256x512) ![0, 0, o] S1x256x128.size inb, P⟩ :: L)) (ix3 0 a (lane p l))
      = v.read (Elt Ideal) (v.writes (Elt Ideal) f L) (ix3 0 a (lane p l)) :=
  View.read_writes_cons_unit_of_not_mem v f inb P L _ rfl 2 (.inl (by show 128 * p.val + l.val < o; omega))

theorem cols (v : View sig .tc .vmem S1x256x512 .bf16) (f : v.ty.Contents (Elt Ideal)) (P0 P1 P2 P3 : Arr S1x256x128 .bf16)
    (G : Fin 4 → Fin 256 → Fin 128 → EReal) (h0 : ∀ a l, P0 (ix3 0 a l) = G 0 a l) (h1 : ∀ a l, P1 (ix3 0 a l) = G 1 a l)
    (h2 : ∀ a l, P2 (ix3 0 a l) = G 2 a l) (h3 : ∀ a l, P3 (ix3 0 a l) = G 3 a l) (p : Fin 4) (a : Fin 256) (l : Fin 128) :
    v.read (Elt Ideal) (v.writes (Elt Ideal) f [⟨Rect.unit (s := S1x256x512) ![0, 0, 384] S1x256x128.size inb_S1x256x512_S1x256x128_0_0_384, P3⟩, ⟨Rect.unit (s := S1x256x512) ![0, 0, 256] S1x256x128.size inb_S1x256x512_S1x256x128_0_0_256, P2⟩,
      ⟨Rect.unit (s := S1x256x512) ![0, 0, 128] S1x256x128.size inb_S1x256x512_S1x256x128_0_0_128, P1⟩, ⟨Rect.unit (s := S1x256x512) ![0, 0, 0] S1x256x128.size inb_S1x256x512_S1x256x128_0_0_0, P0⟩]) (ix3 0 a (lane p l)) = G p a l := by
  fin_cases p
  · refine (col_ne v f _ _ _ 0 a l (by decide)).trans ?_
    refine (col_ne v f _ _ _ 0 a l (by decide)).trans ?_
    refine (col_ne v f _ _ _ 0 a l (by decide)).trans ?_
    exact (col_eq v f _ _ _ 0 a l rfl).trans (h0 a l)
  · refine (col_ne v f _ _ _ 1 a l (by decide)).trans ?_
    refine (col_ne v f _ _ _ 1 a l (by decide)).trans ?_
    exact (col_eq v f _ _ _ 1 a l rfl).trans (h1 a l)
  · refine (col_ne v f _ _ _ 2 a l (by decide)).trans ?_
    exact (col_eq v f _ _ _ 2 a l rfl).trans (h2 a l)
  · exact (col_eq v f _ _ _ 3 a l rfl).trans (h3 a l)

/-- The result's columns are the running output's, plane by plane. -/
theorem pay0_apply (x : Arr S1x256x128 .f32) (a : Fin 256) (l : Fin 128) : k0_pay394 (F := Ideal) x (ix3 0 a l) = x (ix3 0 a l) := by
  pointwise [k0_pay394]

section A
variable {c : Dev nD} {i : grid0.Coords} {arg2 : Memref sig .tc .smem S8 .f32} {harg2 : arg2.IsWhole} {arg3 : Memref sig .tc .vmem S256x256 .bf16} {harg3 : arg3.IsWhole}
  {arg4 : Memref sig .tc .vmem S1x256x512 .bf16} {harg4 : arg4.IsWhole} {arg5 : Memref sig .tc .vmem S1x4096x512 .bf16} {harg5 : arg5.IsWhole} {arg6 : Memref sig .tc .vmem S1x4096x512 .bf16}
  {harg6 : arg6.IsWhole} {arg7 : Memref sig .tc .vmem S1x256x512 .bf16} {harg7 : arg7.IsWhole} {arg8 : Memref sig .tc .vmem S4x256x128 .f32} {harg8 : arg8.IsWhole}
  {arg9 : Memref sig .tc .vmem S8x256x128 .f32} {harg9 : arg9.IsWhole}
  {x0 : Vec Ideal S8 .f32} {x1 : Vec Ideal S256x256 .bf16} {x2 : Vec Ideal S1x256x512 .bf16} {x3 x4 : Vec Ideal S1x4096x512 .bf16}

theorem offsA : ∀ i : grid0.Coords, k0_cond1 i = 1#1 → (i 1).val % 2 = 0 ∧ k0_off1 i = ![0, 512 * ((i 1).val / 2), 128 * 0] ∧ k0_off2 i = ![0, 512 * ((i 1).val / 2), 128 * 1] ∧ k0_off3 i = ![0, 512 * ((i 1).val / 2), 128 * 2] ∧ k0_off4 i = ![0, 512 * ((i 1).val / 2), 128 * 3] := by decide +kernel

theorem firstA (hc0 : cond0_0 i) (hB : Bounded X B) (hin : Ins X B b (i 1) (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4))) :
    Inv X B b (i 1) (512 * ((i 1).val / 2)) (arg8.view.read (Elt Ideal) (arg8.view.writes (Elt Ideal) arg8.view.junk (kernelRun0_A.sl.HS0_5 (F := Ideal) c i arg2 harg2 arg3 harg3 arg4 harg4 arg5 harg5 arg6 harg6 arg8 arg9 hc0 x0 x1 x2 x3 x4)))
      (arg9.view.read (Elt Ideal) (arg9.view.writes (Elt Ideal) arg9.view.junk (kernelRun0_A.sl.HS1_9 (F := Ideal) c i arg2 harg2 arg4 harg4 arg5 harg5 arg9 hc0 x0 x2 x3))) := by
  obtain ⟨hp, o0, o1, o2, o3⟩ := offsA i hc0
  have hi : (i 1).val < 16 := (i 1).isLt
  obtain ⟨a0, a1, a2, a3⟩ := loadsA4 (hc0 := hc0) (i := i) (c := c) (harg2 := harg2) (harg3 := harg3) (harg4 := harg4) (harg5 := harg5) (harg6 := harg6) (arg8 := arg8) (arg9 := arg9) (x0 := x0) (x1 := x1) (x2 := x2) (x3 := x3) (x4 := x4)
  obtain ⟨c0, c1, c2, c3, c4, c5, c6, c7⟩ := loadsA8 (hc0 := hc0) (i := i) (c := c) (harg2 := harg2) (harg4 := harg4) (harg5 := harg5) (arg9 := arg9) (x0 := x0) (x2 := x2) (x3 := x3)
  generalize hn : 512 * ((i 1).val / 2) = n at *
  have h4 : n + 256 ≤ 4096 := by omega
  have hlo : ∀ a : Fin 256, n + 0 ≤ (row (i 1) a).val := fun a => by show _ ≤ 256 * (i 1).val + a.val; omega
  have hm := fun a => masks_diag (i 1) a n (by omega)
  have hz : ∀ a : Fin 256, (row (i 1) a).val ≤ n + 256 := fun a => by show 256 * (i 1).val + a.val ≤ _; omega
  have zc : ∀ h a, (0 : EReal) = (S (score X B b h (row (i 1) a)) (row (i 1) a).val (n + 256) : EReal) := fun h a => by rw [S_zero _ _ _ (hz a)]; rfl
  have za : ∀ a l, (0 : EReal) = SbMath.acc X B (n + 256) b (row (i 1) a) l := fun a l => (acc_zero (hz a) l).symm
  have blk0 := blocks hin 0 n 256 h4 (oq := ![0, 0, 0]) rfl o0 inb_S1x256x512_S1x256x128_0_0_0 (Cert.SbIdeal.Gen.k0_off1_inb i hc0)
  have blk1 := blocks hin 1 n 256 h4 (oq := ![0, 0, 128]) rfl o1 inb_S1x256x512_S1x256x128_0_0_128 (Cert.SbIdeal.Gen.k0_off2_inb i hc0)
  have blk2 := blocks hin 2 n 256 h4 (oq := ![0, 0, 256]) rfl o2 inb_S1x256x512_S1x256x128_0_0_256 (Cert.SbIdeal.Gen.k0_off3_inb i hc0)
  have blk3 := blocks hin 3 n 256 h4 (oq := ![0, 0, 384]) rfl o3 inb_S1x256x512_S1x256x128_0_0_384 (Cert.SbIdeal.Gen.k0_off4_inb i hc0)
  constructor
  · rw [storesA4]
    refine stores4 arg8.view arg8.view.junk _ _ _ _ _ (fun p a l => SbMath.acc X B n b (row (i 1) a) (lane p l)) ?_ ?_ ?_ ?_
    · exact fun a l => acc1_row hB (fun x j => triangle hin _ x j) (blk0 a) (hm a) (bias hin 0 rfl _ _) (bias hin 1 rfl _ _) (fun l => (c0 a l).trans (zc 0 a)) (fun l => (c1 a l).trans (zc 1 a)) l ((a0 a l).trans (za a _))
    · exact fun a l => acc1_row hB (fun x j => triangle hin _ x j) (blk1 a) (hm a) (bias hin 2 rfl _ _) (bias hin 3 rfl _ _) (fun l => (c2 a l).trans (zc 2 a)) (fun l => (c3 a l).trans (zc 3 a)) l ((a1 a l).trans (za a _))
    · exact fun a l => acc1_row hB (fun x j => triangle hin _ x j) (blk2 a) (hm a) (bias hin 4 rfl _ _) (bias hin 5 rfl _ _) (fun l => (c4 a l).trans (zc 4 a)) (fun l => (c5 a l).trans (zc 5 a)) l ((a2 a l).trans (za a _))
    · exact fun a l => acc1_row hB (fun x j => triangle hin _ x j) (blk3 a) (hm a) (bias hin 6 rfl _ _) (bias hin 7 rfl _ _) (fun l => (c6 a l).trans (zc 6 a)) (fun l => (c7 a l).trans (zc 7 a)) l ((a3 a l).trans (za a _))
  · rw [storesA8]
    refine stores8 arg9.view arg9.view.junk _ _ _ _ _ _ _ _ _ (fun h a l => (S (score X B b h (row (i 1) a)) (row (i 1) a).val n : EReal)) ?_ ?_ ?_ ?_ ?_ ?_ ?_ ?_
    · exact fun a l => carE1_row hB (blk0 a) (hm a) (bias hin 0 rfl _ _) (fun l => (c0 a l).trans (zc 0 a)) l
    · exact fun a l => carO1_row hB (blk0 a) (hm a) (bias hin 1 rfl _ _) (fun l => (c1 a l).trans (zc 1 a)) l
    · exact fun a l => carE1_row hB (blk1 a) (hm a) (bias hin 2 rfl _ _) (fun l => (c2 a l).trans (zc 2 a)) l
    · exact fun a l => carO1_row hB (blk1 a) (hm a) (bias hin 3 rfl _ _) (fun l => (c3 a l).trans (zc 3 a)) l
    · exact fun a l => carE1_row hB (blk2 a) (hm a) (bias hin 4 rfl _ _) (fun l => (c4 a l).trans (zc 4 a)) l
    · exact fun a l => carO1_row hB (blk2 a) (hm a) (bias hin 5 rfl _ _) (fun l => (c5 a l).trans (zc 5 a)) l
    · exact fun a l => carE1_row hB (blk3 a) (hm a) (bias hin 6 rfl _ _) (fun l => (c6 a l).trans (zc 6 a)) l
    · exact fun a l => carO1_row hB (blk3 a) (hm a) (bias hin 7 rfl _ _) (fun l => (c7 a l).trans (zc 7 a)) l

theorem endA0 (hc0 : cond0_0 i) (hB : Bounded X B) (hin : Ins X B b (i 1) (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4))) (a : Fin 256) (l : Fin 128) :
    kernelRun0_A.sl.v59 (F := Ideal) c i arg2 harg2 arg3 harg3 arg4 harg4 arg5 harg5 arg6 harg6 arg7 harg7 arg8 harg8 arg9 harg9 hc0 x0 x1 x2 x3 x4 (ix3 0 a l) = SbMath.acc X B 0 b (row (i 1) a) (lane 0 l) := by
  refine (plane4 arg8.view _ 0 inb_S4x256x128_S1x256x128_0_0_0 a l).trans ?_
  rw [show Scf.trips (k0_t2_loop i).lb (k0_t2_loop i).ub (k0_t2_loop i).st = 0 from trips2 i]
  refine Eq.trans (congrArg (fun f => arg8.view.read (Elt Ideal) f (ix3 0 a l)) (View.writes_append arg8.view arg8.view.junk _ _)) ?_
  rw [show Scf.trips (k0_t1_loop i).lb (k0_t1_loop i).ub (k0_t1_loop i).st = (i 1).val / 2 from trips i]
  refine Eq.trans (congrArg (fun f => arg8.view.read (Elt Ideal) f (ix3 0 a l)) (View.writes_append arg8.view arg8.view.junk _ _)) ?_
  have h := fun v26 v31 v32 => (loop hB Variants.none c none i arg2 harg2 arg3 harg3 arg4 harg4 arg5 harg5 arg6 harg6 arg7 harg7 arg8 harg8 arg9 harg9 (BitVec.ofNat 32 (i 1).val)
    k0_pay386 v26 v31 v32 _ _ _ _ _ _ _ hin (firstA (harg2 := harg2) (harg3 := harg3) (harg4 := harg4) (harg5 := harg5) (harg6 := harg6) (arg8 := arg8) (arg9 := arg9) (c := c) hc0 hB hin) _ le_rfl).out 0 a l
  rw [Nat.sub_self, Nat.mul_zero] at h
  exact h _ _ _

theorem endA1 (hc0 : cond0_0 i) (hB : Bounded X B) (hin : Ins X B b (i 1) (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4))) (a : Fin 256) (l : Fin 128) :
    kernelRun0_A.sl.v (F := Ideal) c i arg2 harg2 arg3 harg3 arg4 harg4 arg5 harg5 arg6 harg6 arg7 harg7 arg8 harg8 arg9 harg9 hc0 x0 x1 x2 x3 x4 (ix3 0 a l) = SbMath.acc X B 0 b (row (i 1) a) (lane 1 l) := by
  refine (plane4 arg8.view _ 1 inb_S4x256x128_S1x256x128_1_0_0 a l).trans ?_
  rw [show Scf.trips (k0_t2_loop i).lb (k0_t2_loop i).ub (k0_t2_loop i).st = 0 from trips2 i]
  refine Eq.trans (congrArg (fun f => arg8.view.read (Elt Ideal) f (ix3 1 a l)) (View.writes_append arg8.view arg8.view.junk _ _)) ?_
  rw [show Scf.trips (k0_t1_loop i).lb (k0_t1_loop i).ub (k0_t1_loop i).st = (i 1).val / 2 from trips i]
  refine Eq.trans (congrArg (fun f => arg8.view.read (Elt Ideal) f (ix3 1 a l)) (View.writes_append arg8.view arg8.view.junk _ _)) ?_
  have h := fun v26 v31 v32 => (loop hB Variants.none c none i arg2 harg2 arg3 harg3 arg4 harg4 arg5 harg5 arg6 harg6 arg7 harg7 arg8 harg8 arg9 harg9 (BitVec.ofNat 32 (i 1).val)
    k0_pay386 v26 v31 v32 _ _ _ _ _ _ _ hin (firstA (harg2 := harg2) (harg3 := harg3) (harg4 := harg4) (harg5 := harg5) (harg6 := harg6) (arg8 := arg8) (arg9 := arg9) (c := c) hc0 hB hin) _ le_rfl).out 1 a l
  rw [Nat.sub_self, Nat.mul_zero] at h
  exact h _ _ _

theorem endA2 (hc0 : cond0_0 i) (hB : Bounded X B) (hin : Ins X B b (i 1) (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4))) (a : Fin 256) (l : Fin 128) :
    kernelRun0_A.sl.v71 (F := Ideal) c i arg2 harg2 arg3 harg3 arg4 harg4 arg5 harg5 arg6 harg6 arg7 harg7 arg8 harg8 arg9 harg9 hc0 x0 x1 x2 x3 x4 (ix3 0 a l) = SbMath.acc X B 0 b (row (i 1) a) (lane 2 l) := by
  refine (plane4 arg8.view _ 2 inb_S4x256x128_S1x256x128_2_0_0 a l).trans ?_
  rw [show Scf.trips (k0_t2_loop i).lb (k0_t2_loop i).ub (k0_t2_loop i).st = 0 from trips2 i]
  refine Eq.trans (congrArg (fun f => arg8.view.read (Elt Ideal) f (ix3 2 a l)) (View.writes_append arg8.view arg8.view.junk _ _)) ?_
  rw [show Scf.trips (k0_t1_loop i).lb (k0_t1_loop i).ub (k0_t1_loop i).st = (i 1).val / 2 from trips i]
  refine Eq.trans (congrArg (fun f => arg8.view.read (Elt Ideal) f (ix3 2 a l)) (View.writes_append arg8.view arg8.view.junk _ _)) ?_
  have h := fun v26 v31 v32 => (loop hB Variants.none c none i arg2 harg2 arg3 harg3 arg4 harg4 arg5 harg5 arg6 harg6 arg7 harg7 arg8 harg8 arg9 harg9 (BitVec.ofNat 32 (i 1).val)
    k0_pay386 v26 v31 v32 _ _ _ _ _ _ _ hin (firstA (harg2 := harg2) (harg3 := harg3) (harg4 := harg4) (harg5 := harg5) (harg6 := harg6) (arg8 := arg8) (arg9 := arg9) (c := c) hc0 hB hin) _ le_rfl).out 2 a l
  rw [Nat.sub_self, Nat.mul_zero] at h
  exact h _ _ _

theorem endA3 (hc0 : cond0_0 i) (hB : Bounded X B) (hin : Ins X B b (i 1) (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4))) (a : Fin 256) (l : Fin 128) :
    kernelRun0_A.sl.v77 (F := Ideal) c i arg2 harg2 arg3 harg3 arg4 harg4 arg5 harg5 arg6 harg6 arg7 harg7 arg8 harg8 arg9 harg9 hc0 x0 x1 x2 x3 x4 (ix3 0 a l) = SbMath.acc X B 0 b (row (i 1) a) (lane 3 l) := by
  refine (plane4 arg8.view _ 3 inb_S4x256x128_S1x256x128_3_0_0 a l).trans ?_
  rw [show Scf.trips (k0_t2_loop i).lb (k0_t2_loop i).ub (k0_t2_loop i).st = 0 from trips2 i]
  refine Eq.trans (congrArg (fun f => arg8.view.read (Elt Ideal) f (ix3 3 a l)) (View.writes_append arg8.view arg8.view.junk _ _)) ?_
  rw [show Scf.trips (k0_t1_loop i).lb (k0_t1_loop i).ub (k0_t1_loop i).st = (i 1).val / 2 from trips i]
  refine Eq.trans (congrArg (fun f => arg8.view.read (Elt Ideal) f (ix3 3 a l)) (View.writes_append arg8.view arg8.view.junk _ _)) ?_
  have h := fun v26 v31 v32 => (loop hB Variants.none c none i arg2 harg2 arg3 harg3 arg4 harg4 arg5 harg5 arg6 harg6 arg7 harg7 arg8 harg8 arg9 harg9 (BitVec.ofNat 32 (i 1).val)
    k0_pay386 v26 v31 v32 _ _ _ _ _ _ _ hin (firstA (harg2 := harg2) (harg3 := harg3) (harg4 := harg4) (harg5 := harg5) (harg6 := harg6) (arg8 := arg8) (arg9 := arg9) (c := c) hc0 hB hin) _ le_rfl).out 3 a l
  rw [Nat.sub_self, Nat.mul_zero] at h
  exact h _ _ _

theorem outA_apply (hc0 : cond0_0 i) (hc1 : ¬ cond0_1 i) (hB : Bounded X B) (hin : Ins X B b (i 1) x0 x1 x2 x3 x4) (a : Fin 256) (p : Fin 4) (l : Fin 128) :
    out0_A_5 (F := Ideal) c i arg2 harg2 arg3 harg3 arg4 harg4 arg5 harg5 arg6 harg6 arg7 harg7 arg8 harg8 arg9 harg9 hc0 hc1 x0 x1 x2 x3 x4 (ix3 0 a (lane p l)) = SbMath.acc X B 0 b (row (i 1) a) (lane p l) := by
  have hin' : Ins X B b (i 1) (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) := by
    rw [harg2.read_unread, harg3.read_unread, harg4.read_unread, harg5.read_unread, harg6.read_unread]; exact hin
  unfold out0_A_5
  refine cols VO0_5 VO0_5.junk _ _ _ _ (fun p a l => SbMath.acc X B 0 b (row (i 1) a) (lane p l)) ?_ ?_ ?_ ?_ p a l
  · exact fun a l => (pay0_apply _ a l).trans (endA0 (harg7 := harg7) (harg8 := harg8) (harg9 := harg9) hc0 hB hin' a l)
  · exact fun a l => (pay0_apply _ a l).trans (endA1 (harg7 := harg7) (harg8 := harg8) (harg9 := harg9) hc0 hB hin' a l)
  · exact fun a l => (pay0_apply _ a l).trans (endA2 (harg7 := harg7) (harg8 := harg8) (harg9 := harg9) hc0 hB hin' a l)
  · exact fun a l => (pay0_apply _ a l).trans (endA3 (harg7 := harg7) (harg8 := harg8) (harg9 := harg9) hc0 hB hin' a l)

end A

section B
variable {c : Dev nD} {i : grid0.Coords} {arg2 : Memref sig .tc .smem S8 .f32} {harg2 : arg2.IsWhole} {arg3 : Memref sig .tc .vmem S256x256 .bf16} {harg3 : arg3.IsWhole}
  {arg4 : Memref sig .tc .vmem S1x256x512 .bf16} {harg4 : arg4.IsWhole} {arg5 : Memref sig .tc .vmem S1x4096x512 .bf16} {harg5 : arg5.IsWhole} {arg6 : Memref sig .tc .vmem S1x4096x512 .bf16}
  {harg6 : arg6.IsWhole} {arg7 : Memref sig .tc .vmem S1x256x512 .bf16} {harg7 : arg7.IsWhole} {arg8 : Memref sig .tc .vmem S4x256x128 .f32} {harg8 : arg8.IsWhole}
  {arg9 : Memref sig .tc .vmem S8x256x128 .f32} {harg9 : arg9.IsWhole}
  {x0 : Vec Ideal S8 .f32} {x1 : Vec Ideal S256x256 .bf16} {x2 : Vec Ideal S1x256x512 .bf16} {x3 x4 : Vec Ideal S1x4096x512 .bf16}

theorem offsB : ∀ i : grid0.Coords, k0_cond2 i = 1#1 → (i 1).val % 2 = 1 ∧ k0_off5 i = ![0, 512 * ((i 1).val / 2), 128 * 0] ∧ k0_off6 i = ![0, 512 * ((i 1).val / 2), 128 * 1] ∧ k0_off7 i = ![0, 512 * ((i 1).val / 2), 128 * 2] ∧ k0_off8 i = ![0, 512 * ((i 1).val / 2), 128 * 3] := by decide +kernel

theorem firstB (hc1 : cond0_1 i) (hB : Bounded X B) (hin : Ins X B b (i 1) (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4))) :
    Inv X B b (i 1) (512 * ((i 1).val / 2)) (arg8.view.read (Elt Ideal) (arg8.view.writes (Elt Ideal) arg8.view.junk (kernelRun0_B.sl.HS0_5 (F := Ideal) c i arg2 harg2 arg3 harg3 arg4 harg4 arg5 harg5 arg6 harg6 arg8 arg9 hc1 x0 x1 x2 x3 x4)))
      (arg9.view.read (Elt Ideal) (arg9.view.writes (Elt Ideal) arg9.view.junk (kernelRun0_B.sl.HS1_9 (F := Ideal) c i arg2 harg2 arg4 harg4 arg5 harg5 arg9 hc1 x0 x2 x3))) := by
  obtain ⟨hp, o0, o1, o2, o3⟩ := offsB i hc1
  have hi : (i 1).val < 16 := (i 1).isLt
  obtain ⟨a0, a1, a2, a3⟩ := loadsB4 (hc1 := hc1) (i := i) (c := c) (harg2 := harg2) (harg3 := harg3) (harg4 := harg4) (harg5 := harg5) (harg6 := harg6) (arg8 := arg8) (arg9 := arg9) (x0 := x0) (x1 := x1) (x2 := x2) (x3 := x3) (x4 := x4)
  obtain ⟨c0, c1, c2, c3, c4, c5, c6, c7⟩ := loadsB8 (hc1 := hc1) (i := i) (c := c) (harg2 := harg2) (harg4 := harg4) (harg5 := harg5) (arg9 := arg9) (x0 := x0) (x2 := x2) (x3 := x3)
  generalize hn : 512 * ((i 1).val / 2) = n at *
  have h4 : n + 512 ≤ 4096 := by omega
  have hlo : ∀ a : Fin 256, n + 256 ≤ (row (i 1) a).val := fun a => by show _ ≤ 256 * (i 1).val + a.val; omega
  have hm := fun a => masks_diag (i 1) a (n + 256) (by omega)
  have hz : ∀ a : Fin 256, (row (i 1) a).val ≤ n + 512 := fun a => by show 256 * (i 1).val + a.val ≤ _; omega
  have zc : ∀ h a, (0 : EReal) = (S (score X B b h (row (i 1) a)) (row (i 1) a).val (n + 512) : EReal) := fun h a => by rw [S_zero _ _ _ (hz a)]; rfl
  have za : ∀ a l, (0 : EReal) = SbMath.acc X B (n + 512) b (row (i 1) a) l := fun a l => (acc_zero (hz a) l).symm
  have blk0 := blocks hin 0 n 512 h4 (oq := ![0, 0, 0]) rfl o0 inb_S1x256x512_S1x256x128_0_0_0 (Cert.SbIdeal.Gen.k0_off5_inb i hc1)
  have blk1 := blocks hin 1 n 512 h4 (oq := ![0, 0, 128]) rfl o1 inb_S1x256x512_S1x256x128_0_0_128 (Cert.SbIdeal.Gen.k0_off6_inb i hc1)
  have blk2 := blocks hin 2 n 512 h4 (oq := ![0, 0, 256]) rfl o2 inb_S1x256x512_S1x256x128_0_0_256 (Cert.SbIdeal.Gen.k0_off7_inb i hc1)
  have blk3 := blocks hin 3 n 512 h4 (oq := ![0, 0, 384]) rfl o3 inb_S1x256x512_S1x256x128_0_0_384 (Cert.SbIdeal.Gen.k0_off8_inb i hc1)
  constructor
  · rw [storesB4]
    refine stores4 arg8.view arg8.view.junk _ _ _ _ _ (fun p a l => SbMath.acc X B n b (row (i 1) a) (lane p l)) ?_ ?_ ?_ ?_
    · exact fun a l => acc2_row hB (fun x j => triangle hin _ x j) (blk0 a) (hlo a) (hm a) (bias hin 0 rfl _ _) (bias hin 1 rfl _ _) (fun l => (c0 a l).trans (zc 0 a)) (fun l => (c1 a l).trans (zc 1 a)) l ((a0 a l).trans (za a _))
    · exact fun a l => acc2_row hB (fun x j => triangle hin _ x j) (blk1 a) (hlo a) (hm a) (bias hin 2 rfl _ _) (bias hin 3 rfl _ _) (fun l => (c2 a l).trans (zc 2 a)) (fun l => (c3 a l).trans (zc 3 a)) l ((a1 a l).trans (za a _))
    · exact fun a l => acc2_row hB (fun x j => triangle hin _ x j) (blk2 a) (hlo a) (hm a) (bias hin 4 rfl _ _) (bias hin 5 rfl _ _) (fun l => (c4 a l).trans (zc 4 a)) (fun l => (c5 a l).trans (zc 5 a)) l ((a2 a l).trans (za a _))
    · exact fun a l => acc2_row hB (fun x j => triangle hin _ x j) (blk3 a) (hlo a) (hm a) (bias hin 6 rfl _ _) (bias hin 7 rfl _ _) (fun l => (c6 a l).trans (zc 6 a)) (fun l => (c7 a l).trans (zc 7 a)) l ((a3 a l).trans (za a _))
  · rw [storesB8]
    refine stores8 arg9.view arg9.view.junk _ _ _ _ _ _ _ _ _ (fun h a l => (S (score X B b h (row (i 1) a)) (row (i 1) a).val n : EReal)) ?_ ?_ ?_ ?_ ?_ ?_ ?_ ?_
    · exact fun a l => carE2_row hB (blk0 a) (hlo a) (hm a) (bias hin 0 rfl _ _) (fun l => (c0 a l).trans (zc 0 a)) l
    · exact fun a l => carO2_row hB (blk0 a) (hlo a) (hm a) (bias hin 1 rfl _ _) (fun l => (c1 a l).trans (zc 1 a)) l
    · exact fun a l => carE2_row hB (blk1 a) (hlo a) (hm a) (bias hin 2 rfl _ _) (fun l => (c2 a l).trans (zc 2 a)) l
    · exact fun a l => carO2_row hB (blk1 a) (hlo a) (hm a) (bias hin 3 rfl _ _) (fun l => (c3 a l).trans (zc 3 a)) l
    · exact fun a l => carE2_row hB (blk2 a) (hlo a) (hm a) (bias hin 4 rfl _ _) (fun l => (c4 a l).trans (zc 4 a)) l
    · exact fun a l => carO2_row hB (blk2 a) (hlo a) (hm a) (bias hin 5 rfl _ _) (fun l => (c5 a l).trans (zc 5 a)) l
    · exact fun a l => carE2_row hB (blk3 a) (hlo a) (hm a) (bias hin 6 rfl _ _) (fun l => (c6 a l).trans (zc 6 a)) l
    · exact fun a l => carO2_row hB (blk3 a) (hlo a) (hm a) (bias hin 7 rfl _ _) (fun l => (c7 a l).trans (zc 7 a)) l

theorem endB0 (hc1 : cond0_1 i) (hB : Bounded X B) (hin : Ins X B b (i 1) (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4))) (a : Fin 256) (l : Fin 128) :
    kernelRun0_B.sl.v59 (F := Ideal) c i arg2 harg2 arg3 harg3 arg4 harg4 arg5 harg5 arg6 harg6 arg7 harg7 arg8 harg8 arg9 harg9 hc1 x0 x1 x2 x3 x4 (ix3 0 a l) = SbMath.acc X B 0 b (row (i 1) a) (lane 0 l) := by
  refine (plane4 arg8.view _ 0 inb_S4x256x128_S1x256x128_0_0_0 a l).trans ?_
  rw [show Scf.trips (k0_t2_loop i).lb (k0_t2_loop i).ub (k0_t2_loop i).st = 0 from trips2 i]
  refine Eq.trans (congrArg (fun f => arg8.view.read (Elt Ideal) f (ix3 0 a l)) (View.writes_append arg8.view arg8.view.junk _ _)) ?_
  rw [show Scf.trips (k0_t1_loop i).lb (k0_t1_loop i).ub (k0_t1_loop i).st = (i 1).val / 2 from trips i]
  refine Eq.trans (congrArg (fun f => arg8.view.read (Elt Ideal) f (ix3 0 a l)) (View.writes_append arg8.view arg8.view.junk _ _)) ?_
  have h := fun v26 v31 v32 => (loop hB Variants.none c none i arg2 harg2 arg3 harg3 arg4 harg4 arg5 harg5 arg6 harg6 arg7 harg7 arg8 harg8 arg9 harg9 (BitVec.ofNat 32 (i 1).val)
    k0_pay386 v26 v31 v32 _ _ _ _ _ _ _ hin (firstB (harg2 := harg2) (harg3 := harg3) (harg4 := harg4) (harg5 := harg5) (harg6 := harg6) (arg8 := arg8) (arg9 := arg9) (c := c) hc1 hB hin) _ le_rfl).out 0 a l
  rw [Nat.sub_self, Nat.mul_zero] at h
  exact h _ _ _

theorem endB1 (hc1 : cond0_1 i) (hB : Bounded X B) (hin : Ins X B b (i 1) (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4))) (a : Fin 256) (l : Fin 128) :
    kernelRun0_B.sl.v (F := Ideal) c i arg2 harg2 arg3 harg3 arg4 harg4 arg5 harg5 arg6 harg6 arg7 harg7 arg8 harg8 arg9 harg9 hc1 x0 x1 x2 x3 x4 (ix3 0 a l) = SbMath.acc X B 0 b (row (i 1) a) (lane 1 l) := by
  refine (plane4 arg8.view _ 1 inb_S4x256x128_S1x256x128_1_0_0 a l).trans ?_
  rw [show Scf.trips (k0_t2_loop i).lb (k0_t2_loop i).ub (k0_t2_loop i).st = 0 from trips2 i]
  refine Eq.trans (congrArg (fun f => arg8.view.read (Elt Ideal) f (ix3 1 a l)) (View.writes_append arg8.view arg8.view.junk _ _)) ?_
  rw [show Scf.trips (k0_t1_loop i).lb (k0_t1_loop i).ub (k0_t1_loop i).st = (i 1).val / 2 from trips i]
  refine Eq.trans (congrArg (fun f => arg8.view.read (Elt Ideal) f (ix3 1 a l)) (View.writes_append arg8.view arg8.view.junk _ _)) ?_
  have h := fun v26 v31 v32 => (loop hB Variants.none c none i arg2 harg2 arg3 harg3 arg4 harg4 arg5 harg5 arg6 harg6 arg7 harg7 arg8 harg8 arg9 harg9 (BitVec.ofNat 32 (i 1).val)
    k0_pay386 v26 v31 v32 _ _ _ _ _ _ _ hin (firstB (harg2 := harg2) (harg3 := harg3) (harg4 := harg4) (harg5 := harg5) (harg6 := harg6) (arg8 := arg8) (arg9 := arg9) (c := c) hc1 hB hin) _ le_rfl).out 1 a l
  rw [Nat.sub_self, Nat.mul_zero] at h
  exact h _ _ _

theorem endB2 (hc1 : cond0_1 i) (hB : Bounded X B) (hin : Ins X B b (i 1) (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4))) (a : Fin 256) (l : Fin 128) :
    kernelRun0_B.sl.v71 (F := Ideal) c i arg2 harg2 arg3 harg3 arg4 harg4 arg5 harg5 arg6 harg6 arg7 harg7 arg8 harg8 arg9 harg9 hc1 x0 x1 x2 x3 x4 (ix3 0 a l) = SbMath.acc X B 0 b (row (i 1) a) (lane 2 l) := by
  refine (plane4 arg8.view _ 2 inb_S4x256x128_S1x256x128_2_0_0 a l).trans ?_
  rw [show Scf.trips (k0_t2_loop i).lb (k0_t2_loop i).ub (k0_t2_loop i).st = 0 from trips2 i]
  refine Eq.trans (congrArg (fun f => arg8.view.read (Elt Ideal) f (ix3 2 a l)) (View.writes_append arg8.view arg8.view.junk _ _)) ?_
  rw [show Scf.trips (k0_t1_loop i).lb (k0_t1_loop i).ub (k0_t1_loop i).st = (i 1).val / 2 from trips i]
  refine Eq.trans (congrArg (fun f => arg8.view.read (Elt Ideal) f (ix3 2 a l)) (View.writes_append arg8.view arg8.view.junk _ _)) ?_
  have h := fun v26 v31 v32 => (loop hB Variants.none c none i arg2 harg2 arg3 harg3 arg4 harg4 arg5 harg5 arg6 harg6 arg7 harg7 arg8 harg8 arg9 harg9 (BitVec.ofNat 32 (i 1).val)
    k0_pay386 v26 v31 v32 _ _ _ _ _ _ _ hin (firstB (harg2 := harg2) (harg3 := harg3) (harg4 := harg4) (harg5 := harg5) (harg6 := harg6) (arg8 := arg8) (arg9 := arg9) (c := c) hc1 hB hin) _ le_rfl).out 2 a l
  rw [Nat.sub_self, Nat.mul_zero] at h
  exact h _ _ _

theorem endB3 (hc1 : cond0_1 i) (hB : Bounded X B) (hin : Ins X B b (i 1) (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4))) (a : Fin 256) (l : Fin 128) :
    kernelRun0_B.sl.v77 (F := Ideal) c i arg2 harg2 arg3 harg3 arg4 harg4 arg5 harg5 arg6 harg6 arg7 harg7 arg8 harg8 arg9 harg9 hc1 x0 x1 x2 x3 x4 (ix3 0 a l) = SbMath.acc X B 0 b (row (i 1) a) (lane 3 l) := by
  refine (plane4 arg8.view _ 3 inb_S4x256x128_S1x256x128_3_0_0 a l).trans ?_
  rw [show Scf.trips (k0_t2_loop i).lb (k0_t2_loop i).ub (k0_t2_loop i).st = 0 from trips2 i]
  refine Eq.trans (congrArg (fun f => arg8.view.read (Elt Ideal) f (ix3 3 a l)) (View.writes_append arg8.view arg8.view.junk _ _)) ?_
  rw [show Scf.trips (k0_t1_loop i).lb (k0_t1_loop i).ub (k0_t1_loop i).st = (i 1).val / 2 from trips i]
  refine Eq.trans (congrArg (fun f => arg8.view.read (Elt Ideal) f (ix3 3 a l)) (View.writes_append arg8.view arg8.view.junk _ _)) ?_
  have h := fun v26 v31 v32 => (loop hB Variants.none c none i arg2 harg2 arg3 harg3 arg4 harg4 arg5 harg5 arg6 harg6 arg7 harg7 arg8 harg8 arg9 harg9 (BitVec.ofNat 32 (i 1).val)
    k0_pay386 v26 v31 v32 _ _ _ _ _ _ _ hin (firstB (harg2 := harg2) (harg3 := harg3) (harg4 := harg4) (harg5 := harg5) (harg6 := harg6) (arg8 := arg8) (arg9 := arg9) (c := c) hc1 hB hin) _ le_rfl).out 3 a l
  rw [Nat.sub_self, Nat.mul_zero] at h
  exact h _ _ _

theorem outB_apply (hc0 : ¬ cond0_0 i) (hc1 : cond0_1 i) (hB : Bounded X B) (hin : Ins X B b (i 1) x0 x1 x2 x3 x4) (a : Fin 256) (p : Fin 4) (l : Fin 128) :
    out0_B_5 (F := Ideal) c i arg2 harg2 arg3 harg3 arg4 harg4 arg5 harg5 arg6 harg6 arg7 harg7 arg8 harg8 arg9 harg9 hc0 hc1 x0 x1 x2 x3 x4 (ix3 0 a (lane p l)) = SbMath.acc X B 0 b (row (i 1) a) (lane p l) := by
  have hin' : Ins X B b (i 1) (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) := by
    rw [harg2.read_unread, harg3.read_unread, harg4.read_unread, harg5.read_unread, harg6.read_unread]; exact hin
  unfold out0_B_5
  refine cols VO0_5 VO0_5.junk _ _ _ _ (fun p a l => SbMath.acc X B 0 b (row (i 1) a) (lane p l)) ?_ ?_ ?_ ?_ p a l
  · exact fun a l => (pay0_apply _ a l).trans (endB0 (harg7 := harg7) (harg8 := harg8) (harg9 := harg9) hc1 hB hin' a l)
  · exact fun a l => (pay0_apply _ a l).trans (endB1 (harg7 := harg7) (harg8 := harg8) (harg9 := harg9) hc1 hB hin' a l)
  · exact fun a l => (pay0_apply _ a l).trans (endB2 (harg7 := harg7) (harg8 := harg8) (harg9 := harg9) hc1 hB hin' a l)
  · exact fun a l => (pay0_apply _ a l).trans (endB3 (harg7 := harg7) (harg8 := harg8) (harg9 := harg9) hc1 hB hin' a l)

end B

end Cert.SbOut
-- ==== Proof.SbRef.lean ====
/- The attention reference, index by index. -/
module

public import proofs.«01_k».proof.Proof.Gen.SbRefIdeal.Read
public import proofs.«01_k».proof.Proof.SbMath
public import Idealize.ShloMosaic.Lib.Pointwise
public import Idealize.ShloMosaic.Lib.WordCmp

@[expose] public section

set_option maxRecDepth 16384

noncomputable section

namespace Cert.SbRef

open Cert.SbMath Cert.SbRefIdeal Cert.SbRefIdeal.Read Idealize.ShloMosaic Idealize.ShloMosaic.TcCoe

variable (x0 : (⟨S8x4096x3584, .bf16⟩ : BufTy).Contents (Elt Ideal)) (x1 : (⟨S8, .f32⟩ : BufTy).Contents (Elt Ideal))

/-- A running sum from the right, as the reference's window writes it, at any extents. -/
theorem cumsum {p q r N Nm1 : ℕ} (hN : Nm1 + 1 = N) (x : FVec Ideal ⟨4, ![p, q, r, N]⟩ .f32) (init : FVec Ideal ⟨0, ![]⟩ .f32) (hi : init ix0 = (0 : EReal))
    (h : (⟨4, ![p, q, r, N]⟩ : Shape).ReduceWindows ![1, 1, 1, N] ![1, 1, 1, 1] ![0, 0, 0, 0] ![0, 0, 0, Nm1] ⟨4, ![p, q, r, N]⟩)
    (hu : 0 < (⟨0, ![]⟩ : Shape).numel) (b : Fin p) (k : Fin q) (t : Fin r) (s : Fin N) :
    Host.reduceWindowAdd ![1, 1, 1, N] ![1, 1, 1, 1] ![0, 0, 0, 0] ![0, 0, 0, Nm1] x init h hu (ix4 b k t s)
      = ∑ n : Fin N, (if hn : s.val + n.val < N then x (ix4 b k t ⟨s.val + n.val, hn⟩) else 0 : EReal) := by
  have hv : init (Shape.Idx.first hu) = (0 : EReal) := (congrArg init (ValueIdx.eq_ix0 _)).trans hi
  have fold : ∀ {n : ℕ} (g : Fin n → EReal), (List.finRange n).foldl (fun r i => r + g i) 0 = ∑ i, g i := fun g => by
    rw [← List.sum_ofFn, List.ofFn_eq_map, List.sum_eq_foldl, List.foldl_map]
  have bij : Function.Bijective (fun n : Fin N => (ix4 0 0 0 n : (⟨4, ![1, 1, 1, N]⟩ : Shape).Idx)) :=
    ⟨fun a b e => congrFun e 3, fun y => ⟨y 3, by
      funext a
      match a with
      | ⟨0, _⟩ => exact (Subsingleton.elim (α := Fin 1) _ _)
      | ⟨1, _⟩ => exact (Subsingleton.elim (α := Fin 1) _ _)
      | ⟨2, _⟩ => exact (Subsingleton.elim (α := Fin 1) _ _)
      | ⟨3, _⟩ => rfl⟩⟩
  let j : (⟨4, ![p, q, r, N]⟩ : Shape).Idx := ix4 b k t s
  let G : (⟨4, ![1, 1, 1, N]⟩ : Shape).Idx → EReal := fun i =>
    if hin : ∀ a : Fin 4, (![0, 0, 0, 0] : Fin 4 → ℕ) a ≤ (j (a.cast h.1.symm)).val * (![1, 1, 1, 1] : Fin 4 → ℕ) a + (i a).val
        ∧ (j (a.cast h.1.symm)).val * (![1, 1, 1, 1] : Fin 4 → ℕ) a + (i a).val - (![0, 0, 0, 0] : Fin 4 → ℕ) a < (⟨4, ![p, q, r, N]⟩ : Shape).size a
      then x (fun a => ⟨(j (a.cast h.1.symm)).val * (![1, 1, 1, 1] : Fin 4 → ℕ) a + (i a).val - (![0, 0, 0, 0] : Fin 4 → ℕ) a, (hin a).2⟩) else 0
  have e : Host.reduceWindowAdd ![1, 1, 1, N] ![1, 1, 1, 1] ![0, 0, 0, 0] ![0, 0, 0, Nm1] x init h hu (ix4 b k t s)
      = (List.finRange _).foldl (fun r n => r + G ((⟨4, ![1, 1, 1, N]⟩ : Shape).rowMajor.symm n)) 0 := by
    unfold Host.reduceWindowAdd
    rw [hv]
    change Host.reduceWindow (fun a b : EReal => a + b) _ _ _ _ x (fun _ : (⟨0, ![]⟩ : Shape).Idx => (0 : EReal)) h (by decide) (ix4 b k t s) = _
    unfold Host.reduceWindow
    dsimp only
    congr 1
    funext w n
    refine congrArg (w + ·) ?_
    unfold G
    by_cases hin : ∀ a : Fin 4, (![0, 0, 0, 0] : Fin 4 → ℕ) a ≤ (j (a.cast h.1.symm)).val * (![1, 1, 1, 1] : Fin 4 → ℕ) a + ((⟨4, ![1, 1, 1, N]⟩ : Shape).rowMajor.symm n a).val
        ∧ (j (a.cast h.1.symm)).val * (![1, 1, 1, 1] : Fin 4 → ℕ) a + ((⟨4, ![1, 1, 1, N]⟩ : Shape).rowMajor.symm n a).val - (![0, 0, 0, 0] : Fin 4 → ℕ) a < (⟨4, ![p, q, r, N]⟩ : Shape).size a
    · refine (dif_pos hin).trans ?_; rw [dif_pos hin]
    · refine (dif_neg hin).trans ?_; rw [dif_neg hin]
  rw [e, fold, Equiv.sum_comp (⟨4, ![1, 1, 1, N]⟩ : Shape).rowMajor.symm G, ← bij.sum_comp]
  refine Finset.sum_congr rfl fun n _ => ?_
  by_cases hn : s.val + n.val < N
  · rw [dif_pos hn]
    show G _ = _
    unfold G
    rw [dif_pos (fun a => by
      match a with
      | ⟨0, _⟩ => exact ⟨Nat.zero_le _, by show b.val * 1 + 0 - 0 < p; have := b.isLt; omega⟩
      | ⟨1, _⟩ => exact ⟨Nat.zero_le _, by show k.val * 1 + 0 - 0 < q; have := k.isLt; omega⟩
      | ⟨2, _⟩ => exact ⟨Nat.zero_le _, by show t.val * 1 + 0 - 0 < r; have := t.isLt; omega⟩
      | ⟨3, _⟩ => exact ⟨Nat.zero_le _, by show s.val * 1 + n.val - 0 < N; omega⟩)]
    refine congrArg x (funext fun a => Fin.ext ?_)
    match a with
    | ⟨0, _⟩ => show b.val * 1 + 0 - 0 = b.val; omega
    | ⟨1, _⟩ => show k.val * 1 + 0 - 0 = k.val; omega
    | ⟨2, _⟩ => show t.val * 1 + 0 - 0 = t.val; omega
    | ⟨3, _⟩ => show s.val * 1 + n.val - 0 = s.val + n.val; omega
  · rw [dif_neg hn]
    show G _ = _
    unfold G
    rw [dif_neg]
    intro hin
    have := (hin 3).2
    change s.val * 1 + n.val - 0 < N at this
    omega

variable (hb : Bounded x0 x1)

theorem v10_apply (b h : Fin 8) (t s : Fin 4096) : val_main_v10 x0 x1 (ix4 b h t s) = score x0 x1 b h t s.val := by
  pointwise [val_main_v10, val_main_v9, val_main_v8, val_main_v7, val_main_v4, val_main_v3, val_main_v2, val_main_v1, val_main_v0]
  unfold score
  rw [dif_pos s.isLt]

/-- The causal mask as a word. -/
theorem mask_apply (t s : Fin 4096) (a b : EReal) :
    Scalar.select (IntOp.cmpi CmpIPredicate.slt (BitVec.ofNat 32 s.val) (BitVec.ofNat 32 t.val)) a b = if s.val < t.val then a else b := by
  rw [WordCmp.cmpi_slt_ofNat (by have := s.isLt; omega) (by have := t.isLt; omega)]
  unfold Scalar.select
  by_cases h : s.val < t.val <;> simp [h]

theorem v19_apply (b h : Fin 8) (t s : Fin 4096) : val_main_v19 x0 x1 (ix4 b h t s) = -soft (- -score x0 x1 b h t s.val) := by
  pointwise [val_main_v19, val_main_v18, val_main_call0_v1, val_main_call0_v0, val_main_call0_call0_v1, val_main_call0_call0_v0,
    val_main_call0_call0_v2, val_main_call0_call0_v3, val_main_call0_call0_v4, val_main_call0_call0_v5, val_main_call0_call0_v6,
    val_main_call0_call0_v7, val_main_call0_call0_v8, val_main_call0_call0_v9, val_main_call0_call0_v10, val_main_call0_call0_v11,
    val_main_call0_call0_cst]
  simp only [v10_apply]
  rw [if_neg (fun h => h rfl)]
  rfl

include hb in
theorem v20_apply (b h : Fin 8) (t s : Fin 4096) :
    val_main_v20 x0 x1 (ix4 b h t s) = ((-st (score x0 x1 b h t) t.val s.val : ℝ) : EReal) := by
  pointwise [val_main_v20, val_main_call1_v1, val_main_call1_v2, val_main_call1_v0, val_main_cst, val_main_v17, val_main_v16, val_main_v15, val_main_v14, val_main_v13,
    val_main_v12, val_main_v11]
  rw [mask_apply, v19_apply]
  unfold st
  split_ifs
  · exact log_stay _ (hb b h t _)
  · rw [neg_zero]; show Ideal.ofBits .f32 0x00000000#32 = 0; simp

include hb in
theorem between (b h : Fin 8) (t s : Fin 4096) :
    Host.reduceWindowAdd ![1, 1, 1, 4096] ![1, 1, 1, 1] ![0, 0, 0, 0] ![0, 0, 0, 4095] (val_main_v20 x0 x1) (val_main_call2_v0 (F := Ideal))
      Gen.reduceWindows_S8x8x4096x4096_S8x8x4096x4096_w1s1p0_0_w1s1p0_0_w1s1p0_0_w4096s1p0_4095 Gen.h_S_ (ix4 b h t s)
      = ((-S (score x0 x1 b h t) t.val s.val : ℝ) : EReal) := by
  refine (cumsum (by decide) _ _ (by show Ideal.ofBits .f32 0x00000000#32 = 0; simp) _ _ b h t s).trans ?_
  have e : S (score x0 x1 b h t) t.val s.val = ∑ n : Fin 4096, if s.val + n.val < 4096 then st (score x0 x1 b h t) t.val (s.val + n.val) else 0 := by
    have := sum_Ico (fun j => if j < 4096 then st (score x0 x1 b h t) t.val j else 0) s.val 4096
    rw [← this, ← Finset.sum_Ico_consecutive _ (show s.val ≤ 4096 by omega) (show 4096 ≤ s.val + 4096 by omega)]
    unfold S
    rw [Finset.sum_eq_zero (s := Finset.Ico 4096 _) (fun j hj => if_neg (by have := Finset.mem_Ico.1 hj; omega)), add_zero]
    exact Finset.sum_congr rfl fun j hj => (if_pos (Finset.mem_Ico.1 hj).2).symm
  rw [e, ← Finset.sum_neg_distrib, coe_sum]
  refine Finset.sum_congr rfl fun n _ => ?_
  split_ifs with hn
  · exact v20_apply x0 x1 hb b h t ⟨_, hn⟩
  · rw [neg_zero]; rfl

include hb in
theorem v26_apply (b h : Fin 8) (t s : Fin 4096) : val_main_v26 x0 x1 (ix4 b h t s) = W (score x0 x1 b h t) t.val s.val := by
  pointwise [val_main_v26,val_main_v25, val_main_v24, val_main_v23, val_main_v22, val_main_v21, val_main_call4_v1, val_main_call4_v2, val_main_call4_v0, val_main_cst_0,
    val_main_v17, val_main_v16, val_main_v15, val_main_v14, val_main_v13, val_main_v12, val_main_v11, val_main_call3_v1, val_main_call3_v0, val_main_call3_call0_v1, val_main_call3_call0_v0,
    val_main_call3_call0_v2, val_main_call3_call0_v3, val_main_call3_call0_v4, val_main_call3_call0_v5, val_main_call3_call0_v6,
    val_main_call3_call0_v7, val_main_call3_call0_v8, val_main_call3_call0_v9, val_main_call3_call0_v10, val_main_call3_call0_v11,
    val_main_call3_call0_cst]
  rw [mask_apply, v10_apply, if_neg (c := -score x0 x1 b h t s.val ≠ -score x0 x1 b h t s.val) (fun h => h rfl), between x0 x1 hb, v20_apply x0 x1 hb]
  unfold W
  split_ifs with hst
  · unfold st
    rw [if_pos hst]
    exact weight _ (hb b h t _) _
  · show Ideal.ofBits .f32 0x00000000#32 = 0; simp

include hb in
theorem v30_apply (b : Fin 8) (t : Fin 4096) (l : Fin 512) : val_main_v30 x0 x1 (ix3 b t l) = acc x0 x1 0 b t l := by
  pointwise [val_main_v30,val_main_v29, val_main_v28, val_main_v27, val_main_v6, val_main_v5, val_main_v0]
  unfold acc
  refine Eq.trans ?_ (sum_Ico (fun s => W (score x0 x1 b (headOf l) t) t.val s * vals x0 b l s) 0 4096).symm
  refine Finset.sum_congr rfl fun s _ => ?_
  rw [v26_apply x0 x1 hb, Nat.zero_add, mul_comm]
  congr 1
  unfold vals
  rw [dif_pos s.isLt]

end Cert.SbRef
-- ==== Proof.SbValue.lean ====
/- The attention's result array after the run is the reference's, index by index. -/
module

public import proofs.«01_k».proof.Proof.SbOut
public import proofs.«01_k».proof.Proof.SbRef
public import proofs.«01_k».proof.Defs
public import proofs.«01_k».proof.Proof.Gen.SbIdeal.Value
public import Idealize.ShloMosaic.Lib.Pipeline.ValueKit.Geometry
public import Idealize.ShloMosaic.Lib.Claim
public import Idealize.ShloMosaic.Lib.ReduceAll

@[expose] public section

set_option maxRecDepth 16384

noncomputable section

namespace Cert.SbValue

open Cert.SbIdeal Cert.SbIdeal.Gen Idealize.ShloMosaic Idealize.ShloMosaic.TcCoe Idealize.SL.Sem Cert.SbMath Cert.SbState Cert.SbPair

variable (m : (ℓ : Loc nD τ sig) → Buf (Elt Ideal) ℓ) (c : Dev nD)

/-- The arguments. -/
abbrev qkv : Vec Ideal S8x4096x3584 .bf16 := m ((c : Thread nD τ).loc main_arg0)
abbrev bias : Vec Ideal S8 .f32 := m ((c : Thread nD τ).loc main_arg1)

/-- The reference's result of the kernel's arguments. -/
abbrev out : Buf (Elt Ideal) ((c : Thread nD τ).loc main_v7) := SbRefIdeal.Read.val_main_v30 (F := Ideal) (qkv m c) (bias m c)

/-- The batch and the query block of a grid step. -/
abbrev bat (t : Fin cfg0.N) : Fin 8 := grid0.coords t 0
abbrev blkq (t : Fin cfg0.N) : Fin 16 := grid0.coords t 1

theorem index_0 : ∀ t : Fin cfg0.N, win0_0.index t = ![0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![(bat t).val, (blkq t).val, 0] := (by decide +kernel : ∀ t : Fin grid0.N, _)
theorem index_3 : ∀ t : Fin cfg0.N, win0_3.index t = ![(bat t).val, 0, 1] := (by decide +kernel : ∀ t : Fin grid0.N, _)
theorem index_4 : ∀ t : Fin cfg0.N, win0_4.index t = ![(bat t).val, 0, 2] := (by decide +kernel : ∀ t : Fin grid0.N, _)
theorem index_5 : ∀ t : Fin cfg0.N, win0_5.index t = ![(bat t).val, (blkq t).val, 0] := (by decide +kernel : ∀ t : Fin grid0.N, _)

theorem blk_0 (t : Fin cfg0.N) (h : Fin 8) : (iblk m c 0 t : Vec Ideal S8 .f32) (ix1 h) = bias m c (ix1 h) := by
  have e : (win0_0.blk t).view.emb (ix1 h) = (ix1 h : Shape.Idx ⟨1, ![8]⟩) := by blk_ext [index_0]
  show V m c main_arg1 ((win0_0.blk t).view.emb (ix1 h)) = _
  rw [e]
  entry_read
  rfl

/-- A true word is the float one, a false one the float zero. -/
theorem one_word : FloatOps.uitofp (F := Ideal) FTy.bf16 (BitVec.ofBool true) = (1 : EReal) := by
  show (((1 : ℕ) : ℝ) : EReal) = 1
  norm_num
theorem zero_word : FloatOps.uitofp (F := Ideal) FTy.bf16 (BitVec.ofBool false) = (0 : EReal) := by
  show ((((BitVec.ofBool false).toNat : ℕ) : ℝ) : EReal) = 0
  norm_num

theorem blk_1 (t : Fin cfg0.N) (x j : Fin 256) : (iblk m c 1 t : Vec Ideal S256x256 .bf16) (ix2 x j) = if j.val < x.val then (1 : EReal) else 0 := by
  have e : (win0_1.blk t).view.emb (ix2 x j) = (ix2 x j : Shape.Idx ⟨2, ![256, 256]⟩) := by blk_ext [index_1]
  show V m c main_v6 ((win0_1.blk t).view.emb (ix2 x j)) = _
  rw [e]
  entry_read
  pointwise
  rw [WordCmp.cmpi_sgt_ofNat (by have := x.isLt; omega) (by have := j.isLt; omega)]
  by_cases h : j.val < x.val
  · rw [if_pos h, decide_eq_true h]; exact one_word
  · rw [if_neg h, decide_eq_false h]; exact zero_word

theorem blk_2 (t : Fin cfg0.N) (a : Fin 256) (y : Fin 512) :
    (iblk m c 2 t : Vec Ideal S1x256x512 .bf16) (ix3 0 a y) = qkv m c (ix3 (bat t) (row (blkq t) a) ⟨y.val, by omega⟩) := by
  have e : (win0_2.blk t).view.emb (ix3 0 a y) = (ix3 (bat t) (row (blkq t) a) ⟨y.val, by omega⟩ : Shape.Idx ⟨3, ![8, 4096, 3584]⟩) := by blk_ext [index_2]
  show V m c main_arg0 ((win0_2.blk t).view.emb (ix3 0 a y)) = _
  rw [e]
  entry_read
  rfl

theorem blk_3 (t : Fin cfg0.N) (a : Fin 4096) (y : Fin 512) :
    (iblk m c 3 t : Vec Ideal S1x4096x512 .bf16) (ix3 0 a y) = qkv m c (ix3 (bat t) a ⟨512 + y.val, by omega⟩) := by
  have e : (win0_3.blk t).view.emb (ix3 0 a y) = (ix3 (bat t) a ⟨512 + y.val, by omega⟩ : Shape.Idx ⟨3, ![8, 4096, 3584]⟩) := by blk_ext [index_3]
  show V m c main_arg0 ((win0_3.blk t).view.emb (ix3 0 a y)) = _
  rw [e]
  entry_read
  rfl

theorem blk_4 (t : Fin cfg0.N) (a : Fin 4096) (y : Fin 512) :
    (iblk m c 4 t : Vec Ideal S1x4096x512 .bf16) (ix3 0 a y) = qkv m c (ix3 (bat t) a ⟨1024 + y.val, by omega⟩) := by
  have e : (win0_4.blk t).view.emb (ix3 0 a y) = (ix3 (bat t) a ⟨1024 + y.val, by omega⟩ : Shape.Idx ⟨3, ![8, 4096, 3584]⟩) := by blk_ext [index_4]
  show V m c main_arg0 ((win0_4.blk t).view.emb (ix3 0 a y)) = _
  rw [e]
  entry_read
  rfl

/-- The windows of a step hold what its computation needs. -/
theorem ins (t : Fin cfg0.N) : Ins (qkv m c) (bias m c) (bat t) (blkq t) (iblk m c 0 t) (iblk m c 1 t) (iblk m c 2 t) (iblk m c 3 t) (iblk m c 4 t) :=
  ⟨blk_0 m c t, blk_1 m c t, blk_2 m c t, blk_3 m c t, blk_4 m c t⟩

theorem final (hB : Bounded (qkv m c) (bias m c)) : (dats m 0 c).arrAt 5 cfg0.N = out m c := by
  refine (dats m 0 c).arrAt_eq_of_covers 5 _ (by decide +kernel) fun t hf y => ?_
  blk_simp
  rw [after0_5]
  obtain ⟨r, a, k, rfl⟩ : ∃ (r : Fin 1) (a : Fin 256) (k : Fin 512), y = ix3 r a k := ⟨y 0, y 1, y 2, eq_ix3 y⟩
  obtain rfl : r = 0 := Subsingleton.elim _ _
  have e : (win0_5.blk t).view.emb (ix3 0 a k) = (ix3 (bat t) (row (blkq t) a) k : Shape.Idx ⟨3, ![8, 4096, 512]⟩) := by blk_ext [index_5]
  rw [e]
  refine Eq.trans ?_ (SbRef.v30_apply _ _ hB (bat t) (row (blkq t) a) k).symm
  obtain ⟨p, l, rfl⟩ : ∃ (p : Fin 4) (l : Fin 128), k = lane p l := ⟨⟨k.val / 128, by omega⟩, ⟨k.val % 128, by omega⟩, Fin.ext (by simp only [lane]; omega)⟩
  by_cases h0 : t.val % 2 = 0
  · rw [outsAt0_A m c t h0 (by omega)]
    exact SbOut.outA_apply _ _ hB (ins m c t) a p l
  · rw [outsAt0_B m c t h0 (by omega)]
    exact SbOut.outB_apply _ _ hB (ins m c t) a p l

/-- The precondition's shape facts. -/
instance preFacts : Cert.Pre_scores_below_80.Facts where
  bitsLt_bf16_f32 := by decide
  slices_S8x4096x3584_S8x4096x512_0_0_0 := by decide
  shapeCasts_S8x4096x512_S8x4096x8x64 := by decide
  slices_S8x4096x3584_S8x4096x512_0_0_512 := by decide
  bcast_S8_S1x8x1x1_1 := by decide
  bcast_S1x8x1x1_S8x8x4096x4096_0_1_2_3 := by decide
  bcast_S_S8x8x4096x4096 := by decide
  reducesTo_S8x8x4096x4096_S_d0_1_2_3 := by decide
  h_S_ := by decide
  dot_S8x4096x8x64_S8x4096x8x64_S8x8x4096x4096_3_3_1_1_02_02_wf := by decide

/-- The precondition bounds every score by 80. -/
theorem bounded (X : Vec Ideal S8x4096x3584 .bf16) (B : Vec Ideal S8 .f32)
    (h : Cert.Pre_scores_below_80.fn (F := Ideal) X B = fun _ => 1#1) : Bounded X B := by
  intro b g t s
  by_cases hs : s < 4096
  · have e := congrFun h ix0
    dsimp only [Cert.Pre_scores_below_80.fn] at e
    have e' := Host.reduce_andi_all _ _ _ _ _ e (ix4 b g t ⟨s, hs⟩)
    have e'' : FloatOps.cmpf (F := Ideal) (φ := .f32) .ole (SbRefIdeal.Read.val_main_v10 (F := Ideal) X B (ix4 b g t ⟨s, hs⟩)) (Ideal.ofBits .f32 0x42A00000#32) = 1#1 := e'
    rw [SbRef.v10_apply] at e''
    by_contra hn
    have z : FloatOps.cmpf (F := Ideal) (φ := .f32) .ole (score X B b g t s) (Ideal.ofBits .f32 0x42A00000#32) = 0#1 :=
      congrArg BitVec.ofBool (decide_eq_false hn)
    exact absurd (e''.symm.trans z) (by decide)
  · unfold score
    rw [dif_neg hs, c80]
    exact EReal.coe_nonneg.2 (by norm_num)

/-- The idealized kernel equals the reference lines, for every input whose scores are at most 80. -/
theorem algebraic : Cert.algebraic_SbIdeal_SbRefIdeal_pre_scores_below_80 := by
  intro m ρ m' ρ' hpre hagree
  refine ⟨fun c => out m c, ?_, ?_⟩
  · exact (θ_run defs _ _).mono (fun _ h c => ⟨(h c).1.trans (final m c (bounded _ _ (hpre c))), (h c).2⟩) (SbIdeal.Value.run_blocks (F := Ideal) m ρ)
  · refine (θ_run SbRefIdeal.defs _ _).mono (fun _ h c => ⟨(h c).1.trans ?_, (h c).2⟩) (SbRefIdeal.Value.run (F := Ideal) m' ρ')
    refine (SbRefIdeal.Read.val_main_v30_eq m' c).trans ?_
    obtain ⟨h0, h1⟩ := hagree c
    show SbRefIdeal.Read.val_main_v30 (F := Ideal) (m' ((c.tc : Thread SbRefIdeal.nD SbRefIdeal.τ).loc SbRefIdeal.main_arg0))
      (m' ((c.tc : Thread SbRefIdeal.nD SbRefIdeal.τ).loc SbRefIdeal.main_arg1)) = out m c
    rw [h0, h1]

end Cert.SbValue

end
-- ==== Proof.PostSKernel.lean ====
/- On the sample the kernel after the two mixers is the prompt's, of float32 activations. -/
module

public import proofs.«01_k».proof.Proof.PostKernel
public import proofs.«01_k».proof.Proof.Gen.PostSIdeal.Value

@[expose] public section

set_option maxRecDepth 16384

noncomputable section

namespace Cert.PostSKernel

open Idealize.ShloMosaic Cert.PostSIdeal Cert.PostSIdeal.Gen Cert.RowSpec

/-- What the kernel writes back of one block, as the layer's lines of one row. -/
theorem out_apply (x0 : Vec Ideal S256x512 .f32) (x1 : Vec Ideal S256x512 .f32) (x2 : Vec Ideal S256x2048 .f32) (x3 : Vec Ideal S256x1024 .f32) (x4 : Vec Ideal S256x256 .f32) (x5 : Vec Ideal S512x1024 .bf16) (x6 : Vec Ideal S512x1024 .bf16) (x7 : Vec Ideal S1024x1024 .bf16) (x8 : Vec Ideal S1x1024 .f32) (x9 : Vec Ideal S1024x4096 .bf16) (x10 : Vec Ideal S4096x1024 .bf16) (x11 : Vec Ideal S1x1024 .f32) (x12 : Vec Ideal S1024x1024 .bf16) (x13 : Vec Ideal S256x1024 .bf16) (x14 : Vec Ideal S1x1024 .f32) (r : Fin 256) (c : Fin 1024) :
    out0_15 (F := Ideal) x0 x1 x2 x3 x4 x5 x6 x7 x8 x9 x10 x11 x12 x13 x14 (ix2 r c)
      = RowSpec.tail (fun k => x0 (ix2 r k)) (fun k => x1 (ix2 r k)) (fun k => x2 (ix2 r ⟨k.val, by omega⟩)) (fun k => x2 (ix2 r ⟨1024 + k.val, by omega⟩))
          (fun k => x3 (ix2 r k)) (fun k => x4 (ix2 r k)) (fun k j => x5 (ix2 k j)) (fun k j => x6 (ix2 k j)) (fun k j => x7 (ix2 k j))
          (fun k => x8 (ix2 0 k)) (fun k j => x9 (ix2 k j)) (fun k j => x10 (ix2 k j)) (fun k => x11 (ix2 0 k)) (fun k j => x12 (ix2 k j))
          (fun k j => x13 (ix2 k j)) (fun k => x14 (ix2 0 k)) c := by
  refine Eq.trans (b := Cert.PostIdeal.Gen.out0_15 (F := Ideal) x0 x1 x2 x3 x4 x5 x6 x7 x8 x9 x10 x11 x12 x13 x14 (ix2 r c)) rfl ?_
  exact PostKernel.out_apply x0 x1 x2 x3 x4 x5 x6 x7 x8 x9 x10 x11 x12 x13 x14 r c

end Cert.PostSKernel

end
-- ==== Proof.PostSRef.lean ====
/- The reference lines after the two mixers on the sample, read at an index. -/
module

public import proofs.«01_k».proof.Proof.RowSpec
public import proofs.«01_k».proof.Proof.Gen.PostSRefIdeal.Read

@[expose] public section

set_option maxRecDepth 16384

noncomputable section

namespace Cert.PostSRef

open Idealize.ShloMosaic Cert.PostSRefIdeal Cert.PostSRefIdeal.Gen Cert.PostSRefIdeal.Read Cert.RowSpec

variable (x0 x1 : (⟨S128x8x512, .f32⟩ : BufTy).Contents (Elt Ideal)) (x2 : (⟨S1024x2048, .f32⟩ : BufTy).Contents (Elt Ideal))
  (x3 : (⟨S128x8x1024, .f32⟩ : BufTy).Contents (Elt Ideal)) (x4 : (⟨S1x128x8x256, .f32⟩ : BufTy).Contents (Elt Ideal))
  (x5 x6 : (⟨S1x512x1024, .f32⟩ : BufTy).Contents (Elt Ideal)) (x7 : (⟨S1x1024x1024, .f32⟩ : BufTy).Contents (Elt Ideal))
  (x8 : (⟨S1x1024, .f32⟩ : BufTy).Contents (Elt Ideal)) (x9 : (⟨S1x1024x4096, .f32⟩ : BufTy).Contents (Elt Ideal))
  (x10 : (⟨S1x4096x1024, .f32⟩ : BufTy).Contents (Elt Ideal)) (x11 : (⟨S1x1024, .f32⟩ : BufTy).Contents (Elt Ideal))
  (x12 : (⟨S1x1024x1024, .f32⟩ : BufTy).Contents (Elt Ideal)) (x13 : (⟨S1x256x1024, .f32⟩ : BufTy).Contents (Elt Ideal))
  (x14 : (⟨S1024, .f32⟩ : BufTy).Contents (Elt Ideal))

theorem v15_apply (i : Fin 1024) (c : Fin 1024) :
    val_main_v15 (F := Ideal) x2 (ix2 i c) = Ideal.logistic (x2 (ix2 i ⟨c.val, by omega⟩)) := by
  pointwise [val_main_v15, val_main_v14, val_main_v13, val_main_v12, val_main_v11, val_main_v10, val_main_v2, val_main_cst, val_main_cst_0]
  rfl

theorem v22_apply (i : Fin 1024) (c : Fin 1024) :
    val_main_v22 (F := Ideal) x2 (ix2 i c) = Ideal.logistic (x2 (ix2 i ⟨1024 + c.val, by omega⟩)) := by
  pointwise [val_main_v22, val_main_v21, val_main_v20, val_main_v19, val_main_v18, val_main_v17, val_main_v3, val_main_cst_1, val_main_cst_2]
  rfl

/-- The residual stream after the mix, of one row. -/
abbrev mixRow (i : Fin 1024) : Fin 1024 → EReal :=
  mix (fun k => val_main_v4 (F := Ideal) x0 (ix2 i k)) (fun k => val_main_v7 (F := Ideal) x1 (ix2 i k))
    (fun k => x2 (ix2 i ⟨k.val, by omega⟩)) (fun k => x2 (ix2 i ⟨1024 + k.val, by omega⟩))
    (fun k => val_main_v0 (F := Ideal) x3 (ix2 i k)) (fun k j => val_main_v5 (F := Ideal) x5 (ix2 k j))
    (fun k j => val_main_v8 (F := Ideal) x6 (ix2 k j)) (fun k j => val_main_v25 (F := Ideal) x7 (ix2 k j))

theorem v27_apply (i : Fin 1024) (c : Fin 1024) :
    val_main_v27 (F := Ideal) x0 x1 x2 x3 x5 x6 x7 (ix2 i c) = mixRow x0 x1 x2 x3 x5 x6 x7 i c := by
  pointwise [val_main_v27, val_main_v26, val_main_v24, val_main_v23, val_main_v16, val_main_v9, val_main_v6]
  simp only [v15_apply, v22_apply]
  rfl

theorem v41_apply (i : Fin 1024) (c : Fin 1024) :
    val_main_v41 (F := Ideal) x0 x1 x2 x3 x5 x6 x7 x8 (ix2 i c)
      = rms (mixRow x0 x1 x2 x3 x5 x6 x7 i) (fun k => x8 (ix2 0 k)) c := by
  pointwise [val_main_v41, val_main_v40, val_main_v39, val_main_v38, val_main_v37, val_main_v36, val_main_v35, val_main_v34, val_main_v33, val_main_v32,
    val_main_v31, val_main_v30, val_main_v29, val_main_v28, val_main_cst_3, val_main_cst_4, val_main_cst_5]
  simp only [v27_apply]
  rfl

abbrev mlpRow (i : Fin 1024) : Fin 1024 → EReal :=
  mlp (mixRow x0 x1 x2 x3 x5 x6 x7 i) (fun k => x8 (ix2 0 k)) (fun k j => val_main_v42 (F := Ideal) x9 (ix2 k j))
    (fun k j => val_main_v46 (F := Ideal) x10 (ix2 k j))

theorem v48_apply (i : Fin 1024) (c : Fin 1024) :
    val_main_v48 (F := Ideal) x0 x1 x2 x3 x5 x6 x7 x8 x9 x10 (ix2 i c) = mlpRow x0 x1 x2 x3 x5 x6 x7 x8 x9 x10 i c := by
  pointwise [val_main_v48, val_main_v47, val_main_v45, val_main_v44, val_main_v43, val_main_call0_v0, val_main_call0_cst]
  simp only [v27_apply, v41_apply]
  rfl

theorem v62_apply (i : Fin 1024) (c : Fin 1024) :
    val_main_v62 (F := Ideal) x0 x1 x2 x3 x5 x6 x7 x8 x9 x10 x11 (ix2 i c)
      = rms (mlpRow x0 x1 x2 x3 x5 x6 x7 x8 x9 x10 i) (fun k => x11 (ix2 0 k)) c := by
  pointwise [val_main_v62, val_main_v61, val_main_v60, val_main_v59, val_main_v58, val_main_v57, val_main_v56, val_main_v55, val_main_v54, val_main_v53,
    val_main_v52, val_main_v51, val_main_v50, val_main_v49, val_main_cst_6, val_main_cst_7, val_main_cst_8]
  simp only [v48_apply]
  rfl

abbrev pleRow (i : Fin 1024) : Fin 1024 → EReal :=
  ple (mlpRow x0 x1 x2 x3 x5 x6 x7 x8 x9 x10 i) (fun k => x11 (ix2 0 k)) (fun k j => val_main_v63 (F := Ideal) x12 (ix2 k j))
    (fun k => val_main_v1 (F := Ideal) x4 (ix2 i k)) (fun k j => val_main_v71 (F := Ideal) x13 (ix2 k j))

theorem v74_apply (i : Fin 1024) (c : Fin 1024) :
    val_main_v74 (F := Ideal) x0 x1 x2 x3 x4 x5 x6 x7 x8 x9 x10 x11 x12 x13 (ix2 i c)
      = pleRow x0 x1 x2 x3 x4 x5 x6 x7 x8 x9 x10 x11 x12 x13 i c := by
  pointwise [val_main_v74, val_main_v73, val_main_v72, val_main_v70, val_main_v69, val_main_v68, val_main_v67, val_main_v66, val_main_v65, val_main_v64,
    val_main_cst_9, val_main_cst_10]
  simp only [v48_apply, v62_apply]
  rfl

/-- The reference's result of one row. -/
theorem v87_apply (i : Fin 1024) (c : Fin 1024) :
    val_main_v87 (F := Ideal) x0 x1 x2 x3 x4 x5 x6 x7 x8 x9 x10 x11 x12 x13 x14 (ix2 i c)
      = rms (pleRow x0 x1 x2 x3 x4 x5 x6 x7 x8 x9 x10 x11 x12 x13 i) (fun k => x14 (ix1 k)) c := by
  pointwise [val_main_v87, val_main_v86, val_main_v85, val_main_v84, val_main_v83, val_main_v82, val_main_v81, val_main_v80, val_main_v79, val_main_v78,
    val_main_v77, val_main_v76, val_main_v75, val_main_cst_11, val_main_cst_12, val_main_cst_13]
  simp only [v74_apply]
  rfl

end Cert.PostSRef

end
-- ==== Proof.PostSValue.lean ====
/- The kernel after the two mixers: its result array after the run is the reference's, index by index. -/
module

public import proofs.«01_k».proof.Proof.PostSKernel
public import proofs.«01_k».proof.Proof.PostSRef
public import proofs.«01_k».proof.Defs
public import Idealize.ShloMosaic.Lib.Pipeline.ValueKit.Geometry
public import Idealize.ShloMosaic.Lib.Claim

@[expose] public section

set_option maxRecDepth 16384

noncomputable section

namespace Cert.PostSValue

open Cert.PostSIdeal Cert.PostSIdeal.Gen Idealize.ShloMosaic Idealize.ShloMosaic.TcCoe Idealize.SL.Sem Cert.RowSpec

variable (m : (ℓ : Loc nD τ sig) → Buf (Elt Ideal) ℓ) (c : Dev nD)

/-- The reference's result of the kernel's arguments. -/
abbrev out : Buf (Elt Ideal) ((c : Thread nD τ).loc main_v24) :=
  PostSRefIdeal.Read.val_main_v87 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14))

theorem lt_N (t : Fin cfg0.N) : t.val < 4 := t.isLt.trans_eq (by decide +kernel)

/-- Row `r` of block `t`. -/
abbrev row (t : Fin cfg0.N) (r : Fin 256) : Fin 1024 := ⟨t.val * 256 + r.val, by have := lt_N t; omega⟩

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0] := (by decide +kernel : ∀ t : Fin grid0.N, _)
theorem index_10 : ∀ t : Fin cfg0.N, win0_10.index t = ![0, 0] := (by decide +kernel : ∀ t : Fin grid0.N, _)
theorem index_11 : ∀ t : Fin cfg0.N, win0_11.index t = ![0, 0] := (by decide +kernel : ∀ t : Fin grid0.N, _)
theorem index_12 : ∀ t : Fin cfg0.N, win0_12.index t = ![0, 0] := (by decide +kernel : ∀ t : Fin grid0.N, _)
theorem index_13 : ∀ t : Fin cfg0.N, win0_13.index t = ![0, 0] := (by decide +kernel : ∀ t : Fin grid0.N, _)
theorem index_14 : ∀ t : Fin cfg0.N, win0_14.index t = ![0, 0] := (by decide +kernel : ∀ t : Fin grid0.N, _)
theorem index_15 : ∀ t : Fin cfg0.N, win0_15.index t = ![t.val, 0] := (by decide +kernel : ∀ t : Fin grid0.N, _)

theorem blk_0 (t : Fin cfg0.N) (r : Fin 256) (k : Fin 512) :
    (iblk m c 0 t : Vec Ideal ⟨2, ![256, 512]⟩ _) (ix2 r k) = PostSRefIdeal.Read.val_main_v4 (F := Ideal) (m ((c : Thread nD τ).loc main_arg0)) (ix2 (row t r) k) := by
  have e : (win0_0.blk t).view.emb (ix2 r k) = (ix2 (row t r) k : Shape.Idx ⟨2, ![1024, 512]⟩) := by blk_ext [index_0]
  show V m c main_v19 ((win0_0.blk t).view.emb (ix2 r k)) = _
  rw [e]
  entry_read
  rfl

theorem blk_1 (t : Fin cfg0.N) (r : Fin 256) (k : Fin 512) :
    (iblk m c 1 t : Vec Ideal ⟨2, ![256, 512]⟩ _) (ix2 r k) = PostSRefIdeal.Read.val_main_v7 (F := Ideal) (m ((c : Thread nD τ).loc main_arg1)) (ix2 (row t r) k) := by
  have e : (win0_1.blk t).view.emb (ix2 r k) = (ix2 (row t r) k : Shape.Idx ⟨2, ![1024, 512]⟩) := by blk_ext [index_1]
  show V m c main_v20 ((win0_1.blk t).view.emb (ix2 r k)) = _
  rw [e]
  entry_read
  rfl

theorem blk_2 (t : Fin cfg0.N) (r : Fin 256) (k : Fin 2048) :
    (iblk m c 2 t : Vec Ideal ⟨2, ![256, 2048]⟩ _) (ix2 r k) = (m ((c : Thread nD τ).loc main_arg2) : Vec Ideal S1024x2048 .f32) (ix2 (row t r) k) := by
  have e : (win0_2.blk t).view.emb (ix2 r k) = (ix2 (row t r) k : Shape.Idx ⟨2, ![1024, 2048]⟩) := by blk_ext [index_2]
  show V m c main_arg2 ((win0_2.blk t).view.emb (ix2 r k)) = _
  rw [e]
  entry_read
  rfl

theorem blk_3 (t : Fin cfg0.N) (r : Fin 256) (k : Fin 1024) :
    (iblk m c 3 t : Vec Ideal ⟨2, ![256, 1024]⟩ _) (ix2 r k) = PostSRefIdeal.Read.val_main_v0 (F := Ideal) (m ((c : Thread nD τ).loc main_arg3)) (ix2 (row t r) k) := by
  have e : (win0_3.blk t).view.emb (ix2 r k) = (ix2 (row t r) k : Shape.Idx ⟨2, ![1024, 1024]⟩) := by blk_ext [index_3]
  show V m c main_v0 ((win0_3.blk t).view.emb (ix2 r k)) = _
  rw [e]
  entry_read
  rfl

theorem blk_4 (t : Fin cfg0.N) (r : Fin 256) (k : Fin 256) :
    (iblk m c 4 t : Vec Ideal ⟨2, ![256, 256]⟩ _) (ix2 r k) = PostSRefIdeal.Read.val_main_v1 (F := Ideal) (m ((c : Thread nD τ).loc main_arg4)) (ix2 (row t r) k) := by
  have e : (win0_4.blk t).view.emb (ix2 r k) = (ix2 (row t r) k : Shape.Idx ⟨2, ![1024, 256]⟩) := by blk_ext [index_4]
  show V m c main_v22 ((win0_4.blk t).view.emb (ix2 r k)) = _
  rw [e]
  entry_read
  pointwise [PostSRefIdeal.Read.val_main_v1]

theorem blk_5 (t : Fin cfg0.N) (r : Fin 512) (k : Fin 1024) :
    (iblk m c 5 t : Vec Ideal ⟨2, ![512, 1024]⟩ _) (ix2 r k) = PostSRefIdeal.Read.val_main_v5 (F := Ideal) (m ((c : Thread nD τ).loc main_arg5)) (ix2 r k) := by
  have e : (win0_5.blk t).view.emb (ix2 r k) = (ix2 r k : Shape.Idx ⟨2, ![512, 1024]⟩) := by blk_ext [index_5]
  show V m c main_v2 ((win0_5.blk t).view.emb (ix2 r k)) = _
  rw [e]
  entry_read
  pointwise [PostSRefIdeal.Read.val_main_v5]

theorem blk_6 (t : Fin cfg0.N) (r : Fin 512) (k : Fin 1024) :
    (iblk m c 6 t : Vec Ideal ⟨2, ![512, 1024]⟩ _) (ix2 r k) = PostSRefIdeal.Read.val_main_v8 (F := Ideal) (m ((c : Thread nD τ).loc main_arg6)) (ix2 r k) := by
  have e : (win0_6.blk t).view.emb (ix2 r k) = (ix2 r k : Shape.Idx ⟨2, ![512, 1024]⟩) := by blk_ext [index_6]
  show V m c main_v4 ((win0_6.blk t).view.emb (ix2 r k)) = _
  rw [e]
  entry_read
  pointwise [PostSRefIdeal.Read.val_main_v8]

theorem blk_7 (t : Fin cfg0.N) (r : Fin 1024) (k : Fin 1024) :
    (iblk m c 7 t : Vec Ideal ⟨2, ![1024, 1024]⟩ _) (ix2 r k) = PostSRefIdeal.Read.val_main_v25 (F := Ideal) (m ((c : Thread nD τ).loc main_arg7)) (ix2 r k) := by
  have e : (win0_7.blk t).view.emb (ix2 r k) = (ix2 r k : Shape.Idx ⟨2, ![1024, 1024]⟩) := by blk_ext [index_7]
  show V m c main_v6 ((win0_7.blk t).view.emb (ix2 r k)) = _
  rw [e]
  entry_read
  pointwise [PostSRefIdeal.Read.val_main_v25]

theorem blk_8 (t : Fin cfg0.N) (r : Fin 1) (k : Fin 1024) :
    (iblk m c 8 t : Vec Ideal ⟨2, ![1, 1024]⟩ _) (ix2 r k) = (m ((c : Thread nD τ).loc main_arg8) : Vec Ideal S1x1024 .f32) (ix2 r k) := by
  have e : (win0_8.blk t).view.emb (ix2 r k) = (ix2 r k : Shape.Idx ⟨2, ![1, 1024]⟩) := by blk_ext [index_8]
  show V m c main_v8 ((win0_8.blk t).view.emb (ix2 r k)) = _
  rw [e]
  entry_read
  exact congrFun (shapeCast_shapeCast _ _ _) _

theorem blk_9 (t : Fin cfg0.N) (r : Fin 1024) (k : Fin 4096) :
    (iblk m c 9 t : Vec Ideal ⟨2, ![1024, 4096]⟩ _) (ix2 r k) = PostSRefIdeal.Read.val_main_v42 (F := Ideal) (m ((c : Thread nD τ).loc main_arg9)) (ix2 r k) := by
  have e : (win0_9.blk t).view.emb (ix2 r k) = (ix2 r k : Shape.Idx ⟨2, ![1024, 4096]⟩) := by blk_ext [index_9]
  show V m c main_v10 ((win0_9.blk t).view.emb (ix2 r k)) = _
  rw [e]
  entry_read
  pointwise [PostSRefIdeal.Read.val_main_v42]

theorem blk_10 (t : Fin cfg0.N) (r : Fin 4096) (k : Fin 1024) :
    (iblk m c 10 t : Vec Ideal ⟨2, ![4096, 1024]⟩ _) (ix2 r k) = PostSRefIdeal.Read.val_main_v46 (F := Ideal) (m ((c : Thread nD τ).loc main_arg10)) (ix2 r k) := by
  have e : (win0_10.blk t).view.emb (ix2 r k) = (ix2 r k : Shape.Idx ⟨2, ![4096, 1024]⟩) := by blk_ext [index_10]
  show V m c main_v12 ((win0_10.blk t).view.emb (ix2 r k)) = _
  rw [e]
  entry_read
  pointwise [PostSRefIdeal.Read.val_main_v46]

theorem blk_11 (t : Fin cfg0.N) (r : Fin 1) (k : Fin 1024) :
    (iblk m c 11 t : Vec Ideal ⟨2, ![1, 1024]⟩ _) (ix2 r k) = (m ((c : Thread nD τ).loc main_arg11) : Vec Ideal S1x1024 .f32) (ix2 r k) := by
  have e : (win0_11.blk t).view.emb (ix2 r k) = (ix2 r k : Shape.Idx ⟨2, ![1, 1024]⟩) := by blk_ext [index_11]
  show V m c main_v14 ((win0_11.blk t).view.emb (ix2 r k)) = _
  rw [e]
  entry_read
  exact congrFun (shapeCast_shapeCast _ _ _) _

theorem blk_12 (t : Fin cfg0.N) (r : Fin 1024) (k : Fin 1024) :
    (iblk m c 12 t : Vec Ideal ⟨2, ![1024, 1024]⟩ _) (ix2 r k) = PostSRefIdeal.Read.val_main_v63 (F := Ideal) (m ((c : Thread nD τ).loc main_arg12)) (ix2 r k) := by
  have e : (win0_12.blk t).view.emb (ix2 r k) = (ix2 r k : Shape.Idx ⟨2, ![1024, 1024]⟩) := by blk_ext [index_12]
  show V m c main_v16 ((win0_12.blk t).view.emb (ix2 r k)) = _
  rw [e]
  entry_read
  pointwise [PostSRefIdeal.Read.val_main_v63]

theorem blk_13 (t : Fin cfg0.N) (r : Fin 256) (k : Fin 1024) :
    (iblk m c 13 t : Vec Ideal ⟨2, ![256, 1024]⟩ _) (ix2 r k) = PostSRefIdeal.Read.val_main_v71 (F := Ideal) (m ((c : Thread nD τ).loc main_arg13)) (ix2 r k) := by
  have e : (win0_13.blk t).view.emb (ix2 r k) = (ix2 r k : Shape.Idx ⟨2, ![256, 1024]⟩) := by blk_ext [index_13]
  show V m c main_v18 ((win0_13.blk t).view.emb (ix2 r k)) = _
  rw [e]
  entry_read
  pointwise [PostSRefIdeal.Read.val_main_v71]

theorem blk_14 (t : Fin cfg0.N) (r : Fin 1) (k : Fin 1024) :
    (iblk m c 14 t : Vec Ideal ⟨2, ![1, 1024]⟩ _) (ix2 r k) = (m ((c : Thread nD τ).loc main_arg14) : Vec Ideal S1024 .f32) (ix1 k) := by
  have e : (win0_14.blk t).view.emb (ix2 r k) = (ix2 r k : Shape.Idx ⟨2, ![1, 1024]⟩) := by blk_ext [index_14]
  show V m c main_v23 ((win0_14.blk t).view.emb (ix2 r k)) = _
  rw [e]
  entry_read
  pointwise

theorem final : (dats m 0 c).arrAt 15 cfg0.N = out m c := by
  refine (dats m 0 c).arrAt_eq_of_covers 15 _ (by decide +kernel) fun t hf y => ?_
  blk_simp
  rw [after0_15]
  obtain ⟨r, k, rfl⟩ : ∃ (r : Fin 256) (k : Fin 1024), y = ix2 r k := ⟨y 0, y 1, eq_ix2 y⟩
  have e : (win0_15.blk t).view.emb (ix2 r k) = (ix2 (row t r) k : Shape.Idx ⟨2, ![1024, 1024]⟩) := by blk_ext [index_15]
  rw [e]
  refine (PostSKernel.out_apply _ _ _ _ _ _ _ _ _ _ _ _ _ _ _ r k).trans ?_
  refine Eq.trans ?_ (PostSRef.v87_apply _ _ _ _ _ _ _ _ _ _ _ _ _ _ _ (row t r) k).symm
  simp only [blk_0, blk_1, blk_2, blk_3, blk_4, blk_5, blk_6, blk_7, blk_8, blk_9, blk_10, blk_11, blk_12, blk_13, blk_14]
  rfl

/-- The idealized kernel equals the reference lines, for every input. -/
theorem algebraic : Cert.algebraic_PostSIdeal_PostSRefIdeal := by
  intro m ρ m' ρ' _ hagree
  refine ⟨fun c => out m c, ?_, ?_⟩
  · exact (θ_run defs _ _).mono (fun _ h c => ⟨(h c).1.trans (final m c), (h c).2⟩) (PostSIdeal.Value.run_blocks (F := Ideal) m ρ)
  · refine (θ_run PostSRefIdeal.defs _ _).mono (fun _ h c => ⟨(h c).1.trans ?_, (h c).2⟩) (PostSRefIdeal.Value.run (F := Ideal) m' ρ')
    refine (PostSRefIdeal.Read.val_main_v87_eq (StableHlo.launchContents m' c)).trans ?_
    obtain ⟨h0, h1, h2, h3, h4, h5, h6, h7, h8, h9, h10, h11, h12, h13, h14⟩ := hagree c
    show PostSRefIdeal.Read.val_main_v87 (F := Ideal) (m' ((c.tc : Thread PostSRefIdeal.nD PostSRefIdeal.τ).loc PostSRefIdeal.main_arg0)) (m' ((c.tc : Thread PostSRefIdeal.nD PostSRefIdeal.τ).loc PostSRefIdeal.main_arg1))
      (m' ((c.tc : Thread PostSRefIdeal.nD PostSRefIdeal.τ).loc PostSRefIdeal.main_arg2)) (m' ((c.tc : Thread PostSRefIdeal.nD PostSRefIdeal.τ).loc PostSRefIdeal.main_arg3))
      (m' ((c.tc : Thread PostSRefIdeal.nD PostSRefIdeal.τ).loc PostSRefIdeal.main_arg4)) (m' ((c.tc : Thread PostSRefIdeal.nD PostSRefIdeal.τ).loc PostSRefIdeal.main_arg5))
      (m' ((c.tc : Thread PostSRefIdeal.nD PostSRefIdeal.τ).loc PostSRefIdeal.main_arg6)) (m' ((c.tc : Thread PostSRefIdeal.nD PostSRefIdeal.τ).loc PostSRefIdeal.main_arg7))
      (m' ((c.tc : Thread PostSRefIdeal.nD PostSRefIdeal.τ).loc PostSRefIdeal.main_arg8)) (m' ((c.tc : Thread PostSRefIdeal.nD PostSRefIdeal.τ).loc PostSRefIdeal.main_arg9))
      (m' ((c.tc : Thread PostSRefIdeal.nD PostSRefIdeal.τ).loc PostSRefIdeal.main_arg10)) (m' ((c.tc : Thread PostSRefIdeal.nD PostSRefIdeal.τ).loc PostSRefIdeal.main_arg11))
      (m' ((c.tc : Thread PostSRefIdeal.nD PostSRefIdeal.τ).loc PostSRefIdeal.main_arg12)) (m' ((c.tc : Thread PostSRefIdeal.nD PostSRefIdeal.τ).loc PostSRefIdeal.main_arg13))
      (m' ((c.tc : Thread PostSRefIdeal.nD PostSRefIdeal.τ).loc PostSRefIdeal.main_arg14)) = out m c
    rw [h0, h1, h2, h3, h4, h5, h6, h7, h8, h9, h10, h11, h12, h13, h14]

end Cert.PostSValue

end
-- ==== Proof.ProjSKernel.lean ====
/- What the input projection's kernel writes for one block of rows of the sample: the branches and the gates as on the
   prompt, the keys and the values row by row. -/
module

public import proofs.«01_k».proof.Proof.ProjKernel
public import proofs.«01_k».proof.Proof.Gen.ProjSIdeal.Frame

@[expose] public section

set_option maxRecDepth 16384

noncomputable section

namespace Cert.ProjSKernel

open Idealize.ShloMosaic Cert.ProjSIdeal Cert.ProjSIdeal.Gen Cert.RowSpec

variable (x0 : Vec Ideal S512x1024 .f32) (x1 : Vec Ideal S1x1024 .f32) (x2 : Vec Ideal S1024x5632 .bf16)

theorem out3_apply (r : Fin 512) (c : Fin 3584) :
    out0_3 (F := Ideal) x0 x1 x2 (ix2 r c) = branch (fun k => x0 (ix2 r k)) (fun k => x1 (ix2 0 k)) (fun k j => x2 (ix2 k j)) c := by
  refine Eq.trans (b := Cert.ProjIdeal.Gen.out0_3 (F := Ideal) x0 x1 x2 (ix2 r c)) rfl ?_
  exact ProjKernel.out3_apply x0 x1 x2 r c

theorem out4_apply (r : Fin 512) (c : Fin 2048) :
    out0_4 (F := Ideal) x0 x1 x2 (ix2 r c) = ProjKernel.projRow x0 x1 x2 r ⟨3584 + c.val, by omega⟩ := by
  refine Eq.trans (b := Cert.ProjIdeal.Gen.out0_4 (F := Ideal) x0 x1 x2 (ix2 r c)) rfl ?_
  exact ProjKernel.out4_apply x0 x1 x2 r c

/-- The keys: column `512 + k` of the projection. -/
theorem out5_apply (r k : Fin 512) :
    out0_5 (F := Ideal) x0 x1 x2 (ix2 r k) = ProjKernel.projRow x0 x1 x2 r ⟨512 + k.val, by omega⟩ := by
  unfold out0_5
  rw [View.canon_unit_zero (by funext a; fin_cases a <;> rfl)]
  pointwise [k0_pay6, k0_pay5, k0_pay4]
  rfl

/-- The values: column `1024 + k` of the projection. -/
theorem out6_apply (r k : Fin 512) :
    out0_6 (F := Ideal) x0 x1 x2 (ix2 r k) = ProjKernel.projRow x0 x1 x2 r ⟨1024 + k.val, by omega⟩ := by
  unfold out0_6
  rw [View.canon_unit_zero (by funext a; fin_cases a <;> rfl)]
  pointwise [k0_pay15, k0_pay7, k0_pay4]
  rfl

end Cert.ProjSKernel

end
-- ==== Proof.ProjSRef.lean ====
/- The reference's projection of the sample, read at an index. -/
module

public import proofs.«01_k».proof.Proof.RowSpec
public import proofs.«01_k».proof.Proof.Gen.ProjSRefIdeal.Read

@[expose] public section

set_option maxRecDepth 16384

noncomputable section

namespace Cert.ProjSRef

open Idealize.ShloMosaic Cert.ProjSRefIdeal Cert.ProjSRefIdeal.Gen Cert.ProjSRefIdeal.Read Cert.RowSpec

variable (x0 : (⟨S128x8x1024, .f32⟩ : BufTy).Contents (Elt Ideal)) (x1 : (⟨S1x1024, .f32⟩ : BufTy).Contents (Elt Ideal))
  (x2 : (⟨S1x1024x5632, .f32⟩ : BufTy).Contents (Elt Ideal))

/-- One row of the projection. -/
abbrev projRow (i : Fin 1024) : Fin 5632 → EReal :=
  lin (rms (fun k => val_main_v0 (F := Ideal) x0 (ix2 i k)) (fun k => x1 (ix2 0 k))) (fun k j => val_main_v15 (F := Ideal) x2 (ix2 k j))

theorem v14_apply (i : Fin 1024) (c : Fin 1024) :
    val_main_v14 (F := Ideal) x0 x1 (ix2 i c) = rms (fun k => val_main_v0 (F := Ideal) x0 (ix2 i k)) (fun k => x1 (ix2 0 k)) c := by
  pointwise [val_main_v14, val_main_v13, val_main_v12, val_main_v11, val_main_v10, val_main_v9, val_main_v8, val_main_v7, val_main_v6, val_main_v5,
    val_main_v4, val_main_v3, val_main_v2, val_main_v1, val_main_cst, val_main_cst_0, val_main_cst_1]
  rfl

theorem v16_apply (i : Fin 1024) (c : Fin 5632) : val_main_v16 (F := Ideal) x0 x1 x2 (ix2 i c) = projRow x0 x1 x2 i c := by
  pointwise [val_main_v16]
  simp only [v14_apply]
  rfl

theorem v28_apply (i : Fin 1024) (c : Fin 3584) :
    val_main_v28 (F := Ideal) x0 x1 x2 (ix2 i c)
      = branch (fun k => val_main_v0 (F := Ideal) x0 (ix2 i k)) (fun k => x1 (ix2 0 k)) (fun k j => val_main_v15 (F := Ideal) x2 (ix2 k j)) c := by
  pointwise [val_main_v28, val_main_v27, val_main_v26, val_main_v17, val_main_v18, val_main_v19, val_main_v20, val_main_v21, val_main_v22, val_main_v23, val_main_cst_2]
  simp only [v16_apply]
  by_cases h : c.val < 512
  · rw [dif_pos h, branch_lo _ _ _ _ h]
  · rw [dif_neg h, branch_hi _ _ _ _ h]
    split_ifs <;> exact congrArg (projRow x0 x1 x2 i) (Fin.ext (by dsimp only; omega))

theorem v29_apply (i : Fin 1024) (c : Fin 2048) :
    val_main_v29 (F := Ideal) x0 x1 x2 (ix2 i c) = projRow x0 x1 x2 i ⟨3584 + c.val, by omega⟩ := by
  pointwise [val_main_v29, val_main_v24, val_main_v25]
  simp only [v16_apply]
  by_cases h : c.val < 1024
  · rw [dif_pos h]
  · rw [dif_neg h]
    exact at_val (projRow x0 x1 x2 i) (by dsimp only; omega)

theorem v18_apply (i : Fin 1024) (c : Fin 512) :
    val_main_v18 (F := Ideal) x0 x1 x2 (ix2 i c) = projRow x0 x1 x2 i ⟨512 + c.val, by omega⟩ := by
  pointwise [val_main_v18]
  simp only [v16_apply]

theorem v19_apply (i : Fin 1024) (c : Fin 512) :
    val_main_v19 (F := Ideal) x0 x1 x2 (ix2 i c) = projRow x0 x1 x2 i ⟨1024 + c.val, by omega⟩ := by
  pointwise [val_main_v19]
  simp only [v16_apply]

end Cert.ProjSRef

end
-- ==== Proof.ProjSValue.lean ====
/- The input projection of the sample: the four result arrays after the run are the reference's, index by index. -/
module

public import proofs.«01_k».proof.Proof.ProjSKernel
public import proofs.«01_k».proof.Proof.ProjSRef
public import proofs.«01_k».proof.Defs
public import proofs.«01_k».proof.Proof.Gen.ProjSIdeal.Value
public import Idealize.ShloMosaic.Lib.Pipeline.ValueKit.Geometry
public import Idealize.ShloMosaic.Lib.Claim

@[expose] public section

set_option maxRecDepth 16384

noncomputable section

namespace Cert.ProjSValue

open Cert.ProjSIdeal Cert.ProjSIdeal.Gen Idealize.ShloMosaic Idealize.ShloMosaic.TcCoe Idealize.SL.Sem Cert.RowSpec

variable (m : (ℓ : Loc nD τ sig) → Buf (Elt Ideal) ℓ) (c : Dev nD)

theorem lt_N (t : Fin cfg0.N) : t.val < 2 := t.isLt.trans_eq (by decide +kernel)

/-- Row `r` of block `t`. -/
abbrev row (t : Fin cfg0.N) (r : Fin 512) : Fin 1024 := ⟨t.val * 512 + r.val, by have := lt_N t; omega⟩

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)

/-- The three arguments. -/
abbrev a0 : Vec Ideal S128x8x1024 .f32 := m ((c : Thread nD τ).loc main_arg0)
abbrev a1 : Vec Ideal S1x1024 .f32 := m ((c : Thread nD τ).loc main_arg1)
abbrev a2 : Vec Ideal S1x1024x5632 .f32 := m ((c : Thread nD τ).loc main_arg2)

theorem blk_0 (t : Fin cfg0.N) (r : Fin 512) (k : Fin 1024) :
    (iblk m c 0 t : Vec Ideal ⟨2, ![512, 1024]⟩ _) (ix2 r k) = ProjSRefIdeal.Read.val_main_v0 (F := Ideal) (a0 m c) (ix2 (row t r) k) := by
  have e : (win0_0.blk t).view.emb (ix2 r k) = (ix2 (row t r) k : Shape.Idx ⟨2, ![1024, 1024]⟩) := by blk_ext [index_0]
  show V m c main_v0 ((win0_0.blk t).view.emb (ix2 r k)) = _
  rw [e]
  entry_read
  rfl

theorem blk_1 (t : Fin cfg0.N) (r : Fin 1) (k : Fin 1024) :
    (iblk m c 1 t : Vec Ideal ⟨2, ![1, 1024]⟩ _) (ix2 r k) = a1 m c (ix2 r k) := by
  have e : (win0_1.blk t).view.emb (ix2 r k) = (ix2 r k : Shape.Idx ⟨2, ![1, 1024]⟩) := by blk_ext [index_1]
  show V m c main_v4 ((win0_1.blk t).view.emb (ix2 r k)) = _
  rw [e]
  entry_read
  exact congrFun (shapeCast_shapeCast _ _ _) _

theorem blk_2 (t : Fin cfg0.N) (r : Fin 1024) (k : Fin 5632) :
    (iblk m c 2 t : Vec Ideal ⟨2, ![1024, 5632]⟩ _) (ix2 r k) = ProjSRefIdeal.Read.val_main_v15 (F := Ideal) (a2 m c) (ix2 r k) := by
  have e : (win0_2.blk t).view.emb (ix2 r k) = (ix2 r k : Shape.Idx ⟨2, ![1024, 5632]⟩) := by blk_ext [index_2]
  show V m c main_v3 ((win0_2.blk t).view.emb (ix2 r k)) = _
  rw [e]
  rfl

theorem in_branch (t : Fin cfg0.N) (r : Fin 512) (k : Fin 3584) :
    branch (fun k => (iblk m c 0 t : Vec Ideal ⟨2, ![512, 1024]⟩ .f32) (ix2 r k)) (fun k => (iblk m c 1 t : Vec Ideal ⟨2, ![1, 1024]⟩ .f32) (ix2 0 k))
      (fun k j => (iblk m c 2 t : Vec Ideal ⟨2, ![1024, 5632]⟩ .bf16) (ix2 k j)) k
      = branch (fun k => ProjSRefIdeal.Read.val_main_v0 (F := Ideal) (a0 m c) (ix2 (row t r) k)) (fun k => a1 m c (ix2 0 k))
      (fun k j => ProjSRefIdeal.Read.val_main_v15 (F := Ideal) (a2 m c) (ix2 k j)) k := by
  simp only [blk_0, blk_1, blk_2]

theorem in_row (t : Fin cfg0.N) (r : Fin 512) :
    ProjKernel.projRow (iblk m c 0 t) (iblk m c 1 t) (iblk m c 2 t) r = ProjSRef.projRow (a0 m c) (a1 m c) (a2 m c) (row t r) := by
  funext k
  show lin (rms (fun k => (iblk m c 0 t : Vec Ideal ⟨2, ![512, 1024]⟩ .f32) (ix2 r k)) (fun k => (iblk m c 1 t : Vec Ideal ⟨2, ![1, 1024]⟩ .f32) (ix2 0 k)))
      (fun k j => (iblk m c 2 t : Vec Ideal ⟨2, ![1024, 5632]⟩ .bf16) (ix2 k j)) k = _
  simp only [blk_0, blk_1, blk_2]

theorem final_3 : (dats m 0 c).arrAt 3 cfg0.N = (ProjSRefIdeal.Read.val_main_v28 (F := Ideal) (a0 m c) (a1 m c) (a2 m c) : Vec Ideal S1024x3584 .f32) := by
  refine (dats m 0 c).arrAt_eq_of_covers 3 _ (by decide +kernel) fun t hf y => ?_
  blk_simp
  rw [after0_3]
  obtain ⟨r, k, rfl⟩ : ∃ (r : Fin 512) (k : Fin 3584), y = ix2 r k := ⟨y 0, y 1, eq_ix2 y⟩
  have e : (win0_3.blk t).view.emb (ix2 r k) = (ix2 (row t r) k : Shape.Idx ⟨2, ![1024, 3584]⟩) := by blk_ext [index_3]
  rw [e]
  refine (ProjSKernel.out3_apply _ _ _ r k).trans ?_
  refine Eq.trans ?_ (ProjSRef.v28_apply _ _ _ (row t r) k).symm
  exact in_branch m c t r k

theorem final_4 : (dats m 0 c).arrAt 4 cfg0.N = (ProjSRefIdeal.Read.val_main_v29 (F := Ideal) (a0 m c) (a1 m c) (a2 m c) : Vec Ideal S1024x2048 .f32) := by
  refine (dats m 0 c).arrAt_eq_of_covers 4 _ (by decide +kernel) fun t hf y => ?_
  blk_simp
  rw [after0_4]
  obtain ⟨r, k, rfl⟩ : ∃ (r : Fin 512) (k : Fin 2048), y = ix2 r k := ⟨y 0, y 1, eq_ix2 y⟩
  have e : (win0_4.blk t).view.emb (ix2 r k) = (ix2 (row t r) k : Shape.Idx ⟨2, ![1024, 2048]⟩) := by blk_ext [index_4]
  rw [e]
  refine (ProjSKernel.out4_apply _ _ _ r k).trans ?_
  refine Eq.trans ?_ (ProjSRef.v29_apply _ _ _ (row t r) k).symm
  exact congrFun (in_row m c t r) _

theorem final_5 : (dats m 0 c).arrAt 5 cfg0.N = (ProjSRefIdeal.Read.val_main_v18 (F := Ideal) (a0 m c) (a1 m c) (a2 m c) : Vec Ideal S1024x512 .f32) := by
  refine (dats m 0 c).arrAt_eq_of_covers 5 _ (by decide +kernel) fun t hf y => ?_
  blk_simp
  rw [after0_5]
  obtain ⟨r, k, rfl⟩ : ∃ (r : Fin 512) (k : Fin 512), y = ix2 r k := ⟨y 0, y 1, eq_ix2 y⟩
  have e : (win0_5.blk t).view.emb (ix2 r k) = (ix2 (row t r) k : Shape.Idx ⟨2, ![1024, 512]⟩) := by blk_ext [index_5]
  rw [e]
  refine (ProjSKernel.out5_apply _ _ _ r k).trans ?_
  refine Eq.trans ?_ (ProjSRef.v18_apply _ _ _ (row t r) k).symm
  exact congrFun (in_row m c t r) _

theorem final_6 : (dats m 0 c).arrAt 6 cfg0.N = (ProjSRefIdeal.Read.val_main_v19 (F := Ideal) (a0 m c) (a1 m c) (a2 m c) : Vec Ideal S1024x512 .f32) := by
  refine (dats m 0 c).arrAt_eq_of_covers 6 _ (by decide +kernel) fun t hf y => ?_
  blk_simp
  rw [after0_6]
  obtain ⟨r, k, rfl⟩ : ∃ (r : Fin 512) (k : Fin 512), y = ix2 r k := ⟨y 0, y 1, eq_ix2 y⟩
  have e : (win0_6.blk t).view.emb (ix2 r k) = (ix2 (row t r) k : Shape.Idx ⟨2, ![1024, 512]⟩) := by blk_ext [index_6]
  rw [e]
  refine (ProjSKernel.out6_apply _ _ _ r k).trans ?_
  refine Eq.trans ?_ (ProjSRef.v19_apply _ _ _ (row t r) k).symm
  exact congrFun (in_row m c t r) _

/-- The idealized kernel equals the reference lines, for every input. -/
theorem algebraic : Cert.algebraic_ProjSIdeal_ProjSRefIdeal := by
  intro m g m' g' _ hagree
  refine ⟨fun c => ProjSRefIdeal.Read.val_main_v28 (F := Ideal) (a0 m c) (a1 m c) (a2 m c), fun c => ProjSRefIdeal.Read.val_main_v29 (F := Ideal) (a0 m c) (a1 m c) (a2 m c),
    fun c => ProjSRefIdeal.Read.val_main_v18 (F := Ideal) (a0 m c) (a1 m c) (a2 m c), fun c => ProjSRefIdeal.Read.val_main_v19 (F := Ideal) (a0 m c) (a1 m c) (a2 m c), ?_, ?_⟩
  · refine (θ_run defs _ _).mono (fun _ h c => ?_) (ProjSIdeal.Value.run_blocks (F := Ideal) m g)
    obtain ⟨r0, r1, r2, r3, hs⟩ := h c
    exact ⟨r0.trans (final_3 m c), r1.trans (final_4 m c), r2.trans (final_5 m c), r3.trans (final_6 m c), hs⟩
  · refine (θ_run ProjSRefIdeal.defs _ _).mono (fun _ h c => ?_) (ProjSRefIdeal.Value.run (F := Ideal) m' g')
    obtain ⟨h0, h1, h2⟩ := hagree c
    obtain ⟨r0, r1, r2, r3, hs⟩ := h c
    refine ⟨r0.trans ?_, r1.trans ?_, r2.trans ?_, r3.trans ?_, hs⟩
    · refine (ProjSRefIdeal.Read.val_main_v28_eq m' c).trans ?_
      show ProjSRefIdeal.Read.val_main_v28 (F := Ideal) (m' ((c.tc : Thread ProjSRefIdeal.nD ProjSRefIdeal.τ).loc ProjSRefIdeal.main_arg0)) (m' ((c.tc : Thread ProjSRefIdeal.nD ProjSRefIdeal.τ).loc ProjSRefIdeal.main_arg1))
        (m' ((c.tc : Thread ProjSRefIdeal.nD ProjSRefIdeal.τ).loc ProjSRefIdeal.main_arg2)) = _
      rw [h0, h1, h2]
    · refine (ProjSRefIdeal.Read.val_main_v29_eq _ _ _).trans ?_
      show ProjSRefIdeal.Read.val_main_v29 (F := Ideal) (m' ((c.tc : Thread ProjSRefIdeal.nD ProjSRefIdeal.τ).loc ProjSRefIdeal.main_arg0)) (m' ((c.tc : Thread ProjSRefIdeal.nD ProjSRefIdeal.τ).loc ProjSRefIdeal.main_arg1))
        (m' ((c.tc : Thread ProjSRefIdeal.nD ProjSRefIdeal.τ).loc ProjSRefIdeal.main_arg2)) = _
      rw [h0, h1, h2]
    · refine (ProjSRefIdeal.Read.val_main_v18_eq _ _ _).trans ?_
      show ProjSRefIdeal.Read.val_main_v18 (F := Ideal) (m' ((c.tc : Thread ProjSRefIdeal.nD ProjSRefIdeal.τ).loc ProjSRefIdeal.main_arg0)) (m' ((c.tc : Thread ProjSRefIdeal.nD ProjSRefIdeal.τ).loc ProjSRefIdeal.main_arg1))
        (m' ((c.tc : Thread ProjSRefIdeal.nD ProjSRefIdeal.τ).loc ProjSRefIdeal.main_arg2)) = _
      rw [h0, h1, h2]
    · refine (ProjSRefIdeal.Read.val_main_v19_eq _ _ _).trans ?_
      show ProjSRefIdeal.Read.val_main_v19 (F := Ideal) (m' ((c.tc : Thread ProjSRefIdeal.nD ProjSRefIdeal.τ).loc ProjSRefIdeal.main_arg0)) (m' ((c.tc : Thread ProjSRefIdeal.nD ProjSRefIdeal.τ).loc ProjSRefIdeal.main_arg1))
        (m' ((c.tc : Thread ProjSRefIdeal.nD ProjSRefIdeal.τ).loc ProjSRefIdeal.main_arg2)) = _
      rw [h0, h1, h2]

end Cert.ProjSValue

end
-- ==== Proof.RetMath.lean ====
/- The decayed sum of a retention state, taken over blocks of 256 keys. -/
module

public import Idealize.ShloMosaic.PureOps.Ideal

@[expose] public section

noncomputable section

namespace Cert.RetMath

open Idealize.ShloMosaic

/-- The decay over `x` positions, of log-rate `g`. -/
def dec (g x : ℝ) : EReal := (Real.exp (x * g) : ℝ)

/-- What the state's entry is after `n` keys: each key's entry times its decay times the value's entry. -/
def acc (g : ℝ) (K V : ℕ → EReal) (n : ℕ) : EReal := ∑ l ∈ Finset.range n, K l * dec g ((n : ℝ) - 1 - l) * V l

theorem mul_sum (r : ℝ) (hr : 0 ≤ r) (f : ℕ → EReal) (n : ℕ) : (r : EReal) * ∑ l ∈ Finset.range n, f l = ∑ l ∈ Finset.range n, (r : EReal) * f l := by
  induction n with
  | zero => simp
  | succ n ih =>
    rw [Finset.sum_range_succ, Finset.sum_range_succ, EReal.left_distrib_of_nonneg_of_ne_top (EReal.coe_nonneg.2 hr) (EReal.coe_ne_top r), ih]

/-- A decay over 256 positions more. -/
theorem dec_add (g x y : ℝ) : dec g x * dec g y = dec g (x + y) := by
  unfold dec
  rw [← EReal.coe_mul, ← Real.exp_add, ← add_mul]

theorem acc_step (g : ℝ) (K V : ℕ → EReal) (n : ℕ) :
    dec g 256 * acc g K V n + ∑ j ∈ Finset.range 256, K (n + j) * dec g (255 - j) * V (n + j) = acc g K V (n + 256) := by
  unfold acc
  rw [Finset.sum_range_add]
  congr 1
  · rw [show dec g 256 = ((Real.exp (256 * g) : ℝ) : EReal) from rfl, mul_sum _ (Real.exp_pos _).le]
    refine Finset.sum_congr rfl fun l _ => ?_
    rw [← mul_assoc, ← mul_assoc, mul_comm ((Real.exp (256 * g) : ℝ) : EReal) (K l), mul_assoc (K l)]
    congr 2
    refine (dec_add g 256 _).trans (congrArg _ ?_)
    push_cast; ring
  · refine Finset.sum_congr rfl fun j _ => ?_
    congr 3
    push_cast; ring

theorem acc_zero (g : ℝ) (K V : ℕ → EReal) : acc g K V 0 = 0 := rfl

end Cert.RetMath

end
-- ==== Proof.RetKernel.lean ====
/- One block of the retention: what it leaves in the state, entry by entry. -/
module

public import proofs.«01_k».proof.Proof.SbState
public import proofs.«01_k».proof.Proof.Gen.RetStateIdeal.Frame

@[expose] public section

set_option maxRecDepth 16384

noncomputable section

namespace Cert.RetKernel

open Cert.RetStateIdeal Cert.RetStateIdeal.Gen Idealize.ShloMosaic Idealize.ShloMosaic.TcCoe Cert.SbState

/-- The rotated, scaled key's entry `d` of its row `x`, with the rows of the tables. -/
def key (x c s : Fin 128 → EReal) (d : Fin 128) : EReal :=
  (x d * c d + x ⟨(d.val + 64) % 128, Nat.mod_lt _ (by decide)⟩ * s d) * Ideal.ofBits .f32 0x3DB504F3#32

theorem pay6_apply (c s : Vec Ideal S256x128 .f32) (x : Vec Ideal S1x256x128 .bf16) (y : Fin 256) (d : Fin 128) :
    k0_pay6 (F := Ideal) c s x (ix2 y d) = key (fun d => x (ix3 0 y d)) (fun d => c (ix2 y d)) (fun d => s (ix2 y d)) d := by
  pointwise [k0_pay6, k0_pay4, k0_pay5]
  rfl

theorem pay12_apply (k : Vec Ideal S256x128 .f32) (v : Vec Ideal S256x128 .bf16) (S : Vec Ideal S128x128 .f32) (g : EReal) (kd : Vec Ideal S1x256x128 .f32) (d e : Fin 128) :
    k0_pay12 (F := Ideal) k v S g kd (ix3 0 d e) = g * S (ix2 d e) + ∑ y : Fin 256, k (ix2 y d) * kd (ix3 0 y d) * v (ix2 y e) := by
  pointwise [k0_pay12]

/-- Lane `l` of head `h`. -/
abbrev lane (h : Fin 4) (l : Fin 128) : Fin 512 := ⟨128 * h.val + l.val, by omega⟩

/-- The state after a block, from the state before it and the block's windows. -/
def upd (x0 : Vec Ideal S4 .f32) (x1 x2 : Vec Ideal S256x128 .f32) (x5 : Vec Ideal S4x256x128 .f32) (x8 x9 : Vec Ideal S1x256x512 .bf16)
    (S : Fin 4 → Fin 128 → Fin 128 → EReal) (h : Fin 4) (d e : Fin 128) : EReal :=
  x0 (ix1 h) * S h d e + ∑ y : Fin 256, key (fun d => x8 (ix3 0 y (lane h d))) (fun d => x1 (ix2 y d)) (fun d => x2 (ix2 y d)) d * x5 (ix3 h y d) * x9 (ix3 0 y (lane h e))

theorem plane {x0 : Vec Ideal S4 .f32} {x1 x2 : Vec Ideal S256x128 .f32} {x5 : Vec Ideal S4x256x128 .f32} {x8 x9 : Vec Ideal S1x256x512 .bf16}
    {S : Fin 4 → Fin 128 → Fin 128 → EReal} (h : Fin 4) {c s : Vec Ideal S256x128 .f32} {kx vx : Vec Ideal S1x256x128 .bf16} {Sx : Vec Ideal S1x128x128 .f32} {g : EReal}
    {kd : Vec Ideal S1x256x128 .f32} (hg : g = x0 (ix1 h)) (hc : ∀ y d, c (ix2 y d) = x1 (ix2 y d)) (hs : ∀ y d, s (ix2 y d) = x2 (ix2 y d))
    (hkd : ∀ y d, kd (ix3 0 y d) = x5 (ix3 h y d)) (hk : ∀ y d, kx (ix3 0 y d) = x8 (ix3 0 y (lane h d))) (hv : ∀ y d, vx (ix3 0 y d) = x9 (ix3 0 y (lane h d)))
    (hS : ∀ d e, Sx (ix3 0 d e) = S h d e) (d e : Fin 128) :
    k0_pay12 (F := Ideal) (k0_pay6 c s kx) (k0_pay7 vx) (k0_pay9 Sx) g kd (ix3 0 d e) = upd x0 x1 x2 x5 x8 x9 S h d e := by
  have e7 : ∀ y, k0_pay7 (F := Ideal) vx (ix2 y e) = vx (ix3 0 y e) := fun y => by pointwise [k0_pay7]
  have e9 : k0_pay9 (F := Ideal) Sx (ix2 d e) = Sx (ix3 0 d e) := by pointwise [k0_pay9]
  rw [pay12_apply, e9, hg, hS]
  unfold upd
  congr 1
  refine Finset.sum_congr rfl fun y _ => ?_
  rw [pay6_apply, hkd, e7, hv, funext (hk y), funext (hc y), funext (hs y)]

theorem coord {m : ℕ} (h : Fin m) (a l : Fin 128) (c : Fin 3) :
    ((ix3 h a l : (⟨3, ![m, 128, 128]⟩ : Shape).Idx) c).val = (![h.val, 0, 0] : Fin 3 → ℕ) c + ((ix3 0 a l : (⟨3, ![1, 128, 128]⟩ : Shape).Idx) c).val := by
  fin_cases c <;> simp [ix3]

theorem store_eq (v : View sig .tc .vmem S4x128x128 .f32) (f : v.ty.Contents (Elt Ideal)) (P : Vec Ideal S1x128x128 .f32) (L) (p : Fin 4) (inb : ∀ a, (![p.val, 0, 0] : Fin 3 → ℕ) a + S1x128x128.size a ≤ S4x128x128.size a)
    (a l : Fin 128) :
    v.read (Elt Ideal) (v.writes (Elt Ideal) f (⟨Rect.unit (s := S4x128x128) ![p.val, 0, 0] S1x128x128.size inb, P⟩ :: L)) (ix3 p a l) = P (ix3 0 a l) :=
  View.read_writes_cons_unit_of_mem v f inb P L _ (ix3 0 a l) rfl (coord p a l)

theorem store_ne (v : View sig .tc .vmem S4x128x128 .f32) (f : v.ty.Contents (Elt Ideal)) {h : ℕ} (inb : ∀ a, (![h, 0, 0] : Fin 3 → ℕ) a + S1x128x128.size a ≤ S4x128x128.size a) (P : Vec Ideal S1x128x128 .f32) (L) (p : Fin 4)
    (a l : Fin 128) (hp : p.val < h ∨ h + 1 ≤ p.val) :
    v.read (Elt Ideal) (v.writes (Elt Ideal) f (⟨Rect.unit (s := S4x128x128) ![h, 0, 0] S1x128x128.size inb, P⟩ :: L)) (ix3 p a l)
      = v.read (Elt Ideal) (v.writes (Elt Ideal) f L) (ix3 p a l) :=
  View.read_writes_cons_unit_of_not_mem v f inb P L _ rfl 0 hp

/-- Stores of the four heads leave, head by head, what was stored. -/
theorem stores (v : View sig .tc .vmem S4x128x128 .f32) (f : v.ty.Contents (Elt Ideal)) (P0 P1 P2 P3 : Vec Ideal S1x128x128 .f32) (L)
    (G : Fin 4 → Fin 128 → Fin 128 → EReal) (h0 : ∀ a l, P0 (ix3 0 a l) = G 0 a l) (h1 : ∀ a l, P1 (ix3 0 a l) = G 1 a l) (h2 : ∀ a l, P2 (ix3 0 a l) = G 2 a l) (h3 : ∀ a l, P3 (ix3 0 a l) = G 3 a l) (p : Fin 4) (a l : Fin 128) :
    v.read (Elt Ideal) (v.writes (Elt Ideal) f (⟨Rect.unit (s := S4x128x128) ![3, 0, 0] S1x128x128.size inb_S4x128x128_S1x128x128_3_0_0, P3⟩ ::
      ⟨Rect.unit (s := S4x128x128) ![2, 0, 0] S1x128x128.size inb_S4x128x128_S1x128x128_2_0_0, P2⟩ ::
      ⟨Rect.unit (s := S4x128x128) ![1, 0, 0] S1x128x128.size inb_S4x128x128_S1x128x128_1_0_0, P1⟩ ::
      ⟨Rect.unit (s := S4x128x128) ![0, 0, 0] S1x128x128.size inb_S4x128x128_S1x128x128_0_0_0, P0⟩ :: L)) (ix3 p a l) = G p a l := by
  fin_cases p
  · refine (store_ne v f _ _ _ _ a l (by decide)).trans ?_
    refine (store_ne v f _ _ _ _ a l (by decide)).trans ?_
    refine (store_ne v f _ _ _ _ a l (by decide)).trans ?_
    exact (store_eq v f _ _ 0 _ a l).trans (h0 a l)
  · refine (store_ne v f _ _ _ _ a l (by decide)).trans ?_
    refine (store_ne v f _ _ _ _ a l (by decide)).trans ?_
    exact (store_eq v f _ _ 1 _ a l).trans (h1 a l)
  · refine (store_ne v f _ _ _ _ a l (by decide)).trans ?_
    exact (store_eq v f _ _ 2 _ a l).trans (h2 a l)
  · exact (store_eq v f _ _ 3 _ a l).trans (h3 a l)

variable {c : Dev nD} {i : grid0.Coords} {arg2 : Memref sig .tc .smem S4 .f32} {harg2 : arg2.IsWhole} {arg3 : Memref sig .tc .vmem S256x128 .f32} {harg3 : arg3.IsWhole}
  {arg4 : Memref sig .tc .vmem S256x128 .f32} {harg4 : arg4.IsWhole} {arg5 : Memref sig .tc .vmem S4x256x256 .f32} {harg5 : arg5.IsWhole} {arg6 : Memref sig .tc .vmem S4x256x128 .f32} {harg6 : arg6.IsWhole}
  {arg7 : Memref sig .tc .vmem S4x256x128 .f32} {harg7 : arg7.IsWhole} {arg8 : Memref sig .tc .vmem S4x1x128 .f32} {harg8 : arg8.IsWhole} {arg9 : Memref sig .tc .vmem S1x256x512 .bf16} {harg9 : arg9.IsWhole}
  {arg10 : Memref sig .tc .vmem S1x256x512 .bf16} {harg10 : arg10.IsWhole} {arg11 : Memref sig .tc .vmem S1x256x512 .bf16} {harg11 : arg11.IsWhole} {arg12 : Memref sig .tc .vmem S1x256x512 .bf16} {harg12 : arg12.IsWhole}
  {arg13 : Memref sig .tc .vmem S1x256x512 .bf16} {harg13 : arg13.IsWhole} {arg14 : Memref sig .tc .vmem S1x4x128x128 .f32} {harg14 : arg14.IsWhole} {arg15 : Memref sig .tc .vmem S4x128x128 .f32} {harg15 : arg15.IsWhole}
  {x0 : Vec Ideal S4 .f32} {x1 x2 : Vec Ideal S256x128 .f32} {x3 : Vec Ideal S4x256x256 .f32} {x4 x5 : Vec Ideal S4x256x128 .f32} {x6 : Vec Ideal S4x1x128 .f32} {x7 x8 x9 x10 : Vec Ideal S1x256x512 .bf16}
  {S : Vec Ideal S4x128x128 .f32}

theorem load2 {v : Memref sig .tc .vmem S256x128 .f32} (hv : v.IsWhole) (x : Vec Ideal S256x128 .f32) (inb : ∀ a, (![0, 0] : Fin 2 → ℕ) a + S256x128.size a ≤ S256x128.size a) (y : Fin 256) (d : Fin 128) :
    View.readAt (Elt Ideal) v.view (Rect.unit (s := S256x128) ![0, 0] S256x128.size inb).toLoadRect (hv.unread x) (ix2 y d) = x (ix2 y d) := by
  refine Eq.trans (congrArg (v.view.read (Elt Ideal) (hv.unread x)) (funext fun c => Fin.ext ?_)) (congrFun (hv.read_unread x) (ix2 y d))
  fin_cases c
  · show 0 + 1 * y.val = y.val; omega
  · show 0 + 1 * d.val = d.val; omega

theorem load_cols {v : Memref sig .tc .vmem S1x256x512 .bf16} (hv : v.IsWhole) (x : Vec Ideal S1x256x512 .bf16) (h : Fin 4) {o : ℕ} (ho : o = 128 * h.val)
    (inb : ∀ a, (![0, 0, o] : Fin 3 → ℕ) a + S1x256x128.size a ≤ S1x256x512.size a) (y : Fin 256) (d : Fin 128) :
    View.readAt (Elt Ideal) v.view (Rect.unit (s := S1x256x512) ![0, 0, o] S1x256x128.size inb).toLoadRect (hv.unread x) (ix3 0 y d) = x (ix3 0 y (lane h d)) := by
  subst ho
  refine Eq.trans (congrArg (v.view.read (Elt Ideal) (hv.unread x)) (unit_idx _ _ (ix3 0 y (lane h d)) fun c => ?_)) (congrFun (hv.read_unread x) _)
  fin_cases c <;> simp [ix3]

theorem load_plane {v : Memref sig .tc .vmem S4x256x128 .f32} (hv : v.IsWhole) (x : Vec Ideal S4x256x128 .f32) (h : Fin 4)
    (inb : ∀ a, (![h.val, 0, 0] : Fin 3 → ℕ) a + S1x256x128.size a ≤ S4x256x128.size a) (y : Fin 256) (d : Fin 128) :
    View.readAt (Elt Ideal) v.view (Rect.unit (s := S4x256x128) ![h.val, 0, 0] S1x256x128.size inb).toLoadRect (hv.unread x) (ix3 0 y d) = x (ix3 h y d) := by
  refine Eq.trans (congrArg (v.view.read (Elt Ideal) (hv.unread x)) (unit_idx _ _ (ix3 h y d) fun c => ?_)) (congrFun (hv.read_unread x) _)
  fin_cases c <;> simp [ix3]

/-- A load of one head's state reads that head. -/
theorem load_state (v : View sig .tc .vmem S4x128x128 .f32) (f : v.ty.Contents (Elt Ideal)) (h : Fin 4)
    (inb : ∀ a, (![h.val, 0, 0] : Fin 3 → ℕ) a + S1x128x128.size a ≤ S4x128x128.size a) (a l : Fin 128) :
    View.readAt (Elt Ideal) v (Rect.unit (s := S4x128x128) ![h.val, 0, 0] S1x128x128.size inb).toLoadRect f (ix3 0 a l) = v.read (Elt Ideal) f (ix3 h a l) :=
  congrArg (v.read (Elt Ideal) f) (unit_idx _ _ _ fun c => by fin_cases c <;> simp [ix3])

theorem load_whole {v : Memref sig .tc .vmem S4x128x128 .f32} (hv : v.IsWhole) (x : Vec Ideal S4x128x128 .f32) (h : Fin 4)
    (inb : ∀ a, (![h.val, 0, 0] : Fin 3 → ℕ) a + S1x128x128.size a ≤ S4x128x128.size a) (a l : Fin 128) :
    View.readAt (Elt Ideal) v.view (Rect.unit (s := S4x128x128) ![h.val, 0, 0] S1x128x128.size inb).toLoadRect (hv.unread x) (ix3 0 a l) = x (ix3 h a l) :=
  (load_state _ _ h inb a l).trans (congrFun (hv.read_unread x) _)

theorem load_decay {v : Memref sig .tc .smem S4 .f32} (hv : v.IsWhole) (x : Vec Ideal S4 .f32) (h : Fin 4) (inb : ∀ a, (![h.val] : Fin 1 → ℕ) a + S1.size a ≤ S4.size a)
    (y : S1.Idx) : View.readAt (Elt Ideal) v.view (Rect.unit (s := S4) ![h.val] S1.size inb).toLoadRect (hv.unread x) y = x (ix1 h) := by
  refine Eq.trans (congrArg (v.view.read (Elt Ideal) (hv.unread x)) (funext fun c => Fin.ext ?_)) (congrFun (hv.read_unread x) (ix1 h))
  have hy : (y 0).val = 0 := by have := (y 0).isLt; change (y 0).val < 1 at this; omega
  fin_cases c
  show h.val + 1 * (y 0).val = h.val
  omega

theorem block {T : Fin 4 → Fin 128 → Fin 128 → EReal} (v : View sig .tc .vmem S4x128x128 .f32) (f : v.ty.Contents (Elt Ideal)) (L) {S0 S1 S2 S3 : Vec Ideal S1x128x128 .f32} {g0 g1 g2 g3 : EReal}
    (i2 : ∀ a, (![0, 0] : Fin 2 → ℕ) a + S256x128.size a ≤ S256x128.size a)
    (c0 : ∀ a, (![0, 0, 0] : Fin 3 → ℕ) a + S1x256x128.size a ≤ S1x256x512.size a) (c1 : ∀ a, (![0, 0, 128] : Fin 3 → ℕ) a + S1x256x128.size a ≤ S1x256x512.size a) (c2 : ∀ a, (![0, 0, 256] : Fin 3 → ℕ) a + S1x256x128.size a ≤ S1x256x512.size a) (c3 : ∀ a, (![0, 0, 384] : Fin 3 → ℕ) a + S1x256x128.size a ≤ S1x256x512.size a)
    (p0 : ∀ a, (![0, 0, 0] : Fin 3 → ℕ) a + S1x256x128.size a ≤ S4x256x128.size a) (p1 : ∀ a, (![1, 0, 0] : Fin 3 → ℕ) a + S1x256x128.size a ≤ S4x256x128.size a) (p2 : ∀ a, (![2, 0, 0] : Fin 3 → ℕ) a + S1x256x128.size a ≤ S4x256x128.size a) (p3 : ∀ a, (![3, 0, 0] : Fin 3 → ℕ) a + S1x256x128.size a ≤ S4x256x128.size a)
    (hg0 : g0 = x0 (ix1 0)) (hg1 : g1 = x0 (ix1 1)) (hg2 : g2 = x0 (ix1 2)) (hg3 : g3 = x0 (ix1 3))
    (h0 : ∀ d e, S0 (ix3 0 d e) = T 0 d e) (h1 : ∀ d e, S1 (ix3 0 d e) = T 1 d e) (h2 : ∀ d e, S2 (ix3 0 d e) = T 2 d e) (h3 : ∀ d e, S3 (ix3 0 d e) = T 3 d e) (h : Fin 4) (d e : Fin 128) :
    v.read (Elt Ideal) (v.writes (Elt Ideal) f (
      ⟨Rect.unit (s := S4x128x128) ![3, 0, 0] S1x128x128.size inb_S4x128x128_S1x128x128_3_0_0, k0_pay12 (F := Ideal) (k0_pay6 (View.readAt (Elt Ideal) arg3.view (Rect.unit (s := S256x128) ![0, 0] S256x128.size i2).toLoadRect (harg3.unread x1)) (View.readAt (Elt Ideal) arg4.view (Rect.unit (s := S256x128) ![0, 0] S256x128.size i2).toLoadRect (harg4.unread x2)) (View.readAt (Elt Ideal) arg10.view (Rect.unit (s := S1x256x512) ![0, 0, 384] S1x256x128.size c3).toLoadRect (harg10.unread x8))) (k0_pay7 (View.readAt (Elt Ideal) arg11.view (Rect.unit (s := S1x256x512) ![0, 0, 384] S1x256x128.size c3).toLoadRect (harg11.unread x9))) (k0_pay9 S3) (g3) (View.readAt (Elt Ideal) arg7.view (Rect.unit (s := S4x256x128) ![3, 0, 0] S1x256x128.size p3).toLoadRect (harg7.unread x5))⟩ ::
      ⟨Rect.unit (s := S4x128x128) ![2, 0, 0] S1x128x128.size inb_S4x128x128_S1x128x128_2_0_0, k0_pay12 (F := Ideal) (k0_pay6 (View.readAt (Elt Ideal) arg3.view (Rect.unit (s := S256x128) ![0, 0] S256x128.size i2).toLoadRect (harg3.unread x1)) (View.readAt (Elt Ideal) arg4.view (Rect.unit (s := S256x128) ![0, 0] S256x128.size i2).toLoadRect (harg4.unread x2)) (View.readAt (Elt Ideal) arg10.view (Rect.unit (s := S1x256x512) ![0, 0, 256] S1x256x128.size c2).toLoadRect (harg10.unread x8))) (k0_pay7 (View.readAt (Elt Ideal) arg11.view (Rect.unit (s := S1x256x512) ![0, 0, 256] S1x256x128.size c2).toLoadRect (harg11.unread x9))) (k0_pay9 S2) (g2) (View.readAt (Elt Ideal) arg7.view (Rect.unit (s := S4x256x128) ![2, 0, 0] S1x256x128.size p2).toLoadRect (harg7.unread x5))⟩ ::
      ⟨Rect.unit (s := S4x128x128) ![1, 0, 0] S1x128x128.size inb_S4x128x128_S1x128x128_1_0_0, k0_pay12 (F := Ideal) (k0_pay6 (View.readAt (Elt Ideal) arg3.view (Rect.unit (s := S256x128) ![0, 0] S256x128.size i2).toLoadRect (harg3.unread x1)) (View.readAt (Elt Ideal) arg4.view (Rect.unit (s := S256x128) ![0, 0] S256x128.size i2).toLoadRect (harg4.unread x2)) (View.readAt (Elt Ideal) arg10.view (Rect.unit (s := S1x256x512) ![0, 0, 128] S1x256x128.size c1).toLoadRect (harg10.unread x8))) (k0_pay7 (View.readAt (Elt Ideal) arg11.view (Rect.unit (s := S1x256x512) ![0, 0, 128] S1x256x128.size c1).toLoadRect (harg11.unread x9))) (k0_pay9 S1) (g1) (View.readAt (Elt Ideal) arg7.view (Rect.unit (s := S4x256x128) ![1, 0, 0] S1x256x128.size p1).toLoadRect (harg7.unread x5))⟩ ::
      ⟨Rect.unit (s := S4x128x128) ![0, 0, 0] S1x128x128.size inb_S4x128x128_S1x128x128_0_0_0, k0_pay12 (F := Ideal) (k0_pay6 (View.readAt (Elt Ideal) arg3.view (Rect.unit (s := S256x128) ![0, 0] S256x128.size i2).toLoadRect (harg3.unread x1)) (View.readAt (Elt Ideal) arg4.view (Rect.unit (s := S256x128) ![0, 0] S256x128.size i2).toLoadRect (harg4.unread x2)) (View.readAt (Elt Ideal) arg10.view (Rect.unit (s := S1x256x512) ![0, 0, 0] S1x256x128.size c0).toLoadRect (harg10.unread x8))) (k0_pay7 (View.readAt (Elt Ideal) arg11.view (Rect.unit (s := S1x256x512) ![0, 0, 0] S1x256x128.size c0).toLoadRect (harg11.unread x9))) (k0_pay9 S0) (g0) (View.readAt (Elt Ideal) arg7.view (Rect.unit (s := S4x256x128) ![0, 0, 0] S1x256x128.size p0).toLoadRect (harg7.unread x5))⟩ :: L)) (ix3 h d e)
      = upd x0 x1 x2 x5 x8 x9 T h d e := by
  refine stores v f _ _ _ _ _ (upd x0 x1 x2 x5 x8 x9 T) ?_ ?_ ?_ ?_ h d e
  · refine plane 0 hg0 ?_ ?_ ?_ ?_ ?_ h0
    · exact load2 harg3 x1 _
    · exact load2 harg4 x2 _
    · exact load_plane harg7 x5 0 _
    · exact load_cols harg10 x8 0 rfl _
    · exact load_cols harg11 x9 0 rfl _
  · refine plane 1 hg1 ?_ ?_ ?_ ?_ ?_ h1
    · exact load2 harg3 x1 _
    · exact load2 harg4 x2 _
    · exact load_plane harg7 x5 1 _
    · exact load_cols harg10 x8 1 rfl _
    · exact load_cols harg11 x9 1 rfl _
  · refine plane 2 hg2 ?_ ?_ ?_ ?_ ?_ h2
    · exact load2 harg3 x1 _
    · exact load2 harg4 x2 _
    · exact load_plane harg7 x5 2 _
    · exact load_cols harg10 x8 2 rfl _
    · exact load_cols harg11 x9 2 rfl _
  · refine plane 3 hg3 ?_ ?_ ?_ ?_ ?_ h3
    · exact load2 harg3 x1 _
    · exact load2 harg4 x2 _
    · exact load_plane harg7 x5 3 _
    · exact load_cols harg10 x8 3 rfl _
    · exact load_cols harg11 x9 3 rfl _

theorem stateB (hc0 : ¬ cond0_0 i) (hc1 : ¬ cond0_1 i) (h : Fin 4) (d e : Fin 128) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 S (ix3 h d e) = upd x0 x1 x2 x5 x8 x9 (fun h d e => S (ix3 h d e)) h d e := by
  unfold sout0_B_0
  refine block (T := fun h d e => S (ix3 h d e)) VS0_0 VS0_0.junk _ _ _ _ _ _ _ _ _ _ ?_ ?_ ?_ ?_ ?_ ?_ ?_ ?_ h d e
  · exact load_decay harg2 x0 0 _ _
  · exact load_decay harg2 x0 1 _ _
  · exact load_decay harg2 x0 2 _ _
  · exact load_decay harg2 x0 3 _ _
  · exact load_whole harg15 S 0 _
  · exact load_whole harg15 S 1 _
  · exact load_whole harg15 S 2 _
  · exact load_whole harg15 S 3 _

theorem stateC (hc0 : ¬ cond0_0 i) (hc1 : cond0_1 i) (h : Fin 4) (d e : Fin 128) :
    sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 S (ix3 h d e) = upd x0 x1 x2 x5 x8 x9 (fun h d e => S (ix3 h d e)) h d e := by
  unfold sout0_C_0
  refine block (T := fun h d e => S (ix3 h d e)) VS0_0 VS0_0.junk _ _ _ _ _ _ _ _ _ _ ?_ ?_ ?_ ?_ ?_ ?_ ?_ ?_ h d e
  · exact load_decay harg2 x0 0 _ _
  · exact load_decay harg2 x0 1 _ _
  · exact load_decay harg2 x0 2 _ _
  · exact load_decay harg2 x0 3 _ _
  · exact load_whole harg15 S 0 _
  · exact load_whole harg15 S 1 _
  · exact load_whole harg15 S 2 _
  · exact load_whole harg15 S 3 _

/-- Before the first block the state is zero. -/
theorem zeros (v : View sig .tc .vmem S4x128x128 .f32) (f : v.ty.Contents (Elt Ideal)) (h : Fin 4) (d e : Fin 128) :
    v.read (Elt Ideal) (v.writes (Elt Ideal) f [⟨Rect.unit (s := S4x128x128) ![0, 0, 0] S4x128x128.size inb_S4x128x128_S4x128x128_0_0_0, k0_pay3 (F := Ideal)⟩]) (ix3 h d e) = 0 := by
  refine (View.read_writes_cons_unit_of_mem v f _ _ _ _ (ix3 h d e) rfl (fun a => by fin_cases a <;> simp [ix3])).trans ?_
  pointwise [k0_pay3]

theorem stateA (hc0 : cond0_0 i) (hc1 : ¬ cond0_1 i) (h : Fin 4) (d e : Fin 128) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 (ix3 h d e) = upd x0 x1 x2 x5 x8 x9 (fun _ _ _ => 0) h d e := by
  unfold sout0_A_0
  refine block (T := fun _ _ _ => 0) VS0_0 VS0_0.junk _ _ _ _ _ _ _ _ _ _ ?_ ?_ ?_ ?_ ?_ ?_ ?_ ?_ h d e
  · exact load_decay harg2 x0 0 _ _
  · exact load_decay harg2 x0 1 _ _
  · exact load_decay harg2 x0 2 _ _
  · exact load_decay harg2 x0 3 _ _
  · intro d e
    refine (load_state arg15.view _ 0 _ d e).trans ?_
    exact zeros _ _ 0 d e
  · intro d e
    refine (load_state arg15.view _ 1 _ d e).trans ?_
    refine (store_ne _ _ _ _ _ 1 d e (by decide)).trans ?_
    exact zeros _ _ 1 d e
  · intro d e
    refine (load_state arg15.view _ 2 _ d e).trans ?_
    refine (store_ne _ _ _ _ _ 2 d e (by decide)).trans ?_
    refine (store_ne _ _ _ _ _ 2 d e (by decide)).trans ?_
    exact zeros _ _ 2 d e
  · intro d e
    refine (load_state arg15.view _ 3 _ d e).trans ?_
    refine (store_ne _ _ _ _ _ 3 d e (by decide)).trans ?_
    refine (store_ne _ _ _ _ _ 3 d e (by decide)).trans ?_
    refine (store_ne _ _ _ _ _ 3 d e (by decide)).trans ?_
    exact zeros _ _ 3 d e

theorem outC (hc0 : ¬ cond0_0 i) (hc1 : cond0_1 i) (h : Fin 4) (d e : Fin 128) :
    out0_C_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 S (ix4 0 h d e) = upd x0 x1 x2 x5 x8 x9 (fun h d e => S (ix3 h d e)) h d e := by
  unfold out0_C_12
  refine (View.read_writes_cons_unit_of_mem VO0_12 VO0_12.junk _ _ _ _ (ix4 0 h d e) rfl (fun a => by fin_cases a <;> simp [ix4])).trans ?_
  have e2 : ∀ x : Vec Ideal S4x128x128 .f32, k0_pay2 (F := Ideal) x (ix4 0 h d e) = x (ix3 h d e) := fun x => by pointwise [k0_pay2]
  refine (e2 _).trans ?_
  refine Eq.trans (congrArg (arg15.view.read (Elt Ideal) _) (unit_idx _ _ (ix3 h d e) fun a => by fin_cases a <;> simp [ix3])) ?_
  refine block (T := fun h d e => S (ix3 h d e)) arg15.view arg15.view.junk _ _ _ _ _ _ _ _ _ _ ?_ ?_ ?_ ?_ ?_ ?_ ?_ ?_ h d e
  · exact load_decay harg2 x0 0 _ _
  · exact load_decay harg2 x0 1 _ _
  · exact load_decay harg2 x0 2 _ _
  · exact load_decay harg2 x0 3 _ _
  · exact load_whole harg15 S 0 _
  · exact load_whole harg15 S 1 _
  · exact load_whole harg15 S 2 _
  · exact load_whole harg15 S 3 _

end Cert.RetKernel

end
-- ==== Proof.RetRef.lean ====
/- The reference's final state of the retention, read at an index. -/
module

public import proofs.«01_k».proof.Proof.RetMath
public import proofs.«01_k».proof.Proof.RetKernel
public import proofs.«01_k».proof.Proof.Gen.RetStateRefIdeal.Read

@[expose] public section

set_option maxRecDepth 16384

noncomputable section

namespace Cert.RetRef

open Idealize.ShloMosaic Cert.RetStateRefIdeal Cert.RetStateRefIdeal.Gen Cert.RetStateRefIdeal.Read Cert.RetMath Cert.RetKernel

variable (X : (⟨S8x4096x3584, .bf16⟩ : BufTy).Contents (Elt Ideal))

/-- The log-rate of a head. -/
abbrev rate (h : Fin 4) : EReal := val_main_v8 (F := Ideal) (ix1 h)

/-- The angle of a position and a frequency. -/
abbrev ang (l : Fin 4096) (j : Fin 64) : EReal := val_main_v26 (F := Ideal) (ix2 l j)

abbrev low (d : Fin 128) : Fin 64 := ⟨d.val % 64, Nat.mod_lt _ (by decide)⟩

/-- The tables' rows. -/
def cosRow (l : Fin 4096) (d : Fin 128) : EReal := Ideal.cos (ang l (low d))
def sinRow (l : Fin 4096) (d : Fin 128) : EReal := if d.val < 64 then -Ideal.sin (ang l (low d)) else Ideal.sin (ang l (low d))

/-- Small whole numbers keep their value. -/
theorem sitofp_small (n : ℕ) (hn : n < 4096) : FloatOps.sitofp (F := Ideal) FTy.f32 (BitVec.ofNat 32 n) = ((n : ℝ) : EReal) := by
  show (((BitVec.ofNat 32 n).toInt : ℝ) : EReal) = _
  rw [BitVec.toInt_eq_toNat_of_lt (by simp; omega), BitVec.toNat_ofNat, Nat.mod_eq_of_lt (by omega)]
  norm_cast

theorem c4095 : Ideal.ofBits .f32 1166012416#32 = ((4095 : ℝ) : EReal) := by
  simp [Ideal.ofBits, Ideal.ieee, -EReal.coe_mul]
  norm_num

theorem cm5 : Ideal.ofBits .f32 3231711232#32 = ((-5 : ℝ) : EReal) := by
  simp [Ideal.ofBits, Ideal.ieee, -EReal.coe_mul]
  norm_num

theorem cln2 : ∃ c : ℝ, 0 < c ∧ Ideal.ofBits .f32 1060205080#32 = (c : EReal) := by
  refine ⟨_, ?_, by simp [Ideal.ofBits, Ideal.ieee, -EReal.coe_mul]; rfl⟩
  norm_num

theorem rate_eq (h : Fin 4) : rate h = Ideal.log (1 - Ideal.exp (Ideal.ofBits FTy.f32 1060205080#32 *
    (Ideal.ofBits FTy.f32 3231711232#32 - FloatOps.sitofp (F := Ideal) FTy.f32 (BitVec.ofNat 32 h.val)))) := by
  unfold rate
  pointwise [val_main_v8, val_main_v7, val_main_v6, val_main_v5, val_main_v4, val_main_v3, val_main_v2, val_main_v1, val_main_v0, val_main_cst, val_main_cst_0, val_main_cst_1]

theorem ang_eq (l : Fin 4096) (j : Fin 64) : ang l j = FloatOps.sitofp (F := Ideal) FTy.f32 (BitVec.ofNat 32 l.val) *
    Ideal.pow (Ideal.ofBits FTy.f32 1176256512#32) (Ideal.div (-FloatOps.sitofp (F := Ideal) FTy.f32 (BitVec.ofNat 32 j.val)) (Ideal.ofBits FTy.f32 1115684864#32)) := by
  unfold ang
  pointwise [val_main_v26, val_main_v25, val_main_v24, val_main_v23, val_main_v22, val_main_v21, val_main_v20, val_main_v19, val_main_v18, val_main_v17, val_main_v16, val_main_v15, val_main_v14, val_main_cst_2, val_main_cst_3]

theorem v11_apply (b : Fin 8) (l : Fin 4096) (h : Fin 4) (d : Fin 128) :
    val_main_v11 (F := Ideal) X (ix4 b l h d) = X (ix3 b l ⟨2048 + 128 * h.val + d.val, by omega⟩) := by
  pointwise [val_main_v11, val_main_v10, val_main_v9]
  congr 2
  exact Fin.ext (by dsimp only; omega)

theorem v13_apply (b : Fin 8) (l : Fin 4096) (h : Fin 4) (d : Fin 128) :
    val_main_v13 (F := Ideal) X (ix4 b l h d) = X (ix3 b l ⟨2560 + 128 * h.val + d.val, by omega⟩) := by
  pointwise [val_main_v13, val_main_v12, val_main_v9]
  congr 2
  exact Fin.ext (by dsimp only; omega)

theorem v45_apply (b : Fin 8) (l : Fin 4096) (h : Fin 4) (d : Fin 128) :
    val_main_v45 (F := Ideal) X (ix4 b l h d) = key (fun d => X (ix3 b l ⟨2048 + 128 * h.val + d.val, by omega⟩)) (cosRow l) (sinRow l) d := by
  pointwise [val_main_v45, val_main_v44, val_main_v43, val_main_v42, val_main_v41, val_main_v40, val_main_v39, val_main_v38, val_main_v37, val_main_v36, val_main_v35, val_main_v34,
    val_main_v33, val_main_v32, val_main_v31, val_main_v30, val_main_v29, val_main_v28, val_main_v27, val_main_cst_4]
  simp only [v11_apply]
  unfold key cosRow sinRow
  congr 1
  by_cases hd : d.val < 64
  · have h1 : low d = ⟨d.val, hd⟩ := Fin.ext (Nat.mod_eq_of_lt hd)
    have h2 : (⟨2048 + 128 * h.val + (d.val + 64) % 128, by omega⟩ : Fin 3584) = ⟨2048 + 128 * h.val + (64 + d.val), by omega⟩ := Fin.ext (by dsimp only; omega)
    simp only [hd, dif_pos, if_true, h1, h2]
    rw [sub_eq_add_neg, ← mul_neg]
  · have h1 : low d = ⟨d.val - 64, by omega⟩ := Fin.ext (by dsimp only [low]; omega)
    have h2 : (⟨2048 + 128 * h.val + (d.val + 64) % 128, by omega⟩ : Fin 3584) = ⟨2048 + 128 * h.val + (d.val - 64), by omega⟩ := Fin.ext (by dsimp only; omega)
    have h3 : (⟨2048 + 128 * h.val + (64 + (d.val - 64)), by omega⟩ : Fin 3584) = ⟨2048 + 128 * h.val + d.val, by omega⟩ := Fin.ext (by dsimp only; omega)
    simp only [hd, dif_neg, if_false, not_false_eq_true, h1, h2, h3]
    exact add_comm _ _

theorem v63_apply (g : ℝ) (b : Fin 8) (l : Fin 4096) (h : Fin 4) (d : Fin 128) (hg : rate h = (g : EReal)) :
    val_main_v63 (F := Ideal) (ix4 b l h d) = dec g ((4096 : ℕ) - 1 - (l.val : ℕ)) := by
  pointwise [val_main_v63, val_main_v62, val_main_v55, val_main_v54, val_main_v53, val_main_v52, val_main_v51, val_main_v50, val_main_v49, val_main_v48, val_main_v47, val_main_cst_6]
  rw [show val_main_v8 (F := Ideal) (ix1 h) = (g : EReal) from hg, sitofp_small _ l.isLt, c4095, ← EReal.coe_sub, ← EReal.coe_mul]
  show ((Real.exp _ : ℝ) : EReal) = ((Real.exp _ : ℝ) : EReal)
  norm_num

/-- The keys and values of a head down the positions. -/
def keys (b : Fin 8) (h : Fin 4) (d : Fin 128) (l : ℕ) : EReal :=
  if hl : l < 4096 then key (fun d => X (ix3 b ⟨l, hl⟩ ⟨2048 + 128 * h.val + d.val, by omega⟩)) (cosRow ⟨l, hl⟩) (sinRow ⟨l, hl⟩) d else 0

def vals (b : Fin 8) (h : Fin 4) (e : Fin 128) (l : ℕ) : EReal :=
  if hl : l < 4096 then X (ix3 b ⟨l, hl⟩ ⟨2560 + 128 * h.val + e.val, by omega⟩) else 0

theorem v66_apply (g : ℝ) (b : Fin 8) (h : Fin 4) (d e : Fin 128) (hg : rate h = (g : EReal)) :
    val_main_v66 (F := Ideal) X (ix4 b h d e) = acc g (keys X b h d) (vals X b h e) 4096 := by
  pointwise [val_main_v66, val_main_v65, val_main_v64, val_main_v61, val_main_v46, val_main_cst_5]
  simp only [v45_apply, v13_apply, v63_apply g _ _ _ _ hg]
  rw [mul_zero, zero_add]
  unfold acc
  rw [← Fin.sum_univ_eq_sum_range (fun l => keys X b h d l * dec g ((4096 : ℕ) - 1 - (l : ℕ)) * vals X b h e l) 4096]
  refine Finset.sum_congr rfl fun x _ => ?_
  simp only [keys, vals, x.isLt, dif_pos]

theorem rate_real (h : Fin 4) : ∃ g : ℝ, rate h = (g : EReal) := by
  rw [rate_eq]
  obtain ⟨c, hc, e⟩ := cln2
  rw [e, sitofp_small _ (by omega), cm5, ← EReal.coe_sub, ← EReal.coe_mul]
  have hlt : Real.exp (c * (-5 - (h.val : ℝ))) < 1 := by
    rw [Real.exp_lt_one_iff]
    have : (0 : ℝ) ≤ h.val := Nat.cast_nonneg _
    nlinarith
  show ∃ g : ℝ, Ideal.log (1 - ((Real.exp (c * (-5 - (h.val : ℝ))) : ℝ) : EReal)) = g
  rw [show (1 : EReal) - ((Real.exp (c * (-5 - (h.val : ℝ))) : ℝ) : EReal) = ((1 - Real.exp (c * (-5 - (h.val : ℝ))) : ℝ) : EReal) from by
    rw [EReal.coe_sub, EReal.coe_one]]
  refine ⟨Real.log (1 - Real.exp (c * (-5 - (h.val : ℝ)))), ?_⟩
  show (if _ then _ else _) = _
  rw [if_neg (by linarith)]

end Cert.RetRef

end
-- ==== Proof.RetValue.lean ====
/- The retention's final state after the run is the reference's, index by index. -/
module

public import proofs.«01_k».proof.Proof.RetRef
public import proofs.«01_k».proof.Defs
public import proofs.«01_k».proof.Proof.Gen.RetStateIdeal.Value
public import proofs.«01_k».proof.Proof.Gen.RetStateRefIdeal.Run
public import Idealize.ShloMosaic.Lib.Pipeline.ValueKit.Geometry
public import Idealize.ShloMosaic.Lib.Claim

@[expose] public section

set_option maxRecDepth 16384

noncomputable section

namespace Cert.RetValue

open Cert.RetStateIdeal Cert.RetStateIdeal.Gen Idealize.ShloMosaic Idealize.ShloMosaic.TcCoe Idealize.SL.Sem Cert.RetMath Cert.RetKernel Cert.RetRef

variable (m : (ℓ : Loc nD τ sig) → Buf (Elt Ideal) ℓ) (c : Dev nD)

/-- The branch columns. -/
abbrev cols : Vec Ideal S8x4096x3584 .bf16 := m ((c : Thread nD τ).loc main_arg0)

/-- The reference's result of the kernel's arguments. -/
abbrev out : Buf (Elt Ideal) ((c : Thread nD τ).loc main_v69_1) := RetStateRefIdeal.Read.val_main_v66 (F := Ideal) (cols m c)

/-- The batch and the block of a grid step. -/
abbrev bat (t : Fin cfg0.N) : Fin 8 := grid0.coords t 0
abbrev part (t : Fin cfg0.N) : Fin 16 := grid0.coords t 1

/-- A block's position in the sequence. -/
abbrev pos (p : Fin 16) (y : Fin 256) : Fin 4096 := ⟨256 * p.val + y.val, by omega⟩

theorem index_0 : ∀ t : Fin cfg0.N, win0_0.index t = ![0] := (by decide +kernel : ∀ t : Fin grid0.N, _)
theorem index_1 : ∀ t : Fin cfg0.N, win0_1.index t = ![(part t).val, 0] := (by decide +kernel : ∀ t : Fin grid0.N, _)
theorem index_2 : ∀ t : Fin cfg0.N, win0_2.index t = ![(part t).val, 0] := (by decide +kernel : ∀ t : Fin grid0.N, _)
theorem index_5 : ∀ t : Fin cfg0.N, win0_5.index t = ![0, 0, 0] := (by decide +kernel : ∀ t : Fin grid0.N, _)
theorem index_8 : ∀ t : Fin cfg0.N, win0_8.index t = ![(bat t).val, (part t).val, 4] := (by decide +kernel : ∀ t : Fin grid0.N, _)
theorem index_9 : ∀ t : Fin cfg0.N, win0_9.index t = ![(bat t).val, (part t).val, 5] := (by decide +kernel : ∀ t : Fin grid0.N, _)
theorem index_12 : ∀ t : Fin cfg0.N, win0_12.index t = ![(bat t).val, 0, 0, 0] := (by decide +kernel : ∀ t : Fin grid0.N, _)
theorem part_eq : ∀ t : Fin cfg0.N, (part t).val = t.val % 16 := (by decide +kernel : ∀ t : Fin grid0.N, _)
theorem bat_eq : ∀ t : Fin cfg0.N, (bat t).val = t.val / 16 := (by decide +kernel : ∀ t : Fin grid0.N, _)
theorem flush_12 : ∀ t : Fin cfg0.N, (cfg0.win 12).flush t = true → t.val % 16 = 15 := (by decide +kernel : ∀ t : Fin grid0.N, _)

theorem c256 : Ideal.ofBits .f32 1132462080#32 = ((256 : ℝ) : EReal) := by
  simp [Ideal.ofBits, Ideal.ieee, -EReal.coe_mul]
  norm_num

theorem c255 : Ideal.ofBits .f32 1132396544#32 = ((255 : ℝ) : EReal) := by
  simp [Ideal.ofBits, Ideal.ieee, -EReal.coe_mul]
  norm_num

theorem blk_0 (t : Fin cfg0.N) (h : Fin 4) (g : ℝ) (hg : rate h = (g : EReal)) : (iblk m c 0 t : Vec Ideal S4 .f32) (ix1 h) = dec g 256 := by
  have e : (win0_0.blk t).view.emb (ix1 h) = (ix1 h : Shape.Idx ⟨1, ![4]⟩) := by blk_ext [index_0]
  show V m c main_v67 ((win0_0.blk t).view.emb (ix1 h)) = _
  rw [e]
  unfold V hostOps0 hostOps0_1 hostOps0_2
  dsimp only [List.flatten_cons, List.flatten_nil, List.append_nil, List.cons_append, List.nil_append]
  entry_read
  pointwise
  rw [← rate_eq, hg, c256, ← EReal.coe_mul]
  rfl

theorem blk_1 (t : Fin cfg0.N) (y : Fin 256) (d : Fin 128) : (iblk m c 1 t : Vec Ideal S256x128 .f32) (ix2 y d) = cosRow (pos (part t) y) d := by
  have e : (win0_1.blk t).view.emb (ix2 y d) = (ix2 (pos (part t) y) d : Shape.Idx ⟨2, ![4096, 128]⟩) := by blk_ext [index_1]
  show V m c main_v15 ((win0_1.blk t).view.emb (ix2 y d)) = _
  rw [e]
  unfold V hostOps0 hostOps0_1 hostOps0_2
  dsimp only [List.flatten_cons, List.flatten_nil, List.append_nil, List.cons_append, List.nil_append]
  entry_read
  pointwise
  unfold cosRow
  by_cases hd : d.val < 64
  · have h1 : low d = ⟨d.val, hd⟩ := Fin.ext (Nat.mod_eq_of_lt hd)
    rw [dif_pos hd, h1, ang_eq]
  · have h1 : low d = ⟨d.val - 64, by omega⟩ := Fin.ext (by dsimp only [low]; omega)
    rw [dif_neg hd, h1, ang_eq]

theorem blk_2 (t : Fin cfg0.N) (y : Fin 256) (d : Fin 128) : (iblk m c 2 t : Vec Ideal S256x128 .f32) (ix2 y d) = sinRow (pos (part t) y) d := by
  have e : (win0_2.blk t).view.emb (ix2 y d) = (ix2 (pos (part t) y) d : Shape.Idx ⟨2, ![4096, 128]⟩) := by blk_ext [index_2]
  show V m c main_v17 ((win0_2.blk t).view.emb (ix2 y d)) = _
  rw [e]
  unfold V hostOps0 hostOps0_1 hostOps0_2
  dsimp only [List.flatten_cons, List.flatten_nil, List.append_nil, List.cons_append, List.nil_append]
  entry_read
  pointwise
  unfold sinRow
  by_cases hd : d.val < 64
  · have h1 : low d = ⟨d.val, hd⟩ := Fin.ext (Nat.mod_eq_of_lt hd)
    rw [dif_pos hd, if_pos hd, h1, ang_eq]
  · have h1 : low d = ⟨d.val - 64, by omega⟩ := Fin.ext (by dsimp only [low]; omega)
    rw [dif_neg hd, if_neg hd, h1, ang_eq]

theorem blk_5 (t : Fin cfg0.N) (h : Fin 4) (y : Fin 256) (d : Fin 128) (g : ℝ) (hg : rate h = (g : EReal)) :
    (iblk m c 5 t : Vec Ideal S4x256x128 .f32) (ix3 h y d) = dec g (255 - (y.val : ℕ)) := by
  have e : (win0_5.blk t).view.emb (ix3 h y d) = (ix3 h y d : Shape.Idx ⟨3, ![4, 256, 128]⟩) := by blk_ext [index_5]
  show V m c main_v64 ((win0_5.blk t).view.emb (ix3 h y d)) = _
  rw [e]
  unfold V hostOps0 hostOps0_1 hostOps0_2
  dsimp only [List.flatten_cons, List.flatten_nil, List.append_nil, List.cons_append, List.nil_append]
  entry_read
  pointwise
  rw [← rate_eq, hg, c255, sitofp_small _ (by omega), ← EReal.coe_sub, ← EReal.coe_mul]
  rfl

theorem blk_8 (t : Fin cfg0.N) (y : Fin 256) (k : Fin 512) :
    (iblk m c 8 t : Vec Ideal S1x256x512 .bf16) (ix3 0 y k) = cols m c (ix3 (bat t) (pos (part t) y) ⟨2048 + k.val, by omega⟩) := by
  have e : (win0_8.blk t).view.emb (ix3 0 y k) = (ix3 (bat t) (pos (part t) y) ⟨2048 + k.val, by omega⟩ : Shape.Idx ⟨3, ![8, 4096, 3584]⟩) := by blk_ext [index_8]
  show V m c main_arg0 ((win0_8.blk t).view.emb (ix3 0 y k)) = _
  rw [e]
  entry_read
  rfl

theorem blk_9 (t : Fin cfg0.N) (y : Fin 256) (k : Fin 512) :
    (iblk m c 9 t : Vec Ideal S1x256x512 .bf16) (ix3 0 y k) = cols m c (ix3 (bat t) (pos (part t) y) ⟨2560 + k.val, by omega⟩) := by
  have e : (win0_9.blk t).view.emb (ix3 0 y k) = (ix3 (bat t) (pos (part t) y) ⟨2560 + k.val, by omega⟩ : Shape.Idx ⟨3, ![8, 4096, 3584]⟩) := by blk_ext [index_9]
  show V m c main_arg0 ((win0_9.blk t).view.emb (ix3 0 y k)) = _
  rw [e]
  entry_read
  rfl

/-- A block adds its keys to the sum. -/
theorem upd_acc (t : Fin cfg0.N) (h : Fin 4) (d e : Fin 128) (g : ℝ) (hg : rate h = (g : EReal)) (S : Fin 4 → Fin 128 → Fin 128 → EReal)
    (hS : S h d e = acc g (keys (cols m c) (bat t) h d) (vals (cols m c) (bat t) h e) (256 * (t.val % 16))) :
    upd (iblk m c 0 t) (iblk m c 1 t) (iblk m c 2 t) (iblk m c 5 t) (iblk m c 8 t) (iblk m c 9 t) S h d e
      = acc g (keys (cols m c) (bat t) h d) (vals (cols m c) (bat t) h e) (256 * (t.val % 16) + 256) := by
  rw [← acc_step, ← hS]
  unfold upd
  refine congr (congrArg _ (congrArg (· * _) (blk_0 m c t h g hg))) ?_
  rw [← Fin.sum_univ_eq_sum_range (fun j => keys (cols m c) (bat t) h d (256 * (t.val % 16) + j) * dec g (255 - (j : ℕ)) * vals (cols m c) (bat t) h e (256 * (t.val % 16) + j)) 256]
  refine Finset.sum_congr rfl fun y _ => ?_
  have hp : 256 * (t.val % 16) + y.val < 4096 := by omega
  have hq : pos (part t) y = ⟨256 * (t.val % 16) + y.val, hp⟩ := Fin.ext (by dsimp only; rw [part_eq])
  simp only [keys, vals, dif_pos hp, ← hq, blk_5 m c t h y d g hg, blk_1, blk_2, blk_8, blk_9, lane, ← Nat.add_assoc]

/-- The carried state after each step. -/
theorem state_eq (h : Fin 4) (d e : Fin 128) (g : ℝ) (hg : rate h = (g : EReal)) : ∀ (n : ℕ) (hn : n < cfg0.N),
    (outsAt0 m c n hn).2.2 (ix3 h d e)
      = acc g (keys (cols m c) (bat ⟨n, hn⟩) h d) (vals (cols m c) (bat ⟨n, hn⟩) h e) (256 * (n % 16) + 256) := by
  intro n
  induction n with
  | zero =>
    intro hn
    have h1 := outsAt0_A m c ⟨0, hn⟩ rfl (by show ¬ 0 % 16 = 15; decide)
    dsimp only at h1
    rw [h1]
    dsimp only
    refine (stateA _ _ h d e).trans (upd_acc m c ⟨0, hn⟩ h d e g hg _ ?_)
    exact (acc_zero _ _ _).symm
  | succ n ih =>
    intro hn
    by_cases h0 : (n + 1) % 16 = 0
    · have h1 := outsAt0_A m c ⟨n + 1, hn⟩ h0 (by dsimp only; omega)
      dsimp only at h1
      rw [h1]
      dsimp only
      refine (stateA _ _ h d e).trans (upd_acc m c ⟨n + 1, hn⟩ h d e g hg _ ?_)
      dsimp only
      rw [h0]
      exact (acc_zero _ _ _).symm
    · have hb : bat ⟨n + 1, hn⟩ = bat ⟨n, by omega⟩ := Fin.ext (by rw [bat_eq, bat_eq]; dsimp only; omega)
      have hm : 256 * ((n + 1) % 16) = 256 * (n % 16) + 256 := by omega
      have hp : (outsAt0 m c n (by omega)).2.2 (ix3 h d e) = acc g (keys (cols m c) (bat ⟨n + 1, hn⟩) h d) (vals (cols m c) (bat ⟨n + 1, hn⟩) h e) (256 * ((n + 1) % 16)) := by
        rw [hm, hb]; exact ih _
      by_cases h1 : (n + 1) % 16 = 15
      · have h2 := outsAt0_C m c ⟨n + 1, hn⟩ h0 h1
        dsimp only at h2
        rw [h2]
        dsimp only
        exact (stateC _ _ h d e).trans (upd_acc m c ⟨n + 1, hn⟩ h d e g hg _ hp)
      · have h2 := outsAt0_B m c ⟨n + 1, hn⟩ h0 h1
        dsimp only at h2
        rw [h2]
        dsimp only
        exact (stateB _ _ h d e).trans (upd_acc m c ⟨n + 1, hn⟩ h d e g hg _ hp)

theorem final : (dats m 0 c).arrAt 12 cfg0.N = out m c := by
  refine (dats m 0 c).arrAt_eq_of_covers 12 _ (by decide +kernel) fun t hf y => ?_
  have hl := flush_12 t hf
  blk_simp
  rw [after0_12]
  obtain ⟨r, h, d, e, rfl⟩ : ∃ (r : Fin 1) (h : Fin 4) (d e : Fin 128), y = ix4 r h d e := ⟨y 0, y 1, y 2, y 3, eq_ix4 y⟩
  obtain rfl : r = 0 := Subsingleton.elim _ _
  have eb : (win0_12.blk t).view.emb (ix4 0 h d e) = (ix4 (bat t) h d e : Shape.Idx ⟨4, ![8, 4, 128, 128]⟩) := by blk_ext [index_12]
  rw [eb]
  obtain ⟨g, hg⟩ := rate_real h
  refine Eq.trans ?_ (RetRef.v66_apply _ g (bat t) h d e hg).symm
  rw [outsAt0_C m c t (by omega) hl]
  dsimp only
  refine (outC _ _ h d e).trans ((upd_acc m c t h d e g hg _ ?_).trans (by rw [hl]))
  have hb : bat t = bat ⟨t.val - 1, by omega⟩ := Fin.ext (by rw [bat_eq, bat_eq]; dsimp only; omega)
  have hm : 256 * (t.val % 16) = 256 * ((t.val - 1) % 16) + 256 := by omega
  rw [hm, hb]
  exact state_eq m c h d e g hg _ _

/-- The idealized kernel's final state equals the reference lines', for every input. -/
theorem algebraic : Cert.algebraic_RetStateIdeal_RetStateRefIdeal := by
  intro m ρ m' ρ' _ hagree
  refine ⟨fun c => out m c, ?_, ?_⟩
  · exact (θ_run defs _ _).mono (fun _ h c => ⟨(h c).2.1.trans (final m c), (h c).2.2⟩) (RetStateIdeal.Value.run_blocks (F := Ideal) m ρ)
  · refine (θ_run RetStateRefIdeal.defs _ _).mono (fun _ h c => ⟨(h c).1.trans ?_, (h c).2⟩) (RetStateRefIdeal.Value.run (F := Ideal) m' ρ')
    refine (RetStateRefIdeal.Read.val_main_v66_eq m' c).trans ?_
    obtain ⟨h0, h1⟩ := hagree c
    show RetStateRefIdeal.Read.val_main_v66 (F := Ideal) (m' ((c.tc : Thread RetStateRefIdeal.nD RetStateRefIdeal.τ).loc RetStateRefIdeal.main_arg0)) = out m c
    rw [h0]

end Cert.RetValue

end
-- ==== Proof.DecKernel.lean ====
/- The retention of the sample: what the call leaves in the new state, entry by entry. -/
module

public import proofs.«01_k».proof.Proof.RetKernel
public import proofs.«01_k».proof.Proof.Gen.RetStateSIdeal.Frame

@[expose] public section

set_option maxRecDepth 16384

noncomputable section

namespace Cert.DecKernel

open Cert.RetStateSIdeal Cert.RetStateSIdeal.Gen Idealize.ShloMosaic Idealize.ShloMosaic.TcCoe
open Cert.RetKernel (key lane)

/-- A head's new state, from the tables' rows, the head's keys and values, its state and its decays. -/
def st (c s : Vec Ideal S8x128 .f32) (kx vx : Vec Ideal S1x8x128 .f32) (Sx : Vec Ideal S1x1x128x128 .f32) (g : EReal) (kd : Vec Ideal S1x8x128 .f32) : Vec Ideal S1x1x128x128 .f32 :=
  k0_pay301 (F := Ideal) (k0_pay296 (k0_pay3 c) (k0_pay3 s) kx) (Ideal.ofBits .f32 0x3DB504F3#32) vx Sx g kd

theorem st_apply (c s : Vec Ideal S8x128 .f32) (kx vx : Vec Ideal S1x8x128 .f32) (Sx : Vec Ideal S1x1x128x128 .f32) (g : EReal) (kd : Vec Ideal S1x8x128 .f32) (d e : Fin 128) :
    st c s kx vx Sx g kd (ix4 0 0 d e) = g * Sx (ix4 0 0 d e)
      + ∑ y : Fin 8, key (fun d => kx (ix3 0 y d)) (fun d => c (ix2 y d)) (fun d => s (ix2 y d)) d * kd (ix3 0 y d) * vx (ix3 0 y e) := by
  unfold st
  pointwise [k0_pay301, k0_pay296, k0_pay3, k0_pay297, k0_pay298, k0_pay299]
  rfl

/-- The new state's entry. -/
def updS (x0 : Vec Ideal S4 .f32) (x1 x2 : Vec Ideal S8x128 .f32) (x5 : Vec Ideal S4x8x128 .f32) (x8 x9 : Vec Ideal S8x8x512 .f32)
    (x11 : Vec Ideal S8x4x128x128 .f32) (s : Fin 8) (h : Fin 4) (d e : Fin 128) : EReal :=
  x0 (ix1 h) * x11 (ix4 s h d e)
    + ∑ y : Fin 8, key (fun d => x8 (ix3 s y (lane h d))) (fun d => x1 (ix2 y d)) (fun d => x2 (ix2 y d)) d * x5 (ix3 h y d) * x9 (ix3 s y (lane h e))

/-- The first `n` heads of the block, sequence by sequence, hold their new states. -/
def Good (v : View sig .tc .vmem S8x4x128x128 .f32) (f : v.ty.Contents (Elt Ideal)) (G : Fin 8 → Fin 4 → Fin 128 → Fin 128 → EReal) (n : ℕ)
    (L : List (View.Piece (Elt Ideal) S8x4x128x128 .f32)) : Prop :=
  ∀ (s : Fin 8) (h : Fin 4) (d e : Fin 128), 4 * s.val + h.val < n → v.read (Elt Ideal) (v.writes (Elt Ideal) f L) (ix4 s h d e) = G s h d e

theorem good_zero (v : View sig .tc .vmem S8x4x128x128 .f32) (f : v.ty.Contents (Elt Ideal)) (G : Fin 8 → Fin 4 → Fin 128 → Fin 128 → EReal) : Good v f G 0 [] :=
  fun _ _ _ _ h => absurd h (Nat.not_lt_zero _)

variable {c : Dev nD} {i : grid0.Coords} {arg1 : Memref sig .tc .smem S4 .f32} {harg1 : arg1.IsWhole} {arg2 : Memref sig .tc .vmem S8x128 .f32} {harg2 : arg2.IsWhole}
  {arg3 : Memref sig .tc .vmem S8x128 .f32} {harg3 : arg3.IsWhole} {arg4 : Memref sig .tc .vmem S4x8x8 .f32} {harg4 : arg4.IsWhole} {arg5 : Memref sig .tc .vmem S4x8x128 .f32} {harg5 : arg5.IsWhole}
  {arg6 : Memref sig .tc .vmem S4x8x128 .f32} {harg6 : arg6.IsWhole} {arg7 : Memref sig .tc .vmem S4x1x128 .f32} {harg7 : arg7.IsWhole} {arg8 : Memref sig .tc .vmem S8x8x512 .f32} {harg8 : arg8.IsWhole}
  {arg9 : Memref sig .tc .vmem S8x8x512 .f32} {harg9 : arg9.IsWhole} {arg10 : Memref sig .tc .vmem S8x8x512 .f32} {harg10 : arg10.IsWhole} {arg11 : Memref sig .tc .vmem S8x8x512 .f32} {harg11 : arg11.IsWhole}
  {arg12 : Memref sig .tc .vmem S8x4x128x128 .f32} {harg12 : arg12.IsWhole} {arg13 : Memref sig .tc .vmem S8x8x512 .f32} {harg13 : arg13.IsWhole} {arg14 : Memref sig .tc .vmem S8x4x128x128 .f32} {harg14 : arg14.IsWhole}
  {x0 : Vec Ideal S4 .f32} {x1 x2 : Vec Ideal S8x128 .f32} {x3 : Vec Ideal S4x8x8 .f32} {x4 x5 : Vec Ideal S4x8x128 .f32} {x6 : Vec Ideal S4x1x128 .f32} {x7 x8 x9 x10 : Vec Ideal S8x8x512 .f32}
  {x11 : Vec Ideal S8x4x128x128 .f32}

/-- Where a rectangle puts an index. -/
theorem unit_at {r : ℕ} {d o z : Fin r → ℕ} (inb : ∀ a, o a + z a ≤ d a) (x : (Rect.unit (s := ⟨r, d⟩) o z inb).toLoadRect.shape.Idx)
    (y : (⟨r, d⟩ : Shape).Idx) (h : ∀ a : Fin r, (y a).val = o a + (x a).val) : (Rect.unit (s := ⟨r, d⟩) o z inb).toLoadRect.idx x = y :=
  funext fun a => Fin.ext (by rw [h a]; exact congrArg (o a + ·) (Nat.one_mul _))

theorem load_table {v : Memref sig .tc .vmem S8x128 .f32} (hv : v.IsWhole) (x : Vec Ideal S8x128 .f32) (inb : ∀ a, (![0, 0] : Fin 2 → ℕ) a + S8x128.size a ≤ S8x128.size a) (y : Fin 8) (d : Fin 128) :
    View.readAt (Elt Ideal) v.view (Rect.unit (s := S8x128) ![0, 0] S8x128.size inb).toLoadRect (hv.unread x) (ix2 y d) = x (ix2 y d) :=
  (congrArg (v.view.read (Elt Ideal) (hv.unread x)) (unit_at _ _ (ix2 y d) fun c => by fin_cases c <;> simp [ix2])).trans (congrFun (hv.read_unread x) _)

theorem load_lanes {v : Memref sig .tc .vmem S8x8x512 .f32} (hv : v.IsWhole) (x : Vec Ideal S8x8x512 .f32) (s : Fin 8) (h : Fin 4) {o : ℕ} (ho : o = 128 * h.val)
    (inb : ∀ a, (![s.val, 0, o] : Fin 3 → ℕ) a + S1x8x128.size a ≤ S8x8x512.size a) (y : Fin 8) (d : Fin 128) :
    View.readAt (Elt Ideal) v.view (Rect.unit (s := S8x8x512) ![s.val, 0, o] S1x8x128.size inb).toLoadRect (hv.unread x) (ix3 0 y d) = x (ix3 s y (lane h d)) := by
  subst ho
  exact (congrArg (v.view.read (Elt Ideal) (hv.unread x)) (unit_at _ _ (ix3 s y (lane h d)) fun c => by fin_cases c <;> simp [ix3])).trans (congrFun (hv.read_unread x) _)

theorem load_decays {v : Memref sig .tc .vmem S4x8x128 .f32} (hv : v.IsWhole) (x : Vec Ideal S4x8x128 .f32) (h : Fin 4)
    (inb : ∀ a, (![h.val, 0, 0] : Fin 3 → ℕ) a + S1x8x128.size a ≤ S4x8x128.size a) (y : Fin 8) (d : Fin 128) :
    View.readAt (Elt Ideal) v.view (Rect.unit (s := S4x8x128) ![h.val, 0, 0] S1x8x128.size inb).toLoadRect (hv.unread x) (ix3 0 y d) = x (ix3 h y d) :=
  (congrArg (v.view.read (Elt Ideal) (hv.unread x)) (unit_at _ _ (ix3 h y d) fun c => by fin_cases c <;> simp [ix3])).trans (congrFun (hv.read_unread x) _)

theorem load_head {v : Memref sig .tc .vmem S8x4x128x128 .f32} (hv : v.IsWhole) (x : Vec Ideal S8x4x128x128 .f32) (s : Fin 8) (h : Fin 4)
    (inb : ∀ a, (![s.val, h.val, 0, 0] : Fin 4 → ℕ) a + S1x1x128x128.size a ≤ S8x4x128x128.size a) (d e : Fin 128) :
    View.readAt (Elt Ideal) v.view (Rect.unit (s := S8x4x128x128) ![s.val, h.val, 0, 0] S1x1x128x128.size inb).toLoadRect (hv.unread x) (ix4 0 0 d e) = x (ix4 s h d e) :=
  (congrArg (v.view.read (Elt Ideal) (hv.unread x)) (unit_at _ _ (ix4 s h d e) fun c => by fin_cases c <;> simp [ix4])).trans (congrFun (hv.read_unread x) _)

theorem load_rate {v : Memref sig .tc .smem S4 .f32} (hv : v.IsWhole) (x : Vec Ideal S4 .f32) (h : Fin 4) (inb : ∀ a, (![h.val] : Fin 1 → ℕ) a + S1.size a ≤ S4.size a)
    (y : S1.Idx) : View.readAt (Elt Ideal) v.view (Rect.unit (s := S4) ![h.val] S1.size inb).toLoadRect (hv.unread x) y = x (ix1 h) := by
  refine Eq.trans (congrArg (v.view.read (Elt Ideal) (hv.unread x)) (unit_at _ _ (ix1 h) fun c => ?_)) (congrFun (hv.read_unread x) (ix1 h))
  have hy : (y 0).val = 0 := by have := (y 0).isLt; change (y 0).val < 1 at this; omega
  fin_cases c
  show h.val = h.val + (y 0).val
  omega

/-- One head more. -/
theorem good_succ (v : View sig .tc .vmem S8x4x128x128 .f32) (f : v.ty.Contents (Elt Ideal)) {s h o n : ℕ} {L : List (View.Piece (Elt Ideal) S8x4x128x128 .f32)}
    {i1 : ∀ a, (![0, 0] : Fin 2 → ℕ) a + S8x128.size a ≤ S8x128.size a} {i2 : ∀ a, (![0, 0] : Fin 2 → ℕ) a + S8x128.size a ≤ S8x128.size a}
    {i3 : ∀ a, (![s, 0, o] : Fin 3 → ℕ) a + S1x8x128.size a ≤ S8x8x512.size a} {i4 : ∀ a, (![s, 0, o] : Fin 3 → ℕ) a + S1x8x128.size a ≤ S8x8x512.size a}
    {i5 : ∀ a, (![s, h, 0, 0] : Fin 4 → ℕ) a + S1x1x128x128.size a ≤ S8x4x128x128.size a} {i6 : ∀ a, (![h, 0, 0] : Fin 3 → ℕ) a + S1x8x128.size a ≤ S4x8x128.size a}
    {i7 : ∀ a, (![s, h, 0, 0] : Fin 4 → ℕ) a + S1x1x128x128.size a ≤ S8x4x128x128.size a} {i8 : ∀ a, (![h] : Fin 1 → ℕ) a + S1.size a ≤ S4.size a} {y : S1.Idx}
    {P : Vec Ideal S1x1x128x128 .f32}
    (hP : P = st (View.readAt (Elt Ideal) arg2.view (Rect.unit (s := S8x128) ![0, 0] S8x128.size i1).toLoadRect (harg2.unread x1))
      (View.readAt (Elt Ideal) arg3.view (Rect.unit (s := S8x128) ![0, 0] S8x128.size i2).toLoadRect (harg3.unread x2))
      (View.readAt (Elt Ideal) arg9.view (Rect.unit (s := S8x8x512) ![s, 0, o] S1x8x128.size i3).toLoadRect (harg9.unread x8))
      (View.readAt (Elt Ideal) arg10.view (Rect.unit (s := S8x8x512) ![s, 0, o] S1x8x128.size i4).toLoadRect (harg10.unread x9))
      (View.readAt (Elt Ideal) arg12.view (Rect.unit (s := S8x4x128x128) ![s, h, 0, 0] S1x1x128x128.size i5).toLoadRect (harg12.unread x11))
      (View.readAt (Elt Ideal) arg1.view (Rect.unit (s := S4) ![h] S1.size i8).toLoadRect (harg1.unread x0) y)
      (View.readAt (Elt Ideal) arg6.view (Rect.unit (s := S4x8x128) ![h, 0, 0] S1x8x128.size i6).toLoadRect (harg6.unread x5)))
    (hs : s < 8) (hh : h < 4) (ho : o = 128 * h) (hn : n = 4 * s + h) (hL : Good v f (updS x0 x1 x2 x5 x8 x9 x11) n L) :
    Good v f (updS x0 x1 x2 x5 x8 x9 x11) (n + 1) (⟨Rect.unit (s := S8x4x128x128) ![s, h, 0, 0] S1x1x128x128.size i7, P⟩ :: L) := by
  intro s' h' d e hlt
  by_cases hq : 4 * s'.val + h'.val < n
  · refine Eq.trans ?_ (hL s' h' d e hq)
    by_cases hs' : s'.val < s
    · exact View.read_writes_cons_unit_of_not_mem v f i7 P L _ rfl 0 (Or.inl hs')
    · exact View.read_writes_cons_unit_of_not_mem v f i7 P L _ rfl 1 (Or.inl (by show h'.val < h; omega))
  · obtain rfl : s'.val = s := by omega
    obtain rfl : h'.val = h := by omega
    refine (View.read_writes_cons_unit_of_mem v f i7 P L _ (ix4 0 0 d e) rfl (fun a => by fin_cases a <;> simp [ix4])).trans ?_
    rw [hP, st_apply]
    unfold updS
    refine congr (congrArg _ (congr (congrArg _ (load_rate harg1 x0 h' i8 y)) (load_head harg12 x11 s' h' i5 d e))) (Finset.sum_congr rfl fun y _ => ?_)
    refine congr (congrArg _ (congr (congrArg _ ?_) (load_decays harg6 x5 h' i6 y d))) (load_lanes harg10 x9 s' h' ho i4 y e)
    rw [funext (load_table harg2 x1 i1 y), funext (load_table harg3 x2 i2 y), funext (load_lanes harg9 x8 s' h' ho i3 y)]

/-- The call's new state. -/
theorem out_apply (s : Fin 8) (h : Fin 4) (d e : Fin 128) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 (ix4 s h d e)
      = updS x0 x1 x2 x5 x8 x9 x11 s h d e := by
  unfold out0_A_13
  refine (?_ : Good VO0_13 VO0_13.junk (updS x0 x1 x2 x5 x8 x9 x11) 32 _) s h d e (by omega)
  unfold kernelRun0_A
  dsimp only
  iterate 32 refine good_succ (arg1 := arg1) (arg2 := arg2) (arg3 := arg3) (arg6 := arg6) (arg9 := arg9) (arg10 := arg10) (arg12 := arg12) VO0_13 VO0_13.junk rfl (by decide) (by decide) rfl rfl ?_
  exact good_zero _ _ _

end Cert.DecKernel

end
-- ==== Proof.DecRef.lean ====
/- The reference's new state of the retention on the sample, read at an index. -/
module

public import proofs.«01_k».proof.Proof.DecKernel
public import proofs.«01_k».proof.Proof.Gen.RetStateSRefIdeal.Read

@[expose] public section

set_option maxRecDepth 16384

noncomputable section

namespace Cert.DecRef

open Idealize.ShloMosaic Cert.RetStateSRefIdeal Cert.RetStateSRefIdeal.Gen Cert.RetStateSRefIdeal.Read
open Cert.RetKernel (key)

variable (X : (⟨S128x8x3584, .f32⟩ : BufTy).Contents (Elt Ideal)) (T : (⟨S1x128x4x128x128, .f32⟩ : BufTy).Contents (Elt Ideal))

/-- The log-rate of a head. -/
abbrev rate (h : Fin 4) : EReal := val_main_v8 (F := Ideal) (ix1 h)

/-- The angle of a new position and a frequency. -/
abbrev ang (l : Fin 8) (j : Fin 64) : EReal := val_main_v27 (F := Ideal) (ix2 l j)

/-- A column's frequency. -/
abbrev low (d : Fin 128) : Fin 64 := ⟨d.val % 64, Nat.mod_lt _ (by decide)⟩

/-- The tables' rows. -/
def cosRow (l : Fin 8) (d : Fin 128) : EReal := Ideal.cos (ang l (low d))
def sinRow (l : Fin 8) (d : Fin 128) : EReal := if d.val < 64 then -Ideal.sin (ang l (low d)) else Ideal.sin (ang l (low d))

/-- A head's decay over the eight positions, and from one of them to the last. -/
abbrev gam (h : Fin 4) : EReal := val_main_v59 (F := Ideal) (ix1 h)
abbrev dec (h : Fin 4) (l : Fin 8) : EReal := val_main_v56 (F := Ideal) (ix2 l h)

theorem rate_eq (h : Fin 4) : rate h = Ideal.log (1 - Ideal.exp (Ideal.ofBits FTy.f32 1060205080#32 *
    (Ideal.ofBits FTy.f32 3231711232#32 - FloatOps.sitofp (F := Ideal) FTy.f32 (BitVec.ofNat 32 h.val)))) := by
  unfold rate
  pointwise [val_main_v8, val_main_v7, val_main_v6, val_main_v5, val_main_v4, val_main_v3, val_main_v2, val_main_v1, val_main_v0, val_main_cst, val_main_cst_0, val_main_cst_1]

theorem ang_eq (l : Fin 8) (j : Fin 64) : ang l j = FloatOps.sitofp (F := Ideal) FTy.f32 (IntOp.addi 8192#32 (BitVec.ofNat 32 l.val)) *
    Ideal.pow (Ideal.ofBits FTy.f32 1176256512#32) (Ideal.div (-FloatOps.sitofp (F := Ideal) FTy.f32 (BitVec.ofNat 32 j.val)) (Ideal.ofBits FTy.f32 1115684864#32)) := by
  unfold ang
  pointwise [val_main_v27, val_main_v26, val_main_v25, val_main_v24, val_main_v23, val_main_v22, val_main_v21, val_main_v20, val_main_v19, val_main_v18, val_main_v17, val_main_v16, val_main_v15, val_main_v14, val_main_v13, val_main_c, val_main_cst_2, val_main_cst_3]

theorem gam_eq (h : Fin 4) : gam h = Ideal.exp (Ideal.ofBits FTy.f32 1090519040#32 * rate h) := by
  unfold gam rate
  pointwise [val_main_v59, val_main_v58, val_main_v57, val_main_cst_6]

theorem dec_eq (h : Fin 4) (l : Fin 8) :
    dec h l = Ideal.exp ((Ideal.ofBits FTy.f32 1088421888#32 - FloatOps.sitofp (F := Ideal) FTy.f32 (BitVec.ofNat 32 l.val)) * rate h) := by
  unfold dec rate
  pointwise [val_main_v56, val_main_v55, val_main_v54, val_main_v53, val_main_v52, val_main_v51, val_main_v50, val_main_v49, val_main_v48, val_main_cst_5]

theorem keys_apply (b : Fin 128) (l : Fin 8) (h : Fin 4) (d : Fin 128) :
    val_main_v10 (F := Ideal) X (ix4 b l h d) = X (ix3 b l ⟨2048 + (128 * h.val + d.val), by omega⟩) := by
  pointwise [val_main_v10, val_main_v9]
  congr 2
  exact Fin.ext (by dsimp only; omega)

theorem vals_apply (b : Fin 128) (l : Fin 8) (h : Fin 4) (d : Fin 128) :
    val_main_v12 (F := Ideal) X (ix4 b l h d) = X (ix3 b l ⟨2560 + (128 * h.val + d.val), by omega⟩) := by
  pointwise [val_main_v12, val_main_v11]
  congr 2
  exact Fin.ext (by dsimp only; omega)

theorem key_apply (b : Fin 128) (l : Fin 8) (h : Fin 4) (d : Fin 128) :
    val_main_v46 (F := Ideal) X (ix4 b l h d) = key (fun d => X (ix3 b l ⟨2048 + (128 * h.val + d.val), by omega⟩)) (cosRow l) (sinRow l) d := by
  pointwise [val_main_v46, val_main_v45, val_main_v44, val_main_v43, val_main_v42, val_main_v41, val_main_v40, val_main_v39, val_main_v38, val_main_v37, val_main_v36, val_main_v35, val_main_v34,
    val_main_v33, val_main_v32, val_main_v31, val_main_v30, val_main_v29, val_main_v28, val_main_cst_4]
  simp only [keys_apply]
  unfold key cosRow sinRow
  congr 1
  by_cases hd : d.val < 64
  · have h1 : low d = ⟨d.val, hd⟩ := Fin.ext (Nat.mod_eq_of_lt hd)
    have h2 : (⟨2048 + (128 * h.val + (d.val + 64) % 128), by omega⟩ : Fin 3584) = ⟨2048 + (128 * h.val + (64 + d.val)), by omega⟩ := Fin.ext (by dsimp only; omega)
    simp only [hd, dif_pos, if_true, h1, h2]
    rw [sub_eq_add_neg, ← mul_neg]
  · have h1 : low d = ⟨d.val - 64, by omega⟩ := Fin.ext (by dsimp only [low]; omega)
    have h2 : (⟨2048 + (128 * h.val + (d.val + 64) % 128), by omega⟩ : Fin 3584) = ⟨2048 + (128 * h.val + (d.val - 64)), by omega⟩ := Fin.ext (by dsimp only; omega)
    have h3 : (⟨2048 + (128 * h.val + (64 + (d.val - 64))), by omega⟩ : Fin 3584) = ⟨2048 + (128 * h.val + d.val), by omega⟩ := Fin.ext (by dsimp only; omega)
    simp only [hd, dif_neg, if_false, not_false_eq_true, h1, h2, h3]
    exact add_comm _ _

theorem state_apply (b : Fin 128) (h : Fin 4) (d e : Fin 128) :
    val_main_v67 (F := Ideal) X T (ix4 b h d e) = gam h * T (ix5 0 b h d e)
      + ∑ y : Fin 8, key (fun d => X (ix3 b y ⟨2048 + (128 * h.val + d.val), by omega⟩)) (cosRow y) (sinRow y) d * dec h y * X (ix3 b y ⟨2560 + (128 * h.val + e.val), by omega⟩) := by
  pointwise [val_main_v67, val_main_v66, val_main_v65, val_main_v64, val_main_v63, val_main_v62, val_main_v61, val_main_v60, val_main_v47]
  simp only [key_apply, vals_apply]

end Cert.DecRef

end
-- ==== Proof.DecValue.lean ====
/- The sample's new retention state after the run is the reference's, index by index. -/
module

public import proofs.«01_k».proof.Proof.DecRef
public import proofs.«01_k».proof.Defs
public import proofs.«01_k».proof.Proof.Gen.RetStateSIdeal.Value
public import proofs.«01_k».proof.Proof.Gen.RetStateSRefIdeal.Run
public import Idealize.ShloMosaic.Lib.Pipeline.ValueKit.Geometry
public import Idealize.ShloMosaic.Lib.Claim

@[expose] public section

set_option maxRecDepth 16384

noncomputable section

namespace Cert.DecValue

open Cert.RetStateSIdeal Cert.RetStateSIdeal.Gen Idealize.ShloMosaic Idealize.ShloMosaic.TcCoe Idealize.SL.Sem Cert.DecKernel
open Cert.RetKernel (lane)
open Cert.DecRef (rate ang low cosRow sinRow gam dec)

variable (m : (ℓ : Loc nD τ sig) → Buf (Elt Ideal) ℓ) (c : Dev nD)

/-- The branch columns and the old state. -/
abbrev cols : Vec Ideal S128x8x3584 .f32 := m ((c : Thread nD τ).loc main_arg0)
abbrev old : Vec Ideal S1x128x4x128x128 .f32 := m ((c : Thread nD τ).loc main_arg1)

/-- The reference's result of the kernel's arguments. -/
abbrev out : Buf (Elt Ideal) ((c : Thread nD τ).loc main_v72_1) := RetStateSRefIdeal.Read.val_main_v67 (F := Ideal) (cols m c) (old m c)

/-- The sequence a grid step's `s`-th row holds. -/
abbrev seq (t : Fin cfg0.N) (s : Fin 8) : Fin 128 := ⟨8 * (grid0.coords t 0).val + s.val, by have h : (grid0.coords t 0).val < 16 := (grid0.coords t 0).isLt; omega⟩

theorem index_0 : ∀ t : Fin cfg0.N, win0_0.index t = ![0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_5 : ∀ t : Fin cfg0.N, win0_5.index t = ![0, 0, 0] := (by decide +kernel : ∀ t : Fin grid0.N, _)
theorem index_8 : ∀ t : Fin cfg0.N, win0_8.index t = ![(grid0.coords t 0).val, 0, 4] := (by decide +kernel : ∀ t : Fin grid0.N, _)
theorem index_9 : ∀ t : Fin cfg0.N, win0_9.index t = ![(grid0.coords t 0).val, 0, 5] := (by decide +kernel : ∀ t : Fin grid0.N, _)
theorem index_11 : ∀ t : Fin cfg0.N, win0_11.index t = ![(grid0.coords t 0).val, 0, 0, 0] := (by decide +kernel : ∀ t : Fin grid0.N, _)
theorem index_13 : ∀ t : Fin cfg0.N, win0_13.index t = ![(grid0.coords t 0).val, 0, 0, 0] := (by decide +kernel : ∀ t : Fin grid0.N, _)

theorem blk_0 (t : Fin cfg0.N) (h : Fin 4) : (iblk m c 0 t : Vec Ideal S4 .f32) (ix1 h) = gam h := by
  have e : (win0_0.blk t).view.emb (ix1 h) = (ix1 h : Shape.Idx ⟨1, ![4]⟩) := by blk_ext [index_0]
  show V m c main_v70 ((win0_0.blk t).view.emb (ix1 h)) = _
  rw [e]
  unfold V hostOps0 hostOps0_1 hostOps0_2
  dsimp only [List.flatten_cons, List.flatten_nil, List.append_nil, List.cons_append, List.nil_append]
  entry_read
  pointwise
  rw [DecRef.gam_eq, DecRef.rate_eq]

theorem blk_1 (t : Fin cfg0.N) (y : Fin 8) (d : Fin 128) : (iblk m c 1 t : Vec Ideal S8x128 .f32) (ix2 y d) = cosRow y d := by
  have e : (win0_1.blk t).view.emb (ix2 y d) = (ix2 y d : Shape.Idx ⟨2, ![8, 128]⟩) := by blk_ext [index_1]
  show V m c main_v18 ((win0_1.blk t).view.emb (ix2 y d)) = _
  rw [e]
  unfold V hostOps0 hostOps0_1 hostOps0_2
  dsimp only [List.flatten_cons, List.flatten_nil, List.append_nil, List.cons_append, List.nil_append]
  entry_read
  pointwise
  unfold cosRow
  by_cases hd : d.val < 64
  · have h1 : low d = ⟨d.val, hd⟩ := Fin.ext (Nat.mod_eq_of_lt hd)
    rw [dif_pos hd, h1, DecRef.ang_eq]
  · have h1 : low d = ⟨d.val - 64, by omega⟩ := Fin.ext (by dsimp only [low]; omega)
    rw [dif_neg hd, h1, DecRef.ang_eq]

theorem blk_2 (t : Fin cfg0.N) (y : Fin 8) (d : Fin 128) : (iblk m c 2 t : Vec Ideal S8x128 .f32) (ix2 y d) = sinRow y d := by
  have e : (win0_2.blk t).view.emb (ix2 y d) = (ix2 y d : Shape.Idx ⟨2, ![8, 128]⟩) := by blk_ext [index_2]
  show V m c main_v20 ((win0_2.blk t).view.emb (ix2 y d)) = _
  rw [e]
  unfold V hostOps0 hostOps0_1 hostOps0_2
  dsimp only [List.flatten_cons, List.flatten_nil, List.append_nil, List.cons_append, List.nil_append]
  entry_read
  pointwise
  unfold sinRow
  by_cases hd : d.val < 64
  · have h1 : low d = ⟨d.val, hd⟩ := Fin.ext (Nat.mod_eq_of_lt hd)
    rw [dif_pos hd, if_pos hd, h1, DecRef.ang_eq]
  · have h1 : low d = ⟨d.val - 64, by omega⟩ := Fin.ext (by dsimp only [low]; omega)
    rw [dif_neg hd, if_neg hd, h1, DecRef.ang_eq]

theorem blk_5 (t : Fin cfg0.N) (h : Fin 4) (y : Fin 8) (d : Fin 128) : (iblk m c 5 t : Vec Ideal S4x8x128 .f32) (ix3 h y d) = dec h y := by
  have e : (win0_5.blk t).view.emb (ix3 h y d) = (ix3 h y d : Shape.Idx ⟨3, ![4, 8, 128]⟩) := by blk_ext [index_5]
  show V m c main_v67 ((win0_5.blk t).view.emb (ix3 h y d)) = _
  rw [e]
  unfold V hostOps0 hostOps0_1 hostOps0_2
  dsimp only [List.flatten_cons, List.flatten_nil, List.append_nil, List.cons_append, List.nil_append]
  entry_read
  pointwise
  rw [DecRef.dec_eq, DecRef.rate_eq]

theorem blk_8 (t : Fin cfg0.N) (s y : Fin 8) (k : Fin 512) :
    (iblk m c 8 t : Vec Ideal S8x8x512 .f32) (ix3 s y k) = cols m c (ix3 (seq t s) y ⟨2048 + k.val, by omega⟩) := by
  have e : (win0_8.blk t).view.emb (ix3 s y k) = (ix3 (seq t s) y ⟨2048 + k.val, by omega⟩ : Shape.Idx ⟨3, ![128, 8, 3584]⟩) := by blk_ext [index_8]
  show V m c main_arg0 ((win0_8.blk t).view.emb (ix3 s y k)) = _
  rw [e]
  entry_read
  rfl

theorem blk_9 (t : Fin cfg0.N) (s y : Fin 8) (k : Fin 512) :
    (iblk m c 9 t : Vec Ideal S8x8x512 .f32) (ix3 s y k) = cols m c (ix3 (seq t s) y ⟨2560 + k.val, by omega⟩) := by
  have e : (win0_9.blk t).view.emb (ix3 s y k) = (ix3 (seq t s) y ⟨2560 + k.val, by omega⟩ : Shape.Idx ⟨3, ![128, 8, 3584]⟩) := by blk_ext [index_9]
  show V m c main_arg0 ((win0_9.blk t).view.emb (ix3 s y k)) = _
  rw [e]
  entry_read
  rfl

theorem blk_11 (t : Fin cfg0.N) (s : Fin 8) (h : Fin 4) (d e : Fin 128) :
    (iblk m c 11 t : Vec Ideal S8x4x128x128 .f32) (ix4 s h d e) = old m c (ix5 0 (seq t s) h d e) := by
  have q : (win0_11.blk t).view.emb (ix4 s h d e) = (ix4 (seq t s) h d e : Shape.Idx ⟨4, ![128, 4, 128, 128]⟩) := by blk_ext [index_11]
  show V m c main_v0 ((win0_11.blk t).view.emb (ix4 s h d e)) = _
  rw [q]
  unfold V hostOps0 hostOps0_1 hostOps0_2
  dsimp only [List.flatten_cons, List.flatten_nil, List.append_nil, List.cons_append, List.nil_append]
  entry_read
  pointwise

theorem final : (dats m 0 c).arrAt 13 cfg0.N = out m c := by
  refine (dats m 0 c).arrAt_eq_of_covers 13 _ (by decide +kernel) fun t hf y => ?_
  blk_simp
  rw [after0_13]
  obtain ⟨s, h, d, e, rfl⟩ : ∃ (s : Fin 8) (h : Fin 4) (d e : Fin 128), y = ix4 s h d e := ⟨y 0, y 1, y 2, y 3, eq_ix4 y⟩
  have eb : (win0_13.blk t).view.emb (ix4 s h d e) = (ix4 (seq t s) h d e : Shape.Idx ⟨4, ![128, 4, 128, 128]⟩) := by blk_ext [index_13]
  rw [eb]
  refine Eq.trans ?_ (DecRef.state_apply _ _ (seq t s) h d e).symm
  unfold outsAt0
  dsimp only
  refine (out_apply s h d e).trans ?_
  unfold updS
  simp only [blk_0, blk_1, blk_2, blk_5, blk_8, blk_9, blk_11, lane]

/-- The idealized kernel's new state equals the reference lines', for every input. -/
theorem algebraic : Cert.algebraic_RetStateSIdeal_RetStateSRefIdeal := by
  intro m ρ m' ρ' _ hagree
  refine ⟨fun c => out m c, ?_, ?_⟩
  · exact (θ_run defs _ _).mono (fun _ h c => ⟨(h c).2.1.trans (final m c), (h c).2.2⟩) (RetStateSIdeal.Value.run_blocks (F := Ideal) m ρ)
  · refine (θ_run RetStateSRefIdeal.defs _ _).mono (fun _ h c => ⟨(h c).1.trans ?_, (h c).2⟩) (RetStateSRefIdeal.Value.run (F := Ideal) m' ρ')
    refine (RetStateSRefIdeal.Read.val_main_v67_eq m' c).trans ?_
    obtain ⟨h0, h1, -⟩ := hagree c
    show RetStateSRefIdeal.Read.val_main_v67 (F := Ideal) (m' ((c.tc : Thread RetStateSRefIdeal.nD RetStateSRefIdeal.τ).loc RetStateSRefIdeal.main_arg0))
      (m' ((c.tc : Thread RetStateSRefIdeal.nD RetStateSRefIdeal.τ).loc RetStateSRefIdeal.main_arg1)) = out m c
    rw [h0, h1]

end Cert.DecValue

end
-- ==== Proof.lean ====
module

public import proofs.«01_k».proof.Defs
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostIdeal.Value
public import proofs.«01_k».proof.Proof.Gen.PostRefIdeal
public import proofs.«01_k».proof.Proof.Gen.PostRefIdeal.Run
public import proofs.«01_k».proof.Proof.Gen.PostRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Sb
public import proofs.«01_k».proof.Proof.Gen.Sb.Skeleton
public import proofs.«01_k».proof.Proof.Gen.Sb.Loops
public import proofs.«01_k».proof.Proof.Gen.Sb.Launch
public import proofs.«01_k».proof.Proof.Gen.Sb.Points
public import proofs.«01_k».proof.Proof.Gen.Sb.Frame
public import proofs.«01_k».proof.Proof.Gen.SbIdeal
public import proofs.«01_k».proof.Proof.Gen.SbIdeal.Skeleton
public import proofs.«01_k».proof.Proof.Gen.SbIdeal.Loops
public import proofs.«01_k».proof.Proof.Gen.SbIdeal.Launch
public import proofs.«01_k».proof.Proof.Gen.SbIdeal.Points
public import proofs.«01_k».proof.Proof.Gen.SbIdeal.Frame
public import proofs.«01_k».proof.Proof.Gen.SbIdeal.Value
public import proofs.«01_k».proof.Proof.Gen.SbRefIdeal
public import proofs.«01_k».proof.Proof.Gen.SbRefIdeal.Run
public import proofs.«01_k».proof.Proof.Gen.SbRefIdeal.Read
public import proofs.«01_k».proof.Proof.Gen.Ret
public import proofs.«01_k».proof.Proof.Gen.Ret.Skeleton
public import proofs.«01_k».proof.Proof.Gen.Ret.Launch
public import proofs.«01_k».proof.Proof.Gen.Ret.Points
public import proofs.«01_k».proof.Proof.Gen.Ret.Frame
public import proofs.«01_k».proof.Proof.Gen.RetIdeal
public import proofs.«01_k».proof.Proof.Gen.RetIdeal.Skeleton
public import proofs.«01_k».proof.Proof.Gen.RetIdeal.Launch
public import proofs.«01_k».proof.Proof.Gen.RetIdeal.Points
public import proofs.«01_k».proof.Proof.Gen.RetIdeal.Frame
public import proofs.«01_k».proof.Proof.Gen.RetIdeal.Value
public import proofs.«01_k».proof.Proof.Gen.RetRefIdeal
public import proofs.«01_k».proof.Proof.Gen.RetRefIdeal.Run
public import proofs.«01_k».proof.Proof.Gen.RetRefIdeal.Read
public import proofs.«01_k».proof.Proof.Gen.PostS
public import proofs.«01_k».proof.Proof.Gen.PostS.Skeleton
public import proofs.«01_k».proof.Proof.Gen.PostS.Launch
public import proofs.«01_k».proof.Proof.Gen.PostS.Points
public import proofs.«01_k».proof.Proof.Gen.PostS.Frame
public import proofs.«01_k».proof.Proof.Gen.PostSIdeal
public import proofs.«01_k».proof.Proof.Gen.PostSIdeal.Skeleton
public import proofs.«01_k».proof.Proof.Gen.PostSIdeal.Launch
public import proofs.«01_k».proof.Proof.Gen.PostSIdeal.Points
public import proofs.«01_k».proof.Proof.Gen.PostSIdeal.Frame
public import proofs.«01_k».proof.Proof.Gen.PostSIdeal.Value
public import proofs.«01_k».proof.Proof.Gen.PostSRefIdeal
public import proofs.«01_k».proof.Proof.Gen.PostSRefIdeal.Run
public import proofs.«01_k».proof.Proof.Gen.PostSRefIdeal.Read
public import proofs.«01_k».proof.Proof.Gen.ProjS
public import proofs.«01_k».proof.Proof.Gen.ProjS.Skeleton
public import proofs.«01_k».proof.Proof.Gen.ProjS.Launch
public import proofs.«01_k».proof.Proof.Gen.ProjS.Points
public import proofs.«01_k».proof.Proof.Gen.ProjS.Frame
public import proofs.«01_k».proof.Proof.Gen.ProjSIdeal
public import proofs.«01_k».proof.Proof.Gen.ProjSIdeal.Skeleton
public import proofs.«01_k».proof.Proof.Gen.ProjSIdeal.Launch
public import proofs.«01_k».proof.Proof.Gen.ProjSIdeal.Points
public import proofs.«01_k».proof.Proof.Gen.ProjSIdeal.Frame
public import proofs.«01_k».proof.Proof.Gen.ProjSIdeal.Value
public import proofs.«01_k».proof.Proof.Gen.ProjSRefIdeal
public import proofs.«01_k».proof.Proof.Gen.ProjSRefIdeal.Run
public import proofs.«01_k».proof.Proof.Gen.ProjSRefIdeal.Read
public import proofs.«01_k».proof.Proof.Gen.RetState
public import proofs.«01_k».proof.Proof.Gen.RetState.Skeleton
public import proofs.«01_k».proof.Proof.Gen.RetState.Launch
public import proofs.«01_k».proof.Proof.Gen.RetState.Points
public import proofs.«01_k».proof.Proof.Gen.RetState.Frame
public import proofs.«01_k».proof.Proof.Gen.RetStateIdeal
public import proofs.«01_k».proof.Proof.Gen.RetStateIdeal.Skeleton
public import proofs.«01_k».proof.Proof.Gen.RetStateIdeal.Launch
public import proofs.«01_k».proof.Proof.Gen.RetStateIdeal.Points
public import proofs.«01_k».proof.Proof.Gen.RetStateIdeal.Frame
public import proofs.«01_k».proof.Proof.Gen.RetStateIdeal.Value
public import proofs.«01_k».proof.Proof.Gen.RetStateRefIdeal
public import proofs.«01_k».proof.Proof.Gen.RetStateRefIdeal.Run
public import proofs.«01_k».proof.Proof.Gen.RetStateRefIdeal.Read
public import proofs.«01_k».proof.Proof.Gen.RetStateS
public import proofs.«01_k».proof.Proof.Gen.RetStateS.Skeleton
public import proofs.«01_k».proof.Proof.Gen.RetStateS.Launch
public import proofs.«01_k».proof.Proof.Gen.RetStateS.Points
public import proofs.«01_k».proof.Proof.Gen.RetStateS.Frame
public import proofs.«01_k».proof.Proof.Gen.RetStateSIdeal
public import proofs.«01_k».proof.Proof.Gen.RetStateSIdeal.Skeleton
public import proofs.«01_k».proof.Proof.Gen.RetStateSIdeal.Launch
public import proofs.«01_k».proof.Proof.Gen.RetStateSIdeal.Points
public import proofs.«01_k».proof.Proof.Gen.RetStateSIdeal.Frame
public import proofs.«01_k».proof.Proof.Gen.RetStateSIdeal.Value
public import proofs.«01_k».proof.Proof.Gen.RetStateSRefIdeal
public import proofs.«01_k».proof.Proof.Gen.RetStateSRefIdeal.Run
public import proofs.«01_k».proof.Proof.Gen.RetStateSRefIdeal.Read
public import proofs.«01_k».proof.Proof.Gen.Pre_scores_below_80
public import proofs.«01_k».proof.Proof.Frames
public import proofs.«01_k».proof.Proof.PostValue
public import proofs.«01_k».proof.Proof.ProjValue
public import proofs.«01_k».proof.Proof.SbValue
public import proofs.«01_k».proof.Proof.PostSValue
public import proofs.«01_k».proof.Proof.ProjSValue
public import proofs.«01_k».proof.Proof.RetValue
public import proofs.«01_k».proof.Proof.DecValue
public import Idealize.ShloMosaic.Adequacy
public import Idealize.ShloMosaic.Init

@[expose] public section

noncomputable section

namespace Cert.Proof

open Idealize.ShloMosaic Idealize.SL.Sem Cert.Post

theorem claim : Cert.Claim := ⟨Cert.Post.Gen.facts, Cert.PostIdeal.Gen.facts, Cert.PostRefIdeal.Gen.facts, Cert.Proj.Gen.facts, Cert.ProjIdeal.Gen.facts, Cert.ProjRefIdeal.Gen.facts, Cert.Sb.Gen.facts, Cert.SbIdeal.Gen.facts, Cert.SbRefIdeal.Gen.facts, Cert.Ret.Gen.facts, Cert.RetIdeal.Gen.facts, Cert.RetRefIdeal.Gen.facts,
  Cert.PostS.Gen.facts, Cert.PostSIdeal.Gen.facts, Cert.PostSRefIdeal.Gen.facts, Cert.ProjS.Gen.facts, Cert.ProjSIdeal.Gen.facts, Cert.ProjSRefIdeal.Gen.facts,
  Cert.RetState.Gen.facts, Cert.RetStateIdeal.Gen.facts, Cert.RetStateRefIdeal.Gen.facts,
  Cert.RetStateS.Gen.facts, Cert.RetStateSIdeal.Gen.facts, Cert.RetStateSRefIdeal.Gen.facts,
  SbValue.preFacts, Frames.post, Frames.postIdeal, Frames.postRef, Frames.proj, Frames.projIdeal, Frames.projRef, Frames.sb, Frames.sbIdeal, fun m ρ _ => Frames.sbIdeal m ρ trivial,
  Frames.sbRef, fun m ρ _ => Frames.sbRef m ρ trivial,
  Frames.ret, Frames.retIdeal, Frames.retRef, Frames.postS, Frames.postSIdeal, Frames.postSRef, Frames.projS, Frames.projSIdeal, Frames.projSRef,
  Frames.retState, Frames.retStateIdeal, Frames.retStateRef,
  Frames.retStateS, Frames.retStateSIdeal, Frames.retStateSRef,
  trivial, PostValue.algebraic, trivial, ProjValue.algebraic, trivial, SbValue.algebraic, trivial,
  trivial, PostSValue.algebraic, trivial, ProjSValue.algebraic, trivial, RetValue.algebraic, trivial, DecValue.algebraic⟩

end Cert.Proof

end
